-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwg (m : (ℓ : Loc Cert.KernelDwg.nD Cert.KernelDwg.τ Cert.KernelDwg.sig) → Buf (Elt Bits) ℓ) : Prop :=
  True

def Pre_KernelDwgIdeal (m : (ℓ : Loc Cert.KernelDwgIdeal.nD Cert.KernelDwgIdeal.τ Cert.KernelDwgIdeal.sig) → Buf (Elt Ideal) ℓ) : Prop :=
  True

def Pre_ReferenceDwgIdeal (m : (ℓ : Loc Cert.ReferenceDwgIdeal.nD Cert.ReferenceDwgIdeal.τ Cert.ReferenceDwgIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFo (m : (ℓ : Loc Cert.KernelFo.nD Cert.KernelFo.τ Cert.KernelFo.sig) → Buf (Elt Bits) ℓ) : Prop :=
  True

def Pre_KernelFoIdeal (m : (ℓ : Loc Cert.KernelFoIdeal.nD Cert.KernelFoIdeal.τ Cert.KernelFoIdeal.sig) → Buf (Elt Ideal) ℓ) : Prop :=
  True

def Pre_ReferenceFoIdeal (m : (ℓ : Loc Cert.ReferenceFoIdeal.nD Cert.ReferenceFoIdeal.τ Cert.ReferenceFoIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelDgu (m : (ℓ : Loc Cert.KernelDgu.nD Cert.KernelDgu.τ Cert.KernelDgu.sig) → Buf (Elt Bits) ℓ) : Prop :=
  True

def Pre_KernelDguIdeal (m : (ℓ : Loc Cert.KernelDguIdeal.nD Cert.KernelDguIdeal.τ Cert.KernelDguIdeal.sig) → Buf (Elt Ideal) ℓ) : Prop :=
  True

def Pre_ReferenceDguIdeal (m : (ℓ : Loc Cert.ReferenceDguIdeal.nD Cert.ReferenceDguIdeal.τ Cert.ReferenceDguIdeal.sig) → Buf (Elt Ideal) ℓ) : Prop :=
  True

def Pre_KernelDgm (m : (ℓ : Loc Cert.KernelDgm.nD Cert.KernelDgm.τ Cert.KernelDgm.sig) → Buf (Elt Bits) ℓ) : Prop :=
  True

def Pre_KernelDgmIdeal (m : (ℓ : Loc Cert.KernelDgmIdeal.nD Cert.KernelDgmIdeal.τ Cert.KernelDgmIdeal.sig) → Buf (Elt Ideal) ℓ) : Prop :=
  True

def Pre_ReferenceDgmIdeal (m : (ℓ : Loc Cert.ReferenceDgmIdeal.nD Cert.ReferenceDgmIdeal.τ Cert.ReferenceDgmIdeal.sig) → Buf (Elt Ideal) ℓ) : Prop :=
  True

def Pre_KernelDqkv (m : (ℓ : Loc Cert.KernelDqkv.nD Cert.KernelDqkv.τ Cert.KernelDqkv.sig) → Buf (Elt Bits) ℓ) : Prop :=
  True

def Pre_KernelDqkvIdeal (m : (ℓ : Loc Cert.KernelDqkvIdeal.nD Cert.KernelDqkvIdeal.τ Cert.KernelDqkvIdeal.sig) → Buf (Elt Ideal) ℓ) : Prop :=
  True

def Pre_ReferenceDqkvIdeal (m : (ℓ : Loc Cert.ReferenceDqkvIdeal.nD Cert.ReferenceDqkvIdeal.τ Cert.ReferenceDqkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwg [hKernelDwg : Cert.KernelDwg.Facts] : Prop :=
  ∀ (m : (ℓ : Loc Cert.KernelDwg.nD Cert.KernelDwg.τ Cert.KernelDwg.sig) → Buf (Elt Bits) ℓ) (g : Dev Cert.KernelDwg.nD → PrngReg), Pre_KernelDwg m →
    θ_run (Cert.KernelDwg.defs (F := Bits)) (onTc (τ := Cert.KernelDwg.τ) (Cert.KernelDwg.main (F := Bits))) ⟨m, fun _ => 0, g⟩ (fun r => (∀ c : Dev Cert.KernelDwg.nD,
      r.2.mem ((c.tc : Thread Cert.KernelDwg.nD Cert.KernelDwg.τ).loc Cert.KernelDwg.main_arg0) = m ((c.tc : Thread Cert.KernelDwg.nD Cert.KernelDwg.τ).loc Cert.KernelDwg.main_arg0)
      ∧ r.2.mem ((c.tc : Thread Cert.KernelDwg.nD Cert.KernelDwg.τ).loc Cert.KernelDwg.main_arg1) = m ((c.tc : Thread Cert.KernelDwg.nD Cert.KernelDwg.τ).loc Cert.KernelDwg.main_arg1))
      ∧ r.2.sem = fun _ => 0)

def quiescent_KernelDwgIdeal [hKernelDwgIdeal : Cert.KernelDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg), Pre_KernelDwgIdeal m →
    θ_run (Cert.KernelDwgIdeal.defs (F := Ideal)) (onTc (τ := Cert.KernelDwgIdeal.τ) (Cert.KernelDwgIdeal.main (F := Ideal))) ⟨m, fun _ => 0, g⟩ (fun r => (∀ c : Dev Cert.KernelDwgIdeal.nD,
      r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
      ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ r.2.sem = fun _ => 0)

def quiescent_ReferenceDwgIdeal [hReferenceDwgIdeal : Cert.ReferenceDwgIdeal.Facts] : Prop :=
  ∀ (m : (ℓ : Loc Cert.ReferenceDwgIdeal.nD Cert.ReferenceDwgIdeal.τ Cert.ReferenceDwgIdeal.sig) → Buf (Elt Ideal) ℓ) (g : Dev Cert.ReferenceDwgIdeal.nD → PrngReg), Pre_ReferenceDwgIdeal m →
    θ_run (Cert.ReferenceDwgIdeal.defs (F := Ideal)) (onTc (τ := Cert.ReferenceDwgIdeal.τ) (Cert.ReferenceDwgIdeal.main (F := Ideal))) ⟨m, fun _ => 0, g⟩ (fun r => (∀ c : Dev Cert.ReferenceDwgIdeal.nD,
      r.2.mem ((c.tc : Thread Cert.ReferenceDwgIdeal.nD Cert.ReferenceDwgIdeal.τ).loc Cert.ReferenceDwgIdeal.main_arg0) = m ((c.tc : Thread Cert.ReferenceDwgIdeal.nD Cert.ReferenceDwgIdeal.τ).loc Cert.ReferenceDwgIdeal.main_arg0)
      ∧ r.2.mem ((c.tc : Thread Cert.ReferenceDwgIdeal.nD Cert.ReferenceDwgIdeal.τ).loc Cert.ReferenceDwgIdeal.main_arg1) = m ((c.tc : Thread Cert.ReferenceDwgIdeal.nD Cert.ReferenceDwgIdeal.τ).loc Cert.ReferenceDwgIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelFo [hKernelFo : Cert.KernelFo.Facts] : Prop :=
  ∀ (m : (ℓ : Loc Cert.KernelFo.nD Cert.KernelFo.τ Cert.KernelFo.sig) → Buf (Elt Bits) ℓ) (g : Dev Cert.KernelFo.nD → PrngReg), Pre_KernelFo m →
    θ_run (Cert.KernelFo.defs (F := Bits)) (onTc (τ := Cert.KernelFo.τ) (Cert.KernelFo.main (F := Bits))) ⟨m, fun _ => 0, g⟩ (fun r => (∀ c : Dev Cert.KernelFo.nD,
      r.2.mem ((c.tc : Thread Cert.KernelFo.nD Cert.KernelFo.τ).loc Cert.KernelFo.main_arg0) = m ((c.tc : Thread Cert.KernelFo.nD Cert.KernelFo.τ).loc Cert.KernelFo.main_arg0)
      ∧ r.2.mem ((c.tc : Thread Cert.KernelFo.nD Cert.KernelFo.τ).loc Cert.KernelFo.main_arg1) = m ((c.tc : Thread Cert.KernelFo.nD Cert.KernelFo.τ).loc Cert.KernelFo.main_arg1)
      ∧ r.2.mem ((c.tc : Thread Cert.KernelFo.nD Cert.KernelFo.τ).loc Cert.KernelFo.main_arg2) = m ((c.tc : Thread Cert.KernelFo.nD Cert.KernelFo.τ).loc Cert.KernelFo.main_arg2)
      ∧ r.2.mem ((c.tc : Thread Cert.KernelFo.nD Cert.KernelFo.τ).loc Cert.KernelFo.main_arg3) = m ((c.tc : Thread Cert.KernelFo.nD Cert.KernelFo.τ).loc Cert.KernelFo.main_arg3))
      ∧ r.2.sem = fun _ => 0)

def quiescent_KernelFoIdeal [hKernelFoIdeal : Cert.KernelFoIdeal.Facts] : Prop :=
  ∀ (m : (ℓ : Loc Cert.KernelFoIdeal.nD Cert.KernelFoIdeal.τ Cert.KernelFoIdeal.sig) → Buf (Elt Ideal) ℓ) (g : Dev Cert.KernelFoIdeal.nD → PrngReg), Pre_KernelFoIdeal m →
    θ_run (Cert.KernelFoIdeal.defs (F := Ideal)) (onTc (τ := Cert.KernelFoIdeal.τ) (Cert.KernelFoIdeal.main (F := Ideal))) ⟨m, fun _ => 0, g⟩ (fun r => (∀ c : Dev Cert.KernelFoIdeal.nD,
      r.2.mem ((c.tc : Thread Cert.KernelFoIdeal.nD Cert.KernelFoIdeal.τ).loc Cert.KernelFoIdeal.main_arg0) = m ((c.tc : Thread Cert.KernelFoIdeal.nD Cert.KernelFoIdeal.τ).loc Cert.KernelFoIdeal.main_arg0)
      ∧ r.2.mem ((c.tc : Thread Cert.KernelFoIdeal.nD Cert.KernelFoIdeal.τ).loc Cert.KernelFoIdeal.main_arg1) = m ((c.tc : Thread Cert.KernelFoIdeal.nD Cert.KernelFoIdeal.τ).loc Cert.KernelFoIdeal.main_arg1)
      ∧ r.2.mem ((c.tc : Thread Cert.KernelFoIdeal.nD Cert.KernelFoIdeal.τ).loc Cert.KernelFoIdeal.main_arg2) = m ((c.tc : Thread Cert.KernelFoIdeal.nD Cert.KernelFoIdeal.τ).loc Cert.KernelFoIdeal.main_arg2)
      ∧ r.2.mem ((c.tc : Thread Cert.KernelFoIdeal.nD Cert.KernelFoIdeal.τ).loc Cert.KernelFoIdeal.main_arg3) = m ((c.tc : Thread Cert.KernelFoIdeal.nD Cert.KernelFoIdeal.τ).loc Cert.KernelFoIdeal.main_arg3))
      ∧ r.2.sem = fun _ => 0)

def quiescent_ReferenceFoIdeal [hReferenceFoIdeal : Cert.ReferenceFoIdeal.Facts] : Prop :=
  ∀ (m : (ℓ : Loc Cert.ReferenceFoIdeal.nD Cert.ReferenceFoIdeal.τ Cert.ReferenceFoIdeal.sig) → Buf (Elt Ideal) ℓ) (g : Dev Cert.ReferenceFoIdeal.nD → PrngReg), Pre_ReferenceFoIdeal m →
    θ_run (Cert.ReferenceFoIdeal.defs (F := Ideal)) (onTc (τ := Cert.ReferenceFoIdeal.τ) (Cert.ReferenceFoIdeal.main (F := Ideal))) ⟨m, fun _ => 0, g⟩ (fun r => (∀ c : Dev Cert.ReferenceFoIdeal.nD,
      r.2.mem ((c.tc : Thread Cert.ReferenceFoIdeal.nD Cert.ReferenceFoIdeal.τ).loc Cert.ReferenceFoIdeal.main_arg0) = m ((c.tc : Thread Cert.ReferenceFoIdeal.nD Cert.ReferenceFoIdeal.τ).loc Cert.ReferenceFoIdeal.main_arg0)
      ∧ r.2.mem ((c.tc : Thread Cert.ReferenceFoIdeal.nD Cert.ReferenceFoIdeal.τ).loc Cert.ReferenceFoIdeal.main_arg1) = m ((c.tc : Thread Cert.ReferenceFoIdeal.nD Cert.ReferenceFoIdeal.τ).loc Cert.ReferenceFoIdeal.main_arg1)
      ∧ r.2.mem ((c.tc : Thread Cert.ReferenceFoIdeal.nD Cert.ReferenceFoIdeal.τ).loc Cert.ReferenceFoIdeal.main_arg2) = m ((c.tc : Thread Cert.ReferenceFoIdeal.nD Cert.ReferenceFoIdeal.τ).loc Cert.ReferenceFoIdeal.main_arg2)
      ∧ r.2.mem ((c.tc : Thread Cert.ReferenceFoIdeal.nD Cert.ReferenceFoIdeal.τ).loc Cert.ReferenceFoIdeal.main_arg3) = m ((c.tc : Thread Cert.ReferenceFoIdeal.nD Cert.ReferenceFoIdeal.τ).loc Cert.ReferenceFoIdeal.main_arg3))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelDgu [hKernelDgu : Cert.KernelDgu.Facts] : Prop :=
  ∀ (m : (ℓ : Loc Cert.KernelDgu.nD Cert.KernelDgu.τ Cert.KernelDgu.sig) → Buf (Elt Bits) ℓ) (g : Dev Cert.KernelDgu.nD → PrngReg), Pre_KernelDgu m →
    θ_run (Cert.KernelDgu.defs (F := Bits)) (onTc (τ := Cert.KernelDgu.τ) (Cert.KernelDgu.main (F := Bits))) ⟨m, fun _ => 0, g⟩ (fun r => (∀ c : Dev Cert.KernelDgu.nD,
      r.2.mem ((c.tc : Thread Cert.KernelDgu.nD Cert.KernelDgu.τ).loc Cert.KernelDgu.main_arg0) = m ((c.tc : Thread Cert.KernelDgu.nD Cert.KernelDgu.τ).loc Cert.KernelDgu.main_arg0)
      ∧ r.2.mem ((c.tc : Thread Cert.KernelDgu.nD Cert.KernelDgu.τ).loc Cert.KernelDgu.main_arg1) = m ((c.tc : Thread Cert.KernelDgu.nD Cert.KernelDgu.τ).loc Cert.KernelDgu.main_arg1)
      ∧ r.2.mem ((c.tc : Thread Cert.KernelDgu.nD Cert.KernelDgu.τ).loc Cert.KernelDgu.main_arg2) = m ((c.tc : Thread Cert.KernelDgu.nD Cert.KernelDgu.τ).loc Cert.KernelDgu.main_arg2)
      ∧ r.2.mem ((c.tc : Thread Cert.KernelDgu.nD Cert.KernelDgu.τ).loc Cert.KernelDgu.main_arg3) = m ((c.tc : Thread Cert.KernelDgu.nD Cert.KernelDgu.τ).loc Cert.KernelDgu.main_arg3)
      ∧ r.2.mem ((c.tc : Thread Cert.KernelDgu.nD Cert.KernelDgu.τ).loc Cert.KernelDgu.main_arg4) = m ((c.tc : Thread Cert.KernelDgu.nD Cert.KernelDgu.τ).loc Cert.KernelDgu.main_arg4)
      ∧ r.2.mem ((c.tc : Thread Cert.KernelDgu.nD Cert.KernelDgu.τ).loc Cert.KernelDgu.main_arg5) = m ((c.tc : Thread Cert.KernelDgu.nD Cert.KernelDgu.τ).loc Cert.KernelDgu.main_arg5)
      ∧ r.2.mem ((c.tc : Thread Cert.KernelDgu.nD Cert.KernelDgu.τ).loc Cert.KernelDgu.main_arg6) = m ((c.tc : Thread Cert.KernelDgu.nD Cert.KernelDgu.τ).loc Cert.KernelDgu.main_arg6))
      ∧ r.2.sem = fun _ => 0)

def quiescent_KernelDguIdeal [hKernelDguIdeal : Cert.KernelDguIdeal.Facts] : Prop :=
  ∀ (m : (ℓ : Loc Cert.KernelDguIdeal.nD Cert.KernelDguIdeal.τ Cert.KernelDguIdeal.sig) → Buf (Elt Ideal) ℓ) (g : Dev Cert.KernelDguIdeal.nD → PrngReg), Pre_KernelDguIdeal m →
    θ_run (Cert.KernelDguIdeal.defs (F := Ideal)) (onTc (τ := Cert.KernelDguIdeal.τ) (Cert.KernelDguIdeal.main (F := Ideal))) ⟨m, fun _ => 0, g⟩ (fun r => (∀ c : Dev Cert.KernelDguIdeal.nD,
      r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
      ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
      ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2)
      ∧ r.2.mem ((c.tc : Thread Cert.KernelDguIdeal.nD Cert.KernelDguIdeal.τ).loc Cert.KernelDguIdeal.main_arg3) = m ((c.tc : Thread Cert.KernelDguIdeal.nD Cert.KernelDguIdeal.τ).loc Cert.KernelDguIdeal.main_arg3)
      ∧ r.2.mem ((c.tc : Thread Cert.KernelDguIdeal.nD Cert.KernelDguIdeal.τ).loc Cert.KernelDguIdeal.main_arg4) = m ((c.tc : Thread Cert.KernelDguIdeal.nD Cert.KernelDguIdeal.τ).loc Cert.KernelDguIdeal.main_arg4)
      ∧ r.2.mem ((c.tc : Thread Cert.KernelDguIdeal.nD Cert.KernelDguIdeal.τ).loc Cert.KernelDguIdeal.main_arg5) = m ((c.tc : Thread Cert.KernelDguIdeal.nD Cert.KernelDguIdeal.τ).loc Cert.KernelDguIdeal.main_arg5)
      ∧ r.2.mem ((c.tc : Thread Cert.KernelDguIdeal.nD Cert.KernelDguIdeal.τ).loc Cert.KernelDguIdeal.main_arg6) = m ((c.tc : Thread Cert.KernelDguIdeal.nD Cert.KernelDguIdeal.τ).loc Cert.KernelDguIdeal.main_arg6))
      ∧ r.2.sem = fun _ => 0)

def quiescent_ReferenceDguIdeal [hReferenceDguIdeal : Cert.ReferenceDguIdeal.Facts] : Prop :=
  ∀ (m : (ℓ : Loc Cert.ReferenceDguIdeal.nD Cert.ReferenceDguIdeal.τ Cert.ReferenceDguIdeal.sig) → Buf (Elt Ideal) ℓ) (g : Dev Cert.ReferenceDguIdeal.nD → PrngReg), Pre_ReferenceDguIdeal m →
    θ_run (Cert.ReferenceDguIdeal.defs (F := Ideal)) (onTc (τ := Cert.ReferenceDguIdeal.τ) (Cert.ReferenceDguIdeal.main (F := Ideal))) ⟨m, fun _ => 0, g⟩ (fun r => (∀ c : Dev Cert.ReferenceDguIdeal.nD,
      r.2.mem ((c.tc : Thread Cert.ReferenceDguIdeal.nD Cert.ReferenceDguIdeal.τ).loc Cert.ReferenceDguIdeal.main_arg0) = m ((c.tc : Thread Cert.ReferenceDguIdeal.nD Cert.ReferenceDguIdeal.τ).loc Cert.ReferenceDguIdeal.main_arg0)
      ∧ r.2.mem ((c.tc : Thread Cert.ReferenceDguIdeal.nD Cert.ReferenceDguIdeal.τ).loc Cert.ReferenceDguIdeal.main_arg1) = m ((c.tc : Thread Cert.ReferenceDguIdeal.nD Cert.ReferenceDguIdeal.τ).loc Cert.ReferenceDguIdeal.main_arg1)
      ∧ r.2.mem ((c.tc : Thread Cert.ReferenceDguIdeal.nD Cert.ReferenceDguIdeal.τ).loc Cert.ReferenceDguIdeal.main_arg2) = m ((c.tc : Thread Cert.ReferenceDguIdeal.nD Cert.ReferenceDguIdeal.τ).loc Cert.ReferenceDguIdeal.main_arg2)
      ∧ r.2.mem ((c.tc : Thread Cert.ReferenceDguIdeal.nD Cert.ReferenceDguIdeal.τ).loc Cert.ReferenceDguIdeal.main_arg3) = m ((c.tc : Thread Cert.ReferenceDguIdeal.nD Cert.ReferenceDguIdeal.τ).loc Cert.ReferenceDguIdeal.main_arg3)
      ∧ r.2.mem ((c.tc : Thread Cert.ReferenceDguIdeal.nD Cert.ReferenceDguIdeal.τ).loc Cert.ReferenceDguIdeal.main_arg4) = m ((c.tc : Thread Cert.ReferenceDguIdeal.nD Cert.ReferenceDguIdeal.τ).loc Cert.ReferenceDguIdeal.main_arg4)
      ∧ r.2.mem ((c.tc : Thread Cert.ReferenceDguIdeal.nD Cert.ReferenceDguIdeal.τ).loc Cert.ReferenceDguIdeal.main_arg5) = m ((c.tc : Thread Cert.ReferenceDguIdeal.nD Cert.ReferenceDguIdeal.τ).loc Cert.ReferenceDguIdeal.main_arg5)
      ∧ r.2.mem ((c.tc : Thread Cert.ReferenceDguIdeal.nD Cert.ReferenceDguIdeal.τ).loc Cert.ReferenceDguIdeal.main_arg6) = m ((c.tc : Thread Cert.ReferenceDguIdeal.nD Cert.ReferenceDguIdeal.τ).loc Cert.ReferenceDguIdeal.main_arg6))
      ∧ r.2.sem = fun _ => 0)

def quiescent_KernelDgm [hKernelDgm : Cert.KernelDgm.Facts] : Prop :=
  ∀ (m : (ℓ : Loc Cert.KernelDgm.nD Cert.KernelDgm.τ Cert.KernelDgm.sig) → Buf (Elt Bits) ℓ) (g : Dev Cert.KernelDgm.nD → PrngReg), Pre_KernelDgm m →
    θ_run (Cert.KernelDgm.defs (F := Bits)) (onTc (τ := Cert.KernelDgm.τ) (Cert.KernelDgm.main (F := Bits))) ⟨m, fun _ => 0, g⟩ (fun r => (∀ c : Dev Cert.KernelDgm.nD,
      r.2.mem ((c.tc : Thread Cert.KernelDgm.nD Cert.KernelDgm.τ).loc Cert.KernelDgm.main_arg0) = m ((c.tc : Thread Cert.KernelDgm.nD Cert.KernelDgm.τ).loc Cert.KernelDgm.main_arg0)
      ∧ r.2.mem ((c.tc : Thread Cert.KernelDgm.nD Cert.KernelDgm.τ).loc Cert.KernelDgm.main_arg1) = m ((c.tc : Thread Cert.KernelDgm.nD Cert.KernelDgm.τ).loc Cert.KernelDgm.main_arg1)
      ∧ r.2.mem ((c.tc : Thread Cert.KernelDgm.nD Cert.KernelDgm.τ).loc Cert.KernelDgm.main_arg2) = m ((c.tc : Thread Cert.KernelDgm.nD Cert.KernelDgm.τ).loc Cert.KernelDgm.main_arg2)
      ∧ r.2.mem ((c.tc : Thread Cert.KernelDgm.nD Cert.KernelDgm.τ).loc Cert.KernelDgm.main_arg3) = m ((c.tc : Thread Cert.KernelDgm.nD Cert.KernelDgm.τ).loc Cert.KernelDgm.main_arg3)
      ∧ r.2.mem ((c.tc : Thread Cert.KernelDgm.nD Cert.KernelDgm.τ).loc Cert.KernelDgm.main_arg4) = m ((c.tc : Thread Cert.KernelDgm.nD Cert.KernelDgm.τ).loc Cert.KernelDgm.main_arg4))
      ∧ r.2.sem = fun _ => 0)

def quiescent_KernelDgmIdeal [hKernelDgmIdeal : Cert.KernelDgmIdeal.Facts] : Prop :=
  ∀ (m : (ℓ : Loc Cert.KernelDgmIdeal.nD Cert.KernelDgmIdeal.τ Cert.KernelDgmIdeal.sig) → Buf (Elt Ideal) ℓ) (g : Dev Cert.KernelDgmIdeal.nD → PrngReg), Pre_KernelDgmIdeal m →
    θ_run (Cert.KernelDgmIdeal.defs (F := Ideal)) (onTc (τ := Cert.KernelDgmIdeal.τ) (Cert.KernelDgmIdeal.main (F := Ideal))) ⟨m, fun _ => 0, g⟩ (fun r => (∀ c : Dev Cert.KernelDgmIdeal.nD,
      r.2.mem ((c.tc : Thread Cert.KernelDgmIdeal.nD Cert.KernelDgmIdeal.τ).loc Cert.KernelDgmIdeal.main_arg0) = m ((c.tc : Thread Cert.KernelDgmIdeal.nD Cert.KernelDgmIdeal.τ).loc Cert.KernelDgmIdeal.main_arg0)
      ∧ r.2.mem ((c.tc : Thread Cert.KernelDgmIdeal.nD Cert.KernelDgmIdeal.τ).loc Cert.KernelDgmIdeal.main_arg1) = m ((c.tc : Thread Cert.KernelDgmIdeal.nD Cert.KernelDgmIdeal.τ).loc Cert.KernelDgmIdeal.main_arg1)
      ∧ r.2.mem ((c.tc : Thread Cert.KernelDgmIdeal.nD Cert.KernelDgmIdeal.τ).loc Cert.KernelDgmIdeal.main_arg2) = m ((c.tc : Thread Cert.KernelDgmIdeal.nD Cert.KernelDgmIdeal.τ).loc Cert.KernelDgmIdeal.main_arg2)
      ∧ r.2.mem ((c.tc : Thread Cert.KernelDgmIdeal.nD Cert.KernelDgmIdeal.τ).loc Cert.KernelDgmIdeal.main_arg3) = m ((c.tc : Thread Cert.KernelDgmIdeal.nD Cert.KernelDgmIdeal.τ).loc Cert.KernelDgmIdeal.main_arg3)
      ∧ r.2.mem ((c.tc : Thread Cert.KernelDgmIdeal.nD Cert.KernelDgmIdeal.τ).loc Cert.KernelDgmIdeal.main_arg4) = m ((c.tc : Thread Cert.KernelDgmIdeal.nD Cert.KernelDgmIdeal.τ).loc Cert.KernelDgmIdeal.main_arg4))
      ∧ r.2.sem = fun _ => 0)

def quiescent_ReferenceDgmIdeal [hReferenceDgmIdeal : Cert.ReferenceDgmIdeal.Facts] : Prop :=
  ∀ (m : (ℓ : Loc Cert.ReferenceDgmIdeal.nD Cert.ReferenceDgmIdeal.τ Cert.ReferenceDgmIdeal.sig) → Buf (Elt Ideal) ℓ) (g : Dev Cert.ReferenceDgmIdeal.nD → PrngReg), Pre_ReferenceDgmIdeal m →
    θ_run (Cert.ReferenceDgmIdeal.defs (F := Ideal)) (onTc (τ := Cert.ReferenceDgmIdeal.τ) (Cert.ReferenceDgmIdeal.main (F := Ideal))) ⟨m, fun _ => 0, g⟩ (fun r => (∀ c : Dev Cert.ReferenceDgmIdeal.nD,
      r.2.mem ((c.tc : Thread Cert.ReferenceDgmIdeal.nD Cert.ReferenceDgmIdeal.τ).loc Cert.ReferenceDgmIdeal.main_arg0) = m ((c.tc : Thread Cert.ReferenceDgmIdeal.nD Cert.ReferenceDgmIdeal.τ).loc Cert.ReferenceDgmIdeal.main_arg0)
      ∧ r.2.mem ((c.tc : Thread Cert.ReferenceDgmIdeal.nD Cert.ReferenceDgmIdeal.τ).loc Cert.ReferenceDgmIdeal.main_arg1) = m ((c.tc : Thread Cert.ReferenceDgmIdeal.nD Cert.ReferenceDgmIdeal.τ).loc Cert.ReferenceDgmIdeal.main_arg1)
      ∧ r.2.mem ((c.tc : Thread Cert.ReferenceDgmIdeal.nD Cert.ReferenceDgmIdeal.τ).loc Cert.ReferenceDgmIdeal.main_arg2) = m ((c.tc : Thread Cert.ReferenceDgmIdeal.nD Cert.ReferenceDgmIdeal.τ).loc Cert.ReferenceDgmIdeal.main_arg2)
      ∧ r.2.mem ((c.tc : Thread Cert.ReferenceDgmIdeal.nD Cert.ReferenceDgmIdeal.τ).loc Cert.ReferenceDgmIdeal.main_arg3) = m ((c.tc : Thread Cert.ReferenceDgmIdeal.nD Cert.ReferenceDgmIdeal.τ).loc Cert.ReferenceDgmIdeal.main_arg3)
      ∧ r.2.mem ((c.tc : Thread Cert.ReferenceDgmIdeal.nD Cert.ReferenceDgmIdeal.τ).loc Cert.ReferenceDgmIdeal.main_arg4) = m ((c.tc : Thread Cert.ReferenceDgmIdeal.nD Cert.ReferenceDgmIdeal.τ).loc Cert.ReferenceDgmIdeal.main_arg4))
      ∧ r.2.sem = fun _ => 0)

def quiescent_KernelDqkv [hKernelDqkv : Cert.KernelDqkv.Facts] : Prop :=
  ∀ (m : (ℓ : Loc Cert.KernelDqkv.nD Cert.KernelDqkv.τ Cert.KernelDqkv.sig) → Buf (Elt Bits) ℓ) (g : Dev Cert.KernelDqkv.nD → PrngReg), Pre_KernelDqkv m →
    θ_run (Cert.KernelDqkv.defs (F := Bits)) (onTc (τ := Cert.KernelDqkv.τ) (Cert.KernelDqkv.main (F := Bits))) ⟨m, fun _ => 0, g⟩ (fun r => (∀ c : Dev Cert.KernelDqkv.nD,
      r.2.mem ((c.tc : Thread Cert.KernelDqkv.nD Cert.KernelDqkv.τ).loc Cert.KernelDqkv.main_arg0) = m ((c.tc : Thread Cert.KernelDqkv.nD Cert.KernelDqkv.τ).loc Cert.KernelDqkv.main_arg0)
      ∧ r.2.mem ((c.tc : Thread Cert.KernelDqkv.nD Cert.KernelDqkv.τ).loc Cert.KernelDqkv.main_arg1) = m ((c.tc : Thread Cert.KernelDqkv.nD Cert.KernelDqkv.τ).loc Cert.KernelDqkv.main_arg1)
      ∧ r.2.mem ((c.tc : Thread Cert.KernelDqkv.nD Cert.KernelDqkv.τ).loc Cert.KernelDqkv.main_arg2) = m ((c.tc : Thread Cert.KernelDqkv.nD Cert.KernelDqkv.τ).loc Cert.KernelDqkv.main_arg2)
      ∧ r.2.mem ((c.tc : Thread Cert.KernelDqkv.nD Cert.KernelDqkv.τ).loc Cert.KernelDqkv.main_arg3) = m ((c.tc : Thread Cert.KernelDqkv.nD Cert.KernelDqkv.τ).loc Cert.KernelDqkv.main_arg3)
      ∧ r.2.mem ((c.tc : Thread Cert.KernelDqkv.nD Cert.KernelDqkv.τ).loc Cert.KernelDqkv.main_arg4) = m ((c.tc : Thread Cert.KernelDqkv.nD Cert.KernelDqkv.τ).loc Cert.KernelDqkv.main_arg4)
      ∧ r.2.mem ((c.tc : Thread Cert.KernelDqkv.nD Cert.KernelDqkv.τ).loc Cert.KernelDqkv.main_arg5) = m ((c.tc : Thread Cert.KernelDqkv.nD Cert.KernelDqkv.τ).loc Cert.KernelDqkv.main_arg5)
      ∧ r.2.mem ((c.tc : Thread Cert.KernelDqkv.nD Cert.KernelDqkv.τ).loc Cert.KernelDqkv.main_arg6) = m ((c.tc : Thread Cert.KernelDqkv.nD Cert.KernelDqkv.τ).loc Cert.KernelDqkv.main_arg6)
      ∧ r.2.mem ((c.tc : Thread Cert.KernelDqkv.nD Cert.KernelDqkv.τ).loc Cert.KernelDqkv.main_arg7) = m ((c.tc : Thread Cert.KernelDqkv.nD Cert.KernelDqkv.τ).loc Cert.KernelDqkv.main_arg7))
      ∧ r.2.sem = fun _ => 0)

def quiescent_KernelDqkvIdeal [hKernelDqkvIdeal : Cert.KernelDqkvIdeal.Facts] : Prop :=
  ∀ (m : (ℓ : Loc Cert.KernelDqkvIdeal.nD Cert.KernelDqkvIdeal.τ Cert.KernelDqkvIdeal.sig) → Buf (Elt Ideal) ℓ) (g : Dev Cert.KernelDqkvIdeal.nD → PrngReg), Pre_KernelDqkvIdeal m →
    θ_run (Cert.KernelDqkvIdeal.defs (F := Ideal)) (onTc (τ := Cert.KernelDqkvIdeal.τ) (Cert.KernelDqkvIdeal.main (F := Ideal))) ⟨m, fun _ => 0, g⟩ (fun r => (∀ c : Dev Cert.KernelDqkvIdeal.nD,
      r.2.mem ((c.tc : Thread Cert.KernelDqkvIdeal.nD Cert.KernelDqkvIdeal.τ).loc Cert.KernelDqkvIdeal.main_arg0) = m ((c.tc : Thread Cert.KernelDqkvIdeal.nD Cert.KernelDqkvIdeal.τ).loc Cert.KernelDqkvIdeal.main_arg0)
      ∧ r.2.mem ((c.tc : Thread Cert.KernelDqkvIdeal.nD Cert.KernelDqkvIdeal.τ).loc Cert.KernelDqkvIdeal.main_arg1) = m ((c.tc : Thread Cert.KernelDqkvIdeal.nD Cert.KernelDqkvIdeal.τ).loc Cert.KernelDqkvIdeal.main_arg1)
      ∧ r.2.mem ((c.tc : Thread Cert.KernelDqkvIdeal.nD Cert.KernelDqkvIdeal.τ).loc Cert.KernelDqkvIdeal.main_arg2) = m ((c.tc : Thread Cert.KernelDqkvIdeal.nD Cert.KernelDqkvIdeal.τ).loc Cert.KernelDqkvIdeal.main_arg2)
      ∧ r.2.mem ((c.tc : Thread Cert.KernelDqkvIdeal.nD Cert.KernelDqkvIdeal.τ).loc Cert.KernelDqkvIdeal.main_arg3) = m ((c.tc : Thread Cert.KernelDqkvIdeal.nD Cert.KernelDqkvIdeal.τ).loc Cert.KernelDqkvIdeal.main_arg3)
      ∧ r.2.mem ((c.tc : Thread Cert.KernelDqkvIdeal.nD Cert.KernelDqkvIdeal.τ).loc Cert.KernelDqkvIdeal.main_arg4) = m ((c.tc : Thread Cert.KernelDqkvIdeal.nD Cert.KernelDqkvIdeal.τ).loc Cert.KernelDqkvIdeal.main_arg4)
      ∧ r.2.mem ((c.tc : Thread Cert.KernelDqkvIdeal.nD Cert.KernelDqkvIdeal.τ).loc Cert.KernelDqkvIdeal.main_arg5) = m ((c.tc : Thread Cert.KernelDqkvIdeal.nD Cert.KernelDqkvIdeal.τ).loc Cert.KernelDqkvIdeal.main_arg5)
      ∧ r.2.mem ((c.tc : Thread Cert.KernelDqkvIdeal.nD Cert.KernelDqkvIdeal.τ).loc Cert.KernelDqkvIdeal.main_arg6) = m ((c.tc : Thread Cert.KernelDqkvIdeal.nD Cert.KernelDqkvIdeal.τ).loc Cert.KernelDqkvIdeal.main_arg6)
      ∧ r.2.mem ((c.tc : Thread Cert.KernelDqkvIdeal.nD Cert.KernelDqkvIdeal.τ).loc Cert.KernelDqkvIdeal.main_arg7) = m ((c.tc : Thread Cert.KernelDqkvIdeal.nD Cert.KernelDqkvIdeal.τ).loc Cert.KernelDqkvIdeal.main_arg7))
      ∧ r.2.sem = fun _ => 0)

def quiescent_ReferenceDqkvIdeal [hReferenceDqkvIdeal : Cert.ReferenceDqkvIdeal.Facts] : Prop :=
  ∀ (m : (ℓ : Loc Cert.ReferenceDqkvIdeal.nD Cert.ReferenceDqkvIdeal.τ Cert.ReferenceDqkvIdeal.sig) → Buf (Elt Ideal) ℓ) (g : Dev Cert.ReferenceDqkvIdeal.nD → PrngReg), Pre_ReferenceDqkvIdeal m →
    θ_run (Cert.ReferenceDqkvIdeal.defs (F := Ideal)) (onTc (τ := Cert.ReferenceDqkvIdeal.τ) (Cert.ReferenceDqkvIdeal.main (F := Ideal))) ⟨m, fun _ => 0, g⟩ (fun r => (∀ c : Dev Cert.ReferenceDqkvIdeal.nD,
      r.2.mem ((c.tc : Thread Cert.ReferenceDqkvIdeal.nD Cert.ReferenceDqkvIdeal.τ).loc Cert.ReferenceDqkvIdeal.main_arg0) = m ((c.tc : Thread Cert.ReferenceDqkvIdeal.nD Cert.ReferenceDqkvIdeal.τ).loc Cert.ReferenceDqkvIdeal.main_arg0)
      ∧ r.2.mem ((c.tc : Thread Cert.ReferenceDqkvIdeal.nD Cert.ReferenceDqkvIdeal.τ).loc Cert.ReferenceDqkvIdeal.main_arg1) = m ((c.tc : Thread Cert.ReferenceDqkvIdeal.nD Cert.ReferenceDqkvIdeal.τ).loc Cert.ReferenceDqkvIdeal.main_arg1)
      ∧ r.2.mem ((c.tc : Thread Cert.ReferenceDqkvIdeal.nD Cert.ReferenceDqkvIdeal.τ).loc Cert.ReferenceDqkvIdeal.main_arg2) = m ((c.tc : Thread Cert.ReferenceDqkvIdeal.nD Cert.ReferenceDqkvIdeal.τ).loc Cert.ReferenceDqkvIdeal.main_arg2)
      ∧ r.2.mem ((c.tc : Thread Cert.ReferenceDqkvIdeal.nD Cert.ReferenceDqkvIdeal.τ).loc Cert.ReferenceDqkvIdeal.main_arg3) = m ((c.tc : Thread Cert.ReferenceDqkvIdeal.nD Cert.ReferenceDqkvIdeal.τ).loc Cert.ReferenceDqkvIdeal.main_arg3)
      ∧ r.2.mem ((c.tc : Thread Cert.ReferenceDqkvIdeal.nD Cert.ReferenceDqkvIdeal.τ).loc Cert.ReferenceDqkvIdeal.main_arg4) = m ((c.tc : Thread Cert.ReferenceDqkvIdeal.nD Cert.ReferenceDqkvIdeal.τ).loc Cert.ReferenceDqkvIdeal.main_arg4)
      ∧ r.2.mem ((c.tc : Thread Cert.ReferenceDqkvIdeal.nD Cert.ReferenceDqkvIdeal.τ).loc Cert.ReferenceDqkvIdeal.main_arg5) = m ((c.tc : Thread Cert.ReferenceDqkvIdeal.nD Cert.ReferenceDqkvIdeal.τ).loc Cert.ReferenceDqkvIdeal.main_arg5)
      ∧ r.2.mem ((c.tc : Thread Cert.ReferenceDqkvIdeal.nD Cert.ReferenceDqkvIdeal.τ).loc Cert.ReferenceDqkvIdeal.main_arg6) = m ((c.tc : Thread Cert.ReferenceDqkvIdeal.nD Cert.ReferenceDqkvIdeal.τ).loc Cert.ReferenceDqkvIdeal.main_arg6)
      ∧ r.2.mem ((c.tc : Thread Cert.ReferenceDqkvIdeal.nD Cert.ReferenceDqkvIdeal.τ).loc Cert.ReferenceDqkvIdeal.main_arg7) = m ((c.tc : Thread Cert.ReferenceDqkvIdeal.nD Cert.ReferenceDqkvIdeal.τ).loc Cert.ReferenceDqkvIdeal.main_arg7))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)) (v2 : (c : Dev Cert.KernelIdeal.nD) → Buf (Elt Ideal) ((c.tc : Thread Cert.KernelIdeal.nD Cert.KernelIdeal.τ).loc Cert.KernelIdeal.main_v79_2)) (v3 : (c : Dev Cert.KernelIdeal.nD) → Buf (Elt Ideal) ((c.tc : Thread Cert.KernelIdeal.nD Cert.KernelIdeal.τ).loc Cert.KernelIdeal.main_v79_3)) (v4 : (c : Dev Cert.KernelIdeal.nD) → Buf (Elt Ideal) ((c.tc : Thread Cert.KernelIdeal.nD Cert.KernelIdeal.τ).loc Cert.KernelIdeal.main_v79_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_v79_2) = v2 c
          ∧ r.2.mem ((c.tc : Thread Cert.KernelIdeal.nD Cert.KernelIdeal.τ).loc Cert.KernelIdeal.main_v79_3) = v3 c
          ∧ r.2.mem ((c.tc : Thread Cert.KernelIdeal.nD Cert.KernelIdeal.τ).loc Cert.KernelIdeal.main_v79_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v1)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v1) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v5) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v1)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v1) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v5) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwg_KernelDwgIdeal : Prop :=
  True

def algebraic_KernelDwgIdeal_ReferenceDwgIdeal [hKernelDwgIdeal : Cert.KernelDwgIdeal.Facts] [hReferenceDwgIdeal : Cert.ReferenceDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg)
    (m' : (ℓ : Loc Cert.ReferenceDwgIdeal.nD Cert.ReferenceDwgIdeal.τ Cert.ReferenceDwgIdeal.sig) → Buf (Elt Ideal) ℓ) (g' : Dev Cert.ReferenceDwgIdeal.nD → PrngReg), Pre_KernelDwgIdeal m →
    (∀ c : Dev Cert.KernelDwgIdeal.nD,
      m' ((c.tc : Thread Cert.ReferenceDwgIdeal.nD Cert.ReferenceDwgIdeal.τ).loc Cert.ReferenceDwgIdeal.main_arg0) = m ((c.tc : Thread Cert.KernelDwgIdeal.nD Cert.KernelDwgIdeal.τ).loc Cert.KernelDwgIdeal.main_arg0)
      ∧ m' ((c.tc : Thread Cert.ReferenceDwgIdeal.nD Cert.ReferenceDwgIdeal.τ).loc Cert.ReferenceDwgIdeal.main_arg1) = m ((c.tc : Thread Cert.KernelDwgIdeal.nD Cert.KernelDwgIdeal.τ).loc Cert.KernelDwgIdeal.main_arg1)) →
    ∃ (v0 : (c : Dev Cert.KernelDwgIdeal.nD) → Buf (Elt Ideal) ((c.tc : Thread Cert.KernelDwgIdeal.nD Cert.KernelDwgIdeal.τ).loc Cert.KernelDwgIdeal.main_v0)),
      θ_run (Cert.KernelDwgIdeal.defs (F := Ideal)) (onTc (τ := Cert.KernelDwgIdeal.τ) (Cert.KernelDwgIdeal.main (F := Ideal))) ⟨m, fun _ => 0, g⟩ (fun r => ∀ c : Dev Cert.KernelDwgIdeal.nD,
          r.2.mem ((c.tc : Thread Cert.KernelDwgIdeal.nD Cert.KernelDwgIdeal.τ).loc Cert.KernelDwgIdeal.main_v0) = v0 c
          ∧ r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
          ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ θ_run (Cert.ReferenceDwgIdeal.defs (F := Ideal)) (onTc (τ := Cert.ReferenceDwgIdeal.τ) (Cert.ReferenceDwgIdeal.main (F := Ideal))) ⟨m', fun _ => 0, g'⟩ (fun r => ∀ c : Dev Cert.ReferenceDwgIdeal.nD,
          r.2.mem ((c.tc : Thread Cert.ReferenceDwgIdeal.nD Cert.ReferenceDwgIdeal.τ).loc Cert.ReferenceDwgIdeal.main_v8) = v0 c
          ∧ r.2.mem ((c.tc : Thread Cert.ReferenceDwgIdeal.nD Cert.ReferenceDwgIdeal.τ).loc Cert.ReferenceDwgIdeal.main_arg0) = m' ((c.tc : Thread Cert.ReferenceDwgIdeal.nD Cert.ReferenceDwgIdeal.τ).loc Cert.ReferenceDwgIdeal.main_arg0)
          ∧ r.2.mem ((c.tc : Thread Cert.ReferenceDwgIdeal.nD Cert.ReferenceDwgIdeal.τ).loc Cert.ReferenceDwgIdeal.main_arg1) = m' ((c.tc : Thread Cert.ReferenceDwgIdeal.nD Cert.ReferenceDwgIdeal.τ).loc Cert.ReferenceDwgIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v0)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v8) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_v15) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelFo_KernelFoIdeal : Prop :=
  True

def algebraic_KernelFoIdeal_ReferenceFoIdeal [hKernelFoIdeal : Cert.KernelFoIdeal.Facts] [hReferenceFoIdeal : Cert.ReferenceFoIdeal.Facts] : Prop :=
  ∀ (m : (ℓ : Loc Cert.KernelFoIdeal.nD Cert.KernelFoIdeal.τ Cert.KernelFoIdeal.sig) → Buf (Elt Ideal) ℓ) (g : Dev Cert.KernelFoIdeal.nD → PrngReg)
    (m' : (ℓ : Loc Cert.ReferenceFoIdeal.nD Cert.ReferenceFoIdeal.τ Cert.ReferenceFoIdeal.sig) → Buf (Elt Ideal) ℓ) (g' : Dev Cert.ReferenceFoIdeal.nD → PrngReg), Pre_KernelFoIdeal m →
    (∀ c : Dev Cert.KernelFoIdeal.nD,
      m' ((c.tc : Thread Cert.ReferenceFoIdeal.nD Cert.ReferenceFoIdeal.τ).loc Cert.ReferenceFoIdeal.main_arg0) = m ((c.tc : Thread Cert.KernelFoIdeal.nD Cert.KernelFoIdeal.τ).loc Cert.KernelFoIdeal.main_arg0)
      ∧ m' ((c.tc : Thread Cert.ReferenceFoIdeal.nD Cert.ReferenceFoIdeal.τ).loc Cert.ReferenceFoIdeal.main_arg1) = m ((c.tc : Thread Cert.KernelFoIdeal.nD Cert.KernelFoIdeal.τ).loc Cert.KernelFoIdeal.main_arg1)
      ∧ m' ((c.tc : Thread Cert.ReferenceFoIdeal.nD Cert.ReferenceFoIdeal.τ).loc Cert.ReferenceFoIdeal.main_arg2) = m ((c.tc : Thread Cert.KernelFoIdeal.nD Cert.KernelFoIdeal.τ).loc Cert.KernelFoIdeal.main_arg2)
      ∧ m' ((c.tc : Thread Cert.ReferenceFoIdeal.nD Cert.ReferenceFoIdeal.τ).loc Cert.ReferenceFoIdeal.main_arg3) = m ((c.tc : Thread Cert.KernelFoIdeal.nD Cert.KernelFoIdeal.τ).loc Cert.KernelFoIdeal.main_arg3)) →
    ∃ (v0 : (c : Dev Cert.KernelFoIdeal.nD) → Buf (Elt Ideal) ((c.tc : Thread Cert.KernelFoIdeal.nD Cert.KernelFoIdeal.τ).loc Cert.KernelFoIdeal.main_v2_0)) (v1 : (c : Dev Cert.KernelFoIdeal.nD) → Buf (Elt Ideal) ((c.tc : Thread Cert.KernelFoIdeal.nD Cert.KernelFoIdeal.τ).loc Cert.KernelFoIdeal.main_v2_1)),
      θ_run (Cert.KernelFoIdeal.defs (F := Ideal)) (onTc (τ := Cert.KernelFoIdeal.τ) (Cert.KernelFoIdeal.main (F := Ideal))) ⟨m, fun _ => 0, g⟩ (fun r => ∀ c : Dev Cert.KernelFoIdeal.nD,
          r.2.mem ((c.tc : Thread Cert.KernelFoIdeal.nD Cert.KernelFoIdeal.τ).loc Cert.KernelFoIdeal.main_v2_0) = v0 c
          ∧ r.2.mem ((c.tc : Thread Cert.KernelFoIdeal.nD Cert.KernelFoIdeal.τ).loc Cert.KernelFoIdeal.main_v2_1) = v1 c
          ∧ r.2.mem ((c.tc : Thread Cert.KernelFoIdeal.nD Cert.KernelFoIdeal.τ).loc Cert.KernelFoIdeal.main_arg0) = m ((c.tc : Thread Cert.KernelFoIdeal.nD Cert.KernelFoIdeal.τ).loc Cert.KernelFoIdeal.main_arg0)
          ∧ r.2.mem ((c.tc : Thread Cert.KernelFoIdeal.nD Cert.KernelFoIdeal.τ).loc Cert.KernelFoIdeal.main_arg1) = m ((c.tc : Thread Cert.KernelFoIdeal.nD Cert.KernelFoIdeal.τ).loc Cert.KernelFoIdeal.main_arg1)
          ∧ r.2.mem ((c.tc : Thread Cert.KernelFoIdeal.nD Cert.KernelFoIdeal.τ).loc Cert.KernelFoIdeal.main_arg2) = m ((c.tc : Thread Cert.KernelFoIdeal.nD Cert.KernelFoIdeal.τ).loc Cert.KernelFoIdeal.main_arg2)
          ∧ r.2.mem ((c.tc : Thread Cert.KernelFoIdeal.nD Cert.KernelFoIdeal.τ).loc Cert.KernelFoIdeal.main_arg3) = m ((c.tc : Thread Cert.KernelFoIdeal.nD Cert.KernelFoIdeal.τ).loc Cert.KernelFoIdeal.main_arg3))
      ∧ θ_run (Cert.ReferenceFoIdeal.defs (F := Ideal)) (onTc (τ := Cert.ReferenceFoIdeal.τ) (Cert.ReferenceFoIdeal.main (F := Ideal))) ⟨m', fun _ => 0, g'⟩ (fun r => ∀ c : Dev Cert.ReferenceFoIdeal.nD,
          r.2.mem ((c.tc : Thread Cert.ReferenceFoIdeal.nD Cert.ReferenceFoIdeal.τ).loc Cert.ReferenceFoIdeal.main_v2) = v0 c
          ∧ r.2.mem ((c.tc : Thread Cert.ReferenceFoIdeal.nD Cert.ReferenceFoIdeal.τ).loc Cert.ReferenceFoIdeal.main_v15) = v1 c
          ∧ r.2.mem ((c.tc : Thread Cert.ReferenceFoIdeal.nD Cert.ReferenceFoIdeal.τ).loc Cert.ReferenceFoIdeal.main_arg0) = m' ((c.tc : Thread Cert.ReferenceFoIdeal.nD Cert.ReferenceFoIdeal.τ).loc Cert.ReferenceFoIdeal.main_arg0)
          ∧ r.2.mem ((c.tc : Thread Cert.ReferenceFoIdeal.nD Cert.ReferenceFoIdeal.τ).loc Cert.ReferenceFoIdeal.main_arg1) = m' ((c.tc : Thread Cert.ReferenceFoIdeal.nD Cert.ReferenceFoIdeal.τ).loc Cert.ReferenceFoIdeal.main_arg1)
          ∧ r.2.mem ((c.tc : Thread Cert.ReferenceFoIdeal.nD Cert.ReferenceFoIdeal.τ).loc Cert.ReferenceFoIdeal.main_arg2) = m' ((c.tc : Thread Cert.ReferenceFoIdeal.nD Cert.ReferenceFoIdeal.τ).loc Cert.ReferenceFoIdeal.main_arg2)
          ∧ r.2.mem ((c.tc : Thread Cert.ReferenceFoIdeal.nD Cert.ReferenceFoIdeal.τ).loc Cert.ReferenceFoIdeal.main_arg3) = m' ((c.tc : Thread Cert.ReferenceFoIdeal.nD Cert.ReferenceFoIdeal.τ).loc Cert.ReferenceFoIdeal.main_arg3))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)) →
    ∃ (v0 : (c : Dev Cert.KernelLastIdeal.nD) → Buf (Elt Ideal) ((c.tc : Thread Cert.KernelLastIdeal.nD Cert.KernelLastIdeal.τ).loc Cert.KernelLastIdeal.main_v2)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v2) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v2) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v2)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v2) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v3) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v2) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v3) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelDgu_KernelDguIdeal : Prop :=
  True

def algebraic_KernelDguIdeal_ReferenceDguIdeal [hKernelDguIdeal : Cert.KernelDguIdeal.Facts] [hReferenceDguIdeal : Cert.ReferenceDguIdeal.Facts] : Prop :=
  ∀ (m : (ℓ : Loc Cert.KernelDguIdeal.nD Cert.KernelDguIdeal.τ Cert.KernelDguIdeal.sig) → Buf (Elt Ideal) ℓ) (g : Dev Cert.KernelDguIdeal.nD → PrngReg)
    (m' : (ℓ : Loc Cert.ReferenceDguIdeal.nD Cert.ReferenceDguIdeal.τ Cert.ReferenceDguIdeal.sig) → Buf (Elt Ideal) ℓ) (g' : Dev Cert.ReferenceDguIdeal.nD → PrngReg), Pre_KernelDguIdeal m →
    (∀ c : Dev Cert.KernelDguIdeal.nD,
      m' ((c.tc : Thread Cert.ReferenceDguIdeal.nD Cert.ReferenceDguIdeal.τ).loc Cert.ReferenceDguIdeal.main_arg0) = m ((c.tc : Thread Cert.KernelDguIdeal.nD Cert.KernelDguIdeal.τ).loc Cert.KernelDguIdeal.main_arg0)
      ∧ m' ((c.tc : Thread Cert.ReferenceDguIdeal.nD Cert.ReferenceDguIdeal.τ).loc Cert.ReferenceDguIdeal.main_arg1) = m ((c.tc : Thread Cert.KernelDguIdeal.nD Cert.KernelDguIdeal.τ).loc Cert.KernelDguIdeal.main_arg1)
      ∧ m' ((c.tc : Thread Cert.ReferenceDguIdeal.nD Cert.ReferenceDguIdeal.τ).loc Cert.ReferenceDguIdeal.main_arg2) = m ((c.tc : Thread Cert.KernelDguIdeal.nD Cert.KernelDguIdeal.τ).loc Cert.KernelDguIdeal.main_arg2)
      ∧ m' ((c.tc : Thread Cert.ReferenceDguIdeal.nD Cert.ReferenceDguIdeal.τ).loc Cert.ReferenceDguIdeal.main_arg3) = m ((c.tc : Thread Cert.KernelDguIdeal.nD Cert.KernelDguIdeal.τ).loc Cert.KernelDguIdeal.main_arg3)
      ∧ m' ((c.tc : Thread Cert.ReferenceDguIdeal.nD Cert.ReferenceDguIdeal.τ).loc Cert.ReferenceDguIdeal.main_arg4) = m ((c.tc : Thread Cert.KernelDguIdeal.nD Cert.KernelDguIdeal.τ).loc Cert.KernelDguIdeal.main_arg4)
      ∧ m' ((c.tc : Thread Cert.ReferenceDguIdeal.nD Cert.ReferenceDguIdeal.τ).loc Cert.ReferenceDguIdeal.main_arg5) = m ((c.tc : Thread Cert.KernelDguIdeal.nD Cert.KernelDguIdeal.τ).loc Cert.KernelDguIdeal.main_arg5)
      ∧ m' ((c.tc : Thread Cert.ReferenceDguIdeal.nD Cert.ReferenceDguIdeal.τ).loc Cert.ReferenceDguIdeal.main_arg6) = m ((c.tc : Thread Cert.KernelDguIdeal.nD Cert.KernelDguIdeal.τ).loc Cert.KernelDguIdeal.main_arg6)) →
    ∃ (v0 : (c : Dev Cert.KernelDguIdeal.nD) → Buf (Elt Ideal) ((c.tc : Thread Cert.KernelDguIdeal.nD Cert.KernelDguIdeal.τ).loc Cert.KernelDguIdeal.main_v7_0)) (v1 : (c : Dev Cert.KernelDguIdeal.nD) → Buf (Elt Ideal) ((c.tc : Thread Cert.KernelDguIdeal.nD Cert.KernelDguIdeal.τ).loc Cert.KernelDguIdeal.main_v7_1)) (v2 : (c : Dev Cert.KernelDguIdeal.nD) → Buf (Elt Ideal) ((c.tc : Thread Cert.KernelDguIdeal.nD Cert.KernelDguIdeal.τ).loc Cert.KernelDguIdeal.main_v7_2)),
      θ_run (Cert.KernelDguIdeal.defs (F := Ideal)) (onTc (τ := Cert.KernelDguIdeal.τ) (Cert.KernelDguIdeal.main (F := Ideal))) ⟨m, fun _ => 0, g⟩ (fun r => ∀ c : Dev Cert.KernelDguIdeal.nD,
          r.2.mem ((c.tc : Thread Cert.KernelDguIdeal.nD Cert.KernelDguIdeal.τ).loc Cert.KernelDguIdeal.main_v7_0) = v0 c
          ∧ r.2.mem ((c.tc : Thread Cert.KernelDguIdeal.nD Cert.KernelDguIdeal.τ).loc Cert.KernelDguIdeal.main_v7_1) = v1 c
          ∧ r.2.mem ((c.tc : Thread Cert.KernelDguIdeal.nD Cert.KernelDguIdeal.τ).loc Cert.KernelDguIdeal.main_v7_2) = v2 c
          ∧ r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
          ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
          ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2)
          ∧ r.2.mem ((c.tc : Thread Cert.KernelDguIdeal.nD Cert.KernelDguIdeal.τ).loc Cert.KernelDguIdeal.main_arg3) = m ((c.tc : Thread Cert.KernelDguIdeal.nD Cert.KernelDguIdeal.τ).loc Cert.KernelDguIdeal.main_arg3)
          ∧ r.2.mem ((c.tc : Thread Cert.KernelDguIdeal.nD Cert.KernelDguIdeal.τ).loc Cert.KernelDguIdeal.main_arg4) = m ((c.tc : Thread Cert.KernelDguIdeal.nD Cert.KernelDguIdeal.τ).loc Cert.KernelDguIdeal.main_arg4)
          ∧ r.2.mem ((c.tc : Thread Cert.KernelDguIdeal.nD Cert.KernelDguIdeal.τ).loc Cert.KernelDguIdeal.main_arg5) = m ((c.tc : Thread Cert.KernelDguIdeal.nD Cert.KernelDguIdeal.τ).loc Cert.KernelDguIdeal.main_arg5)
          ∧ r.2.mem ((c.tc : Thread Cert.KernelDguIdeal.nD Cert.KernelDguIdeal.τ).loc Cert.KernelDguIdeal.main_arg6) = m ((c.tc : Thread Cert.KernelDguIdeal.nD Cert.KernelDguIdeal.τ).loc Cert.KernelDguIdeal.main_arg6))
      ∧ θ_run (Cert.ReferenceDguIdeal.defs (F := Ideal)) (onTc (τ := Cert.ReferenceDguIdeal.τ) (Cert.ReferenceDguIdeal.main (F := Ideal))) ⟨m', fun _ => 0, g'⟩ (fun r => ∀ c : Dev Cert.ReferenceDguIdeal.nD,
          r.2.mem ((c.tc : Thread Cert.ReferenceDguIdeal.nD Cert.ReferenceDguIdeal.τ).loc Cert.ReferenceDguIdeal.main_v41) = v0 c
          ∧ r.2.mem ((c.tc : Thread Cert.ReferenceDguIdeal.nD Cert.ReferenceDguIdeal.τ).loc Cert.ReferenceDguIdeal.main_v42) = v1 c
          ∧ r.2.mem ((c.tc : Thread Cert.ReferenceDguIdeal.nD Cert.ReferenceDguIdeal.τ).loc Cert.ReferenceDguIdeal.main_v24) = v2 c
          ∧ r.2.mem ((c.tc : Thread Cert.ReferenceDguIdeal.nD Cert.ReferenceDguIdeal.τ).loc Cert.ReferenceDguIdeal.main_arg0) = m' ((c.tc : Thread Cert.ReferenceDguIdeal.nD Cert.ReferenceDguIdeal.τ).loc Cert.ReferenceDguIdeal.main_arg0)
          ∧ r.2.mem ((c.tc : Thread Cert.ReferenceDguIdeal.nD Cert.ReferenceDguIdeal.τ).loc Cert.ReferenceDguIdeal.main_arg1) = m' ((c.tc : Thread Cert.ReferenceDguIdeal.nD Cert.ReferenceDguIdeal.τ).loc Cert.ReferenceDguIdeal.main_arg1)
          ∧ r.2.mem ((c.tc : Thread Cert.ReferenceDguIdeal.nD Cert.ReferenceDguIdeal.τ).loc Cert.ReferenceDguIdeal.main_arg2) = m' ((c.tc : Thread Cert.ReferenceDguIdeal.nD Cert.ReferenceDguIdeal.τ).loc Cert.ReferenceDguIdeal.main_arg2)
          ∧ r.2.mem ((c.tc : Thread Cert.ReferenceDguIdeal.nD Cert.ReferenceDguIdeal.τ).loc Cert.ReferenceDguIdeal.main_arg3) = m' ((c.tc : Thread Cert.ReferenceDguIdeal.nD Cert.ReferenceDguIdeal.τ).loc Cert.ReferenceDguIdeal.main_arg3)
          ∧ r.2.mem ((c.tc : Thread Cert.ReferenceDguIdeal.nD Cert.ReferenceDguIdeal.τ).loc Cert.ReferenceDguIdeal.main_arg4) = m' ((c.tc : Thread Cert.ReferenceDguIdeal.nD Cert.ReferenceDguIdeal.τ).loc Cert.ReferenceDguIdeal.main_arg4)
          ∧ r.2.mem ((c.tc : Thread Cert.ReferenceDguIdeal.nD Cert.ReferenceDguIdeal.τ).loc Cert.ReferenceDguIdeal.main_arg5) = m' ((c.tc : Thread Cert.ReferenceDguIdeal.nD Cert.ReferenceDguIdeal.τ).loc Cert.ReferenceDguIdeal.main_arg5)
          ∧ r.2.mem ((c.tc : Thread Cert.ReferenceDguIdeal.nD Cert.ReferenceDguIdeal.τ).loc Cert.ReferenceDguIdeal.main_arg6) = m' ((c.tc : Thread Cert.ReferenceDguIdeal.nD Cert.ReferenceDguIdeal.τ).loc Cert.ReferenceDguIdeal.main_arg6))

def preserves_KernelDgm_KernelDgmIdeal : Prop :=
  True

def algebraic_KernelDgmIdeal_ReferenceDgmIdeal [hKernelDgmIdeal : Cert.KernelDgmIdeal.Facts] [hReferenceDgmIdeal : Cert.ReferenceDgmIdeal.Facts] : Prop :=
  ∀ (m : (ℓ : Loc Cert.KernelDgmIdeal.nD Cert.KernelDgmIdeal.τ Cert.KernelDgmIdeal.sig) → Buf (Elt Ideal) ℓ) (g : Dev Cert.KernelDgmIdeal.nD → PrngReg)
    (m' : (ℓ : Loc Cert.ReferenceDgmIdeal.nD Cert.ReferenceDgmIdeal.τ Cert.ReferenceDgmIdeal.sig) → Buf (Elt Ideal) ℓ) (g' : Dev Cert.ReferenceDgmIdeal.nD → PrngReg), Pre_KernelDgmIdeal m →
    (∀ c : Dev Cert.KernelDgmIdeal.nD,
      m' ((c.tc : Thread Cert.ReferenceDgmIdeal.nD Cert.ReferenceDgmIdeal.τ).loc Cert.ReferenceDgmIdeal.main_arg0) = m ((c.tc : Thread Cert.KernelDgmIdeal.nD Cert.KernelDgmIdeal.τ).loc Cert.KernelDgmIdeal.main_arg0)
      ∧ m' ((c.tc : Thread Cert.ReferenceDgmIdeal.nD Cert.ReferenceDgmIdeal.τ).loc Cert.ReferenceDgmIdeal.main_arg1) = m ((c.tc : Thread Cert.KernelDgmIdeal.nD Cert.KernelDgmIdeal.τ).loc Cert.KernelDgmIdeal.main_arg1)
      ∧ m' ((c.tc : Thread Cert.ReferenceDgmIdeal.nD Cert.ReferenceDgmIdeal.τ).loc Cert.ReferenceDgmIdeal.main_arg2) = m ((c.tc : Thread Cert.KernelDgmIdeal.nD Cert.KernelDgmIdeal.τ).loc Cert.KernelDgmIdeal.main_arg2)
      ∧ m' ((c.tc : Thread Cert.ReferenceDgmIdeal.nD Cert.ReferenceDgmIdeal.τ).loc Cert.ReferenceDgmIdeal.main_arg3) = m ((c.tc : Thread Cert.KernelDgmIdeal.nD Cert.KernelDgmIdeal.τ).loc Cert.KernelDgmIdeal.main_arg3)
      ∧ m' ((c.tc : Thread Cert.ReferenceDgmIdeal.nD Cert.ReferenceDgmIdeal.τ).loc Cert.ReferenceDgmIdeal.main_arg4) = m ((c.tc : Thread Cert.KernelDgmIdeal.nD Cert.KernelDgmIdeal.τ).loc Cert.KernelDgmIdeal.main_arg4)) →
    ∃ (v0 : (c : Dev Cert.KernelDgmIdeal.nD) → Buf (Elt Ideal) ((c.tc : Thread Cert.KernelDgmIdeal.nD Cert.KernelDgmIdeal.τ).loc Cert.KernelDgmIdeal.main_v3_0)) (v1 : (c : Dev Cert.KernelDgmIdeal.nD) → Buf (Elt Ideal) ((c.tc : Thread Cert.KernelDgmIdeal.nD Cert.KernelDgmIdeal.τ).loc Cert.KernelDgmIdeal.main_v3_1)) (v2 : (c : Dev Cert.KernelDgmIdeal.nD) → Buf (Elt Ideal) ((c.tc : Thread Cert.KernelDgmIdeal.nD Cert.KernelDgmIdeal.τ).loc Cert.KernelDgmIdeal.main_v3_2)),
      θ_run (Cert.KernelDgmIdeal.defs (F := Ideal)) (onTc (τ := Cert.KernelDgmIdeal.τ) (Cert.KernelDgmIdeal.main (F := Ideal))) ⟨m, fun _ => 0, g⟩ (fun r => ∀ c : Dev Cert.KernelDgmIdeal.nD,
          r.2.mem ((c.tc : Thread Cert.KernelDgmIdeal.nD Cert.KernelDgmIdeal.τ).loc Cert.KernelDgmIdeal.main_v3_0) = v0 c
          ∧ r.2.mem ((c.tc : Thread Cert.KernelDgmIdeal.nD Cert.KernelDgmIdeal.τ).loc Cert.KernelDgmIdeal.main_v3_1) = v1 c
          ∧ r.2.mem ((c.tc : Thread Cert.KernelDgmIdeal.nD Cert.KernelDgmIdeal.τ).loc Cert.KernelDgmIdeal.main_v3_2) = v2 c
          ∧ r.2.mem ((c.tc : Thread Cert.KernelDgmIdeal.nD Cert.KernelDgmIdeal.τ).loc Cert.KernelDgmIdeal.main_arg0) = m ((c.tc : Thread Cert.KernelDgmIdeal.nD Cert.KernelDgmIdeal.τ).loc Cert.KernelDgmIdeal.main_arg0)
          ∧ r.2.mem ((c.tc : Thread Cert.KernelDgmIdeal.nD Cert.KernelDgmIdeal.τ).loc Cert.KernelDgmIdeal.main_arg1) = m ((c.tc : Thread Cert.KernelDgmIdeal.nD Cert.KernelDgmIdeal.τ).loc Cert.KernelDgmIdeal.main_arg1)
          ∧ r.2.mem ((c.tc : Thread Cert.KernelDgmIdeal.nD Cert.KernelDgmIdeal.τ).loc Cert.KernelDgmIdeal.main_arg2) = m ((c.tc : Thread Cert.KernelDgmIdeal.nD Cert.KernelDgmIdeal.τ).loc Cert.KernelDgmIdeal.main_arg2)
          ∧ r.2.mem ((c.tc : Thread Cert.KernelDgmIdeal.nD Cert.KernelDgmIdeal.τ).loc Cert.KernelDgmIdeal.main_arg3) = m ((c.tc : Thread Cert.KernelDgmIdeal.nD Cert.KernelDgmIdeal.τ).loc Cert.KernelDgmIdeal.main_arg3)
          ∧ r.2.mem ((c.tc : Thread Cert.KernelDgmIdeal.nD Cert.KernelDgmIdeal.τ).loc Cert.KernelDgmIdeal.main_arg4) = m ((c.tc : Thread Cert.KernelDgmIdeal.nD Cert.KernelDgmIdeal.τ).loc Cert.KernelDgmIdeal.main_arg4))
      ∧ θ_run (Cert.ReferenceDgmIdeal.defs (F := Ideal)) (onTc (τ := Cert.ReferenceDgmIdeal.τ) (Cert.ReferenceDgmIdeal.main (F := Ideal))) ⟨m', fun _ => 0, g'⟩ (fun r => ∀ c : Dev Cert.ReferenceDgmIdeal.nD,
          r.2.mem ((c.tc : Thread Cert.ReferenceDgmIdeal.nD Cert.ReferenceDgmIdeal.τ).loc Cert.ReferenceDgmIdeal.main_v37) = v0 c
          ∧ r.2.mem ((c.tc : Thread Cert.ReferenceDgmIdeal.nD Cert.ReferenceDgmIdeal.τ).loc Cert.ReferenceDgmIdeal.main_v38) = v1 c
          ∧ r.2.mem ((c.tc : Thread Cert.ReferenceDgmIdeal.nD Cert.ReferenceDgmIdeal.τ).loc Cert.ReferenceDgmIdeal.main_v20) = v2 c
          ∧ r.2.mem ((c.tc : Thread Cert.ReferenceDgmIdeal.nD Cert.ReferenceDgmIdeal.τ).loc Cert.ReferenceDgmIdeal.main_arg0) = m' ((c.tc : Thread Cert.ReferenceDgmIdeal.nD Cert.ReferenceDgmIdeal.τ).loc Cert.ReferenceDgmIdeal.main_arg0)
          ∧ r.2.mem ((c.tc : Thread Cert.ReferenceDgmIdeal.nD Cert.ReferenceDgmIdeal.τ).loc Cert.ReferenceDgmIdeal.main_arg1) = m' ((c.tc : Thread Cert.ReferenceDgmIdeal.nD Cert.ReferenceDgmIdeal.τ).loc Cert.ReferenceDgmIdeal.main_arg1)
          ∧ r.2.mem ((c.tc : Thread Cert.ReferenceDgmIdeal.nD Cert.ReferenceDgmIdeal.τ).loc Cert.ReferenceDgmIdeal.main_arg2) = m' ((c.tc : Thread Cert.ReferenceDgmIdeal.nD Cert.ReferenceDgmIdeal.τ).loc Cert.ReferenceDgmIdeal.main_arg2)
          ∧ r.2.mem ((c.tc : Thread Cert.ReferenceDgmIdeal.nD Cert.ReferenceDgmIdeal.τ).loc Cert.ReferenceDgmIdeal.main_arg3) = m' ((c.tc : Thread Cert.ReferenceDgmIdeal.nD Cert.ReferenceDgmIdeal.τ).loc Cert.ReferenceDgmIdeal.main_arg3)
          ∧ r.2.mem ((c.tc : Thread Cert.ReferenceDgmIdeal.nD Cert.ReferenceDgmIdeal.τ).loc Cert.ReferenceDgmIdeal.main_arg4) = m' ((c.tc : Thread Cert.ReferenceDgmIdeal.nD Cert.ReferenceDgmIdeal.τ).loc Cert.ReferenceDgmIdeal.main_arg4))

def preserves_KernelDqkv_KernelDqkvIdeal : Prop :=
  True

def algebraic_KernelDqkvIdeal_ReferenceDqkvIdeal [hKernelDqkvIdeal : Cert.KernelDqkvIdeal.Facts] [hReferenceDqkvIdeal : Cert.ReferenceDqkvIdeal.Facts] : Prop :=
  ∀ (m : (ℓ : Loc Cert.KernelDqkvIdeal.nD Cert.KernelDqkvIdeal.τ Cert.KernelDqkvIdeal.sig) → Buf (Elt Ideal) ℓ) (g : Dev Cert.KernelDqkvIdeal.nD → PrngReg)
    (m' : (ℓ : Loc Cert.ReferenceDqkvIdeal.nD Cert.ReferenceDqkvIdeal.τ Cert.ReferenceDqkvIdeal.sig) → Buf (Elt Ideal) ℓ) (g' : Dev Cert.ReferenceDqkvIdeal.nD → PrngReg), Pre_KernelDqkvIdeal m →
    (∀ c : Dev Cert.KernelDqkvIdeal.nD,
      m' ((c.tc : Thread Cert.ReferenceDqkvIdeal.nD Cert.ReferenceDqkvIdeal.τ).loc Cert.ReferenceDqkvIdeal.main_arg0) = m ((c.tc : Thread Cert.KernelDqkvIdeal.nD Cert.KernelDqkvIdeal.τ).loc Cert.KernelDqkvIdeal.main_arg0)
      ∧ m' ((c.tc : Thread Cert.ReferenceDqkvIdeal.nD Cert.ReferenceDqkvIdeal.τ).loc Cert.ReferenceDqkvIdeal.main_arg1) = m ((c.tc : Thread Cert.KernelDqkvIdeal.nD Cert.KernelDqkvIdeal.τ).loc Cert.KernelDqkvIdeal.main_arg1)
      ∧ m' ((c.tc : Thread Cert.ReferenceDqkvIdeal.nD Cert.ReferenceDqkvIdeal.τ).loc Cert.ReferenceDqkvIdeal.main_arg2) = m ((c.tc : Thread Cert.KernelDqkvIdeal.nD Cert.KernelDqkvIdeal.τ).loc Cert.KernelDqkvIdeal.main_arg2)
      ∧ m' ((c.tc : Thread Cert.ReferenceDqkvIdeal.nD Cert.ReferenceDqkvIdeal.τ).loc Cert.ReferenceDqkvIdeal.main_arg3) = m ((c.tc : Thread Cert.KernelDqkvIdeal.nD Cert.KernelDqkvIdeal.τ).loc Cert.KernelDqkvIdeal.main_arg3)
      ∧ m' ((c.tc : Thread Cert.ReferenceDqkvIdeal.nD Cert.ReferenceDqkvIdeal.τ).loc Cert.ReferenceDqkvIdeal.main_arg4) = m ((c.tc : Thread Cert.KernelDqkvIdeal.nD Cert.KernelDqkvIdeal.τ).loc Cert.KernelDqkvIdeal.main_arg4)
      ∧ m' ((c.tc : Thread Cert.ReferenceDqkvIdeal.nD Cert.ReferenceDqkvIdeal.τ).loc Cert.ReferenceDqkvIdeal.main_arg5) = m ((c.tc : Thread Cert.KernelDqkvIdeal.nD Cert.KernelDqkvIdeal.τ).loc Cert.KernelDqkvIdeal.main_arg5)
      ∧ m' ((c.tc : Thread Cert.ReferenceDqkvIdeal.nD Cert.ReferenceDqkvIdeal.τ).loc Cert.ReferenceDqkvIdeal.main_arg6) = m ((c.tc : Thread Cert.KernelDqkvIdeal.nD Cert.KernelDqkvIdeal.τ).loc Cert.KernelDqkvIdeal.main_arg6)
      ∧ m' ((c.tc : Thread Cert.ReferenceDqkvIdeal.nD Cert.ReferenceDqkvIdeal.τ).loc Cert.ReferenceDqkvIdeal.main_arg7) = m ((c.tc : Thread Cert.KernelDqkvIdeal.nD Cert.KernelDqkvIdeal.τ).loc Cert.KernelDqkvIdeal.main_arg7)) →
    ∃ (v0 : (c : Dev Cert.KernelDqkvIdeal.nD) → Buf (Elt Ideal) ((c.tc : Thread Cert.KernelDqkvIdeal.nD Cert.KernelDqkvIdeal.τ).loc Cert.KernelDqkvIdeal.main_v1_0)) (v1 : (c : Dev Cert.KernelDqkvIdeal.nD) → Buf (Elt Ideal) ((c.tc : Thread Cert.KernelDqkvIdeal.nD Cert.KernelDqkvIdeal.τ).loc Cert.KernelDqkvIdeal.main_v1_1)) (v2 : (c : Dev Cert.KernelDqkvIdeal.nD) → Buf (Elt Ideal) ((c.tc : Thread Cert.KernelDqkvIdeal.nD Cert.KernelDqkvIdeal.τ).loc Cert.KernelDqkvIdeal.main_v1_2)),
      θ_run (Cert.KernelDqkvIdeal.defs (F := Ideal)) (onTc (τ := Cert.KernelDqkvIdeal.τ) (Cert.KernelDqkvIdeal.main (F := Ideal))) ⟨m, fun _ => 0, g⟩ (fun r => ∀ c : Dev Cert.KernelDqkvIdeal.nD,
          r.2.mem ((c.tc : Thread Cert.KernelDqkvIdeal.nD Cert.KernelDqkvIdeal.τ).loc Cert.KernelDqkvIdeal.main_v1_0) = v0 c
          ∧ r.2.mem ((c.tc : Thread Cert.KernelDqkvIdeal.nD Cert.KernelDqkvIdeal.τ).loc Cert.KernelDqkvIdeal.main_v1_1) = v1 c
          ∧ r.2.mem ((c.tc : Thread Cert.KernelDqkvIdeal.nD Cert.KernelDqkvIdeal.τ).loc Cert.KernelDqkvIdeal.main_v1_2) = v2 c
          ∧ r.2.mem ((c.tc : Thread Cert.KernelDqkvIdeal.nD Cert.KernelDqkvIdeal.τ).loc Cert.KernelDqkvIdeal.main_arg0) = m ((c.tc : Thread Cert.KernelDqkvIdeal.nD Cert.KernelDqkvIdeal.τ).loc Cert.KernelDqkvIdeal.main_arg0)
          ∧ r.2.mem ((c.tc : Thread Cert.KernelDqkvIdeal.nD Cert.KernelDqkvIdeal.τ).loc Cert.KernelDqkvIdeal.main_arg1) = m ((c.tc : Thread Cert.KernelDqkvIdeal.nD Cert.KernelDqkvIdeal.τ).loc Cert.KernelDqkvIdeal.main_arg1)
          ∧ r.2.mem ((c.tc : Thread Cert.KernelDqkvIdeal.nD Cert.KernelDqkvIdeal.τ).loc Cert.KernelDqkvIdeal.main_arg2) = m ((c.tc : Thread Cert.KernelDqkvIdeal.nD Cert.KernelDqkvIdeal.τ).loc Cert.KernelDqkvIdeal.main_arg2)
          ∧ r.2.mem ((c.tc : Thread Cert.KernelDqkvIdeal.nD Cert.KernelDqkvIdeal.τ).loc Cert.KernelDqkvIdeal.main_arg3) = m ((c.tc : Thread Cert.KernelDqkvIdeal.nD Cert.KernelDqkvIdeal.τ).loc Cert.KernelDqkvIdeal.main_arg3)
          ∧ r.2.mem ((c.tc : Thread Cert.KernelDqkvIdeal.nD Cert.KernelDqkvIdeal.τ).loc Cert.KernelDqkvIdeal.main_arg4) = m ((c.tc : Thread Cert.KernelDqkvIdeal.nD Cert.KernelDqkvIdeal.τ).loc Cert.KernelDqkvIdeal.main_arg4)
          ∧ r.2.mem ((c.tc : Thread Cert.KernelDqkvIdeal.nD Cert.KernelDqkvIdeal.τ).loc Cert.KernelDqkvIdeal.main_arg5) = m ((c.tc : Thread Cert.KernelDqkvIdeal.nD Cert.KernelDqkvIdeal.τ).loc Cert.KernelDqkvIdeal.main_arg5)
          ∧ r.2.mem ((c.tc : Thread Cert.KernelDqkvIdeal.nD Cert.KernelDqkvIdeal.τ).loc Cert.KernelDqkvIdeal.main_arg6) = m ((c.tc : Thread Cert.KernelDqkvIdeal.nD Cert.KernelDqkvIdeal.τ).loc Cert.KernelDqkvIdeal.main_arg6)
          ∧ r.2.mem ((c.tc : Thread Cert.KernelDqkvIdeal.nD Cert.KernelDqkvIdeal.τ).loc Cert.KernelDqkvIdeal.main_arg7) = m ((c.tc : Thread Cert.KernelDqkvIdeal.nD Cert.KernelDqkvIdeal.τ).loc Cert.KernelDqkvIdeal.main_arg7))
      ∧ θ_run (Cert.ReferenceDqkvIdeal.defs (F := Ideal)) (onTc (τ := Cert.ReferenceDqkvIdeal.τ) (Cert.ReferenceDqkvIdeal.main (F := Ideal))) ⟨m', fun _ => 0, g'⟩ (fun r => ∀ c : Dev Cert.ReferenceDqkvIdeal.nD,
          r.2.mem ((c.tc : Thread Cert.ReferenceDqkvIdeal.nD Cert.ReferenceDqkvIdeal.τ).loc Cert.ReferenceDqkvIdeal.main_v44) = v0 c
          ∧ r.2.mem ((c.tc : Thread Cert.ReferenceDqkvIdeal.nD Cert.ReferenceDqkvIdeal.τ).loc Cert.ReferenceDqkvIdeal.main_v45) = v1 c
          ∧ r.2.mem ((c.tc : Thread Cert.ReferenceDqkvIdeal.nD Cert.ReferenceDqkvIdeal.τ).loc Cert.ReferenceDqkvIdeal.main_v27) = v2 c
          ∧ r.2.mem ((c.tc : Thread Cert.ReferenceDqkvIdeal.nD Cert.ReferenceDqkvIdeal.τ).loc Cert.ReferenceDqkvIdeal.main_arg0) = m' ((c.tc : Thread Cert.ReferenceDqkvIdeal.nD Cert.ReferenceDqkvIdeal.τ).loc Cert.ReferenceDqkvIdeal.main_arg0)
          ∧ r.2.mem ((c.tc : Thread Cert.ReferenceDqkvIdeal.nD Cert.ReferenceDqkvIdeal.τ).loc Cert.ReferenceDqkvIdeal.main_arg1) = m' ((c.tc : Thread Cert.ReferenceDqkvIdeal.nD Cert.ReferenceDqkvIdeal.τ).loc Cert.ReferenceDqkvIdeal.main_arg1)
          ∧ r.2.mem ((c.tc : Thread Cert.ReferenceDqkvIdeal.nD Cert.ReferenceDqkvIdeal.τ).loc Cert.ReferenceDqkvIdeal.main_arg2) = m' ((c.tc : Thread Cert.ReferenceDqkvIdeal.nD Cert.ReferenceDqkvIdeal.τ).loc Cert.ReferenceDqkvIdeal.main_arg2)
          ∧ r.2.mem ((c.tc : Thread Cert.ReferenceDqkvIdeal.nD Cert.ReferenceDqkvIdeal.τ).loc Cert.ReferenceDqkvIdeal.main_arg3) = m' ((c.tc : Thread Cert.ReferenceDqkvIdeal.nD Cert.ReferenceDqkvIdeal.τ).loc Cert.ReferenceDqkvIdeal.main_arg3)
          ∧ r.2.mem ((c.tc : Thread Cert.ReferenceDqkvIdeal.nD Cert.ReferenceDqkvIdeal.τ).loc Cert.ReferenceDqkvIdeal.main_arg4) = m' ((c.tc : Thread Cert.ReferenceDqkvIdeal.nD Cert.ReferenceDqkvIdeal.τ).loc Cert.ReferenceDqkvIdeal.main_arg4)
          ∧ r.2.mem ((c.tc : Thread Cert.ReferenceDqkvIdeal.nD Cert.ReferenceDqkvIdeal.τ).loc Cert.ReferenceDqkvIdeal.main_arg5) = m' ((c.tc : Thread Cert.ReferenceDqkvIdeal.nD Cert.ReferenceDqkvIdeal.τ).loc Cert.ReferenceDqkvIdeal.main_arg5)
          ∧ r.2.mem ((c.tc : Thread Cert.ReferenceDqkvIdeal.nD Cert.ReferenceDqkvIdeal.τ).loc Cert.ReferenceDqkvIdeal.main_arg6) = m' ((c.tc : Thread Cert.ReferenceDqkvIdeal.nD Cert.ReferenceDqkvIdeal.τ).loc Cert.ReferenceDqkvIdeal.main_arg6)
          ∧ r.2.mem ((c.tc : Thread Cert.ReferenceDqkvIdeal.nD Cert.ReferenceDqkvIdeal.τ).loc Cert.ReferenceDqkvIdeal.main_arg7) = m' ((c.tc : Thread Cert.ReferenceDqkvIdeal.nD Cert.ReferenceDqkvIdeal.τ).loc Cert.ReferenceDqkvIdeal.main_arg7))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hKernelDwo : Cert.KernelDwo.Facts) (hKernelDwoIdeal : Cert.KernelDwoIdeal.Facts) (hReferenceDwoIdeal : Cert.ReferenceDwoIdeal.Facts) (hKernelDwg : Cert.KernelDwg.Facts) (hKernelDwgIdeal : Cert.KernelDwgIdeal.Facts) (hReferenceDwgIdeal : Cert.ReferenceDwgIdeal.Facts) (hKernelDwin : Cert.KernelDwin.Facts) (hKernelDwinIdeal : Cert.KernelDwinIdeal.Facts) (hReferenceDwinIdeal : Cert.ReferenceDwinIdeal.Facts) (hKernelDown : Cert.KernelDown.Facts) (hKernelDownIdeal : Cert.KernelDownIdeal.Facts) (hReferenceDownIdeal : Cert.ReferenceDownIdeal.Facts) (hKernelFo : Cert.KernelFo.Facts) (hKernelFoIdeal : Cert.KernelFoIdeal.Facts) (hReferenceFoIdeal : Cert.ReferenceFoIdeal.Facts) (hKernelLast : Cert.KernelLast.Facts) (hKernelLastIdeal : Cert.KernelLastIdeal.Facts) (hReferenceLastIdeal : Cert.ReferenceLastIdeal.Facts) (hKernelDo : Cert.KernelDo.Facts) (hKernelDoIdeal : Cert.KernelDoIdeal.Facts) (hReferenceDoIdeal : Cert.ReferenceDoIdeal.Facts) (hKernelV : Cert.KernelV.Facts) (hKernelVIdeal : Cert.KernelVIdeal.Facts) (hReferenceVIdeal : Cert.ReferenceVIdeal.Facts) (hKernelDgu : Cert.KernelDgu.Facts) (hKernelDguIdeal : Cert.KernelDguIdeal.Facts) (hReferenceDguIdeal : Cert.ReferenceDguIdeal.Facts) (hKernelDgm : Cert.KernelDgm.Facts) (hKernelDgmIdeal : Cert.KernelDgmIdeal.Facts) (hReferenceDgmIdeal : Cert.ReferenceDgmIdeal.Facts) (hKernelDqkv : Cert.KernelDqkv.Facts) (hKernelDqkvIdeal : Cert.KernelDqkvIdeal.Facts) (hReferenceDqkvIdeal : Cert.ReferenceDqkvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwg (hKernelDwg := hKernelDwg)
    ∧ quiescent_KernelDwgIdeal (hKernelDwgIdeal := hKernelDwgIdeal)
    ∧ quiescent_ReferenceDwgIdeal (hReferenceDwgIdeal := hReferenceDwgIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFo (hKernelFo := hKernelFo)
    ∧ quiescent_KernelFoIdeal (hKernelFoIdeal := hKernelFoIdeal)
    ∧ quiescent_ReferenceFoIdeal (hReferenceFoIdeal := hReferenceFoIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelDgu (hKernelDgu := hKernelDgu)
    ∧ quiescent_KernelDguIdeal (hKernelDguIdeal := hKernelDguIdeal)
    ∧ quiescent_ReferenceDguIdeal (hReferenceDguIdeal := hReferenceDguIdeal)
    ∧ quiescent_KernelDgm (hKernelDgm := hKernelDgm)
    ∧ quiescent_KernelDgmIdeal (hKernelDgmIdeal := hKernelDgmIdeal)
    ∧ quiescent_ReferenceDgmIdeal (hReferenceDgmIdeal := hReferenceDgmIdeal)
    ∧ quiescent_KernelDqkv (hKernelDqkv := hKernelDqkv)
    ∧ quiescent_KernelDqkvIdeal (hKernelDqkvIdeal := hKernelDqkvIdeal)
    ∧ quiescent_ReferenceDqkvIdeal (hReferenceDqkvIdeal := hReferenceDqkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwg_KernelDwgIdeal
    ∧ algebraic_KernelDwgIdeal_ReferenceDwgIdeal (hKernelDwgIdeal := hKernelDwgIdeal) (hReferenceDwgIdeal := hReferenceDwgIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDown_KernelDownIdeal
    ∧ algebraic_KernelDownIdeal_ReferenceDownIdeal (hKernelDownIdeal := hKernelDownIdeal) (hReferenceDownIdeal := hReferenceDownIdeal)
    ∧ preserves_KernelFo_KernelFoIdeal
    ∧ algebraic_KernelFoIdeal_ReferenceFoIdeal (hKernelFoIdeal := hKernelFoIdeal) (hReferenceFoIdeal := hReferenceFoIdeal)
    ∧ preserves_KernelLast_KernelLastIdeal
    ∧ algebraic_KernelLastIdeal_ReferenceLastIdeal (hKernelLastIdeal := hKernelLastIdeal) (hReferenceLastIdeal := hReferenceLastIdeal)
    ∧ preserves_KernelDo_KernelDoIdeal
    ∧ algebraic_KernelDoIdeal_ReferenceDoIdeal (hKernelDoIdeal := hKernelDoIdeal) (hReferenceDoIdeal := hReferenceDoIdeal)
    ∧ preserves_KernelV_KernelVIdeal
    ∧ algebraic_KernelVIdeal_ReferenceVIdeal (hKernelVIdeal := hKernelVIdeal) (hReferenceVIdeal := hReferenceVIdeal)
    ∧ preserves_KernelDgu_KernelDguIdeal
    ∧ algebraic_KernelDguIdeal_ReferenceDguIdeal (hKernelDguIdeal := hKernelDguIdeal) (hReferenceDguIdeal := hReferenceDguIdeal)
    ∧ preserves_KernelDgm_KernelDgmIdeal
    ∧ algebraic_KernelDgmIdeal_ReferenceDgmIdeal (hKernelDgmIdeal := hKernelDgmIdeal) (hReferenceDgmIdeal := hReferenceDgmIdeal)
    ∧ preserves_KernelDqkv_KernelDqkvIdeal
    ∧ algebraic_KernelDqkvIdeal_ReferenceDqkvIdeal (hKernelDqkvIdeal := hKernelDqkvIdeal) (hReferenceDqkvIdeal := hReferenceDqkvIdeal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x1024 : Shape := ⟨2, ![8192, 1024]⟩
abbrev S8192x16 : Shape := ⟨2, ![8192, 16]⟩
abbrev S16x8192 : Shape := ⟨2, ![16, 8192]⟩
abbrev S8192x16x64 : Shape := ⟨3, ![8192, 16, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S16x8192x3 : Shape := ⟨3, ![16, 8192, 3]⟩
abbrev S16x8192x58 : Shape := ⟨3, ![16, 8192, 58]⟩
abbrev S16x8192x64 : Shape := ⟨3, ![16, 8192, 64]⟩
abbrev S16x8192x128 : Shape := ⟨3, ![16, 8192, 128]⟩
abbrev S1024x8192 : Shape := ⟨2, ![1024, 8192]⟩
abbrev S8x2x8192 : Shape := ⟨3, ![8, 2, 8192]⟩
abbrev S8x8192x2 : Shape := ⟨3, ![8, 8192, 2]⟩
abbrev S8x8192x2x64 : Shape := ⟨4, ![8, 8192, 2, 64]⟩
abbrev S8x8192x128 : Shape := ⟨3, ![8, 8192, 128]⟩
abbrev S8x8x8192 : Shape := ⟨3, ![8, 8, 8192]⟩
abbrev S2x512x128 : Shape := ⟨3, ![2, 512, 128]⟩
abbrev S2x8192x128 : Shape := ⟨3, ![2, 8192, 128]⟩
abbrev S128x8192 : Shape := ⟨2, ![128, 8192]⟩
abbrev S512x128 : Shape := ⟨2, ![512, 128]⟩
abbrev S1x512x128 : Shape := ⟨3, ![1, 512, 128]⟩
abbrev S8192x128 : Shape := ⟨2, ![8192, 128]⟩
abbrev S1x8x512 : Shape := ⟨3, ![1, 8, 512]⟩
abbrev S1x8x8192 : Shape := ⟨3, ![1, 8, 8192]⟩
abbrev S2x128x8192 : Shape := ⟨3, ![2, 128, 8192]⟩
abbrev S1x128 : Shape := ⟨2, ![1, 128]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x128x512 : Shape := ⟨3, ![1, 128, 512]⟩
abbrev S8x1 : Shape := ⟨2, ![8, 1]⟩
abbrev S8x512 : Shape := ⟨2, ![8, 512]⟩
abbrev S1x512 : Shape := ⟨2, ![1, 512]⟩
abbrev S8x8192 : Shape := ⟨2, ![8, 8192]⟩

abbrev nBuf : Space → Nat
  | .hbm => 105
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S16x8192, .f32⟩
  | .hbm, ⟨6, _⟩ => ⟨S8192x16x64, .f32⟩
  | .hbm, ⟨7, _⟩ => ⟨S8192x16x64, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192x1, .f32⟩
  | .hbm, ⟨13, _⟩ => ⟨S16x8192x8192, .f32⟩
  | .hbm, ⟨14, _⟩ => ⟨S16x8192x8192, .f32⟩
  | .hbm, ⟨15, _⟩ => ⟨S16x1x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S8192x1, .i32⟩
  | .hbm, ⟨20, _⟩ => ⟨S8192, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S8192x16x64, .f32⟩
  | .hbm, ⟨42, _⟩ => ⟨S16x64x8192, .f32⟩
  | .hbm, ⟨43, _⟩ => ⟨S8192x16x64, .f32⟩
  | .hbm, ⟨44, _⟩ => ⟨S8192x1024, .f32⟩
  | .hbm, ⟨45, _⟩ => ⟨S16x8192, .f32⟩
  | .hbm, ⟨46, _⟩ => ⟨S16x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x8192, .f32⟩
  | .hbm, ⟨52, _⟩ => ⟨S16x8192, .f32⟩
  | .hbm, ⟨53, _⟩ => ⟨S16x8192, .f32⟩
  | .hbm, ⟨54, _⟩ => ⟨S16x8192x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x8192x1, .f32⟩
  | .hbm, ⟨60, _⟩ => ⟨S16x8192x1, .f32⟩
  | .hbm, ⟨61, _⟩ => ⟨S16x8192x1, .bf16⟩
  | .hbm, ⟨62, _⟩ => ⟨S16x8192x1, .f32⟩
  | .hbm, ⟨63, _⟩ => ⟨S16x8192x1, .f32⟩
  | .hbm, ⟨64, _⟩ => ⟨S16x8192x1, .bf16⟩
  | .hbm, ⟨65, _⟩ => ⟨S16x8192x1, .f32⟩
  | .hbm, ⟨66, _⟩ => ⟨S16x8192x1, .f32⟩
  | .hbm, ⟨67, _⟩ => ⟨S16x8192x1, .f32⟩
  | .hbm, ⟨68, _⟩ => ⟨S16x8192x1, .bf16⟩
  | .hbm, ⟨69, _⟩ => ⟨S16x8192x1, .f32⟩
  | .hbm, ⟨70, _⟩ => ⟨S_, .f32⟩
  | .hbm, ⟨71, _⟩ => ⟨S16x8192x3, .f32⟩
  | .hbm, ⟨72, _⟩ => ⟨S_, .f32⟩
  | .hbm, ⟨73, _⟩ => ⟨S16x8192x58, .f32⟩
  | .hbm, ⟨74, _⟩ => ⟨S8192x16x64, .f32⟩
  | .hbm, ⟨75, _⟩ => ⟨S16x8192x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x8192x64, .f32⟩
  | .hbm, ⟨83, _⟩ => ⟨S16x8192x64, .f32⟩
  | .hbm, ⟨84, _⟩ => ⟨S16x8192x128, .f32⟩
  | .hbm, ⟨85, _⟩ => ⟨S16x8192x128, .bf16⟩
  | .hbm, ⟨86, _⟩ => ⟨S8192x16x64, .f32⟩
  | .hbm, ⟨87, _⟩ => ⟨S16x8192x64, .f32⟩
  | .hbm, ⟨88, _⟩ => ⟨S16x8192x1, .f32⟩
  | .hbm, ⟨89, _⟩ => ⟨S16x8192x1, .f32⟩
  | .hbm, ⟨90, _⟩ => ⟨S16x8192x1, .f32⟩
  | .hbm, ⟨91, _⟩ => ⟨S16x8192x128, .f32⟩
  | .hbm, ⟨92, _⟩ => ⟨S16x8192x128, .bf16⟩
  | .hbm, ⟨93, _⟩ => ⟨S1024x8192, .f32⟩
  | .hbm, ⟨94, _⟩ => ⟨S1024x8192, .bf16⟩
  | .hbm, ⟨95, _⟩ => ⟨S8x2x8192, .f32⟩
  | .hbm, ⟨96, _⟩ => ⟨S8x8192x2, .f32⟩
  | .hbm, ⟨97, _⟩ => ⟨S8x8192x2x64, .f32⟩
  | .hbm, ⟨98, _⟩ => ⟨S8x8192x128, .f32⟩
  | .hbm, ⟨99, _⟩ => ⟨S8192x1024, .bf16⟩
  | .hbm, ⟨100, _⟩ => ⟨S8192x1024, .bf16⟩
  | .hbm, ⟨101, _⟩ => ⟨S8192x1024, .bf16⟩
  | .hbm, ⟨102, _⟩ => ⟨S8192x1024, .bf16⟩
  | .hbm, ⟨103, _⟩ => ⟨S8x8x8192, .f32⟩
  | .hbm, ⟨104, _⟩ => ⟨S8x8x8192, .f32⟩
  | .local _ .vmem, ⟨0, _⟩ => ⟨S2x512x128, .bf16⟩
  | .local _ .vmem, ⟨1, _⟩ => ⟨S2x512x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S128x8192, .bf16⟩
  | .local _ .vmem, ⟨5, _⟩ => ⟨S128x8192, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x512x128, .f32⟩
  | .local _ .vmem, ⟨11, _⟩ => ⟨S1x512x128, .f32⟩
  | .local _ .vmem, ⟨12, _⟩ => ⟨S512x128, .bf16⟩
  | .local _ .vmem, ⟨13, _⟩ => ⟨S512x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S1x8x512, .f32⟩
  | .local _ .vmem, ⟨19, _⟩ => ⟨S1x8x512, .f32⟩
  | .local _ .vmem, ⟨20, _⟩ => ⟨S1x8x8192, .f32⟩
  | .local _ .vmem, ⟨21, _⟩ => ⟨S1x8x8192, .f32⟩
  | .local _ .vmem, ⟨22, _⟩ => ⟨S2x128x8192, .f32⟩
  | .local _ .vmem, ⟨23, _⟩ => ⟨S128x8192, .f32⟩
  | .local _ .vmem, ⟨24, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79_0 : Ref sig .tc := ⟨.hbm, 100, rfl⟩
abbrev main_v79_1 : Ref sig .tc := ⟨.hbm, 101, rfl⟩
abbrev main_v79_2 : Ref sig .tc := ⟨.hbm, 102, rfl⟩
abbrev main_v79_3 : Ref sig .tc := ⟨.hbm, 103, rfl⟩
abbrev main_v79_4 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_29 : BitVec 32 := 1#32
  ⟨c0_i32_27, v85, c1_i32_29⟩
def k0_mult1 (i : grid0.Coords) (k0_t1 : Fin (k0_t1_loop i).trips) : BitVec 32 :=
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let c0_i32_71 : BitVec 32 := 0#32
  let v167 : BitVec 32 := Scalar.addi v166 c0_i32_71
  let c512_i32 : BitVec 32 := 512#32
  let v170 : BitVec 32 := Scalar.muli v167 c512_i32
  v170
def k0_mult2 (i : grid0.Coords) (k0_t1 : Fin (k0_t1_loop i).trips) : BitVec 32 :=
  let c2_i32_72 : BitVec 32 := 2#32
  let c0_i32_27 : BitVec 32 := 0#32
  let c1_i32_29 : BitVec 32 := 1#32
  let arg16 : BitVec 32 := Scf.iv c0_i32_27 c1_i32_29 k0_t1
  let v168 : BitVec 32 := Scalar.muli c2_i32_72 arg16
  let c1_i32_73 : BitVec 32 := 1#32
  let v169 : BitVec 32 := Scalar.addi v168 c1_i32_73
  let c512_i32_74 : BitVec 32 := 512#32
  let v172 : BitVec 32 := Scalar.muli v169 c512_i32_74
  v172
def k0_off1 (i : grid0.Coords) (k0_t1 : Fin (k0_t1_loop i).trips) (c0_i32_71 : BitVec 32) : Fin 2 → Nat :=
  let c0_75 : Index := 0#32
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v174 : Index := Scalar.indexCast v171
  ![0, v174.toNat]
def k0_off2 (i : grid0.Coords) (k0_t1 : Fin (k0_t1_loop i).trips) (c0_i32_71 : BitVec 32) : Fin 3 → Nat :=
  let c0_77 : Index := 0#32
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v180 : Index := Scalar.indexCast v171
  let c0_78 : Index := 0#32
  ![0, v180.toNat, 0]
def k0_off3 (i : grid0.Coords) (k0_t1 : Fin (k0_t1_loop i).trips) (c0_i32_71 : BitVec 32) : Fin 3 → Nat :=
  let c1_79 : Index := 1#32
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v183 : Index := Scalar.indexCast v171
  let c0_80 : Index := 0#32
  ![1, v183.toNat, 0]
def k0_off4 (i : grid0.Coords) (k0_t1 : Fin (k0_t1_loop i).trips) (c0_i32_71 : BitVec 32) : Fin 3 → Nat :=
  let c0_100 : Index := 0#32
  let c0_101 : Index := 0#32
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v241 : Index := Scalar.indexCast v171
  ![0, 0, v241.toNat]
def k0_off5 (i : grid0.Coords) (k0_t1 : Fin (k0_t1_loop i).trips) (c0_i32_71 : BitVec 32) : Fin 3 → Nat :=
  let c1_113 : Index := 1#32
  let c0_114 : Index := 0#32
  let c2_i32_70 : BitVec 32 := 2#32
  let c0_i32_27 : BitVec 32 := 0#32
  let c1_i32_29 : BitVec 32 := 1#32
  let arg16 : BitVec 32 := Scf.iv c0_i32_27 c1_i32_29 k0_t1
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v292 : Index := Scalar.indexCast v171
  ![1, 0, v292.toNat]
@[reducible] def k0_t2_loop (i : grid0.Coords) : Scf.Loop 32 :=
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let v82 : BitVec 32 := Scalar.addi c0_i32_27 v81
  let c1_i32_30 : BitVec 32 := 1#32
  ⟨v85, v82, c1_i32_30⟩
def k0_mult3 (i : grid0.Coords) (k0_t2 : Fin (k0_t2_loop i).trips) : BitVec 32 :=
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let c0_i32_71 : BitVec 32 := 0#32
  let v167 : BitVec 32 := Scalar.addi v166 c0_i32_71
  let c512_i32 : BitVec 32 := 512#32
  let v170 : BitVec 32 := Scalar.muli v167 c512_i32
  v170
def k0_mult4 (i : grid0.Coords) (k0_t2 : Fin (k0_t2_loop i).trips) : BitVec 32 :=
  let c2_i32_72 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v168 : BitVec 32 := Scalar.muli c2_i32_72 arg16
  let c1_i32_73 : BitVec 32 := 1#32
  let v169 : BitVec 32 := Scalar.addi v168 c1_i32_73
  let c512_i32_74 : BitVec 32 := 512#32
  let v172 : BitVec 32 := Scalar.muli v169 c512_i32_74
  v172
def k0_off6 (i : grid0.Coords) (k0_t2 : Fin (k0_t2_loop i).trips) (c0_i32_71 : BitVec 32) : Fin 2 → Nat :=
  let c0_75 : Index := 0#32
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v174 : Index := Scalar.indexCast v171
  ![0, v174.toNat]
def k0_off7 (i : grid0.Coords) (k0_t2 : Fin (k0_t2_loop i).trips) (c0_i32_71 : BitVec 32) : Fin 3 → Nat :=
  let c0_77 : Index := 0#32
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v180 : Index := Scalar.indexCast v171
  let c0_78 : Index := 0#32
  ![0, v180.toNat, 0]
def k0_off8 (i : grid0.Coords) (k0_t2 : Fin (k0_t2_loop i).trips) (c0_i32_71 : BitVec 32) : Fin 3 → Nat :=
  let c1_79 : Index := 1#32
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v183 : Index := Scalar.indexCast v171
  let c0_80 : Index := 0#32
  ![1, v183.toNat, 0]
def k0_off9 (i : grid0.Coords) (k0_t2 : Fin (k0_t2_loop i).trips) (c0_i32_71 : BitVec 32) : Fin 3 → Nat :=
  let c0_100 : Index := 0#32
  let c0_101 : Index := 0#32
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v241 : Index := Scalar.indexCast v171
  ![0, 0, v241.toNat]
def k0_off10 (i : grid0.Coords) (k0_t2 : Fin (k0_t2_loop i).trips) (c0_i32_71 : BitVec 32) : Fin 3 → Nat :=
  let c1_113 : Index := 1#32
  let c0_114 : Index := 0#32
  let c2_i32_70 : BitVec 32 := 2#32
  let c0_i32_27 : BitVec 32 := 0#32
  let arg1 : BitVec 32 := BitVec.ofNat 32 (i 1).val
  let c0_i32_21 : BitVec 32 := 0#32
  let v65 : BitVec 1 := Scalar.cmpi .sgt arg1 c0_i32_21
  let v66 : BitVec 32 := Scalar.extui v65
  let c0_i32_22 : BitVec 32 := 0#32
  let v67 : BitVec 1 := Scalar.cmpi .slt arg1 c0_i32_22
  let v68 : BitVec 32 := Scalar.extui v67
  let v69 : BitVec 32 := Scalar.subi v66 v68
  let c2_i32 : BitVec 32 := 2#32
  let c0_i32_23 : BitVec 32 := 0#32
  let v70 : BitVec 1 := Scalar.cmpi .sgt c2_i32 c0_i32_23
  let v71 : BitVec 32 := Scalar.extui v70
  let c0_i32_24 : BitVec 32 := 0#32
  let v72 : BitVec 1 := Scalar.cmpi .slt c2_i32 c0_i32_24
  let v73 : BitVec 32 := Scalar.extui v72
  let v74 : BitVec 32 := Scalar.subi v71 v73
  let v75 : BitVec 1 := Scalar.cmpi .ne v69 v74
  let v76 : BitVec 32 := Scalar.remsi arg1 c2_i32
  let c0_i32_25 : BitVec 32 := 0#32
  let v77 : BitVec 1 := Scalar.cmpi .ne v76 c0_i32_25
  let v78 : BitVec 1 := Scalar.andi v75 v77
  let v64 : BitVec 32 := Scalar.divsi arg1 c2_i32
  let c1_i32 : BitVec 32 := 1#32
  let v79 : BitVec 32 := Scalar.subi v64 c1_i32
  let v80 : BitVec 32 := Scalar.select v78 v79 v64
  let v81 : BitVec 32 := Scalar.subi v80 c0_i32_27
  let c1_i32_28 : BitVec 32 := 1#32
  let v83 : BitVec 32 := Scalar.divsi v81 c1_i32_28
  let v84 : BitVec 32 := Scalar.muli v83 c1_i32_28
  let v85 : BitVec 32 := Scalar.addi c0_i32_27 v84
  let c1_i32_30 : BitVec 32 := 1#32
  let arg16 : BitVec 32 := Scf.iv v85 c1_i32_30 k0_t2
  let v166 : BitVec 32 := Scalar.muli c2_i32_70 arg16
  let v167 : BitVec 32 := Scalar.addi v166 c0_i32_71
  let c512_i32 : BitVec 32 := 512#32
  let v170 : BitVec 32 := Scalar.muli v167 c512_i32
  let v171 : BitVec 32 := v170
  let v292 : Index := Scalar.indexCast v171
  ![1, 0, v292.toNat]
def k0_cond2 (i : grid0.Coords) : BitVec 1 :=
  let arg1 : BitVec 32 := BitVec.ofNat 32 (i 1).val
  let c2_i32_31 : BitVec 32 := 2#32
  let c0_i32_32 : BitVec 32 := 0#32
  let v86 : BitVec 1 := Scalar.cmpi .eq c2_i32_31 c0_i32_32
  let c1_i32_33 : BitVec 32 := 1#32
  let v87 : BitVec 32 := Scalar.select v86 c1_i32_33 c2_i32_31
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let c0_i32_37 : BitVec 32 := 0#32
  let v96 : BitVec 1 := Scalar.cmpi .eq v95 c0_i32_37
  let v97 : BitVec 32 := Scalar.extui v96
  let c0_i32_38 : BitVec 32 := 0#32
  let v98 : BitVec 1 := Scalar.cmpi .ne v97 c0_i32_38
  v98

def k0_mult5 (i : grid0.Coords) : BitVec 32 :=
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  v168
def k0_off11 (i : grid0.Coords) : Fin 2 → Nat :=
  let c0_72 : Index := 0#32
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  let v169 : BitVec 32 := v168
  let v170 : Index := Scalar.indexCast v169
  ![0, v170.toNat]
def k0_off12 (i : grid0.Coords) : Fin 3 → Nat :=
  let c0_73 : Index := 0#32
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  let v169 : BitVec 32 := v168
  let v173 : Index := Scalar.indexCast v169
  let c0_74 : Index := 0#32
  ![0, v173.toNat, 0]
def k0_off13 (i : grid0.Coords) : Fin 3 → Nat :=
  let c1_75 : Index := 1#32
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  let v169 : BitVec 32 := v168
  let v176 : Index := Scalar.indexCast v169
  let c0_76 : Index := 0#32
  ![1, v176.toNat, 0]
def k0_off14 (i : grid0.Coords) : Fin 3 → Nat :=
  let c0_93 : Index := 0#32
  let c0_94 : Index := 0#32
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  let v169 : BitVec 32 := v168
  let v252 : Index := Scalar.indexCast v169
  ![0, 0, v252.toNat]
def k0_off15 (i : grid0.Coords) : Fin 3 → Nat :=
  let c1_114 : Index := 1#32
  let c0_115 : Index := 0#32
  let arg1 : BitVec 32 := BitVec.ofNat 32 (i 1).val
  let c0_i32_70 : BitVec 32 := 0#32
  let v166 : BitVec 32 := Scalar.subi arg1 c0_i32_70
  let c0_i32_71 : BitVec 32 := 0#32
  let v167 : BitVec 32 := Scalar.addi v166 c0_i32_71
  let c512_i32 : BitVec 32 := 512#32
  let v168 : BitVec 32 := Scalar.muli v167 c512_i32
  let v169 : BitVec 32 := v168
  let v331 : Index := Scalar.indexCast v169
  ![1, 0, v331.toNat]
def k0_cond3 (i : grid0.Coords) : BitVec 1 :=
  let arg1 : BitVec 32 := BitVec.ofNat 32 (i 1).val
  let c2_i32_39 : BitVec 32 := 2#32
  let c0_i32_40 : BitVec 32 := 0#32
  let v99 : BitVec 1 := Scalar.cmpi .eq c2_i32_39 c0_i32_40
  let c1_i32_41 : BitVec 32 := 1#32
  let v100 : BitVec 32 := Scalar.select v99 c1_i32_41 c2_i32_39
  let v101 : BitVec 32 := Scalar.remsi arg1 v100
  let c0_i32_43 : BitVec 32 := 0#32
  let v103 : BitVec 1 := Scalar.cmpi .slt v101 c0_i32_43
  let c0_i32_44 : BitVec 32 := 0#32
  let v104 : BitVec 1 := Scalar.cmpi .slt v100 c0_i32_44
  let v105 : BitVec 1 := Scalar.xori v103 v104
  let c0_i32_42 : BitVec 32 := 0#32
  let v102 : BitVec 1 := Scalar.cmpi .ne v101 c0_i32_42
  let v106 : BitVec 1 := Scalar.andi v105 v102
  let v107 : BitVec 32 := Scalar.addi v101 v100
  let v108 : BitVec 32 := Scalar.select v106 v107 v101
  let c1_i32_45 : BitVec 32 := 1#32
  let v109 : BitVec 1 := Scalar.cmpi .eq v108 c1_i32_45
  let v110 : BitVec 32 := Scalar.extui v109
  let c0_i32_46 : BitVec 32 := 0#32
  let v111 : BitVec 1 := Scalar.cmpi .ne v110 c0_i32_46
  v111

def k0_mult6 (i : grid0.Coords) : BitVec 32 :=
  let arg1 : BitVec 32 := BitVec.ofNat 32 (i 1).val
  let c1_i32_70 : BitVec 32 := 1#32
  let v166 : BitVec 32 := Scalar.subi arg1 c1_i32_70
  let c0_i32_71 : BitVec 32 := 0#32
  let v167 : BitVec 32 := Scalar.addi v166 c0_i32_71
  let c512_i32 : BitVec 32 := 512#32
  let v170 : BitVec 32 := Scalar.muli v167 c512_i32
  v170
def k0_mult7 (i : grid0.Coords) : BitVec 32 :=
  let arg1 : BitVec 32 := BitVec.ofNat 32 (i 1).val
  let c1_i32_72 : BitVec 32 := 1#32
  let v168 : BitVec 32 := Scalar.subi arg1 c1_i32_72
  let c1_i32_73 : BitVec 32 := 1#32
  let v169 : BitVec 32 := Scalar.addi v168 c1_i32_73
  let c512_i32_74 : BitVec 32 := 512#32
  let v172 : BitVec 32 := Scalar.muli v169 c512_i32_74
  v172
def k0_off16 (i : grid0.Coords) (c0_i32_71 : BitVec 32) : Fin 2 → Nat :=
  let c0_75 : Index := 0#32
  let arg1 : BitVec 32 := BitVec.ofNat 32 (i 1).val
  let c1_i32_70 : BitVec 32 := 1#32
  let v166 : BitVec 32 := Scalar.subi arg1 c1_i32_70
  let v167 : BitVec 32 := Scalar.addi v166 c0_i32_71
  let c512_i32 : BitVec 32 := 512#32
  let v170 : BitVec 32 := Scalar.muli v167 c512_i32
  let v171 : BitVec 32 := v170
  let v174 : Index := Scalar.indexCast v171
  ![0, v174.toNat]
def k0_off17 (i : grid0.Coords) (c0_i32_71 : BitVec 32) : Fin 3 → Nat :=
  let c0_77 : Index := 0#32
  let arg1 : BitVec 32 := BitVec.ofNat 32 (i 1).val
  let c1_i32_70 : BitVec 32 := 1#32
  let v166 : BitVec 32 := Scalar.subi arg1 c1_i32_70
  let v167 : BitVec 32 := Scalar.addi v166 c0_i32_71
  let c512_i32 : BitVec 32 := 512#32
  let v170 : BitVec 32 := Scalar.muli v167 c512_i32
  let v171 : BitVec 32 := v170
  let v180 : Index := Scalar.indexCast v171
  let c0_78 : Index := 0#32
  ![0, v180.toNat, 0]
def k0_off18 (i : grid0.Coords) (c0_i32_71 : BitVec 32) : Fin 3 → Nat :=
  let c1_79 : Index := 1#32
  let arg1 : BitVec 32 := BitVec.ofNat 32 (i 1).val
  let c1_i32_70 : BitVec 32 := 1#32
  let v166 : BitVec 32 := Scalar.subi arg1 c1_i32_70
  let v167 : BitVec 32 := Scalar.addi v166 c0_i32_71
  let c512_i32 : BitVec 32 := 512#32
  let v170 : BitVec 32 := Scalar.muli v167 c512_i32
  let v171 : BitVec 32 := v170
  let v183 : Index := Scalar.indexCast v171
  let c0_80 : Index := 0#32
  ![1, v183.toNat, 0]
def k0_off19 (i : grid0.Coords) (c0_i32_71 : BitVec 32) : Fin 3 → Nat :=
  let c0_100 : Index := 0#32
  let c0_101 : Index := 0#32
  let arg1 : BitVec 32 := BitVec.ofNat 32 (i 1).val
  let c1_i32_70 : BitVec 32 := 1#32
  let v166 : BitVec 32 := Scalar.subi arg1 c1_i32_70
  let v167 : BitVec 32 := Scalar.addi v166 c0_i32_71
  let c512_i32 : BitVec 32 := 512#32
  let v170 : BitVec 32 := Scalar.muli v167 c512_i32
  let v171 : BitVec 32 := v170
  let v241 : Index := Scalar.indexCast v171
  ![0, 0, v241.toNat]
def k0_off20 (i : grid0.Coords) (c0_i32_71 : BitVec 32) : Fin 3 → Nat :=
  let c1_113 : Index := 1#32
  let c0_114 : Index := 0#32
  let arg1 : BitVec 32 := BitVec.ofNat 32 (i 1).val
  let c1_i32_70 : BitVec 32 := 1#32
  let v166 : BitVec 32 := Scalar.subi arg1 c1_i32_70
  let v167 : BitVec 32 := Scalar.addi v166 c0_i32_71
  let c512_i32 : BitVec 32 := 512#32
  let v170 : BitVec 32 := Scalar.muli v167 c512_i32
  let v171 : BitVec 32 := v170
  let v292 : Index := Scalar.indexCast v171
  ![1, 0, v292.toNat]
def k0_cond4 (i : grid0.Coords) : BitVec 1 :=
  let arg1 : BitVec 32 := BitVec.ofNat 32 (i 1).val
  let c15_i32 : BitVec 32 := 15#32
  let v163 : BitVec 1 := Scalar.cmpi .eq arg1 c15_i32
  let v164 : BitVec 32 := Scalar.extui v163
  let c0_i32_69 : BitVec 32 := 0#32
  let v165 : BitVec 1 := Scalar.cmpi .ne v164 c0_i32_69
  v165

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S16x8192x64 : Shape := ⟨3, ![16, 8192, 64]⟩
abbrev S8x2x8192 : Shape := ⟨3, ![8, 2, 8192]⟩
abbrev S8x8x8192 : Shape := ⟨3, ![8, 8, 8192]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S8192x16x64, .f32⟩
  | 6 => ⟨S8192x16x64, .f32⟩
  | 7 => ⟨S8192x16x64, .f32⟩
  | 8 => ⟨S16x8192x8192, .f32⟩
  | 9 => ⟨S_, .f32⟩
  | 10 => ⟨S16x8192x8192, .f32⟩
  | 11 => ⟨S16x8192x8192, .f32⟩
  | 12 => ⟨S16x8192, .f32⟩
  | 13 => ⟨S16x8192x1, .f32⟩
  | 14 => ⟨S16x8192x8192, .f32⟩
  | 15 => ⟨S16x8192x8192, .f32⟩
  | 16 => ⟨S16x8192, .f32⟩
  | 17 => ⟨S16x1x8192, .f32⟩
  | 18 => ⟨S16x8192x8192, .f32⟩
  | 19 => ⟨S16x8192x8192, .f32⟩
  | 20 => ⟨S8192, .i32⟩
  | 21 => ⟨S8192x1, .i32⟩
  | 22 => ⟨S8192, .i32⟩
  | 23 => ⟨S1x8192, .i32⟩
  | 24 => ⟨S8192x8192, .i32⟩
  | 25 => ⟨S8192x8192, .i32⟩
  | 26 => ⟨S8192x8192, .i1⟩
  | 27 => ⟨S_, .f32⟩
  | 28 => ⟨S_, .f32⟩
  | 29 => ⟨S16x8192x8192, .i1⟩
  | 30 => ⟨S16x8192x8192, .f32⟩
  | 31 => ⟨S16x8192x8192, .f32⟩
  | 32 => ⟨S_, .f32⟩
  | 33 => ⟨S16x8192x8192, .f32⟩
  | 34 => ⟨S_, .f32⟩
  | 35 => ⟨S16x8192, .f32⟩
  | 36 => ⟨S16x8192x1, .f32⟩
  | 37 => ⟨S16x8192x8192, .f32⟩
  | 38 => ⟨S16x8192x8192, .i1⟩
  | 39 => ⟨S16x8192x8192, .f32⟩
  | 40 => ⟨S_, .f32⟩
  | 41 => ⟨S16x8192, .f32⟩
  | 42 => ⟨S_, .f32⟩
  | 43 => ⟨S16x8192, .f32⟩
  | 44 => ⟨S16x8192, .f32⟩
  | 45 => ⟨S_, .f32⟩
  | 46 => ⟨S16x8192, .f32⟩
  | 47 => ⟨S16x8192, .i1⟩
  | 48 => ⟨S_, .f32⟩
  | 49 => ⟨S16x8192, .f32⟩
  | 50 => ⟨S16x8192, .i1⟩
  | 51 => ⟨S_, .f32⟩
  | 52 => ⟨S16x8192, .f32⟩
  | 53 => ⟨S_, .f32⟩
  | 54 => ⟨S16x8192, .f32⟩
  | 55 => ⟨S_, .f32⟩
  | 56 => ⟨S16x8192, .f32⟩
  | 57 => ⟨S16x8192, .f32⟩
  | 58 => ⟨S16x8192, .f32⟩
  | 59 => ⟨S16x8192x1, .f32⟩
  | 60 => ⟨S16x8192x8192, .f32⟩
  | 61 => ⟨S16x8192x8192, .f32⟩
  | 62 => ⟨S16x8192x8192, .f32⟩
  | 63 => ⟨S_, .f32⟩
  | 64 => ⟨S16x8192, .f32⟩
  | 65 => ⟨S16x8192x1, .f32⟩
  | 66 => ⟨S16x8192x8192, .f32⟩
  | 67 => ⟨S16x8192x8192, .f32⟩
  | 68 => ⟨S16x8192x1, .f32⟩
  | 69 => ⟨S_, .f32⟩
  | 70 => ⟨S16x8192x1, .f32⟩
  | 71 => ⟨S16x8192x1, .f32⟩
  | 72 => ⟨S16x64x8192, .f32⟩
  | 73 => ⟨S8192x16x64, .f32⟩
  | 74 => ⟨S8192x1024, .f32⟩
  | 75 => ⟨S8192x16x64, .f32⟩
  | 76 => ⟨S16x64x8192, .f32⟩
  | 77 => ⟨S16x8192x8192, .f32⟩
  | 78 => ⟨S16x64x8192, .f32⟩
  | 79 => ⟨S8192x16x64, .f32⟩
  | 80 => ⟨S16x8192x8192, .f32⟩
  | 81 => ⟨S16x8192x8192, .f32⟩
  | 82 => ⟨S16x8192x8192, .f32⟩
  | 83 => ⟨S_, .f32⟩
  | 84 => ⟨S16x8192, .f32⟩
  | 85 => ⟨S16x8192x1, .f32⟩
  | 86 => ⟨S16x8192x1, .f32⟩
  | 87 => ⟨S16x8192x8192, .f32⟩
  | 88 => ⟨S16x8192x8192, .f32⟩
  | 89 => ⟨S_, .f32⟩
  | 90 => ⟨S16x8192, .f32⟩
  | 91 => ⟨S16x8192x8192, .f32⟩
  | 92 => ⟨S16x8192x8192, .f32⟩
  | 93 => ⟨S16x8192x8192, .f32⟩
  | 94 => ⟨S_, .f32⟩
  | 95 => ⟨S16x8192x8192, .f32⟩
  | 96 => ⟨S16x8192x8192, .f32⟩
  | 97 => ⟨S16x8192x8192, .f32⟩
  | 98 => ⟨S_, .f32⟩
  | 99 => ⟨S16x8192, .f32⟩
  | 100 => ⟨S16x1x8192, .f32⟩
  | 101 => ⟨S_, .f32⟩
  | 102 => ⟨S16x8192, .f32⟩
  | 103 => ⟨S8192x16, .f32⟩
  | 104 => ⟨S_, .f32⟩
  | 105 => ⟨S16x8192, .f32⟩
  | 106 => ⟨S16x8192x1, .f32⟩
  | 107 => ⟨S_, .f32⟩
  | 108 => ⟨S16x8192, .f32⟩
  | 109 => ⟨S8192x16, .f32⟩
  | 110 => ⟨S_, .f32⟩
  | 111 => ⟨S16x8192x8192, .f32⟩
  | 112 => ⟨S16x8192x8192, .f32⟩
  | 113 => ⟨S16x8192x64, .f32⟩
  | 114 => ⟨S8192x16x64, .f32⟩
  | 115 => ⟨S16x8192x64, .f32⟩
  | 116 => ⟨S8192x16x64, .f32⟩
  | 117 => ⟨S8192x1024, .f32⟩
  | 118 => ⟨S8192x1024, .f32⟩
  | 119 => ⟨S8192x1024, .f32⟩
  | 120 => ⟨S8192x1024, .bf16⟩
  | 121 => ⟨S8192x1024, .bf16⟩
  | 122 => ⟨S8192x1024, .bf16⟩
  | 123 => ⟨S16x8192, .f32⟩
  | 124 => ⟨S8x2x8192, .f32⟩
  | 125 => ⟨S_, .i32⟩
  | 126 => ⟨S_, .f32⟩
  | 127 => ⟨S8x8x8192, .f32⟩
  | _ => ⟨S8192x1024, .f32⟩

abbrev hbmTy0_1 (i : Nat) : BufTy := match i % 128 with
  | 0 => ⟨S8192x16, .f32⟩
  | 1 => ⟨S16x8192, .f32⟩
  | 2 => ⟨S8x2x8192, .f32⟩
  | 3 => ⟨S_, .i32⟩
  | 4 => ⟨S_, .f32⟩
  | 5 => ⟨S8x8x8192, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_18 : Ref sig .tc := ⟨.hbm, 131, rfl⟩
abbrev main_call3_v0 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== KernelDw.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .bf16⟩
  | .hbm, ⟨3, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_32 : BitVec 32 := 0#32
  let v41 : BitVec 1 := Scalar.cmpi .ne v40 c0_i32_32
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwo.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwoIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwg.lean ====
abbrev S8192x1024 : Shape := ⟨2, ![8192, 1024]⟩
abbrev S8192x2048 : Shape := ⟨2, ![8192, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x512 : Shape := ⟨2, ![1024, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .bf16⟩
  | .local _ .vmem, ⟨5, _⟩ => ⟨S8x1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v121 : BitVec 1 := Scalar.cmpi .eq arg1 c7_i32
  let v122 : BitVec 32 := Scalar.extui v121
  let c0_i32_97 : BitVec 32 := 0#32
  let v123 : BitVec 1 := Scalar.cmpi .ne v122 c0_i32_97
  v123

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwgIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwin.lean ====
abbrev S8192x1024 : Shape := ⟨2, ![8192, 1024]⟩
abbrev S8192x4096 : Shape := ⟨2, ![8192, 4096]⟩
abbrev S8x1024x512 : Shape := ⟨3, ![8, 1024, 512]⟩
abbrev S1024x512 : Shape := ⟨2, ![1024, 512]⟩
abbrev S1024x4096 : Shape := ⟨2, ![1024, 4096]⟩
abbrev S8x512x512 : Shape := ⟨3, ![8, 512, 512]⟩
abbrev S512x4096 : Shape := ⟨2, ![512, 4096]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S8x512x512, .bf16⟩
  | .local _ .vmem, ⟨5, _⟩ => ⟨S8x512x512, .bf16⟩
  | .local _ .vmem, ⟨6, _⟩ => ⟨S8x512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_45 : BitVec 32 := 0#32
  let v64 : BitVec 1 := Scalar.cmpi .ne v63 c0_i32_45
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwinIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDown.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1x2048x1024 : Shape := ⟨3, ![1, 2048, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S2048x1024, .bf16⟩
  | .hbm, ⟨5, _⟩ => ⟨S1x2048x1024, .bf16⟩
  | .hbm, ⟨6, _⟩ => ⟨S8192x1024, .f32⟩
  | .hbm, ⟨7, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelFo.lean ====
abbrev S8192x1024 : Shape := ⟨2, ![8192, 1024]⟩
abbrev S1024x1024 : Shape := ⟨2, ![1024, 1024]⟩
abbrev S1x1024 : Shape := ⟨2, ![1, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S1x1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFoIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelLast.lean ====
abbrev S8192x2048 : Shape := ⟨2, ![8192, 2048]⟩
abbrev S2048x1024 : Shape := ⟨2, ![2048, 1024]⟩
abbrev S8192x1024 : Shape := ⟨2, ![8192, 1024]⟩
abbrev S1x2048x1024 : Shape := ⟨3, ![1, 2048, 1024]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S2048x1024, .bf16⟩
  | .hbm, ⟨4, _⟩ => ⟨S1x2048x1024, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLastIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDo.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDoIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelV.lean ====
abbrev S8192x1024 : Shape := ⟨2, ![8192, 1024]⟩
abbrev S1024x1024 : Shape := ⟨2, ![1024, 1024]⟩
abbrev S1024x8192 : Shape := ⟨2, ![1024, 8192]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S1024x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceVIdeal.lean ====
abbrev S8192x1024 : Shape := ⟨2, ![8192, 1024]⟩
abbrev S1024x1024 : Shape := ⟨2, ![1024, 1024]⟩
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x8192, .f32⟩
  | .hbm, ⟨5, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDgu.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S1024x8x256 : Shape := ⟨3, ![1024, 8, 256]⟩
abbrev S8x1024x256 : Shape := ⟨3, ![8, 1024, 256]⟩
abbrev S16x1024x256 : Shape := ⟨3, ![16, 1024, 256]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x2048, .f32⟩
  | .hbm, ⟨3, _⟩ => ⟨S1024x2048, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x2048, .bf16⟩
  | .hbm, ⟨8, _⟩ => ⟨S1024x8x256, .bf16⟩
  | .hbm, ⟨9, _⟩ => ⟨S8x1024x256, .bf16⟩
  | .hbm, ⟨10, _⟩ => ⟨S1024x2048, .bf16⟩
  | .hbm, ⟨11, _⟩ => ⟨S1024x8x256, .bf16⟩
  | .hbm, ⟨12, _⟩ => ⟨S8x1024x256, .bf16⟩
  | .hbm, ⟨13, _⟩ => ⟨S16x1024x256, .bf16⟩
  | .hbm, ⟨14, _⟩ => ⟨S8192x1024, .f32⟩
  | .hbm, ⟨15, _⟩ => ⟨S8192x1024, .bf16⟩
  | .hbm, ⟨16, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S16x1024x256, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v114 : BitVec 1 := Scalar.cmpi .eq arg0 c0_i32
  let v115 : BitVec 32 := Scalar.extui v114
  let c0_i32_88 : BitVec 32 := 0#32
  let v116 : BitVec 1 := Scalar.cmpi .ne v115 c0_i32_88
  v116

def k0_cond2 (i : grid0.Coords) : BitVec 1 :=
  let arg0 : BitVec 32 := BitVec.ofNat 32 (i 0).val
  let c0_i32_89 : BitVec 32 := 0#32
  let v117 : BitVec 1 := Scalar.cmpi .ne arg0 c0_i32_89
  let v118 : BitVec 32 := Scalar.extui v117
  let c0_i32_90 : BitVec 32 := 0#32
  let v119 : BitVec 1 := Scalar.cmpi .ne v118 c0_i32_90
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDguIdeal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x2048, .f32⟩
  | .hbm, ⟨3, _⟩ => ⟨S1024x2048, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelDgm.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_48 : BitVec 32 := 0#32
  let v76 : BitVec 1 := Scalar.cmpi .ne v75 c0_i32_48
  v76

def k0_cond2 (i : grid0.Coords) : BitVec 1 :=
  let arg0 : BitVec 32 := BitVec.ofNat 32 (i 0).val
  let c0_i32_49 : BitVec 32 := 0#32
  let v77 : BitVec 1 := Scalar.cmpi .ne arg0 c0_i32_49
  let v78 : BitVec 32 := Scalar.extui v77
  let c0_i32_50 : BitVec 32 := 0#32
  let v79 : BitVec 1 := Scalar.cmpi .ne v78 c0_i32_50
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDgmIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelDqkv.lean ====
abbrev S8192x1024 : Shape := ⟨2, ![8192, 1024]⟩
abbrev S1024x3072 : Shape := ⟨2, ![1024, 3072]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x3072, .bf16⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x3072, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_29 : BitVec 32 := 0#32
  let v53 : BitVec 1 := Scalar.cmpi .ne v52 c0_i32_29
  v53

def k0_cond2 (i : grid0.Coords) : BitVec 1 :=
  let arg0 : BitVec 32 := BitVec.ofNat 32 (i 0).val
  let c0_i32_30 : BitVec 32 := 0#32
  let v54 : BitVec 1 := Scalar.cmpi .ne arg0 c0_i32_30
  let v55 : BitVec 32 := Scalar.extui v54
  let c0_i32_31 : BitVec 32 := 0#32
  let v56 : BitVec 1 := Scalar.cmpi .ne v55 c0_i32_31
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceDqkvIdeal.lean ====
abbrev S8192x1024 : Shape := ⟨2, ![8192, 1024]⟩
abbrev S1024x3072 : Shape := ⟨2, ![1024, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x3072, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.DwVal.lean ====
/-
  The weight-gradient product over the extended reals: what each grid point adds to the running sum.
-/
module

public import proofs.«01_k».proof.Proof.Gen.KernelDwIdeal.Value
public import Idealize.ShloMosaic.Lib.Pipeline.ValueKit
public import Idealize.ShloMosaic.Lib.Pipeline.CanonAppend
public import Idealize.ShloMosaic.Lib.Pointwise
public import Idealize.ShloMosaic.Lib.Claim

@[expose] public section

set_option maxRecDepth 16384

noncomputable section

namespace Cert.KernelDwIdeal.Value

open Cert.KernelDwIdeal Cert.KernelDwIdeal.Gen
open Idealize.ShloMosaic Idealize.ShloMosaic.TcCoe
open scoped BigOperators

/-- The product of two blocks of 1024 rows, contracted over the rows, at an entry. -/
def part (x : Vec Ideal S1024x2048 .bf16) (z : Vec Ideal S1024x1024 .bf16) (y : S2048x1024.Idx) : EReal :=
  ∑ k : Fin 1024, x (ix2 k (y 0)) * z (ix2 k (y 1))

/-- The same for 512 of the first block's columns. -/
def group (x : Vec Ideal S1024x512 .bf16) (z : Vec Ideal S1024x1024 .bf16) (y : S512x1024.Idx) : EReal :=
  ∑ k : Fin 1024, x (ix2 k (y 0)) * z (ix2 k (y 1))

theorem pay2_at (x : Vec Ideal S1024x512 .bf16) (z : Vec Ideal S1024x1024 .bf16) (w : Vec Ideal S512x1024 .f32) (y : S512x1024.Idx) :
    k0_pay2 x z w y = w y + group x z y := by
  unfold k0_pay2 group
  pointwise

theorem pay5_at (x : Vec Ideal S1024x512 .bf16) (z : Vec Ideal S1024x1024 .bf16) (w : Vec Ideal S512x1024 .f32) (y : S512x1024.Idx) :
    k0_pay5 x z w y = w y + group x z y := pay2_at x z w y

theorem pay6_at (x : Vec Ideal S1024x512 .bf16) (z : Vec Ideal S1024x1024 .bf16) (w : Vec Ideal S512x1024 .f32) (y : S512x1024.Idx) :
    k0_pay6 x z w y = w y + group x z y := pay2_at x z w y

theorem pay7_at (x : Vec Ideal S1024x512 .bf16) (z : Vec Ideal S1024x1024 .bf16) (w : Vec Ideal S512x1024 .f32) (y : S512x1024.Idx) :
    k0_pay1 (k0_pay7 x z w) y = w y + group x z y := pay2_at x z w y

/-- A group of columns of a block, and the rows of the running sum it is added to. -/
theorem group_at (o : ℕ) (x : Vec Ideal S1024x2048 .bf16) (z : Vec Ideal S1024x1024 .bf16) (w : Vec Ideal S2048x1024 .f32)
    (hx : ∀ a, (![0, o] : Fin 2 → ℕ) a + S1024x512.size a ≤ S1024x2048.size a)
    (hw : ∀ a, (![o, 0] : Fin 2 → ℕ) a + S512x1024.size a ≤ S2048x1024.size a)
    (y : S2048x1024.Idx) (u : S512x1024.Idx) (h0 : (y 0).val = o + (u 0).val) (h1 : (y 1).val = (u 1).val) :
    View.ld w (Rect.unit ![o, 0] S512x1024.size hw) u + group (View.ld x (Rect.unit ![0, o] S1024x512.size hx)) z u = w y + part x z y := by
  unfold group part
  congr 1
  · exact View.ld_unit_apply_of w _ _ _ u y fun a => by
      fin_cases a
      · exact h0
      · exact h1.trans (zero_add _).symm
  · refine Finset.sum_congr rfl fun k _ => ?_
    congr 1
    · exact View.ld_unit_apply_of x _ _ _ (ix2 k (u 0)) (ix2 k (y 0)) fun a => by
        fin_cases a
        · exact (zero_add _).symm
        · exact h0
    · exact congrArg z (by rw [show y 1 = u 1 from Fin.ext h1])

variable (c : Dev nD) (i : grid0.Coords) (a2 : Memref sig .tc .vmem S1024x2048 .bf16) (h2 : a2.IsWhole)
  (a3 : Memref sig .tc .vmem S1024x1024 .bf16) (h3 : a3.IsWhole) (a4 : Memref sig .tc .vmem S2048x1024 .bf16) (h4 : a4.IsWhole)
  (a5 : Memref sig .tc .vmem S2048x1024 .f32) (h5 : a5.IsWhole)
  (x : Vec Ideal S1024x2048 .bf16) (z : Vec Ideal S1024x1024 .bf16) (w : Vec Ideal S2048x1024 .f32) (y : S2048x1024.Idx)

/-- A point in the middle adds its product to the running sum. -/
theorem middle_at (c0 : ¬cond0_0 i) (c1 : ¬cond0_1 i) :
    sout0_B_0 c i a2 h2 a3 h3 a4 h4 a5 h5 c0 c1 x z w y = w y + part x z y := by
  frame_out
  canon_tiles u h
  · rw [pay2_at]; exact group_at 1536 x z w _ _ y u h0 h1
  · rw [pay7_at]; exact group_at 1024 x z w _ _ y u h0 h1
  · rw [pay6_at]; exact group_at 512 x z w _ _ y u h0 h1
  · rw [pay5_at]; exact group_at 0 x z w _ _ y u (by omega) h1

/-- So does the last point. -/
theorem last_at (c0 : ¬cond0_0 i) (c1 : cond0_1 i) :
    sout0_C_0 c i a2 h2 a3 h3 a4 h4 a5 h5 c0 c1 x z w y = w y + part x z y := by
  frame_out
  canon_tiles u h
  · rw [pay2_at]; exact group_at 1536 x z w _ _ y u h0 h1
  · rw [pay7_at]; exact group_at 1024 x z w _ _ y u h0 h1
  · rw [pay6_at]; exact group_at 512 x z w _ _ y u h0 h1
  · rw [pay5_at]; exact group_at 0 x z w _ _ y u (by omega) h1

/-- The running sum read whole. -/
theorem read_whole {sp : Space} (v : View sig .tc sp S2048x1024 .f32) (L : List (View.Piece (Elt Ideal) S2048x1024 .f32)) (inb) :
    v.readCov L (Rect.unit (s := S2048x1024) ![0, 0] S2048x1024.size inb).toLoadRect = View.canon L := by
  rw [View.readCov_eq_canon']
  funext u
  exact congrArg (View.canon L) (funext fun a => Fin.ext ((Rect.idx_unit_val _ _ inb u a).trans (by fin_cases a <;> exact zero_add _)))

theorem pay3_at (v : Vec Ideal S2048x1024 .f32) : k0_pay3 v y = v y := rfl

/-- The last point also stores the running sum. -/
theorem store_at (c0 : ¬cond0_0 i) (c1 : cond0_1 i) :
    out0_C_2 c i a2 h2 a3 h3 a4 h4 a5 h5 c0 c1 x z w y = w y + part x z y := by
  frame_out
  rw [pay3_at, read_whole]
  canon_tiles u h
  · rw [pay2_at]; exact group_at 1536 x z w _ _ y u h0 h1
  · rw [pay7_at]; exact group_at 1024 x z w _ _ y u h0 h1
  · rw [pay6_at]; exact group_at 512 x z w _ _ y u h0 h1
  · rw [pay5_at]; exact group_at 0 x z w _ _ y u (by omega) h1

/-- A running sum of zeros. -/
def zeros : Vec Ideal S2048x1024 .f32 := fun _ => (0 : EReal)

/-- A group of columns added to cleared rows. -/
theorem group_zero (o : ℕ) (x : Vec Ideal S1024x2048 .bf16) (z : Vec Ideal S1024x1024 .bf16)
    (hx : ∀ a, (![0, o] : Fin 2 → ℕ) a + S1024x512.size a ≤ S1024x2048.size a)
    (hw : ∀ a, (![o, 0] : Fin 2 → ℕ) a + S512x1024.size a ≤ S2048x1024.size a) (u : S512x1024.Idx) :
    View.ld zeros (Rect.unit ![o, 0] S512x1024.size hw) u + group (View.ld x (Rect.unit ![0, o] S1024x512.size hx)) z u
      = part x z ((Rect.unit (s := S2048x1024) ![o, 0] S512x1024.size hw).emb u) :=
  (group_at o x z zeros hx hw ((Rect.unit (s := S2048x1024) ![o, 0] S512x1024.size hw).emb u) u
    (Rect.idx_unit_val (s := S2048x1024) ![o, 0] S512x1024.size hw u 0)
    ((Rect.idx_unit_val (s := S2048x1024) ![o, 0] S512x1024.size hw u 1).trans (zero_add _))).trans (zero_add _)

/-- Rows of the running sum read just after it was cleared. -/
theorem cleared {sp : Space} (v : View sig .tc sp S2048x1024 .f32) (o : ℕ) (inb inb') :
    v.readCov [⟨Rect.unit (s := S2048x1024) ![0, 0] S2048x1024.size inb, k0_pay4 (F := Ideal)⟩]
        (Rect.unit (s := S2048x1024) ![o, 0] S512x1024.size inb').toLoadRect
      = View.ld zeros (Rect.unit ![o, 0] S512x1024.size inb') := by
  rw [View.readCov_eq_canon', View.canon_cons_unit_lit _ _ _ (by decide)]
  funext u
  show k0_pay4 (F := Ideal) _ = (0 : EReal)
  unfold k0_pay4
  pointwise

/-- Rows of the running sum read past a store of earlier rows. -/
theorem skip {sp : Space} (v : View sig .tc sp S2048x1024 .f32) (o o' : ℕ) (h : o + 512 ≤ o') (w : S512x1024.Idx → EReal)
    (L : List (View.Piece (Elt Ideal) S2048x1024 .f32)) (inb inb') :
    v.readCov ((⟨Rect.unit (s := S2048x1024) ![o, 0] S512x1024.size inb, w⟩ : View.Piece (Elt Ideal) S2048x1024 .f32) :: L)
      (Rect.unit (s := S2048x1024) ![o', 0] S512x1024.size inb').toLoadRect
      = v.readCov L (Rect.unit (s := S2048x1024) ![o', 0] S512x1024.size inb').toLoadRect :=
  View.readCov_cons_of_disjoint v (⟨Rect.unit (s := S2048x1024) ![o, 0] S512x1024.size inb, w⟩ : View.Piece (Elt Ideal) S2048x1024 .f32) L
    (Rect.unit (s := S2048x1024) ![o', 0] S512x1024.size inb').toLoadRect (Rect.unit_disjoint (inb := inb) (inb' := inb') 0 (.inl h))

/-- The first point starts the running sum at zero. -/
theorem first_at (c0 : cond0_0 i) (c1 : ¬cond0_1 i) :
    sout0_A_0 c i a2 h2 a3 h3 a4 h4 a5 h5 c0 c1 x z y = part x z y := by
  frame_out
  simp only [skip _ 1024 1536 (by omega), skip _ 512 1536 (by omega), skip _ 0 1536 (by omega), skip _ 512 1024 (by omega),
    skip _ 0 1024 (by omega), skip _ 0 512 (by omega)]
  rw [cleared a5.view 1536, cleared a5.view 1024, cleared a5.view 512, cleared a5.view 0]
  refine View.canon_append_of_pieces (Val := Elt Ideal) (S := S2048x1024) (e := .f32) (part x z) [_] [_, _, _, _] ?_ y ?_
  · intro p hp u
    simp only [List.mem_cons, List.not_mem_nil, or_false] at hp
    rcases hp with rfl | rfl | rfl | rfl
    · exact (pay2_at _ _ _ _).trans (group_zero 1536 x z _ _ u)
    · exact (pay7_at _ _ _ _).trans (group_zero 1024 x z _ _ u)
    · exact (pay6_at _ _ _ _).trans (group_zero 512 x z _ _ u)
    · exact (pay5_at _ _ _ _).trans (group_zero 0 x z _ _ u)
  · exact View.cover_of_tiled_head _ _ _ (by rfl) y

/-- What the running sum holds after a point, from what it held before. -/
theorem scratch_first (m : (ℓ : Loc nD τ sig) → Buf (Elt Ideal) ℓ) (c : Dev nD) (t : Fin cfg0.N) (h : t.val % 8 = 0) (y : S2048x1024.Idx) :
    (outsAt0 m c t.val t.isLt).2 y = part (iblk m c 0 t) (iblk m c 1 t) y := by
  rw [outsAt0_A m c t h (by omega)]
  dsimp only
  rw [first_at]

theorem scratch_next (m : (ℓ : Loc nD τ sig) → Buf (Elt Ideal) ℓ) (c : Dev nD) (t : Fin cfg0.N) (h : ¬t.val % 8 = 0) (y : S2048x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 8 = 7
  · rw [outsAt0_C m c t h h1]
    dsimp only
    rw [last_at]
  · rw [outsAt0_B m c t h h1]
    dsimp only
    rw [middle_at]

/-- The last point's output is the running sum it leaves. -/
theorem stored (m : (ℓ : Loc nD τ sig) → Buf (Elt Ideal) ℓ) (c : Dev nD) (t : Fin cfg0.N) (h : t.val % 8 = 7) (y : S2048x1024.Idx) :
    (outsAt0 m c t.val t.isLt).1 y = (outsAt0 m c t.val t.isLt).2 y := by
  rw [outsAt0_C m c t (by omega) h]
  dsimp only
  rw [store_at, last_at]

/-- The array the call returns: the eight points' products summed. -/
theorem result_at (m : (ℓ : Loc nD τ sig) → Buf (Elt Ideal) ℓ) (c : Dev nD) (y : S2048x1024.Idx) :
    G2 m c y = ∑ t : Fin cfg0.N, part (iblk m c 0 t) (iblk m c 1 t) y := by
  have h7 : 7 < cfg0.N := lt_of_lt_of_eq (by decide) N_0.symm
  rw [G2_last, ← outsAt0_sweep m c 7 h7]
  refine (stored m c ⟨7, h7⟩ rfl y).trans ?_
  exact (Pipeline.eq_sum_fin_of_reset_step_apply_last (fun n h => (outsAt0 m c n h).2) 8 (fun _ => (0 : EReal))
    (fun t y => part (iblk m c 0 t) (iblk m c 1 t) y)
    (fun t h y => (scratch_first m c t h y).trans (zero_add _).symm) (fun t h y => scratch_next m c t h y)
    (le_of_eq N_0) ⟨7, h7⟩ N_0.symm y).trans (zero_add _)

end Cert.KernelDwIdeal.Value
-- ==== Proof.DwOut.lean ====
/-
  The weight-gradient product over the extended reals: the call's result and the reference's, entry by entry.
-/
module

public import proofs.«01_k».proof.Proof.DwVal
public import proofs.«01_k».proof.Proof.Gen.ReferenceDwIdeal.Run

@[expose] public section

set_option maxRecDepth 16384

noncomputable section

namespace Cert.KernelDwIdeal.Value

open Cert.KernelDwIdeal Cert.KernelDwIdeal.Gen
open Idealize.ShloMosaic Idealize.ShloMosaic.TcCoe
open scoped BigOperators

/-- Point `t` takes the rows from `1024 t` of both arguments, the second narrowed by the host beforehand. -/
theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem block0 (m : (ℓ : Loc nD τ sig) → Buf (Elt Ideal) ℓ) (c : Dev nD) (t : Fin cfg0.N) (k : Fin 1024) (j : Fin 2048) (r : Fin 8192)
    (h : r.val = t.val * 1024 + k.val) :
    (iblk m c 0 t : Vec Ideal S1024x2048 .bf16) (ix2 k j) = (m ((c.tc : Thread nD τ).loc main_arg0) : FVec Ideal S8192x2048 .bf16) (ix2 r j) := by
  blk_ext! [iblk, V, idx0 t]

theorem block1 (m : (ℓ : Loc nD τ sig) → Buf (Elt Ideal) ℓ) (c : Dev nD) (t : Fin cfg0.N) (k : Fin 1024) (j : Fin 1024) (r : Fin 8192)
    (h : r.val = t.val * 1024 + k.val) :
    (iblk m c 1 t : Vec Ideal S1024x1024 .bf16) (ix2 k j) = (m ((c.tc : Thread nD τ).loc main_arg1) : FVec Ideal S8192x1024 .f32) (ix2 r j) := by
  blk_ext! [iblk, V, idx1 t]

/-- The product of the two arguments over all 8192 rows. -/
def gDw (A : FVec Ideal S8192x2048 .bf16) (B : FVec Ideal S8192x1024 .f32) : FVec Ideal S2048x1024 .bf16 :=
  fun y => ∑ r : Fin 8192, A (ix2 r (y 0)) * B (ix2 r (y 1))

/-- The call returns it. -/
theorem result (m : (ℓ : Loc nD τ sig) → Buf (Elt Ideal) ℓ) (c : Dev nD) :
    G2 m c = gDw (m ((c.tc : Thread nD τ).loc main_arg0)) (m ((c.tc : Thread nD τ).loc main_arg1)) := by
  funext y
  rw [result_at]
  unfold part gDw
  refine Fin.sum_mul_add_congr (fun t k h => ?_) (by rw [show cfg0.N = 8 from N_0])
  rw [block0 m c t k (y 0) ⟨_, h⟩ rfl, block1 m c t k (y 1) ⟨_, h⟩ rfl]

end Cert.KernelDwIdeal.Value

namespace Cert.ReferenceDwIdeal.Value

open Cert.ReferenceDwIdeal Cert.ReferenceDwIdeal.Gen
open Idealize.ShloMosaic Idealize.ShloMosaic.TcCoe
open scoped BigOperators

/-- So does the reference. -/
theorem out (A : FVec Ideal S8192x2048 .bf16) (B : FVec Ideal S8192x1024 .f32) :
    truncf .bf16 (transpose S2048x1024 [1, 0] (Host.dotGeneral dot_S8192x1024_S8192x2048_S1024x2048_0_0_1_1_n_n none B (extf .f32 A bitsLt_bf16_f32))
      transposes_S1024x2048_S2048x1024_1_0) bitsLt_bf16_f32 = Cert.KernelDwIdeal.Value.gDw A B := by
  funext y
  unfold Cert.KernelDwIdeal.Value.gDw
  pointwise
  exact Finset.sum_congr rfl fun r _ => mul_comm _ _

end Cert.ReferenceDwIdeal.Value
-- ==== Proof.DwoVal.lean ====
/-
  The weight gradient of the attention's projections over the extended reals: what each grid point adds to the running sum.
-/
module

public import proofs.«01_k».proof.Proof.Gen.KernelDwoIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDwoIdeal.Value

open Cert.KernelDwoIdeal Cert.KernelDwoIdeal.Gen
open Idealize.ShloMosaic Idealize.ShloMosaic.TcCoe
open scoped BigOperators

/-- The product of two blocks of 1024 rows, contracted over the rows, at an entry. -/
def part (x z : Vec Ideal S1024x1024 .bf16) (y : S1024x1024.Idx) : EReal :=
  ∑ k : Fin 1024, x (ix2 k (y 0)) * z (ix2 k (y 1))

/-- What a store computes for 512 rows of the running sum: what it read there, plus the product; `x` is the first
    argument's block, of which the product takes the columns from `p`. -/
theorem tile_at (p : ℕ) (inx : ∀ a, (![0, p] : Fin 2 → ℕ) a + S1024x512.size a ≤ S1024x1024.size a) (x z : Vec Ideal S1024x1024 .bf16)
    (v : Vec Ideal S512x1024 .f32) (w : EReal) (u : S512x1024.Idx) (y : S1024x1024.Idx)
    (hv : v u = w) (h0 : (y 0).val = p + (u 0).val) (h1 : (y 1).val = (u 1).val) :
    k0_pay2 (View.ld x (Rect.unit ![0, p] S1024x512.size inx)) z v u = w + part x z y := by
  generalize hx : View.ld x (Rect.unit ![0, p] S1024x512.size inx) = x'
  unfold k0_pay2 part
  pointwise
  refine congrArg₂ (· + ·) hv (Finset.sum_congr rfl fun k _ => congrArg₂ (· * ·) ?_ ?_)
  · rw [← hx]
    exact View.ld_unit_apply_of x _ _ _ (ix2 k (u 0)) (ix2 k (y 0)) fun a => by
      fin_cases a
      · exact (zero_add _).symm
      · exact h0
  · exact congrArg (fun a => z (ix2 k a)) (Fin.ext h1.symm)

/-- What a store writes into the rows from `p` of the running sum `w`: what is there, plus the product. -/
def piece (x z : Vec Ideal S1024x1024 .bf16) (w : Vec Ideal S1024x1024 .f32) (p : ℕ)
    (inx : ∀ a, (![0, p] : Fin 2 → ℕ) a + S1024x512.size a ≤ S1024x1024.size a)
    (inb : ∀ a, (![p, 0] : Fin 2 → ℕ) a + S512x1024.size a ≤ S1024x1024.size a) : View.Piece (Elt Ideal) S1024x1024 .f32 :=
  ⟨Rect.unit ![p, 0] S512x1024.size inb,
    k0_pay2 (View.ld x (Rect.unit ![0, p] S1024x512.size inx)) z (View.ld w (Rect.unit ![p, 0] S512x1024.size inb))⟩

theorem piece_at (x z : Vec Ideal S1024x1024 .bf16) (w : Vec Ideal S1024x1024 .f32) (p : ℕ)
    (inx : ∀ a, (![0, p] : Fin 2 → ℕ) a + S1024x512.size a ≤ S1024x1024.size a)
    (inb : ∀ a, (![p, 0] : Fin 2 → ℕ) a + S512x1024.size a ≤ S1024x1024.size a) (u : (piece x z w p inx inb).1.shape.Idx) :
    (piece x z w p inx inb).2 u = w ((piece x z w p inx inb).1.emb u) + part x z ((piece x z w p inx inb).1.emb u) := by
  have he := Rect.idx_unit_val (s := S1024x1024) ![p, 0] S512x1024.size inb u
  exact tile_at p inx x z _ _ u _ rfl (he 0) ((he 1).trans (zero_add _))

/-- A point's two stores, the last first. -/
def stores (x z : Vec Ideal S1024x1024 .bf16) (w : Vec Ideal S1024x1024 .f32) : List (View.Piece (Elt Ideal) S1024x1024 .f32) :=
  [piece x z w 512 inb_S1024x1024_S1024x512_0_512 inb_S1024x1024_S512x1024_512_0,
   piece x z w 0 inb_S1024x1024_S1024x512_0_0 inb_S1024x1024_S512x1024_0_0]

/-- They leave the running sum with the product added, whatever was stored before. -/
theorem stores_at (x z : Vec Ideal S1024x1024 .bf16) (w : Vec Ideal S1024x1024 .f32) (L : List (View.Piece (Elt Ideal) S1024x1024 .f32))
    (y : S1024x1024.Idx) : View.canon (stores x z w ++ L) y = w y + part x z y := by
  refine View.canon_append_of_piecesOf (Val := Elt Ideal) (s := S1024x1024) (e := .f32) (fun y => w y + part x z y) L (stores x z w) ?_ y ?_
  · exact ⟨piece_at x z w 512 _ _, piece_at x z w 0 _ _, trivial⟩
  · exact View.cover_of_tiled_head _ _ _ (by rfl) y

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole)
  (x : Vec Ideal S1024x1024 .bf16) (z : Vec Ideal S1024x1024 .bf16) (w : Vec Ideal S1024x1024 .f32) (y : S1024x1024.Idx)

/-- A point in the middle adds its product to the running sum. -/
theorem middle_at (c0 : ¬cond0_0 i) (c1 : ¬cond0_1 i) :
    sout0_B_0 c i a2 h2 a3 h3 a4 h4 a5 h5 c0 c1 x z w y = w y + part x z y := by
  frame_out
  exact stores_at x z w [] y

/-- So does the last point. -/
theorem last_at (c0 : ¬cond0_0 i) (c1 : cond0_1 i) :
    sout0_C_0 c i a2 h2 a3 h3 a4 h4 a5 h5 c0 c1 x z w y = w y + part x z y := by
  frame_out
  exact stores_at x z w [] y

/-- The running sum read whole. -/
theorem read_whole {sp : Space} (v : View sig .tc sp S1024x1024 .f32) (L : List (View.Piece (Elt Ideal) S1024x1024 .f32)) (inb) :
    v.readCov L (Rect.unit (s := S1024x1024) ![0, 0] S1024x1024.size inb).toLoadRect = View.canon L := by
  rw [View.readCov_eq_canon']
  funext u
  exact congrArg (View.canon L) (funext fun a => Fin.ext ((Rect.idx_unit_val _ _ inb u a).trans (by fin_cases a <;> exact zero_add _)))

theorem pay4_at (v : Vec Ideal S1024x1024 .f32) : k0_pay4 v y = v y := rfl

/-- The last point also stores the running sum. -/
theorem store_at (c0 : ¬cond0_0 i) (c1 : cond0_1 i) :
    out0_C_2 c i a2 h2 a3 h3 a4 h4 a5 h5 c0 c1 x z w y = w y + part x z y := by
  frame_out
  rw [pay4_at, read_whole]
  exact stores_at x z w [] y

/-- A running sum of zeros, which the first point starts from. -/
def zeros : Vec Ideal S1024x1024 .f32 := fun _ => (0 : EReal)

theorem fill : k0_pay1 (F := Ideal) = zeros := by
  funext u
  show k0_pay1 (F := Ideal) u = (0 : EReal)
  unfold k0_pay1
  pointwise

/-- The first point starts the running sum at zero. -/
theorem first_at (c0 : cond0_0 i) (c1 : ¬cond0_1 i) :
    sout0_A_0 c i a2 h2 a3 h3 a4 h4 a5 h5 c0 c1 x z y = part x z y := by
  frame_open
  simp (disch := decide) only [↓ View.readCov_skip, ↓ View.readCov_cons_toLoadRect, ↓ View.readCov_fill]
  frame_out
  rw [fill]
  exact (stores_at x z zeros [_] y).trans (zero_add _)

/-- What the running sum holds after a point, from what it held before. -/
theorem scratch_first (m : (ℓ : Loc nD τ sig) → Buf (Elt Ideal) ℓ) (c : Dev nD) (t : Fin cfg0.N) (h : t.val % 8 = 0) (y : S1024x1024.Idx) :
    (outsAt0 m c t.val t.isLt).2 y = part (iblk m c 0 t) (iblk m c 1 t) y := by
  rw [outsAt0_A m c t h (by omega)]
  dsimp only
  rw [first_at]

theorem scratch_next (m : (ℓ : Loc nD τ sig) → Buf (Elt Ideal) ℓ) (c : Dev nD) (t : Fin cfg0.N) (h : ¬t.val % 8 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 8 = 7
  · rw [outsAt0_C m c t h h1]
    dsimp only
    rw [last_at]
  · rw [outsAt0_B m c t h h1]
    dsimp only
    rw [middle_at]

/-- The last point's output is the running sum it leaves. -/
theorem stored (m : (ℓ : Loc nD τ sig) → Buf (Elt Ideal) ℓ) (c : Dev nD) (t : Fin cfg0.N) (h : t.val % 8 = 7) (y : S1024x1024.Idx) :
    (outsAt0 m c t.val t.isLt).1 y = (outsAt0 m c t.val t.isLt).2 y := by
  rw [outsAt0_C m c t (by omega) h]
  dsimp only
  rw [store_at, last_at]

/-- The array the call returns: the eight points' products summed. -/
theorem result_at (m : (ℓ : Loc nD τ sig) → Buf (Elt Ideal) ℓ) (c : Dev nD) (y : S1024x1024.Idx) :
    G2 m c y = ∑ t : Fin cfg0.N, part (iblk m c 0 t) (iblk m c 1 t) y := by
  have h7 : 7 < cfg0.N := lt_of_lt_of_eq (by decide) N_0.symm
  rw [G2_last, ← outsAt0_sweep m c 7 h7]
  refine (stored m c ⟨7, h7⟩ rfl y).trans ?_
  exact (Pipeline.eq_sum_fin_of_reset_step_apply_last (fun n h => (outsAt0 m c n h).2) 8 (fun _ => (0 : EReal))
    (fun t y => part (iblk m c 0 t) (iblk m c 1 t) y)
    (fun t h y => (scratch_first m c t h y).trans (zero_add _).symm) (fun t h y => scratch_next m c t h y)
    (le_of_eq N_0) ⟨7, h7⟩ N_0.symm y).trans (zero_add _)

end Cert.KernelDwoIdeal.Value
-- ==== Proof.DwoOut.lean ====
/-
  The weight gradient of the attention's projections over the extended reals: the call's result and the reference's, entry by entry.
-/
module

public import proofs.«01_k».proof.Proof.DwoVal
public import proofs.«01_k».proof.Proof.Gen.ReferenceDwoIdeal.Run

@[expose] public section

set_option maxRecDepth 16384

noncomputable section

namespace Cert.KernelDwoIdeal.Value

open Cert.KernelDwoIdeal Cert.KernelDwoIdeal.Gen
open Idealize.ShloMosaic Idealize.ShloMosaic.TcCoe
open scoped BigOperators

/-- Point `t` takes the rows from `1024 t` of both arguments, the second narrowed by the host beforehand. -/
theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem block0 (m : (ℓ : Loc nD τ sig) → Buf (Elt Ideal) ℓ) (c : Dev nD) (t : Fin cfg0.N) (k : Fin 1024) (j : Fin 1024) (r : Fin 8192)
    (h : r.val = t.val * 1024 + k.val) :
    (iblk m c 0 t : Vec Ideal S1024x1024 .bf16) (ix2 k j) = (m ((c.tc : Thread nD τ).loc main_arg0) : FVec Ideal S8192x1024 .bf16) (ix2 r j) := by
  blk_ext! [iblk, V, idx0 t]

theorem block1 (m : (ℓ : Loc nD τ sig) → Buf (Elt Ideal) ℓ) (c : Dev nD) (t : Fin cfg0.N) (k : Fin 1024) (j : Fin 1024) (r : Fin 8192)
    (h : r.val = t.val * 1024 + k.val) :
    (iblk m c 1 t : Vec Ideal S1024x1024 .bf16) (ix2 k j) = (m ((c.tc : Thread nD τ).loc main_arg1) : FVec Ideal S8192x1024 .f32) (ix2 r j) := by
  blk_ext! [iblk, V, idx1 t]

/-- The product of the two arguments over all 8192 rows. -/
def gDw (A : FVec Ideal S8192x1024 .bf16) (B : FVec Ideal S8192x1024 .f32) : FVec Ideal S1024x1024 .bf16 :=
  fun y => ∑ r : Fin 8192, A (ix2 r (y 0)) * B (ix2 r (y 1))

/-- The call returns it. -/
theorem result (m : (ℓ : Loc nD τ sig) → Buf (Elt Ideal) ℓ) (c : Dev nD) :
    G2 m c = gDw (m ((c.tc : Thread nD τ).loc main_arg0)) (m ((c.tc : Thread nD τ).loc main_arg1)) := by
  funext y
  rw [result_at]
  unfold part gDw
  refine Fin.sum_mul_add_congr (fun t k h => ?_) (by rw [show cfg0.N = 8 from N_0])
  rw [block0 m c t k (y 0) ⟨_, h⟩ rfl, block1 m c t k (y 1) ⟨_, h⟩ rfl]

end Cert.KernelDwoIdeal.Value

namespace Cert.ReferenceDwoIdeal.Value

open Cert.ReferenceDwoIdeal Cert.ReferenceDwoIdeal.Gen
open Idealize.ShloMosaic Idealize.ShloMosaic.TcCoe
open scoped BigOperators

/-- So does the reference. -/
theorem out (A : FVec Ideal S8192x1024 .bf16) (B : FVec Ideal S8192x1024 .f32) :
    truncf .bf16 (transpose S1024x1024 [1, 0] (Host.dotGeneral dot_S8192x1024_S8192x1024_S1024x1024_0_0_1_1_n_n none B (extf .f32 A bitsLt_bf16_f32))
      transposes_S1024x1024_S1024x1024_1_0) bitsLt_bf16_f32 = Cert.KernelDwoIdeal.Value.gDw A B := by
  funext y
  unfold Cert.KernelDwoIdeal.Value.gDw
  pointwise
  exact Finset.sum_congr rfl fun r _ => mul_comm _ _

end Cert.ReferenceDwoIdeal.Value
-- ==== Proof.DwgVal.lean ====
/-
  The weight gradient of the gate and up projections over the extended reals: what each grid point adds to the running
  sum, which is kept as eight stacked blocks of 256 columns.
-/
module

public import proofs.«01_k».proof.Proof.Gen.KernelDwgIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDwgIdeal.Value

open Cert.KernelDwgIdeal Cert.KernelDwgIdeal.Gen
open Idealize.ShloMosaic Idealize.ShloMosaic.TcCoe
open scoped BigOperators

/-- Column `v` of block `j`, counted over all the columns. -/
theorem col_lt (j : Fin 8) (v : Fin 256) : j.val * 256 + v.val < 2048 := by omega

/-- The product of two blocks of 1024 rows, contracted over the rows, at an entry of the stacked blocks. -/
def part (x : Vec Ideal S1024x1024 .bf16) (z : Vec Ideal S1024x2048 .bf16) (y : S8x1024x256.Idx) : EReal :=
  ∑ k : Fin 1024, x (ix2 k (y 1)) * z (ix2 k ⟨_, col_lt (y 0) (y 2)⟩)

/-- What a store computes for 512 rows of block `j` of the running sum: what it read there, plus the product's columns
    from `256 j`; `x` is the first argument's block, of which the product takes the columns from `p`. -/
theorem tile_at (p o : ℕ) (inx : ∀ a, (![0, p] : Fin 2 → ℕ) a + S1024x512.size a ≤ S1024x1024.size a)
    (hs : S512x2048.Slices ![0, o] S512x256) (x : Vec Ideal S1024x1024 .bf16) (z : Vec Ideal S1024x2048 .bf16)
    (v : Vec Ideal S1x512x256 .f32) (w : EReal) (u : S1x512x256.Idx) (y : S8x1024x256.Idx)
    (hv : v u = w) (h0 : (y 0).val * 256 = o) (h1 : (y 1).val = p + (u 1).val) (h2 : (y 2).val = (u 2).val) :
    (shapeCast S1x512x256 (addf (shapeCast S512x256 v shapeCasts_S1x512x256_S512x256)
      (extractStridedSlice S512x256 ![0, o] (k0_pay4 (View.ld x (Rect.unit ![0, p] S1024x512.size inx)) z) hs))
      shapeCasts_S512x256_S1x512x256 : FVec Ideal S1x512x256 .f32) u = w + part x z y := by
  generalize hx : View.ld x (Rect.unit ![0, p] S1024x512.size inx) = x'
  unfold k0_pay4 part
  pointwise
  refine congrArg₂ (· + ·) hv (Finset.sum_congr rfl fun k _ => congrArg₂ (· * ·) ?_ ?_)
  · rw [← hx]
    exact View.ld_unit_apply_of x _ _ _ (ix2 k (u 1)) (ix2 k (y 1)) fun a => by
      fin_cases a
      · exact (zero_add _).symm
      · exact h1
  · refine congrArg (fun a => z (ix2 k a)) (Fin.ext ?_)
    exact congrArg₂ (· + ·) h0.symm h2.symm

/-- What a store writes into the rows from `p` of block `j` of the running sum `w`: what is there, plus the product's
    columns from `o = 256 j`. -/
def piece (x : Vec Ideal S1024x1024 .bf16) (z : Vec Ideal S1024x2048 .bf16) (w : Vec Ideal S8x1024x256 .f32) (j p o : ℕ)
    (inx : ∀ a, (![0, p] : Fin 2 → ℕ) a + S1024x512.size a ≤ S1024x1024.size a)
    (inb : ∀ a, (![j, p, 0] : Fin 3 → ℕ) a + S1x512x256.size a ≤ S8x1024x256.size a) (hs : S512x2048.Slices ![0, o] S512x256) :
    View.Piece (Elt Ideal) S8x1024x256 .f32 :=
  ⟨Rect.unit ![j, p, 0] S1x512x256.size inb,
    (shapeCast S1x512x256 (addf (shapeCast S512x256 (View.ld w (Rect.unit ![j, p, 0] S1x512x256.size inb)) shapeCasts_S1x512x256_S512x256)
      (extractStridedSlice S512x256 ![0, o] (k0_pay4 (View.ld x (Rect.unit ![0, p] S1024x512.size inx)) z) hs))
      shapeCasts_S512x256_S1x512x256 : FVec Ideal S1x512x256 .f32)⟩

theorem piece_at (x : Vec Ideal S1024x1024 .bf16) (z : Vec Ideal S1024x2048 .bf16) (w : Vec Ideal S8x1024x256 .f32) (j p o : ℕ)
    (inx : ∀ a, (![0, p] : Fin 2 → ℕ) a + S1024x512.size a ≤ S1024x1024.size a)
    (inb : ∀ a, (![j, p, 0] : Fin 3 → ℕ) a + S1x512x256.size a ≤ S8x1024x256.size a) (hs : S512x2048.Slices ![0, o] S512x256)
    (ho : j * 256 = o) (u : (piece x z w j p o inx inb hs).1.shape.Idx) :
    (piece x z w j p o inx inb hs).2 u = w ((piece x z w j p o inx inb hs).1.emb u) + part x z ((piece x z w j p o inx inb hs).1.emb u) := by
  have he := Rect.idx_unit_val (s := S8x1024x256) ![j, p, 0] S1x512x256.size inb u
  have hu : (u 0).val < 1 := (u 0).isLt
  exact tile_at p o inx hs x z _ _ u _ rfl ((congrArg (· * 256) ((he 0).trans (show j + (u 0).val = j by omega))).trans ho)
    (he 1) ((he 2).trans (zero_add _))

/-- A point's sixteen stores, the last first. -/
def stores (x : Vec Ideal S1024x1024 .bf16) (z : Vec Ideal S1024x2048 .bf16) (w : Vec Ideal S8x1024x256 .f32) :
    List (View.Piece (Elt Ideal) S8x1024x256 .f32) :=
  [piece x z w 7 512 1792 inb_S1024x1024_S1024x512_0_512 inb_S8x1024x256_S1x512x256_7_512_0 slices_S512x2048_o0_1792_S512x256,
   piece x z w 6 512 1536 inb_S1024x1024_S1024x512_0_512 inb_S8x1024x256_S1x512x256_6_512_0 slices_S512x2048_o0_1536_S512x256,
   piece x z w 5 512 1280 inb_S1024x1024_S1024x512_0_512 inb_S8x1024x256_S1x512x256_5_512_0 slices_S512x2048_o0_1280_S512x256,
   piece x z w 4 512 1024 inb_S1024x1024_S1024x512_0_512 inb_S8x1024x256_S1x512x256_4_512_0 slices_S512x2048_o0_1024_S512x256,
   piece x z w 3 512 768 inb_S1024x1024_S1024x512_0_512 inb_S8x1024x256_S1x512x256_3_512_0 slices_S512x2048_o0_768_S512x256,
   piece x z w 2 512 512 inb_S1024x1024_S1024x512_0_512 inb_S8x1024x256_S1x512x256_2_512_0 slices_S512x2048_o0_512_S512x256,
   piece x z w 1 512 256 inb_S1024x1024_S1024x512_0_512 inb_S8x1024x256_S1x512x256_1_512_0 slices_S512x2048_o0_256_S512x256,
   piece x z w 0 512 0 inb_S1024x1024_S1024x512_0_512 inb_S8x1024x256_S1x512x256_0_512_0 slices_S512x2048_o0_0_S512x256,
   piece x z w 7 0 1792 inb_S1024x1024_S1024x512_0_0 inb_S8x1024x256_S1x512x256_7_0_0 slices_S512x2048_o0_1792_S512x256,
   piece x z w 6 0 1536 inb_S1024x1024_S1024x512_0_0 inb_S8x1024x256_S1x512x256_6_0_0 slices_S512x2048_o0_1536_S512x256,
   piece x z w 5 0 1280 inb_S1024x1024_S1024x512_0_0 inb_S8x1024x256_S1x512x256_5_0_0 slices_S512x2048_o0_1280_S512x256,
   piece x z w 4 0 1024 inb_S1024x1024_S1024x512_0_0 inb_S8x1024x256_S1x512x256_4_0_0 slices_S512x2048_o0_1024_S512x256,
   piece x z w 3 0 768 inb_S1024x1024_S1024x512_0_0 inb_S8x1024x256_S1x512x256_3_0_0 slices_S512x2048_o0_768_S512x256,
   piece x z w 2 0 512 inb_S1024x1024_S1024x512_0_0 inb_S8x1024x256_S1x512x256_2_0_0 slices_S512x2048_o0_512_S512x256,
   piece x z w 1 0 256 inb_S1024x1024_S1024x512_0_0 inb_S8x1024x256_S1x512x256_1_0_0 slices_S512x2048_o0_256_S512x256,
   piece x z w 0 0 0 inb_S1024x1024_S1024x512_0_0 inb_S8x1024x256_S1x512x256_0_0_0 slices_S512x2048_o0_0_S512x256]

/-- They leave the running sum with the product added, whatever was stored before. -/
theorem stores_at (x : Vec Ideal S1024x1024 .bf16) (z : Vec Ideal S1024x2048 .bf16) (w : Vec Ideal S8x1024x256 .f32)
    (L : List (View.Piece (Elt Ideal) S8x1024x256 .f32)) (y : S8x1024x256.Idx) :
    View.canon (stores x z w ++ L) y = w y + part x z y := by
  refine View.canon_append_of_piecesOf (Val := Elt Ideal) (s := S8x1024x256) (e := .f32) (fun y => w y + part x z y) L (stores x z w) ?_ y ?_
  · exact ⟨piece_at x z w 7 512 _ _ _ _ rfl, piece_at x z w 6 512 _ _ _ _ rfl, piece_at x z w 5 512 _ _ _ _ rfl, piece_at x z w 4 512 _ _ _ _ rfl,
      piece_at x z w 3 512 _ _ _ _ rfl, piece_at x z w 2 512 _ _ _ _ rfl, piece_at x z w 1 512 _ _ _ _ rfl, piece_at x z w 0 512 _ _ _ _ rfl,
      piece_at x z w 7 0 _ _ _ _ rfl, piece_at x z w 6 0 _ _ _ _ rfl, piece_at x z w 5 0 _ _ _ _ rfl, piece_at x z w 4 0 _ _ _ _ rfl,
      piece_at x z w 3 0 _ _ _ _ rfl, piece_at x z w 2 0 _ _ _ _ rfl, piece_at x z w 1 0 _ _ _ _ rfl, piece_at x z w 0 0 _ _ _ _ rfl, trivial⟩
  · exact View.cover_of_tiled_head _ _ _ (by rfl) y

variable (c : Dev nD) (i : grid0.Coords) (a2 : Memref sig .tc .vmem S1024x1024 .bf16) (h2 : a2.IsWhole)
  (a3 : Memref sig .tc .vmem S1024x2048 .bf16) (h3 : a3.IsWhole) (a4 : Memref sig .tc .vmem S8x1024x256 .bf16) (h4 : a4.IsWhole)
  (a5 : Memref sig .tc .vmem S8x1024x256 .f32) (h5 : a5.IsWhole)
  (x : Vec Ideal S1024x1024 .bf16) (z : Vec Ideal S1024x2048 .bf16) (w : Vec Ideal S8x1024x256 .f32) (y : S8x1024x256.Idx)

/-- A point in the middle adds its product to the running sum. -/
theorem middle_at (c0 : ¬cond0_0 i) (c1 : ¬cond0_1 i) :
    sout0_B_0 c i a2 h2 a3 h3 a4 h4 a5 h5 c0 c1 x z w y = w y + part x z y := by
  frame_out
  exact stores_at x z w [] y

/-- So does the last point. -/
theorem last_at (c0 : ¬cond0_0 i) (c1 : cond0_1 i) :
    sout0_C_0 c i a2 h2 a3 h3 a4 h4 a5 h5 c0 c1 x z w y = w y + part x z y := by
  frame_out
  exact stores_at x z w [] y

/-- The running sum read whole. -/
theorem read_whole {sp : Space} (v : View sig .tc sp S8x1024x256 .f32) (L : List (View.Piece (Elt Ideal) S8x1024x256 .f32)) (inb) :
    v.readCov L (Rect.unit (s := S8x1024x256) ![0, 0, 0] S8x1024x256.size inb).toLoadRect = View.canon L := by
  rw [View.readCov_eq_canon']
  funext u
  exact congrArg (View.canon L) (funext fun a => Fin.ext ((Rect.idx_unit_val _ _ inb u a).trans (by fin_cases a <;> exact zero_add _)))

theorem pay2_at (v : Vec Ideal S8x1024x256 .f32) : k0_pay2 v y = v y := rfl

/-- The last point also stores the running sum. -/
theorem store_at (c0 : ¬cond0_0 i) (c1 : cond0_1 i) :
    out0_C_2 c i a2 h2 a3 h3 a4 h4 a5 h5 c0 c1 x z w y = w y + part x z y := by
  frame_out
  rw [pay2_at, read_whole]
  exact stores_at x z w [] y

/-- A running sum of zeros, which the first point starts from. -/
def zeros : Vec Ideal S8x1024x256 .f32 := fun _ => (0 : EReal)

theorem fill : k0_pay3 (F := Ideal) = zeros := by
  funext u
  show k0_pay3 (F := Ideal) u = (0 : EReal)
  unfold k0_pay3
  pointwise

/-- The first point starts the running sum at zero. -/
theorem first_at (c0 : cond0_0 i) (c1 : ¬cond0_1 i) :
    sout0_A_0 c i a2 h2 a3 h3 a4 h4 a5 h5 c0 c1 x z y = part x z y := by
  frame_open
  simp (disch := decide) only [↓ View.readCov_skip, ↓ View.readCov_cons_toLoadRect, ↓ View.readCov_fill]
  frame_out
  rw [fill]
  exact (stores_at x z zeros [_] y).trans (zero_add _)

/-- What the running sum holds after a point, from what it held before. -/
theorem scratch_first (m : (ℓ : Loc nD τ sig) → Buf (Elt Ideal) ℓ) (c : Dev nD) (t : Fin cfg0.N) (h : t.val % 8 = 0) (y : S8x1024x256.Idx) :
    (outsAt0 m c t.val t.isLt).2 y = part (iblk m c 0 t) (iblk m c 1 t) y := by
  rw [outsAt0_A m c t h (by omega)]
  dsimp only
  rw [first_at]

theorem scratch_next (m : (ℓ : Loc nD τ sig) → Buf (Elt Ideal) ℓ) (c : Dev nD) (t : Fin cfg0.N) (h : ¬t.val % 8 = 0) (y : S8x1024x256.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 8 = 7
  · rw [outsAt0_C m c t h h1]
    dsimp only
    rw [last_at]
  · rw [outsAt0_B m c t h h1]
    dsimp only
    rw [middle_at]

/-- The last point's output is the running sum it leaves. -/
theorem stored (m : (ℓ : Loc nD τ sig) → Buf (Elt Ideal) ℓ) (c : Dev nD) (t : Fin cfg0.N) (h : t.val % 8 = 7) (y : S8x1024x256.Idx) :
    (outsAt0 m c t.val t.isLt).1 y = (outsAt0 m c t.val t.isLt).2 y := by
  rw [outsAt0_C m c t (by omega) h]
  dsimp only
  rw [store_at, last_at]

/-- The array the call returns: the eight points' products summed. -/
theorem result_at (m : (ℓ : Loc nD τ sig) → Buf (Elt Ideal) ℓ) (c : Dev nD) (y : S8x1024x256.Idx) :
    G2 m c y = ∑ t : Fin cfg0.N, part (iblk m c 0 t) (iblk m c 1 t) y := by
  have h7 : 7 < cfg0.N := lt_of_lt_of_eq (by decide) N_0.symm
  rw [G2_last, ← outsAt0_sweep m c 7 h7]
  refine (stored m c ⟨7, h7⟩ rfl y).trans ?_
  exact (Pipeline.eq_sum_fin_of_reset_step_apply_last (fun n h => (outsAt0 m c n h).2) 8 (fun _ => (0 : EReal))
    (fun t y => part (iblk m c 0 t) (iblk m c 1 t) y)
    (fun t h y => (scratch_first m c t h y).trans (zero_add _).symm) (fun t h y => scratch_next m c t h y)
    (le_of_eq N_0) ⟨7, h7⟩ N_0.symm y).trans (zero_add _)

end Cert.KernelDwgIdeal.Value
-- ==== Proof.DwgOut.lean ====
/-
  The weight gradient of the gate and up projections over the extended reals: the call's result and the reference's,
  entry by entry.
-/
module

public import proofs.«01_k».proof.Proof.DwgVal
public import proofs.«01_k».proof.Proof.Gen.ReferenceDwgIdeal.Run

@[expose] public section

set_option maxRecDepth 16384

noncomputable section

namespace Cert.KernelDwgIdeal.Value

open Cert.KernelDwgIdeal Cert.KernelDwgIdeal.Gen
open Idealize.ShloMosaic Idealize.ShloMosaic.TcCoe
open scoped BigOperators

/-- Point `t` takes the rows from `1024 t` of both arguments. -/
theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem block0 (m : (ℓ : Loc nD τ sig) → Buf (Elt Ideal) ℓ) (c : Dev nD) (t : Fin cfg0.N) (k : Fin 1024) (j : Fin 1024) (r : Fin 8192)
    (h : r.val = t.val * 1024 + k.val) :
    (iblk m c 0 t : Vec Ideal S1024x1024 .bf16) (ix2 k j) = (m ((c.tc : Thread nD τ).loc main_arg0) : FVec Ideal S8192x1024 .bf16) (ix2 r j) := by
  blk_ext! [iblk, V, idx0 t]

theorem block1 (m : (ℓ : Loc nD τ sig) → Buf (Elt Ideal) ℓ) (c : Dev nD) (t : Fin cfg0.N) (k : Fin 1024) (j : Fin 2048) (r : Fin 8192)
    (h : r.val = t.val * 1024 + k.val) :
    (iblk m c 1 t : Vec Ideal S1024x2048 .bf16) (ix2 k j) = (m ((c.tc : Thread nD τ).loc main_arg1) : FVec Ideal S8192x2048 .bf16) (ix2 r j) := by
  blk_ext! [iblk, V, idx1 t]

/-- The product of the two arguments over all 8192 rows, its columns in eight stacked blocks. -/
def gDw (A : FVec Ideal S8192x1024 .bf16) (B : FVec Ideal S8192x2048 .bf16) : FVec Ideal S8x1024x256 .bf16 :=
  fun y => ∑ r : Fin 8192, A (ix2 r (y 1)) * B (ix2 r ⟨_, col_lt (y 0) (y 2)⟩)

/-- The call returns it. -/
theorem result (m : (ℓ : Loc nD τ sig) → Buf (Elt Ideal) ℓ) (c : Dev nD) :
    G2 m c = gDw (m ((c.tc : Thread nD τ).loc main_arg0)) (m ((c.tc : Thread nD τ).loc main_arg1)) := by
  funext y
  rw [result_at]
  unfold part gDw
  refine Fin.sum_mul_add_congr (fun t k h => ?_) (by rw [show cfg0.N = 8 from N_0])
  rw [block0 m c t k (y 1) ⟨_, h⟩ rfl, block1 m c t k _ ⟨_, h⟩ rfl]

end Cert.KernelDwgIdeal.Value

namespace Cert.ReferenceDwgIdeal.Value

open Cert.ReferenceDwgIdeal Cert.ReferenceDwgIdeal.Gen
open Idealize.ShloMosaic Idealize.ShloMosaic.TcCoe
open scoped BigOperators

/-- So does the reference. -/
theorem out (A : FVec Ideal S8192x1024 .bf16) (B : FVec Ideal S8192x2048 .bf16) :
    truncf .bf16 (transpose S8x1024x256 [1, 0, 2] (shapeCast _ (transpose S1024x2048 [1, 0] (Host.dotGeneral dot_S8192x2048_S8192x1024_S2048x1024_0_0_1_1_n_n none (extf .f32 B bitsLt_bf16_f32) (extf .f32 A bitsLt_bf16_f32))
      transposes_S2048x1024_S1024x2048_1_0) shapeCasts_S1024x2048_S1024x8x256) transposes_S1024x8x256_S8x1024x256_1_0_2) bitsLt_bf16_f32
      = Cert.KernelDwgIdeal.Value.gDw A B := by
  funext y
  unfold Cert.KernelDwgIdeal.Value.gDw
  pointwise
  exact Finset.sum_congr rfl fun r _ => mul_comm _ _

end Cert.ReferenceDwgIdeal.Value
-- ==== Proof.DwinVal.lean ====
/-
  The weight gradient of the mixer's input projection over the extended reals: what each grid point adds to the running
  sum, which is kept as eight stacked blocks of 512 columns.
-/
module

public import proofs.«01_k».proof.Proof.Gen.KernelDwinIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDwinIdeal.Value

open Cert.KernelDwinIdeal Cert.KernelDwinIdeal.Gen
open Idealize.ShloMosaic Idealize.ShloMosaic.TcCoe
open scoped BigOperators

/-- Column `v` of block `j`, counted over all the columns. -/
theorem col_lt (j : Fin 8) (v : Fin 512) : j.val * 512 + v.val < 4096 := by omega

/-- The product of two blocks of 1024 rows, contracted over the rows, at an entry of the stacked blocks. -/
def part (x : Vec Ideal S1024x512 .bf16) (z : Vec Ideal S1024x4096 .bf16) (y : S8x512x512.Idx) : EReal :=
  ∑ k : Fin 1024, x (ix2 k (y 1)) * z (ix2 k ⟨_, col_lt (y 0) (y 2)⟩)

/-- What a store computes for block `j` of the running sum: what it read there, plus the product's columns from `512 j`. -/
theorem tile_at (o : ℕ) (hs : S512x4096.Slices ![0, o] S512x512) (x : Vec Ideal S1024x512 .bf16) (z : Vec Ideal S1024x4096 .bf16)
    (v : Vec Ideal S1x512x512 .f32) (w : EReal) (u : S1x512x512.Idx) (y : S8x512x512.Idx)
    (hv : v u = w) (h0 : (y 0).val * 512 = o) (h1 : (y 1).val = (u 1).val) (h2 : (y 2).val = (u 2).val) :
    (shapeCast S1x512x512 (addf (shapeCast S512x512 v shapeCasts_S1x512x512_S512x512) (extractStridedSlice S512x512 ![0, o] (k0_pay4 x z) hs))
      shapeCasts_S512x512_S1x512x512 : FVec Ideal S1x512x512 .f32) u = w + part x z y := by
  unfold k0_pay4 part
  pointwise
  refine congrArg₂ (· + ·) hv (Finset.sum_congr rfl fun k _ => congrArg₂ (· * ·) ?_ ?_)
  · exact congrArg (fun a => x (ix2 k a)) (Fin.ext h1.symm)
  · refine congrArg (fun a => z (ix2 k a)) (Fin.ext ?_)
    exact congrArg₂ (· + ·) h0.symm h2.symm

/-- What a store writes into block `j` of the running sum `w`: what is there, plus the product's columns from `o = 512 j`. -/
def piece (x : Vec Ideal S1024x512 .bf16) (z : Vec Ideal S1024x4096 .bf16) (w : Vec Ideal S8x512x512 .f32) (j o : ℕ)
    (inb : ∀ a, (![j, 0, 0] : Fin 3 → ℕ) a + S1x512x512.size a ≤ S8x512x512.size a) (hs : S512x4096.Slices ![0, o] S512x512) :
    View.Piece (Elt Ideal) S8x512x512 .f32 :=
  ⟨Rect.unit ![j, 0, 0] S1x512x512.size inb,
    (shapeCast S1x512x512 (addf (shapeCast S512x512 (View.ld w (Rect.unit ![j, 0, 0] S1x512x512.size inb)) shapeCasts_S1x512x512_S512x512)
      (extractStridedSlice S512x512 ![0, o] (k0_pay4 x z) hs)) shapeCasts_S512x512_S1x512x512 : FVec Ideal S1x512x512 .f32)⟩

theorem piece_at (x : Vec Ideal S1024x512 .bf16) (z : Vec Ideal S1024x4096 .bf16) (w : Vec Ideal S8x512x512 .f32) (j o : ℕ)
    (inb : ∀ a, (![j, 0, 0] : Fin 3 → ℕ) a + S1x512x512.size a ≤ S8x512x512.size a) (hs : S512x4096.Slices ![0, o] S512x512)
    (ho : j * 512 = o) (u : (piece x z w j o inb hs).1.shape.Idx) :
    (piece x z w j o inb hs).2 u = w ((piece x z w j o inb hs).1.emb u) + part x z ((piece x z w j o inb hs).1.emb u) := by
  have he := Rect.idx_unit_val (s := S8x512x512) ![j, 0, 0] S1x512x512.size inb u
  have hu : (u 0).val < 1 := (u 0).isLt
  exact tile_at o hs x z _ _ u _ rfl ((congrArg (· * 512) ((he 0).trans (show j + (u 0).val = j by omega))).trans ho)
    ((he 1).trans (zero_add _)) ((he 2).trans (zero_add _))

/-- A point's eight stores, the last first. -/
def stores (x : Vec Ideal S1024x512 .bf16) (z : Vec Ideal S1024x4096 .bf16) (w : Vec Ideal S8x512x512 .f32) :
    List (View.Piece (Elt Ideal) S8x512x512 .f32) :=
  [piece x z w 7 3584 inb_S8x512x512_S1x512x512_7_0_0 slices_S512x4096_o0_3584_S512x512,
   piece x z w 6 3072 inb_S8x512x512_S1x512x512_6_0_0 slices_S512x4096_o0_3072_S512x512,
   piece x z w 5 2560 inb_S8x512x512_S1x512x512_5_0_0 slices_S512x4096_o0_2560_S512x512,
   piece x z w 4 2048 inb_S8x512x512_S1x512x512_4_0_0 slices_S512x4096_o0_2048_S512x512,
   piece x z w 3 1536 inb_S8x512x512_S1x512x512_3_0_0 slices_S512x4096_o0_1536_S512x512,
   piece x z w 2 1024 inb_S8x512x512_S1x512x512_2_0_0 slices_S512x4096_o0_1024_S512x512,
   piece x z w 1 512 inb_S8x512x512_S1x512x512_1_0_0 slices_S512x4096_o0_512_S512x512,
   piece x z w 0 0 inb_S8x512x512_S1x512x512_0_0_0 slices_S512x4096_o0_0_S512x512]

/-- They leave the running sum with the product added, whatever was stored before. -/
theorem stores_at (x : Vec Ideal S1024x512 .bf16) (z : Vec Ideal S1024x4096 .bf16) (w : Vec Ideal S8x512x512 .f32)
    (L : List (View.Piece (Elt Ideal) S8x512x512 .f32)) (y : S8x512x512.Idx) :
    View.canon (stores x z w ++ L) y = w y + part x z y := by
  refine View.canon_append_of_piecesOf (Val := Elt Ideal) (s := S8x512x512) (e := .f32) (fun y => w y + part x z y) L (stores x z w) ?_ y ?_
  · exact ⟨piece_at x z w 7 _ _ _ rfl, piece_at x z w 6 _ _ _ rfl, piece_at x z w 5 _ _ _ rfl, piece_at x z w 4 _ _ _ rfl,
      piece_at x z w 3 _ _ _ rfl, piece_at x z w 2 _ _ _ rfl, piece_at x z w 1 _ _ _ rfl, piece_at x z w 0 _ _ _ rfl, trivial⟩
  · exact View.cover_of_tiled_head _ _ _ (by rfl) y

variable (c : Dev nD) (i : grid0.Coords) (a2 : Memref sig .tc .vmem S1024x512 .bf16) (h2 : a2.IsWhole)
  (a3 : Memref sig .tc .vmem S1024x4096 .bf16) (h3 : a3.IsWhole) (a4 : Memref sig .tc .vmem S8x512x512 .bf16) (h4 : a4.IsWhole)
  (a5 : Memref sig .tc .vmem S8x512x512 .f32) (h5 : a5.IsWhole)
  (x : Vec Ideal S1024x512 .bf16) (z : Vec Ideal S1024x4096 .bf16) (w : Vec Ideal S8x512x512 .f32) (y : S8x512x512.Idx)

/-- A point in the middle adds its product to the running sum. -/
theorem middle_at (c0 : ¬cond0_0 i) (c1 : ¬cond0_1 i) :
    sout0_B_0 c i a2 h2 a3 h3 a4 h4 a5 h5 c0 c1 x z w y = w y + part x z y := by
  frame_out
  exact stores_at x z w [] y

/-- So does the last point. -/
theorem last_at (c0 : ¬cond0_0 i) (c1 : cond0_1 i) :
    sout0_C_0 c i a2 h2 a3 h3 a4 h4 a5 h5 c0 c1 x z w y = w y + part x z y := by
  frame_out
  exact stores_at x z w [] y

/-- The running sum read whole. -/
theorem read_whole {sp : Space} (v : View sig .tc sp S8x512x512 .f32) (L : List (View.Piece (Elt Ideal) S8x512x512 .f32)) (inb) :
    v.readCov L (Rect.unit (s := S8x512x512) ![0, 0, 0] S8x512x512.size inb).toLoadRect = View.canon L := by
  rw [View.readCov_eq_canon']
  funext u
  exact congrArg (View.canon L) (funext fun a => Fin.ext ((Rect.idx_unit_val _ _ inb u a).trans (by fin_cases a <;> exact zero_add _)))

theorem pay2_at (v : Vec Ideal S8x512x512 .f32) : k0_pay2 v y = v y := rfl

/-- The last point also stores the running sum. -/
theorem store_at (c0 : ¬cond0_0 i) (c1 : cond0_1 i) :
    out0_C_2 c i a2 h2 a3 h3 a4 h4 a5 h5 c0 c1 x z w y = w y + part x z y := by
  frame_out
  rw [pay2_at, read_whole]
  exact stores_at x z w [] y

/-- A running sum of zeros, which the first point starts from. -/
def zeros : Vec Ideal S8x512x512 .f32 := fun _ => (0 : EReal)

theorem fill : k0_pay3 (F := Ideal) = zeros := by
  funext u
  show k0_pay3 (F := Ideal) u = (0 : EReal)
  unfold k0_pay3
  pointwise

/-- The first point starts the running sum at zero. -/
theorem first_at (c0 : cond0_0 i) (c1 : ¬cond0_1 i) :
    sout0_A_0 c i a2 h2 a3 h3 a4 h4 a5 h5 c0 c1 x z y = part x z y := by
  frame_open
  simp (disch := decide) only [↓ View.readCov_skip, ↓ View.readCov_cons_toLoadRect, ↓ View.readCov_fill]
  frame_out
  rw [fill]
  exact (stores_at x z zeros [_] y).trans (zero_add _)

/-- What the running sum holds after a point, from what it held before. -/
theorem scratch_first (m : (ℓ : Loc nD τ sig) → Buf (Elt Ideal) ℓ) (c : Dev nD) (t : Fin cfg0.N) (h : t.val % 8 = 0) (y : S8x512x512.Idx) :
    (outsAt0 m c t.val t.isLt).2 y = part (iblk m c 0 t) (iblk m c 1 t) y := by
  rw [outsAt0_A m c t h (by omega)]
  dsimp only
  rw [first_at]

theorem scratch_next (m : (ℓ : Loc nD τ sig) → Buf (Elt Ideal) ℓ) (c : Dev nD) (t : Fin cfg0.N) (h : ¬t.val % 8 = 0) (y : S8x512x512.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 8 = 7
  · rw [outsAt0_C m c t h h1]
    dsimp only
    rw [last_at]
  · rw [outsAt0_B m c t h h1]
    dsimp only
    rw [middle_at]

/-- The last point's output is the running sum it leaves. -/
theorem stored (m : (ℓ : Loc nD τ sig) → Buf (Elt Ideal) ℓ) (c : Dev nD) (t : Fin cfg0.N) (h : t.val % 8 = 7) (y : S8x512x512.Idx) :
    (outsAt0 m c t.val t.isLt).1 y = (outsAt0 m c t.val t.isLt).2 y := by
  rw [outsAt0_C m c t (by omega) h]
  dsimp only
  rw [store_at, last_at]

/-- The last point of a run leaves the run's eight products summed. -/
theorem run_at (m : (ℓ : Loc nD τ sig) → Buf (Elt Ideal) ℓ) (c : Dev nD) (t : Fin cfg0.N) (h : t.val % 8 = 7) (y : S8x512x512.Idx) :
    (outsAt0 m c t.val t.isLt).1 y = ∑ s : Fin 8, part (iblk m c 0 ⟨8 * (t.val / 8) + s.val, Pipeline.run_point_lt_of_flush t h s⟩)
      (iblk m c 1 ⟨8 * (t.val / 8) + s.val, Pipeline.run_point_lt_of_flush t h s⟩) y := by
  refine (stored m c t h y).trans ?_
  exact (Pipeline.eq_sum_fin_of_reset_step_apply_of_flush (fun n h => (outsAt0 m c n h).2) 8 (fun _ => (0 : EReal))
    (fun t y => part (iblk m c 0 t) (iblk m c 1 t) y)
    (fun t h y => (scratch_first m c t h y).trans (zero_add _).symm) (fun t h y => scratch_next m c t h y) t h y).trans (zero_add _)

end Cert.KernelDwinIdeal.Value
-- ==== Proof.DwinOut.lean ====
/-
  The weight gradient of the mixer's input projection over the extended reals: the call's result and the reference's,
  entry by entry.
-/
module

public import proofs.«01_k».proof.Proof.DwinVal
public import proofs.«01_k».proof.Proof.Gen.ReferenceDwinIdeal.Run

@[expose] public section

set_option maxRecDepth 16384

noncomputable section

namespace Cert.KernelDwinIdeal.Value

open Cert.KernelDwinIdeal Cert.KernelDwinIdeal.Gen
open Idealize.ShloMosaic Idealize.ShloMosaic.TcCoe
open scoped BigOperators

/-- Point `t` takes the rows from `1024 (t % 8)` of both arguments, and the columns from `512 (t / 8)` of the first. -/
theorem idx0 : ∀ t : Fin cfg0.N, win0_0.index t (0 : Fin 2) = t.val % 8 ∧ win0_0.index t (1 : Fin 2) = t.val / 8 :=
  (by decide +kernel : ∀ t : Fin grid0.N, _)

theorem idx1 : ∀ t : Fin cfg0.N, win0_1.index t (0 : Fin 2) = t.val % 8 ∧ win0_1.index t (1 : Fin 2) = 0 :=
  (by decide +kernel : ∀ t : Fin grid0.N, _)

theorem block0 (m : (ℓ : Loc nD τ sig) → Buf (Elt Ideal) ℓ) (c : Dev nD) (t : Fin cfg0.N) (k : Fin 1024) (j : Fin 512) (r : Fin 8192)
    (q : Fin 1024) (h : r.val = t.val % 8 * 1024 + k.val) (hq : q.val = t.val / 8 * 512 + j.val) :
    (iblk m c 0 t : Vec Ideal S1024x512 .bf16) (ix2 k j) = (m ((c.tc : Thread nD τ).loc main_arg0) : FVec Ideal S8192x1024 .bf16) (ix2 r q) := by
  blk_ext! [iblk, V, idx0 t]

theorem block1 (m : (ℓ : Loc nD τ sig) → Buf (Elt Ideal) ℓ) (c : Dev nD) (t : Fin cfg0.N) (k : Fin 1024) (j : Fin 4096) (r : Fin 8192)
    (h : r.val = t.val % 8 * 1024 + k.val) :
    (iblk m c 1 t : Vec Ideal S1024x4096 .bf16) (ix2 k j) = (m ((c.tc : Thread nD τ).loc main_arg1) : FVec Ideal S8192x4096 .bf16) (ix2 r j) := by
  blk_ext! [iblk, V, idx1 t]

/-- The product of the two arguments over all 8192 rows, its columns in eight stacked blocks. -/
def gDw (A : FVec Ideal S8192x1024 .bf16) (B : FVec Ideal S8192x4096 .bf16) : FVec Ideal S8x1024x512 .bf16 :=
  fun y => ∑ r : Fin 8192, A (ix2 r (y 1)) * B (ix2 r ⟨_, col_lt (y 0) (y 2)⟩)

/-- The call returns it. -/
theorem result (m : (ℓ : Loc nD τ sig) → Buf (Elt Ideal) ℓ) (c : Dev nD) :
    G2 m c = gDw (m ((c.tc : Thread nD τ).loc main_arg0)) (m ((c.tc : Thread nD τ).loc main_arg1)) := by
  funext y
  have h0 : (y 0).val < 8 := (y 0).isLt
  have h1 : (y 1).val < 1024 := (y 1).isLt
  have h2 : (y 2).val < 512 := (y 2).isLt
  have hp : pt2Of y = 8 * ((y 1).val / 512) + 7 := by
    show 8 * (2 * ((y 0).val / 8 - 0) + 1 * ((y 1).val / 512 - 0) + 1 * ((y 2).val / 512 - 0)) + 7 = _
    omega
  have hN : pt2Of y < cfg0.N := lt_of_lt_of_eq (by omega) N_0.symm
  unfold G2
  rw [dif_pos hN, ← outsAt0_sweep m c _ hN]
  refine (run_at m c ⟨pt2Of y, hN⟩ (by show pt2Of y % 8 = 7; omega) (loc2Of y)).trans ?_
  unfold part gDw
  refine Fin.sum_mul_add_congr fun s k h => ?_
  have hs : s.val < 8 := s.isLt
  congr 1
  · exact block0 m c _ k _ ⟨_, h⟩ (y 1) (by show s.val * 1024 + k.val = (8 * (pt2Of y / 8) + s.val) % 8 * 1024 + k.val; omega)
      (by show (y 1).val = (8 * (pt2Of y / 8) + s.val) / 8 * 512 + (y 1).val % 512; omega)
  · refine (block1 m c _ k _ ⟨_, h⟩ (by show s.val * 1024 + k.val = (8 * (pt2Of y / 8) + s.val) % 8 * 1024 + k.val; omega)).trans ?_
    refine congrArg (fun a => (m ((c.tc : Thread nD τ).loc main_arg1) : FVec Ideal S8192x4096 .bf16) (ix2 ⟨_, h⟩ a)) (Fin.ext ?_)
    show (y 0).val % 8 * 512 + (y 2).val % 512 = (y 0).val * 512 + (y 2).val
    omega

end Cert.KernelDwinIdeal.Value

namespace Cert.ReferenceDwinIdeal.Value

open Cert.ReferenceDwinIdeal Cert.ReferenceDwinIdeal.Gen
open Idealize.ShloMosaic Idealize.ShloMosaic.TcCoe
open scoped BigOperators

/-- So does the reference. -/
theorem out (A : FVec Ideal S8192x1024 .bf16) (B : FVec Ideal S8192x4096 .bf16) :
    truncf .bf16 (transpose S8x1024x512 [1, 0, 2] (shapeCast _ (transpose S1024x4096 [1, 0] (Host.dotGeneral dot_S8192x4096_S8192x1024_S4096x1024_0_0_1_1_n_n none (extf .f32 B bitsLt_bf16_f32) (extf .f32 A bitsLt_bf16_f32))
      transposes_S4096x1024_S1024x4096_1_0) shapeCasts_S1024x4096_S1024x8x512) transposes_S1024x8x512_S8x1024x512_1_0_2) bitsLt_bf16_f32
      = Cert.KernelDwinIdeal.Value.gDw A B := by
  funext y
  unfold Cert.KernelDwinIdeal.Value.gDw
  pointwise
  exact Finset.sum_congr rfl fun r _ => mul_comm _ _

end Cert.ReferenceDwinIdeal.Value
-- ==== Proof.NormSpec.lean ====
/-
  The root mean square norm of a row over the extended reals.
-/
module

public import Idealize.ShloMosaic.Lib.Pointwise
public import Idealize.ShloMosaic.Lib.Claim

@[expose] public section

noncomputable section

namespace Cert.Norm

open Idealize.ShloMosaic
open scoped BigOperators

/-- A sum of products, at equal factors. -/
theorem sum_mul_congr {n : ℕ} {f f' g g' : Fin n → EReal} (hf : ∀ k, f k = f' k) (hg : ∀ k, g k = g' k) :
    ∑ k, f k * g k = ∑ k, f' k * g' k :=
  Finset.sum_congr rfl fun k _ => congrArg₂ (· * ·) (hf k) (hg k)

/-- The 1024 columns of a row as the programs write them, and the small number added to the mean. -/
def cols : EReal := Ideal.ofBits FTy.f32 1149239296#32
def eps : EReal := Ideal.ofBits FTy.f32 897988541#32

/-- The mean of the squares, with the small number added. -/
def msq (x : Fin 1024 → EReal) : EReal := Ideal.div (∑ j, x j * x j) cols + eps

/-- What a row is multiplied by. -/
def inv (x : Fin 1024 → EReal) : EReal := Ideal.rsqrt (msq x)

/-- The norm of a row at a column. -/
def normed (x g : Fin 1024 → EReal) (j : Fin 1024) : EReal := x j * inv x * g j

theorem normed_congr {x x' g g' : Fin 1024 → EReal} {j j' : Fin 1024} (hx : ∀ k, x k = x' k) (hg : ∀ k, g k = g' k) (hj : j = j') :
    normed x g j = normed x' g' j' := by
  rw [funext hx, funext hg, hj]

/-! ## The derivative -/

/-- The factor of the derivative of the inverse root, as the reference writes it. -/
def half : EReal := Ideal.ofBits FTy.f32 3204448256#32

theorem cols_eq : cols = ((1024 : ℝ) : EReal) := by
  simp [cols, Ideal.ofBits, Ideal.ieee, -EReal.coe_mul]; norm_num

theorem half_eq : half = ((-(1 / 2) : ℝ) : EReal) := by
  simp [half, Ideal.ofBits, Ideal.ieee, -EReal.coe_mul]; norm_num

theorem eps_pos : ∃ e : ℝ, 0 < e ∧ eps = (e : EReal) := by
  refine ⟨(2 ^ 23 + 407485 : ℝ) * (2 : ℝ) ^ (-43 : ℤ), by positivity, ?_⟩
  simp [eps, Ideal.ofBits, Ideal.ieee, -EReal.coe_mul]; norm_num

theorem sq_nonneg (a : EReal) : 0 ≤ a * a := by
  rcases le_total 0 a with h | h
  · exact mul_nonneg h h
  · exact (neg_mul_neg a a) ▸ mul_nonneg (EReal.neg_nonneg.mpr h) (EReal.neg_nonneg.mpr h)

/-- The mean of the squares is positive: a real number, or infinite. -/
theorem msq_cases (x : Fin 1024 → EReal) : msq x = ⊤ ∨ ∃ v : ℝ, 0 < v ∧ msq x = (v : EReal) := by
  obtain ⟨e, he, hee⟩ := eps_pos
  have h : 0 ≤ ∑ j, x j * x j := Finset.sum_nonneg fun j _ => sq_nonneg (x j)
  unfold msq
  rw [cols_eq, hee, Ideal.div_coe (by norm_num)]
  generalize ∑ j, x j * x j = S at h
  induction S with
  | bot => exact absurd h (by simp)
  | top => left; rw [EReal.top_mul_coe_of_pos (by norm_num), EReal.top_add_coe]
  | coe s =>
    right
    have hs : 0 ≤ s := by exact_mod_cast h
    exact ⟨s * (1 / 1024) + e, by positivity, by norm_cast⟩

/-- The derivative of a row's norm, added to the gradient that comes past the norm, as the call computes it. -/
def back (res : EReal) (x g d : Fin 1024 → EReal) (j : Fin 1024) : EReal :=
  res + (inv x * (d j * g j) - x j * (inv x * inv x * inv x * Ideal.div (∑ k, d k * g k * x k) cols))

/-- The reference's factor of the row. -/
def slope (x g d : Fin 1024 → EReal) : EReal :=
  Ideal.div ((∑ k, x k * (d k * g k)) * (half * Ideal.div (inv x) (msq x))) cols

/-- Twice a product with a nonnegative real number. -/
theorem twice (a : ℝ) (ha : 0 ≤ a) (z : EReal) : -((a : EReal) * z) + -((a : EReal) * z) = -(((a + a : ℝ) : EReal) * z) := by
  have h : (0 : EReal) ≤ a := by exact_mod_cast ha
  rw [← mul_neg, ← EReal.right_distrib_of_nonneg h h, mul_neg, EReal.coe_add]

theorem back_congr {res res' : EReal} {x x' g g' d d' : Fin 1024 → EReal} {j j' : Fin 1024} (hr : res = res') (hx : ∀ k, x k = x' k)
    (hg : ∀ k, g k = g' k) (hd : ∀ k, d k = d' k) (hj : j = j') : back res x g d j = back res' x' g' d' j' := by
  rw [hr, funext hx, funext hg, funext hd, hj]

/-- The reference's derivative is the call's. -/
theorem back_eq (res : EReal) (x g d : Fin 1024 → EReal) (j : Fin 1024) :
    res + d j * g j * inv x + x j * slope x g d + slope x g d * x j = back res x g d j := by
  have hD : ∑ k, x k * (d k * g k) = ∑ k, d k * g k * x k := Finset.sum_congr rfl fun k _ => mul_comm _ _
  unfold back slope
  rw [hD, cols_eq, Ideal.div_coe (by norm_num), Ideal.div_coe (by norm_num), half_eq]
  generalize (∑ k, d k * g k * x k) = D
  rcases msq_cases x with h | ⟨v, hv, h⟩
  · have hi : inv x = 0 := by unfold inv; rw [h]; rfl
    have hd : Ideal.div (0 : EReal) ⊤ = 0 := by simp [Ideal.div]
    rw [hi, h, hd]
    simp
  · have hs : 0 < Real.sqrt v := Real.sqrt_pos.mpr hv
    have hi : inv x = (((Real.sqrt v)⁻¹ : ℝ) : EReal) := by
      unfold inv; rw [h, Ideal.rsqrt_coe, if_neg (not_lt.mpr hv.le), if_neg hv.ne']
    rw [hi, h, Ideal.div_coe hv.ne']
    set r := (Real.sqrt v)⁻¹ with hr
    have hrv : r * (1 / v) = r * r * r := by
      have : v = Real.sqrt v * Real.sqrt v := (Real.mul_self_sqrt hv.le).symm
      rw [hr]; field_simp; nlinarith [Real.mul_self_sqrt hv.le]
    have hr0 : 0 < r := inv_pos.mpr hs
    have e1 : x j * (D * (((-(1 / 2) : ℝ) : EReal) * ((r : EReal) * ((1 / v : ℝ) : EReal))) * ((1 / 1024 : ℝ) : EReal))
        = -(((r * r * r / 2048 : ℝ) : EReal) * (x j * D)) := by
      rw [← EReal.neg_mul, ← EReal.coe_neg]
      have : (-(r * r * r / 2048) : ℝ) = -(1 / 2) * (r * (1 / v)) * (1 / 1024) := by rw [hrv]; ring
      rw [this, EReal.coe_mul, EReal.coe_mul, EReal.coe_mul]
      ac_rfl
    have e2 : x j * ((r : EReal) * r * r * (D * ((1 / 1024 : ℝ) : EReal))) = ((r * r * r / 2048 + r * r * r / 2048 : ℝ) : EReal) * (x j * D) := by
      have : (r * r * r / 2048 + r * r * r / 2048 : ℝ) = r * r * r * (1 / 1024) := by ring
      rw [this, EReal.coe_mul, EReal.coe_mul, EReal.coe_mul]
      ac_rfl
    rw [mul_comm _ (x j), e1, e2, add_assoc, twice _ (by positivity), sub_eq_add_neg, ← add_assoc, mul_comm (d j * g j)]

end Cert.Norm

end
-- ==== Proof.DownOut.lean ====
/-
  The forward product with the residual added and the norm taken, over the extended reals: the call's results and the reference's, entry by entry.
-/
module

public import proofs.«01_k».proof.Proof.Gen.KernelDownIdeal.Value
public import proofs.«01_k».proof.Proof.Gen.ReferenceDownIdeal.Run
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDownIdeal.Value

open Cert.KernelDownIdeal Cert.KernelDownIdeal.Gen
open Idealize.ShloMosaic Idealize.ShloMosaic.TcCoe
open scoped BigOperators

/-- Point `t` takes the rows from `1024 t` of the activations, of the residual and of the results, and the whole weight and gain. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

/-- What a point computes, at an entry. -/
theorem pay1_at (x : Vec Ideal S1024x2048 .bf16) (w : Vec Ideal S1x2048x1024 .bf16) (b : Vec Ideal S1024x1024 .f32) (y : S1024x1024.Idx) :
    k0_pay1 x w b y = b (ix2 (y 0) (y 1)) + ∑ k : Fin 2048, x (ix2 (y 0) k) * w (ix3 0 k (y 1)) := by
  unfold k0_pay1
  pointwise

theorem pay2_at (x : Vec Ideal S1024x1024 .f32) (g : Vec Ideal S1x1024 .f32) (y : S1024x1024.Idx) :
    k0_pay2 x g y = Cert.Norm.normed (fun j => x (ix2 (y 0) j)) (fun j => g (ix2 0 j)) (y 1) := by
  unfold k0_pay2 Cert.Norm.normed Cert.Norm.inv Cert.Norm.msq Cert.Norm.cols Cert.Norm.eps
  pointwise

variable (c : Dev nD) (i : grid0.Coords) (a1 : Memref sig .tc .vmem S1024x2048 .bf16) (h1 : a1.IsWhole)
  (a2 : Memref sig .tc .vmem S1x2048x1024 .bf16) (h2 : a2.IsWhole) (a3 : Memref sig .tc .vmem S1024x1024 .f32) (h3 : a3.IsWhole)
  (a4 : Memref sig .tc .vmem S1x1024 .f32) (h4 : a4.IsWhole) (a5 : Memref sig .tc .vmem S1024x1024 .f32) (h5 : a5.IsWhole)
  (a6 : Memref sig .tc .vmem S1024x1024 .bf16) (h6 : a6.IsWhole)
  (x : Vec Ideal S1024x2048 .bf16) (w : Vec Ideal S1x2048x1024 .bf16) (b : Vec Ideal S1024x1024 .f32) (g : Vec Ideal S1x1024 .f32)

/-- The two results of a point. -/
theorem out4 : out0_A_4 c i a1 h1 a2 h2 a3 h3 a4 h4 a5 h5 a6 h6 x w b g = k0_pay1 x w b := by
  frame_out

theorem out5 : out0_A_5 c i a1 h1 a2 h2 a3 h3 a4 h4 a5 h5 a6 h6 x w b g = k0_pay2 (k0_pay1 x w b) g := by
  frame_open
  simp (disch := decide) only [↓ View.readCov_skip, ↓ View.readCov_cons_toLoadRect, ↓ View.readCov_fill]
  frame_out

/-- The residual plus the product, and its norm. -/
def gH (A : FVec Ideal S8192x2048 .bf16) (W : FVec Ideal S2048x1024 .f32) (B : FVec Ideal S8192x1024 .f32) : FVec Ideal S8192x1024 .f32 :=
  fun y => B (ix2 (y 0) (y 1)) + ∑ k : Fin 2048, A (ix2 (y 0) k) * W (ix2 k (y 1))

def gN (H : FVec Ideal S8192x1024 .f32) (G : FVec Ideal S1x1024 .f32) : FVec Ideal S8192x1024 .bf16 :=
  fun y => Cert.Norm.normed (fun j => H (ix2 (y 0) j)) (fun j => G (ix2 0 j)) (y 1)

section

variable (m : (ℓ : Loc nD τ sig) → Buf (Elt Ideal) ℓ) (c : Dev nD)

/-- A point's rows of the first result. -/
theorem row_at (t : Fin cfg0.N) (u : S1024x1024.Idx) (z : S8192x1024.Idx) (h0 : (z 0).val = t.val * 1024 + (u 0).val) (h1 : (z 1).val = (u 1).val) :
    k0_pay1 (iblk m c 0 t) (iblk m c 1 t) (iblk m c 2 t) u
      = gH (m ((c.tc : Thread nD τ).loc main_arg0)) (m ((c.tc : Thread nD τ).loc main_arg1)) (m ((c.tc : Thread nD τ).loc main_arg2)) z := by
  rw [pay1_at]
  unfold gH
  refine congrArg₂ (· + ·) ?_ (Cert.Norm.sum_mul_congr (fun k => ?_) fun k => ?_)
  · blk_ext! [iblk, V, idx t]
  · blk_ext! [iblk, V, idx t]
  · blk_ext! [iblk, V, idx t]

/-- The call returns them. -/
theorem result4 :
    (dats m 0 c).arrAt 4 cfg0.N = gH (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold outsAt0
  dsimp only
  rw [out4]
  refine row_at m c t y _ ?_ ?_
  · blk_simp [idx t]
  · blk_simp [idx t]

theorem result5 :
    (dats m 0 c).arrAt 5 cfg0.N = gN (gH (m ((c.tc : Thread nD τ).loc main_arg0)) (m ((c.tc : Thread nD τ).loc main_arg1)) (m ((c.tc : Thread nD τ).loc main_arg2)))
      (m ((c.tc : Thread nD τ).loc main_arg3)) := by
  refine (dats m 0 c).arrAt_eq_of_covers 5 _ (by decide +kernel) fun t hf y => ?_
  blk_simp
  rw [after0_5]
  unfold outsAt0
  dsimp only
  rw [out5, pay2_at]
  unfold gN
  refine Cert.Norm.normed_congr (fun j => ?_) (fun j => ?_) (Fin.ext ?_)
  · refine row_at m c t (ix2 (y 0) j) _ ?_ rfl
    show (((View.whole main_v2_1).slice (win0_5.rect t)).emb y 0).val = t.val * 1024 + (y 0).val
    blk_simp [idx t]
  · blk_ext! [iblk, V, idx t]
  · blk_simp [idx t]

end

end Cert.KernelDownIdeal.Value

namespace Cert.ReferenceDownIdeal.Value

open Cert.ReferenceDownIdeal Cert.ReferenceDownIdeal.Gen
open Idealize.ShloMosaic Idealize.ShloMosaic.TcCoe
open scoped BigOperators

/-- So does the reference. -/
theorem out_sum (A : FVec Ideal S8192x2048 .bf16) (W : FVec Ideal S2048x1024 .f32) (B : FVec Ideal S8192x1024 .f32) :
    addf B (Host.dotGeneral dot_S8192x2048_S2048x1024_S8192x1024_1_0_0_1_n_n none (extf .f32 A bitsLt_bf16_f32) W) = Cert.KernelDownIdeal.Value.gH A W B := by
  funext y
  unfold Cert.KernelDownIdeal.Value.gH
  pointwise

theorem out_norm (H : FVec Ideal S8192x1024 .f32) (G : FVec Ideal S1x1024 .f32) :
    truncf .bf16 (mulf (mulf H (broadcastInDim S8192x1024 ![0, 1] bcast_S8192x1_S8192x1024_0_1 (Host.rsqrt (addf (Host.divf
      (broadcastInDim S8192x1 ![0] bcast_S8192_S8192x1_0 (Host.reduceAdd (mulf H H) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 G)) bitsLt_bf16_f32 = Cert.KernelDownIdeal.Value.gN H G := by
  funext y
  unfold Cert.KernelDownIdeal.Value.gN Cert.Norm.normed Cert.Norm.inv Cert.Norm.msq Cert.Norm.cols Cert.Norm.eps
  pointwise

end Cert.ReferenceDownIdeal.Value

end
-- ==== Proof.FoOut.lean ====
/-
  The attention's output projection with the residual added and the norm taken, over the extended reals: the call's results and the reference's, entry by entry.
-/
module

public import proofs.«01_k».proof.Proof.Gen.KernelFoIdeal.Value
public import proofs.«01_k».proof.Proof.Gen.ReferenceFoIdeal.Run
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelFoIdeal.Value

open Cert.KernelFoIdeal Cert.KernelFoIdeal.Gen
open Idealize.ShloMosaic Idealize.ShloMosaic.TcCoe
open scoped BigOperators

/-- Point `t` takes the rows from `1024 t` of the activations, of the residual and of the results, and the whole weight and gain. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

/-- What a point computes, at an entry. -/
theorem pay1_at (x : Vec Ideal S1024x1024 .bf16) (w : Vec Ideal S1x1024x1024 .bf16) (b : Vec Ideal S1024x1024 .f32) (y : S1024x1024.Idx) :
    k0_pay1 x w b y = b (ix2 (y 0) (y 1)) + ∑ k : Fin 1024, x (ix2 (y 0) k) * w (ix3 0 k (y 1)) := by
  unfold k0_pay1
  pointwise

theorem pay2_at (x : Vec Ideal S1024x1024 .f32) (g : Vec Ideal S1x1024 .f32) (y : S1024x1024.Idx) :
    k0_pay2 x g y = Cert.Norm.normed (fun j => x (ix2 (y 0) j)) (fun j => g (ix2 0 j)) (y 1) := by
  unfold k0_pay2 Cert.Norm.normed Cert.Norm.inv Cert.Norm.msq Cert.Norm.cols Cert.Norm.eps
  pointwise

variable (c : Dev nD) (i : grid0.Coords) (a1 : Memref sig .tc .vmem S1024x1024 .bf16) (h1 : a1.IsWhole)
  (a2 : Memref sig .tc .vmem S1x1024x1024 .bf16) (h2 : a2.IsWhole) (a3 : Memref sig .tc .vmem S1024x1024 .f32) (h3 : a3.IsWhole)
  (a4 : Memref sig .tc .vmem S1x1024 .f32) (h4 : a4.IsWhole) (a5 : Memref sig .tc .vmem S1024x1024 .f32) (h5 : a5.IsWhole)
  (a6 : Memref sig .tc .vmem S1024x1024 .bf16) (h6 : a6.IsWhole)
  (x : Vec Ideal S1024x1024 .bf16) (w : Vec Ideal S1x1024x1024 .bf16) (b : Vec Ideal S1024x1024 .f32) (g : Vec Ideal S1x1024 .f32)

/-- The two results of a point. -/
theorem out4 : out0_A_4 c i a1 h1 a2 h2 a3 h3 a4 h4 a5 h5 a6 h6 x w b g = k0_pay1 x w b := by
  frame_out

theorem out5 : out0_A_5 c i a1 h1 a2 h2 a3 h3 a4 h4 a5 h5 a6 h6 x w b g = k0_pay2 (k0_pay1 x w b) g := by
  frame_open
  simp (disch := decide) only [↓ View.readCov_skip, ↓ View.readCov_cons_toLoadRect, ↓ View.readCov_fill]
  frame_out

/-- The residual plus the product, and its norm. -/
def gH (A : FVec Ideal S8192x1024 .bf16) (W : FVec Ideal S1024x1024 .f32) (B : FVec Ideal S8192x1024 .f32) : FVec Ideal S8192x1024 .f32 :=
  fun y => B (ix2 (y 0) (y 1)) + ∑ k : Fin 1024, A (ix2 (y 0) k) * W (ix2 k (y 1))

def gN (H : FVec Ideal S8192x1024 .f32) (G : FVec Ideal S1x1024 .f32) : FVec Ideal S8192x1024 .bf16 :=
  fun y => Cert.Norm.normed (fun j => H (ix2 (y 0) j)) (fun j => G (ix2 0 j)) (y 1)

section

variable (m : (ℓ : Loc nD τ sig) → Buf (Elt Ideal) ℓ) (c : Dev nD)

/-- A point's rows of the first result. -/
theorem row_at (t : Fin cfg0.N) (u : S1024x1024.Idx) (z : S8192x1024.Idx) (h0 : (z 0).val = t.val * 1024 + (u 0).val) (h1 : (z 1).val = (u 1).val) :
    k0_pay1 (iblk m c 0 t) (iblk m c 1 t) (iblk m c 2 t) u
      = gH (m ((c.tc : Thread nD τ).loc main_arg0)) (m ((c.tc : Thread nD τ).loc main_arg1)) (m ((c.tc : Thread nD τ).loc main_arg2)) z := by
  rw [pay1_at]
  unfold gH
  refine congrArg₂ (· + ·) ?_ (Cert.Norm.sum_mul_congr (fun k => ?_) fun k => ?_)
  · blk_ext! [iblk, V, idx t]
  · blk_ext! [iblk, V, idx t]
  · blk_ext! [iblk, V, idx t]

/-- The call returns them. -/
theorem result4 :
    (dats m 0 c).arrAt 4 cfg0.N = gH (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold outsAt0
  dsimp only
  rw [out4]
  refine row_at m c t y _ ?_ ?_
  · blk_simp [idx t]
  · blk_simp [idx t]

theorem result5 :
    (dats m 0 c).arrAt 5 cfg0.N = gN (gH (m ((c.tc : Thread nD τ).loc main_arg0)) (m ((c.tc : Thread nD τ).loc main_arg1)) (m ((c.tc : Thread nD τ).loc main_arg2)))
      (m ((c.tc : Thread nD τ).loc main_arg3)) := by
  refine (dats m 0 c).arrAt_eq_of_covers 5 _ (by decide +kernel) fun t hf y => ?_
  blk_simp
  rw [after0_5]
  unfold outsAt0
  dsimp only
  rw [out5, pay2_at]
  unfold gN
  refine Cert.Norm.normed_congr (fun j => ?_) (fun j => ?_) (Fin.ext ?_)
  · refine row_at m c t (ix2 (y 0) j) _ ?_ rfl
    show (((View.whole main_v2_1).slice (win0_5.rect t)).emb y 0).val = t.val * 1024 + (y 0).val
    blk_simp [idx t]
  · blk_ext! [iblk, V, idx t]
  · blk_simp [idx t]

end

end Cert.KernelFoIdeal.Value

namespace Cert.ReferenceFoIdeal.Value

open Cert.ReferenceFoIdeal Cert.ReferenceFoIdeal.Gen
open Idealize.ShloMosaic Idealize.ShloMosaic.TcCoe
open scoped BigOperators

/-- So does the reference. -/
theorem out_sum (A : FVec Ideal S8192x1024 .bf16) (W : FVec Ideal S1024x1024 .f32) (B : FVec Ideal S8192x1024 .f32) :
    addf B (Host.dotGeneral dot_S8192x1024_S1024x1024_S8192x1024_1_0_0_1_n_n none (extf .f32 A bitsLt_bf16_f32) W) = Cert.KernelFoIdeal.Value.gH A W B := by
  funext y
  unfold Cert.KernelFoIdeal.Value.gH
  pointwise

theorem out_norm (H : FVec Ideal S8192x1024 .f32) (G : FVec Ideal S1x1024 .f32) :
    truncf .bf16 (mulf (mulf H (broadcastInDim S8192x1024 ![0, 1] bcast_S8192x1_S8192x1024_0_1 (Host.rsqrt (addf (Host.divf
      (broadcastInDim S8192x1 ![0] bcast_S8192_S8192x1_0 (Host.reduceAdd (mulf H H) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 G)) bitsLt_bf16_f32 = Cert.KernelFoIdeal.Value.gN H G := by
  funext y
  unfold Cert.KernelFoIdeal.Value.gN Cert.Norm.normed Cert.Norm.inv Cert.Norm.msq Cert.Norm.cols Cert.Norm.eps
  pointwise

end Cert.ReferenceFoIdeal.Value

end
-- ==== Proof.LastOut.lean ====
/-
  The forward product with the residual added, over the extended reals: the call's result and the reference's, entry by entry.
-/
module

public import proofs.«01_k».proof.Proof.Gen.KernelLastIdeal.Value
public import proofs.«01_k».proof.Proof.Gen.ReferenceLastIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelLastIdeal.Value

open Cert.KernelLastIdeal Cert.KernelLastIdeal.Gen
open Idealize.ShloMosaic Idealize.ShloMosaic.TcCoe
open scoped BigOperators

/-- Point `t` takes the rows from `1024 t` of the activations, of the residual and of the result, and the whole weight. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The residual plus the product. -/
def gH (A : FVec Ideal S8192x2048 .bf16) (W : FVec Ideal S2048x1024 .f32) (B : FVec Ideal S8192x1024 .f32) : FVec Ideal S8192x1024 .f32 :=
  fun y => B (ix2 (y 0) (y 1)) + ∑ k : Fin 2048, A (ix2 (y 0) k) * W (ix2 k (y 1))

/-- What a point computes, at an entry. -/
theorem pay_at (x : Vec Ideal S1024x2048 .bf16) (w : Vec Ideal S1x2048x1024 .bf16) (b : Vec Ideal S1024x1024 .f32) (y : S1024x1024.Idx) :
    out0_3 x w b y = b (ix2 (y 0) (y 1)) + ∑ k : Fin 2048, x (ix2 (y 0) k) * w (ix3 0 k (y 1)) := by
  frame_out
  unfold k0_pay1
  pointwise

/-- The call returns it. -/
theorem result (m : (ℓ : Loc nD τ sig) → Buf (Elt Ideal) ℓ) (c : Dev nD) :
    (dats m 0 c).arrAt 3 cfg0.N = gH (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, pay_at]
  unfold gH
  refine congrArg₂ (· + ·) ?_ (Finset.sum_congr rfl fun k _ => congrArg₂ (· * ·) ?_ ?_)
  · blk_ext! [iblk, V, idx t]
  · blk_ext! [iblk, V, idx t]
  · blk_ext! [iblk, V, idx t]

end Cert.KernelLastIdeal.Value

namespace Cert.ReferenceLastIdeal.Value

open Cert.ReferenceLastIdeal Cert.ReferenceLastIdeal.Gen
open Idealize.ShloMosaic Idealize.ShloMosaic.TcCoe
open scoped BigOperators

/-- So does the reference. -/
theorem out (A : FVec Ideal S8192x2048 .bf16) (W : FVec Ideal S2048x1024 .f32) (B : FVec Ideal S8192x1024 .f32) :
    addf B (Host.dotGeneral dot_S8192x2048_S2048x1024_S8192x1024_1_0_0_1_n_n none (extf .f32 A bitsLt_bf16_f32) W) = Cert.KernelLastIdeal.Value.gH A W B := by
  funext y
  unfold Cert.KernelLastIdeal.Value.gH
  pointwise

end Cert.ReferenceLastIdeal.Value

end
-- ==== Proof.DoOut.lean ====
/-
  The gradient of the attention's output projection with respect to its input, over the extended reals: the call's result and the reference's, entry by entry.
-/
module

public import proofs.«01_k».proof.Proof.Gen.KernelDoIdeal.Value
public import proofs.«01_k».proof.Proof.Gen.ReferenceDoIdeal.Run
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

namespace Cert.KernelDoIdeal.Value

open Cert.KernelDoIdeal Cert.KernelDoIdeal.Gen
open Idealize.ShloMosaic Idealize.ShloMosaic.TcCoe
open scoped BigOperators

/-- Point `t` takes the rows from `512 t` of the gradient and of the result, and the whole weight. -/
theorem idx : ∀ t : Fin cfg0.N, win0_0.index t = ![t.val, 0] ∧ win0_1.index t = ![0, 0] ∧ win0_2.index t = ![t.val, 0] :=
  (by decide +kernel : ∀ t : Fin grid0.N, _)

/-- The product with the transposed weight. -/
def gO (A : FVec Ideal S8192x1024 .f32) (W : FVec Ideal S1024x1024 .f32) : FVec Ideal S8192x1024 .bf16 :=
  fun y => ∑ k : Fin 1024, A (ix2 (y 0) k) * W (ix2 (y 1) k)

/-- What a point computes, at an entry. -/
theorem pay_at (x : Vec Ideal S512x1024 .bf16) (w : Vec Ideal S1024x1024 .bf16) (y : S512x1024.Idx) :
    out0_2 x w y = ∑ k : Fin 1024, x (ix2 (y 0) k) * w (ix2 (y 1) k) := by
  frame_out
  unfold k0_pay1
  pointwise

/-- The call returns it. -/
theorem result (m : (ℓ : Loc nD τ sig) → Buf (Elt Ideal) ℓ) (c : Dev nD) :
    (dats m 0 c).arrAt 2 cfg0.N = gO (m ((c.tc : Thread nD τ).loc main_arg0)) (m ((c.tc : Thread nD τ).loc main_arg1)) := by
  refine (dats m 0 c).arrAt_eq_of_covers 2 _ (by decide +kernel) fun t hf y => ?_
  blk_simp
  rw [after0_2, pay_at]
  unfold gO
  refine Cert.Norm.sum_mul_congr (fun k => ?_) fun k => ?_
  · blk_ext! [iblk, V, idx t]
  · blk_ext! [iblk, V, idx t]

end Cert.KernelDoIdeal.Value

namespace Cert.ReferenceDoIdeal.Value

open Cert.ReferenceDoIdeal Cert.ReferenceDoIdeal.Gen
open Idealize.ShloMosaic Idealize.ShloMosaic.TcCoe
open scoped BigOperators

/-- So does the reference. -/
theorem out (A : FVec Ideal S8192x1024 .f32) (W : FVec Ideal S1024x1024 .f32) :
    truncf .bf16 (Host.dotGeneral dot_S8192x1024_S1024x1024_S8192x1024_1_1_0_0_n_n none A W) bitsLt_bf16_f32 = Cert.KernelDoIdeal.Value.gO A W := by
  funext y
  unfold Cert.KernelDoIdeal.Value.gO
  pointwise

end Cert.ReferenceDoIdeal.Value

end
-- ==== Proof.VOut.lean ====
/-
  The attention's values, transposed, over the extended reals: the call's result and the reference's, entry by entry.
-/
module

public import proofs.«01_k».proof.Proof.Gen.KernelVIdeal.Value
public import proofs.«01_k».proof.Proof.Gen.ReferenceVIdeal.Run
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

namespace Cert.KernelVIdeal.Value

open Cert.KernelVIdeal Cert.KernelVIdeal.Gen
open Idealize.ShloMosaic Idealize.ShloMosaic.TcCoe
open scoped BigOperators

/-- Point `t` takes the rows from `1024 t` of the activations, the same columns of the result, and the whole weight. -/
theorem idx : ∀ t : Fin cfg0.N, win0_0.index t = ![t.val, 0] ∧ win0_1.index t = ![0, 0] ∧ win0_2.index t = ![0, t.val] :=
  (by decide +kernel : ∀ t : Fin grid0.N, _)

/-- The product, transposed. -/
def gV (A : FVec Ideal S8192x1024 .bf16) (W : FVec Ideal S1024x1024 .f32) : FVec Ideal S1024x8192 .bf16 :=
  fun y => ∑ k : Fin 1024, W (ix2 k (y 0)) * A (ix2 (y 1) k)

/-- What a point computes, at an entry. -/
theorem pay_at (x : Vec Ideal S1024x1024 .bf16) (w : Vec Ideal S1024x1024 .bf16) (y : S1024x1024.Idx) :
    out0_2 x w y = ∑ k : Fin 1024, w (ix2 (y 0) k) * x (ix2 (y 1) k) := by
  frame_out
  unfold k0_pay1
  pointwise

/-- The call returns it. -/
theorem result (m : (ℓ : Loc nD τ sig) → Buf (Elt Ideal) ℓ) (c : Dev nD) :
    (dats m 0 c).arrAt 2 cfg0.N = gV (m ((c.tc : Thread nD τ).loc main_arg0)) (m ((c.tc : Thread nD τ).loc main_arg1)) := by
  refine (dats m 0 c).arrAt_eq_of_covers 2 _ (by decide +kernel) fun t hf y => ?_
  blk_simp
  rw [after0_2, pay_at]
  unfold gV
  refine Cert.Norm.sum_mul_congr (fun k => ?_) fun k => ?_
  · blk_ext! [iblk, V, idx t]
  · blk_ext! [iblk, V, idx t]

end Cert.KernelVIdeal.Value

namespace Cert.ReferenceVIdeal.Value

open Cert.ReferenceVIdeal Cert.ReferenceVIdeal.Gen
open Idealize.ShloMosaic Idealize.ShloMosaic.TcCoe
open scoped BigOperators

/-- So does the reference. -/
theorem out (A : FVec Ideal S8192x1024 .bf16) (W : FVec Ideal S1024x1024 .f32) :
    truncf .bf16 (transpose S1024x8192 [1, 0] (Host.dotGeneral dot_S8192x1024_S1024x1024_S8192x1024_1_0_0_1_n_n none (extf .f32 A bitsLt_bf16_f32) W)
      transposes_S8192x1024_S1024x8192_1_0) bitsLt_bf16_f32 = Cert.KernelVIdeal.Value.gV A W := by
  funext y
  unfold Cert.KernelVIdeal.Value.gV
  pointwise
  exact Finset.sum_congr rfl fun k _ => mul_comm _ _

end Cert.ReferenceVIdeal.Value

end
-- ==== Proof.DqkvOut.lean ====
/-
  The gradient through the attention's query, key and value projections and through the norm before them, over the extended reals: the call's results and the reference's, entry by entry.
-/
module

public import proofs.«01_k».proof.Proof.Gen.KernelDqkvIdeal.Value
public import proofs.«01_k».proof.Proof.Gen.ReferenceDqkvIdeal.Run
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDqkvIdeal.Value

open Cert.KernelDqkvIdeal Cert.KernelDqkvIdeal.Gen
open Idealize.ShloMosaic Idealize.ShloMosaic.TcCoe
open scoped BigOperators

theorem pay5_at (x4 : Vec Ideal S512x1024 .f32) (q k v : Vec Ideal S512x1024 .bf16) (wq wk wv : Vec Ideal S1024x1024 .bf16) (y : S512x1024.Idx) :
    k0_pay5 x4 q wq k wk v wv y = ((x4 (ix2 (y 0) (y 1)) + ∑ e : Fin 1024, q (ix2 (y 0) e) * wq (ix2 (y 1) e))
      + ∑ e : Fin 1024, k (ix2 (y 0) e) * wk (ix2 (y 1) e)) + ∑ e : Fin 1024, v (ix2 (y 0) e) * wv (ix2 (y 1) e) := by
  unfold k0_pay5
  pointwise

theorem pay1_at (x4 : Vec Ideal S512x1024 .f32) (q k v : Vec Ideal S512x1024 .bf16) (wq wk wv : Vec Ideal S1024x1024 .bf16)
    (x r : Vec Ideal S512x1024 .f32) (g : Vec Ideal S1x1024 .f32) (y : S512x1024.Idx) :
    k0_pay1 x (k0_pay6 x) (k0_pay7 x4 q wq k wk v wv g) (k0_pay8 x4 q wq k wk v wv x g) r y
      = Cert.Norm.back (r (ix2 (y 0) (y 1))) (fun j => x (ix2 (y 0) j)) (fun j => g (ix2 0 j)) (fun j => k0_pay5 x4 q wq k wk v wv (ix2 (y 0) j)) (y 1) := by
  unfold k0_pay1 k0_pay8 k0_pay7 k0_pay6 Cert.Norm.back Cert.Norm.inv Cert.Norm.msq Cert.Norm.cols Cert.Norm.eps
  generalize k0_pay5 x4 q wq k wk v wv = d
  pointwise

theorem pay3_at (d x : Vec Ideal S512x1024 .f32) (y : S1x1024.Idx) :
    k0_pay3 d x (k0_pay6 x) y = ∑ e : Fin 512, d (ix2 e (y 1)) * (x (ix2 e (y 1)) * Cert.Norm.inv (fun j => x (ix2 e j))) := by
  unfold k0_pay3 k0_pay6 Cert.Norm.inv Cert.Norm.msq Cert.Norm.cols Cert.Norm.eps
  pointwise

variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S512x1024 .bf16) (h3 : a3.IsWhole)
  (a4 : Memref sig .tc .vmem S1024x3072 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .f32) (h9 : a9.IsWhole)
  (a10 : Memref sig .tc .vmem S512x1024 .bf16) (h10 : a10.IsWhole) (a11 : Memref sig .tc .vmem S1x1024 .f32) (h11 : a11.IsWhole)
  (q k v : Vec Ideal S512x1024 .bf16) (w : Vec Ideal S1024x3072 .bf16) (x4 x : Vec Ideal S512x1024 .f32) (g : Vec Ideal S1x1024 .f32) (r : Vec Ideal S512x1024 .f32)

/-- The gradient that reaches the norm's result, at a point. -/
def acc : FVec Ideal S512x1024 .f32 :=
  k0_pay5 x4 q (View.ld w (Rect.unit ![0, 0] ![1024, 1024] inb_S1024x3072_S1024x1024_0_0)) k
    (View.ld w (Rect.unit ![0, 1024] ![1024, 1024] inb_S1024x3072_S1024x1024_0_1024)) v
    (View.ld w (Rect.unit ![0, 2048] ![1024, 1024] inb_S1024x3072_S1024x1024_0_2048))

/-- A point's rows of the first two results. -/
def rows : FVec Ideal S512x1024 .f32 := fun y =>
  Cert.Norm.back (r (ix2 (y 0) (y 1))) (fun j => x (ix2 (y 0) j)) (fun j => g (ix2 0 j)) (fun j => acc q k v w x4 (ix2 (y 0) j)) (y 1)

theorem outA_8 (hA : cond0_0 i) (hB : ¬cond0_1 i) :
    out0_A_8 c i a1 h1 a2 h2 a3 h3 a4 h4 a5 h5 a6 h6 a7 h7 a8 h8 a9 h9 a10 h10 a11 h11 hA hB q k v w x4 x g r = rows q k v w x4 x g r := by
  refine Eq.trans ?_ (funext fun y => pay1_at x4 q k v _ _ _ x r g y)
  frame_out

theorem outA_9 (hA : cond0_0 i) (hB : ¬cond0_1 i) :
    out0_A_9 c i a1 h1 a2 h2 a3 h3 a4 h4 a5 h5 a6 h6 a7 h7 a8 h8 a9 h9 a10 h10 a11 h11 hA hB q k v w x4 x g r = rows q k v w x4 x g r := by
  refine Eq.trans ?_ (funext fun y => pay1_at x4 q k v _ _ _ x r g y)
  refine Eq.trans (b := k0_pay2 x (k0_pay6 x) (k0_pay7 x4 q _ k _ v _ g) (k0_pay8 x4 q _ k _ v _ x g) r) ?_ rfl
  frame_out

theorem outB_8 (p : Vec Ideal S1x1024 .f32) (hA : ¬cond0_0 i) (hB : cond0_1 i) :
    out0_B_8 c i a1 h1 a2 h2 a3 h3 a4 h4 a5 h5 a6 h6 a7 h7 a8 h8 a9 h9 a10 h10 a11 h11 hA hB q k v w x4 x g r p = rows q k v w x4 x g r := by
  refine Eq.trans ?_ (funext fun y => pay1_at x4 q k v _ _ _ x r g y)
  frame_out

theorem outB_9 (p : Vec Ideal S1x1024 .f32) (hA : ¬cond0_0 i) (hB : cond0_1 i) :
    out0_B_9 c i a1 h1 a2 h2 a3 h3 a4 h4 a5 h5 a6 h6 a7 h7 a8 h8 a9 h9 a10 h10 a11 h11 hA hB q k v w x4 x g r p = rows q k v w x4 x g r := by
  refine Eq.trans ?_ (funext fun y => pay1_at x4 q k v _ _ _ x r g y)
  refine Eq.trans (b := k0_pay2 x (k0_pay6 x) (k0_pay7 x4 q _ k _ v _ g) (k0_pay8 x4 q _ k _ v _ x g) r) ?_ rfl
  frame_out

theorem outA_10 (hA : cond0_0 i) (hB : ¬cond0_1 i) :
    out0_A_10 c i a1 h1 a2 h2 a3 h3 a4 h4 a5 h5 a6 h6 a7 h7 a8 h8 a9 h9 a10 h10 a11 h11 hA hB q k v w x4 x g r = k0_pay3 (acc q k v w x4) x (k0_pay6 x) := by
  unfold acc
  frame_out

theorem outB_10 (p : Vec Ideal S1x1024 .f32) (hA : ¬cond0_0 i) (hB : cond0_1 i) :
    out0_B_10 c i a1 h1 a2 h2 a3 h3 a4 h4 a5 h5 a6 h6 a7 h7 a8 h8 a9 h9 a10 h10 a11 h11 hA hB q k v w x4 x g r p = k0_pay4 (acc q k v w x4) x (k0_pay6 x) p := by
  unfold acc
  frame_out

theorem pay4_at (d x : Vec Ideal S512x1024 .f32) (p : Vec Ideal S1x1024 .f32) (y : S1x1024.Idx) :
    k0_pay4 d x (k0_pay6 x) p y = p y + k0_pay3 d x (k0_pay6 x) y := by
  unfold k0_pay4
  pointwise

/-- The gradient that reaches the norm's result: the one from elsewhere plus the three products. -/
def gD (Q K V : FVec Ideal S8192x1024 .bf16) (W : FVec Ideal S1024x3072 .f32) (D : FVec Ideal S8192x1024 .f32) : FVec Ideal S8192x1024 .f32 := fun y =>
  ((D (ix2 (y 0) (y 1)) + ∑ e : Fin 1024, Q (ix2 (y 0) e) * W (ix2 (y 1) ⟨e, by omega⟩))
    + ∑ e : Fin 1024, K (ix2 (y 0) e) * W (ix2 (y 1) ⟨1024 + e, by omega⟩)) + ∑ e : Fin 1024, V (ix2 (y 0) e) * W (ix2 (y 1) ⟨2048 + e, by omega⟩)

/-- The gradient at the norm's argument. -/
def gX (A X R : FVec Ideal S8192x1024 .f32) (G : FVec Ideal S1x1024 .f32) : FVec Ideal S8192x1024 .f32 := fun y =>
  Cert.Norm.back (R (ix2 (y 0) (y 1))) (fun j => X (ix2 (y 0) j)) (fun j => G (ix2 0 j)) (fun j => A (ix2 (y 0) j)) (y 1)

/-- The gradient at the gain. -/
def gG (A X : FVec Ideal S8192x1024 .f32) : FVec Ideal S1x1024 .f32 := fun y =>
  ∑ t : Fin 8192, A (ix2 t (y 1)) * (X (ix2 t (y 1)) * Cert.Norm.inv (fun j => X (ix2 t j)))

section

variable (m : (ℓ : Loc nD τ sig) → Buf (Elt Ideal) ℓ) (c : Dev nD)

/-- Point `t` takes the rows from `512 t` of the operands and of the first two results, and the whole weight, gain and gradient of the gain. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![t.val, 0] ∧ win0_9.index t = ![t.val, 0] ∧ win0_10.index t = ![0, 0] :=
  (by decide +kernel : ∀ t : Fin grid0.N, _)

/-- The gradient reaching the norm's result, of the call's arguments. -/
abbrev argD : FVec Ideal S8192x1024 .f32 :=
  gD (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem acc_at (t : Fin cfg0.N) (u : S512x1024.Idx) (z : S8192x1024.Idx) (h0 : (z 0).val = t.val * 512 + (u 0).val) (h1 : (z 1).val = (u 1).val) :
    acc (iblk m c 0 t) (iblk m c 1 t) (iblk m c 2 t) (iblk m c 3 t) (iblk m c 4 t) u = argD m c z := by
  unfold acc
  rw [pay5_at]
  unfold argD gD
  refine congrArg₂ (· + ·) (congrArg₂ (· + ·) (congrArg₂ (· + ·) ?_ (Cert.Norm.sum_mul_congr (fun k => ?_) fun k => ?_))
    (Cert.Norm.sum_mul_congr (fun k => ?_) fun k => ?_)) (Cert.Norm.sum_mul_congr (fun k => ?_) fun k => ?_)
  · blk_ext! [iblk, V, idx t]
  · blk_ext! [iblk, V, idx t]
  · blk_ext! [iblk, V, idx t]
  · blk_ext! [iblk, V, idx t]
  · blk_ext! [iblk, V, idx t]
  · blk_ext! [iblk, V, idx t]
  · blk_ext! [iblk, V, idx t]

/-- What a point leaves of the first two results. -/
theorem left_8 (t : Fin cfg0.N) : (outsAt0 m c t.val t.isLt).1
    = rows (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h (by have := lt_of_lt_of_eq t.isLt N_0; omega)]
    dsimp only
    rw [outA_8]
  · rw [outsAt0_B m c t h (by omega)]
    dsimp only
    rw [outB_8]

theorem left_9 (t : Fin cfg0.N) : (outsAt0 m c t.val t.isLt).2.1
    = rows (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h (by have := lt_of_lt_of_eq t.isLt N_0; omega)]
    dsimp only
    rw [outA_9]
  · rw [outsAt0_B m c t h (by omega)]
    dsimp only
    rw [outB_9]

/-- A point's rows of the gradient at the norm's argument. -/
theorem rows_at (t : Fin cfg0.N) (u : S512x1024.Idx) (z : S8192x1024.Idx) (h0 : (z 0).val = t.val * 512 + (u 0).val) (h1 : (z 1).val = (u 1).val) :
    rows (iblk m c 0 t) (iblk m c 1 t) (iblk m c 2 t) (iblk m c 3 t) (iblk m c 4 t) (iblk m c 5 t) (iblk m c 6 t) (iblk m c 7 t) u
      = gX (argD m c) (m ((c.tc : Thread nD τ).loc main_arg5)) (m ((c.tc : Thread nD τ).loc main_arg7)) (m ((c.tc : Thread nD τ).loc main_arg6)) z := by
  unfold rows gX
  refine Cert.Norm.back_congr ?_ (fun j => ?_) (fun j => ?_) (fun j => acc_at m c t (ix2 (u 0) j) (ix2 (z 0) j) h0 rfl) (Fin.ext h1.symm)
  · blk_ext! [iblk, V, idx t]
  · blk_ext! [iblk, V, idx t]
  · blk_ext! [iblk, V, idx t]

/-- The call returns it twice, the second time to be rounded. -/
theorem result8 : (dats m 0 c).arrAt 8 cfg0.N
    = gX (argD m c) (m ((c.tc : Thread nD τ).loc main_arg5)) (m ((c.tc : Thread nD τ).loc main_arg7)) (m ((c.tc : Thread nD τ).loc main_arg6)) := by
  refine (dats m 0 c).arrAt_eq_of_covers 8 _ (by decide +kernel) fun t hf y => ?_
  blk_simp
  rw [after0_8, left_8]
  refine rows_at m c t y _ ?_ ?_
  · blk_simp [idx t]
  · blk_simp [idx t]

theorem result9 : (dats m 0 c).arrAt 9 cfg0.N
    = gX (argD m c) (m ((c.tc : Thread nD τ).loc main_arg5)) (m ((c.tc : Thread nD τ).loc main_arg7)) (m ((c.tc : Thread nD τ).loc main_arg6)) := by
  refine (dats m 0 c).arrAt_eq_of_covers 9 _ (by decide +kernel) fun t hf y => ?_
  blk_simp
  rw [after0_9, left_9]
  refine rows_at m c t y _ ?_ ?_
  · blk_simp [idx t]
  · blk_simp [idx t]

/-- A point's part of the gradient at the gain. -/
def part (t : Fin cfg0.N) (y : S1x1024.Idx) : EReal :=
  k0_pay3 (acc (iblk m c 0 t) (iblk m c 1 t) (iblk m c 2 t) (iblk m c 3 t) (iblk m c 4 t)) (iblk m c 5 t) (k0_pay6 (iblk m c 5 t)) y

theorem gain_first (t : Fin cfg0.N) (h : t.val % 16 = 0) (y : S1x1024.Idx) : (outsAt0 m c t.val t.isLt).2.2 y = part m c t y := by
  rw [outsAt0_A m c t h (by have := lt_of_lt_of_eq t.isLt N_0; omega)]
  dsimp only
  rw [outA_10]
  rfl

theorem gain_next (t : Fin cfg0.N) (h : ¬t.val % 16 = 0) (y : S1x1024.Idx) :
    (outsAt0 m c t.val t.isLt).2.2 y = (outsAt0 m c (t.val - 1) (Nat.lt_of_le_of_lt (Nat.sub_le _ _) t.isLt)).2.2 y + part m c t y := by
  rw [outsAt0_B m c t h (by omega)]
  dsimp only
  rw [outB_10]
  exact pay4_at ..

/-- The last point leaves all the points' parts summed. -/
theorem gain_last (t : Fin cfg0.N) (h : t.val + 1 = cfg0.N) (y : S1x1024.Idx) : (outsAt0 m c t.val t.isLt).2.2 y = ∑ p : Fin cfg0.N, part m c p y :=
  (Pipeline.eq_sum_fin_of_reset_step_apply_last (fun n h => (outsAt0 m c n h).2.2) 16 (fun _ => (0 : EReal)) (part m c)
    (fun t h y => (gain_first m c t h y).trans (zero_add _).symm) (gain_next m c) (le_of_eq N_0) t h y).trans (zero_add _)

/-- The parts sum over all the rows. -/
theorem parts (y : S1x1024.Idx) : ∑ p : Fin cfg0.N, part m c p y = gG (argD m c) (m ((c.tc : Thread nD τ).loc main_arg5)) y := by
  refine (Finset.sum_congr rfl fun p _ => pay3_at _ _ y).trans (Fin.sum_mul_add_congr (fun s k hl => ?_) (by rw [show cfg0.N = 16 from N_0]))
  refine congrArg₂ (· * ·) (acc_at m c s _ (ix2 ⟨s.val * 512 + k.val, hl⟩ (y 1)) rfl rfl) (congrArg₂ (· * ·) ?_ (congrArg Cert.Norm.inv (funext fun j => ?_)))
  · blk_ext! [iblk, V, idx s]
  · blk_ext! [iblk, V, idx s]

/-- The call returns the gradient at the gain. -/
theorem result10 : (dats m 0 c).arrAt 10 cfg0.N = gG (argD m c) (m ((c.tc : Thread nD τ).loc main_arg5)) := by
  refine (dats m 0 c).arrAt_eq_of_after_last 10 ⟨15, lt_of_lt_of_eq (by decide) N_0.symm⟩ (by decide +kernel) _ fun j => ?_
  rw [after0_10]
  blk_simp
  exact (gain_last m c ⟨15, lt_of_lt_of_eq (by decide) N_0.symm⟩ N_0.symm j).trans (parts m c j)

end

end Cert.KernelDqkvIdeal.Value

namespace Cert.ReferenceDqkvIdeal.Value

open Cert.ReferenceDqkvIdeal Cert.ReferenceDqkvIdeal.Gen
open Idealize.ShloMosaic Idealize.ShloMosaic.TcCoe
open scoped BigOperators

theorem out_sum (Q K V : FVec Ideal S8192x1024 .bf16) (W : FVec Ideal S1024x3072 .f32) (D : FVec Ideal S8192x1024 .f32) :
    addf D (Host.dotGeneral (φ₁ := .f32) dot_S8192x3072_S1024x3072_S8192x1024_1_1_0_0_n_n none (concatenate S8192x3072 1
      [⟨S8192x1024, ((extf .f32 Q bitsLt_bf16_f32) : (⟨S8192x1024, .f32⟩ : BufTy).Contents (Elt Ideal))⟩,
       ⟨S8192x1024, ((extf .f32 K bitsLt_bf16_f32) : (⟨S8192x1024, .f32⟩ : BufTy).Contents (Elt Ideal))⟩,
       ⟨S8192x1024, ((extf .f32 V bitsLt_bf16_f32) : (⟨S8192x1024, .f32⟩ : BufTy).Contents (Elt Ideal))⟩]
      concatenates_S8192x1024_S8192x1024_S8192x1024_S8192x3072_d1 : (⟨S8192x3072, .f32⟩ : BufTy).Contents (Elt Ideal)) W)
      = Cert.KernelDqkvIdeal.Value.gD Q K V W D := by
  funext y
  unfold Cert.KernelDqkvIdeal.Value.gD
  pointwise
  rw [add_assoc, add_assoc]
  refine congrArg (D y + ·) ?_
  refine (Fin.sum_univ_add (a := 1024) (b := 1024 + 1024) _).trans (congrArg₂ (· + ·) ?_ ((Fin.sum_univ_add (a := 1024) (b := 1024) _).trans (congrArg₂ (· + ·) ?_ ?_)))
  · refine Cert.Norm.sum_mul_congr (fun e => dif_pos e.isLt) fun e => rfl
  · refine Cert.Norm.sum_mul_congr (fun e => ?_) fun e => rfl
    refine (dif_neg (by simp)).trans ((dif_pos (by simp)).trans (congrArg (fun j => K (ix2 (y 0) j)) (Fin.ext (by simp))))
  · refine Cert.Norm.sum_mul_congr (fun e => ?_) fun e => congrArg (fun j => W (ix2 (y 1) j)) (Fin.ext (by simp; omega))
    refine (dif_neg (by simp)).trans ((dif_neg (by simp)).trans (congrArg (fun j => V (ix2 (y 0) j)) (Fin.ext (by simp))))

/-- A row's reciprocal root of the mean square, as the reference prints it. -/
abbrev rootOf (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The slope along the row, as the reference prints it. -/
abbrev slopeOf (A X : FVec Ideal S8192x1024 .f32) (G : FVec Ideal S1x1024 .f32) : FVec Ideal S8192x1024 .f32 :=
  broadcastInDim S8192x1024 ![0] bcast_S8192_S8192x1024_0 (Host.reduceAdd (Host.divf (mulf (shapeCast _ (Host.reduceAdd (mulf X (mulf A
    (broadcastInDim S8192x1024 ![0, 1] bcast_S1x1024_S8192x1024_0_1 G))) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (rootOf X)) (rootOf X))))
    (broadcastInDim S8192x1 ![] bcast_S_S8192x1 (constant S_ .f32 0x44800000#32))) (constant S_ .f32 0x00000000#32) reducesTo_S8192x1_S8192_d1 h_S_)

theorem slope_at (A X : FVec Ideal S8192x1024 .f32) (G : FVec Ideal S1x1024 .f32) (y : S8192x1024.Idx) :
    slopeOf A X G y = Cert.Norm.slope (fun j => X (ix2 (y 0) j)) (fun j => G (ix2 0 j)) (fun j => A (ix2 (y 0) j)) := by
  unfold slopeOf rootOf Cert.Norm.slope Cert.Norm.inv Cert.Norm.msq Cert.Norm.cols Cert.Norm.eps Cert.Norm.half
  pointwise
  exact Fin.sum_univ_one _

theorem out_x (A X R : FVec Ideal S8192x1024 .f32) (G : FVec Ideal S1x1024 .f32) :
    addf (addf (addf R (mulf (mulf A (broadcastInDim S8192x1024 ![0, 1] bcast_S1x1024_S8192x1024_0_1 G))
      (broadcastInDim S8192x1024 ![0, 1] bcast_S8192x1_S8192x1024_0_1 (Host.rsqrt (rootOf X))))) (mulf X (slopeOf A X G))) (mulf (slopeOf A X G) X)
      = Cert.KernelDqkvIdeal.Value.gX A X R G := by
  funext y
  refine Eq.trans ?_ (Cert.Norm.back_eq ..)
  refine congrArg₂ (· + ·) (congrArg₂ (· + ·) ?_ (congrArg₂ (· * ·) ?_ (slope_at A X G y))) (congrArg₂ (· * ·) (slope_at A X G y) ?_)
  · unfold rootOf Cert.Norm.inv Cert.Norm.msq Cert.Norm.cols Cert.Norm.eps
    pointwise
  · pointwise
  · pointwise

theorem out_g (A X : FVec Ideal S8192x1024 .f32) :
    shapeCast _ (Host.reduceAdd (mulf (mulf X (broadcastInDim S8192x1024 ![0, 1] bcast_S8192x1_S8192x1024_0_1 (Host.rsqrt (rootOf X)))) A)
      (constant S_ .f32 0x00000000#32) reducesTo_S8192x1024_S1024_d0 h_S_) shapeCasts_S1024_S1x1024 = Cert.KernelDqkvIdeal.Value.gG A X := by
  funext y
  unfold rootOf Cert.KernelDqkvIdeal.Value.gG Cert.Norm.inv Cert.Norm.msq Cert.Norm.cols Cert.Norm.eps
  pointwise
  exact Finset.sum_congr rfl fun t _ => mul_comm _ _

/-- The reference's gradient at the norm's argument, from its own arguments. -/
theorem res0 (m : (ℓ : Loc nD τ sig) → Buf (Elt Ideal) ℓ) (c : Dev nD) :
    res_main_v44 m c = Cert.KernelDqkvIdeal.Value.gX (Cert.KernelDqkvIdeal.Value.gD (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg7)) (m ((c.tc : Thread nD τ).loc main_arg6)) := by
  rw [← out_sum]
  exact out_x _ _ _ _

end Cert.ReferenceDqkvIdeal.Value

end
-- ==== Proof.DguOut.lean ====
/-
  The gradient through the gate's and the up projection's weights and through the norm before them, over the extended reals: the call's results and the reference's, entry by entry.
-/
module

public import proofs.«01_k».proof.Proof.Gen.KernelDguIdeal.Value
public import proofs.«01_k».proof.Proof.Gen.ReferenceDguIdeal.Run
public import proofs.«01_k».proof.Proof.DqkvOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDguIdeal.Value

open Cert.KernelDguIdeal Cert.KernelDguIdeal.Gen
open Idealize.ShloMosaic Idealize.ShloMosaic.TcCoe
open scoped BigOperators

/-- What a point's first eight products sum to, at an entry. -/
theorem gate_at (z0 z1 z2 z3 z4 z5 z6 z7 : Vec Ideal S512x256 .bf16) (w0 w1 w2 w3 w4 w5 w6 w7 : Vec Ideal S1x1024x256 .bf16) (y : S512x1024.Idx) :
    k0_pay8 (k0_pay2 z0 w0) (k0_pay3 z1 w1) (k0_pay4 z2 w2) (k0_pay5 z3 w3) (k0_pay6 z4 w4)
    z5 (k0_pay7 w5) (constant S512x1024 .f32 0#32) z6 w6 z7 w7 y
      = ((((((((∑ e, z0 (ix2 (y 0) e) * w0 (ix3 0 (y 1) e))
    + ∑ e, z1 (ix2 (y 0) e) * w1 (ix3 0 (y 1) e))
    + ∑ e, z2 (ix2 (y 0) e) * w2 (ix3 0 (y 1) e))
    + ∑ e, z3 (ix2 (y 0) e) * w3 (ix3 0 (y 1) e))
    + ∑ e, z4 (ix2 (y 0) e) * w4 (ix3 0 (y 1) e))
    + ∑ e, z5 (ix2 (y 0) e) * w5 (ix3 0 (y 1) e))
    + ∑ e, z6 (ix2 (y 0) e) * w6 (ix3 0 (y 1) e))
    + ∑ e, z7 (ix2 (y 0) e) * w7 (ix3 0 (y 1) e)) := by
  unfold k0_pay8 k0_pay2 k0_pay3 k0_pay4 k0_pay5 k0_pay6 k0_pay7
  pointwise

/-- What the other eight add. -/
theorem up_at (d : FVec Ideal S512x1024 .f32) (z0 z1 z2 z3 z4 z5 z6 z7 : Vec Ideal S512x256 .bf16) (w0 w1 w2 w3 w4 w5 w6 w7 : Vec Ideal S1x1024x256 .bf16) (y : S512x1024.Idx) :
    k0_pay12 d (k0_pay9 z0 w0) (k0_pay10 z1 w1) (k0_pay11 z2 w2) z3 w3 z4 w4
    z5 w5 z6 w6 z7 w7 y
      = ((((((((d (ix2 (y 0) (y 1))
    + ∑ e, z0 (ix2 (y 0) e) * w0 (ix3 0 (y 1) e))
    + ∑ e, z1 (ix2 (y 0) e) * w1 (ix3 0 (y 1) e))
    + ∑ e, z2 (ix2 (y 0) e) * w2 (ix3 0 (y 1) e))
    + ∑ e, z3 (ix2 (y 0) e) * w3 (ix3 0 (y 1) e))
    + ∑ e, z4 (ix2 (y 0) e) * w4 (ix3 0 (y 1) e))
    + ∑ e, z5 (ix2 (y 0) e) * w5 (ix3 0 (y 1) e))
    + ∑ e, z6 (ix2 (y 0) e) * w6 (ix3 0 (y 1) e))
    + ∑ e, z7 (ix2 (y 0) e) * w7 (ix3 0 (y 1) e)) := by
  unfold k0_pay12 k0_pay9 k0_pay10 k0_pay11
  pointwise

/-- The gradient at the norm's argument, from the one at its result. -/
theorem pay15_at (d x r : Vec Ideal S512x1024 .f32) (g : Vec Ideal S1x1024 .f32) (y : S512x1024.Idx) :
    k0_pay15 d x (k0_pay13 x) g r y
      = Cert.Norm.back (r (ix2 (y 0) (y 1))) (fun j => x (ix2 (y 0) j)) (fun j => g (ix2 0 j)) (fun j => d (ix2 (y 0) j)) (y 1) := by
  unfold k0_pay15 k0_pay14 k0_pay13 Cert.Norm.back Cert.Norm.inv Cert.Norm.msq Cert.Norm.cols Cert.Norm.eps
  pointwise

theorem part_at (d x : Vec Ideal S512x1024 .f32) (y : S1x1024.Idx) :
    k0_pay17 d x (k0_pay13 x) y = ∑ e : Fin 512, d (ix2 e (y 1)) * (x (ix2 e (y 1)) * Cert.Norm.inv (fun j => x (ix2 e j))) := by
  unfold k0_pay17 k0_pay14 k0_pay13 Cert.Norm.inv Cert.Norm.msq Cert.Norm.cols Cert.Norm.eps
  pointwise

theorem next_at (d x : Vec Ideal S512x1024 .f32) (p : Vec Ideal S1x1024 .f32) (y : S1x1024.Idx) :
    k0_pay1 (k0_pay17 d x (k0_pay13 x)) p y = p y + k0_pay17 d x (k0_pay13 x) y := by
  unfold k0_pay1
  pointwise

/-- Adding eight terms one by one is adding their sum. -/
theorem sum_eight (d a0 a1 a2 a3 a4 a5 a6 a7 : EReal) :
    d + (((((((a0 + a1) + a2) + a3) + a4) + a5) + a6) + a7) = (((((((d + a0) + a1) + a2) + a3) + a4) + a5) + a6) + a7 := by
  simp only [add_assoc]

variable (c : Dev nD) (i : grid0.Coords) (a1 : Memref sig .tc .vmem S512x2048 .bf16) (h1 : a1.IsWhole) (a2 : Memref sig .tc .vmem S512x2048 .bf16) (h2 : a2.IsWhole) (a3 : Memref sig .tc .vmem S16x1024x256 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S512x1024 .bf16) (h8 : a8.IsWhole) (a9 : Memref sig .tc .vmem S1x1024 .f32) (h9 : a9.IsWhole)

  (da du : Vec Ideal S512x2048 .bf16) (w : Vec Ideal S16x1024x256 .bf16) (x : Vec Ideal S512x1024 .f32) (g : Vec Ideal S1x1024 .f32) (r : Vec Ideal S512x1024 .f32)

/-- The gradient that reaches the norm's result, at a point. -/
def acc : FVec Ideal S512x1024 .f32 :=
  k0_pay12 (k0_pay8 (k0_pay2 (View.ld da (Rect.unit ![0, 0] ![512, 256] inb_S512x2048_S512x256_0_0)) (View.ld w (Rect.unit ![0, 0, 0] ![1, 1024, 256] inb_S16x1024x256_S1x1024x256_0_0_0))) (k0_pay3 (View.ld da (Rect.unit ![0, 256] ![512, 256] inb_S512x2048_S512x256_0_256)) (View.ld w (Rect.unit ![1, 0, 0] ![1, 1024, 256] inb_S16x1024x256_S1x1024x256_1_0_0))) (k0_pay4 (View.ld da (Rect.unit ![0, 512] ![512, 256] inb_S512x2048_S512x256_0_512)) (View.ld w (Rect.unit ![2, 0, 0] ![1, 1024, 256] inb_S16x1024x256_S1x1024x256_2_0_0))) (k0_pay5 (View.ld da (Rect.unit ![0, 768] ![512, 256] inb_S512x2048_S512x256_0_768)) (View.ld w (Rect.unit ![3, 0, 0] ![1, 1024, 256] inb_S16x1024x256_S1x1024x256_3_0_0))) (k0_pay6 (View.ld da (Rect.unit ![0, 1024] ![512, 256] inb_S512x2048_S512x256_0_1024)) (View.ld w (Rect.unit ![4, 0, 0] ![1, 1024, 256] inb_S16x1024x256_S1x1024x256_4_0_0)))
    (View.ld da (Rect.unit ![0, 1280] ![512, 256] inb_S512x2048_S512x256_0_1280)) (k0_pay7 (View.ld w (Rect.unit ![5, 0, 0] ![1, 1024, 256] inb_S16x1024x256_S1x1024x256_5_0_0))) (constant S512x1024 .f32 0#32) (View.ld da (Rect.unit ![0, 1536] ![512, 256] inb_S512x2048_S512x256_0_1536)) (View.ld w (Rect.unit ![6, 0, 0] ![1, 1024, 256] inb_S16x1024x256_S1x1024x256_6_0_0)) (View.ld da (Rect.unit ![0, 1792] ![512, 256] inb_S512x2048_S512x256_0_1792)) (View.ld w (Rect.unit ![7, 0, 0] ![1, 1024, 256] inb_S16x1024x256_S1x1024x256_7_0_0))) (k0_pay9 (View.ld du (Rect.unit ![0, 0] ![512, 256] inb_S512x2048_S512x256_0_0)) (View.ld w (Rect.unit ![8, 0, 0] ![1, 1024, 256] inb_S16x1024x256_S1x1024x256_8_0_0))) (k0_pay10 (View.ld du (Rect.unit ![0, 256] ![512, 256] inb_S512x2048_S512x256_0_256)) (View.ld w (Rect.unit ![9, 0, 0] ![1, 1024, 256] inb_S16x1024x256_S1x1024x256_9_0_0))) (k0_pay11 (View.ld du (Rect.unit ![0, 512] ![512, 256] inb_S512x2048_S512x256_0_512)) (View.ld w (Rect.unit ![10, 0, 0] ![1, 1024, 256] inb_S16x1024x256_S1x1024x256_10_0_0))) (View.ld du (Rect.unit ![0, 768] ![512, 256] inb_S512x2048_S512x256_0_768)) (View.ld w (Rect.unit ![11, 0, 0] ![1, 1024, 256] inb_S16x1024x256_S1x1024x256_11_0_0)) (View.ld du (Rect.unit ![0, 1024] ![512, 256] inb_S512x2048_S512x256_0_1024)) (View.ld w (Rect.unit ![12, 0, 0] ![1, 1024, 256] inb_S16x1024x256_S1x1024x256_12_0_0))
    (View.ld du (Rect.unit ![0, 1280] ![512, 256] inb_S512x2048_S512x256_0_1280)) (View.ld w (Rect.unit ![13, 0, 0] ![1, 1024, 256] inb_S16x1024x256_S1x1024x256_13_0_0)) (View.ld du (Rect.unit ![0, 1536] ![512, 256] inb_S512x2048_S512x256_0_1536)) (View.ld w (Rect.unit ![14, 0, 0] ![1, 1024, 256] inb_S16x1024x256_S1x1024x256_14_0_0)) (View.ld du (Rect.unit ![0, 1792] ![512, 256] inb_S512x2048_S512x256_0_1792)) (View.ld w (Rect.unit ![15, 0, 0] ![1, 1024, 256] inb_S16x1024x256_S1x1024x256_15_0_0))

/-- A point's rows of the first two results. -/
def rows : FVec Ideal S512x1024 .f32 := fun y =>
  Cert.Norm.back (r (ix2 (y 0) (y 1))) (fun j => x (ix2 (y 0) j)) (fun j => g (ix2 0 j)) (fun j => acc da du w (ix2 (y 0) j)) (y 1)

theorem outA_6 (hA : cond0_0 i) (hB : ¬cond0_1 i) :
    out0_A_6 c i a1 h1 a2 h2 a3 h3 a4 h4 a5 h5 a6 h6 a7 h7 a8 h8 a9 h9 hA hB da du w x g r = rows da du w x g r := by
  refine Eq.trans ?_ (funext fun y => pay15_at _ x r g y)
  unfold acc
  frame_out

theorem outA_7 (hA : cond0_0 i) (hB : ¬cond0_1 i) :
    out0_A_7 c i a1 h1 a2 h2 a3 h3 a4 h4 a5 h5 a6 h6 a7 h7 a8 h8 a9 h9 hA hB da du w x g r = rows da du w x g r := by
  refine Eq.trans ?_ (funext fun y => pay15_at _ x r g y)
  refine Eq.trans (b := k0_pay16 _ x (k0_pay13 x) g r) ?_ rfl
  unfold acc
  frame_out

theorem outA_8 (hA : cond0_0 i) (hB : ¬cond0_1 i) :
    out0_A_8 c i a1 h1 a2 h2 a3 h3 a4 h4 a5 h5 a6 h6 a7 h7 a8 h8 a9 h9 hA hB da du w x g r = k0_pay17 (acc da du w) x (k0_pay13 x) := by
  unfold acc
  frame_out

theorem outB_6 (p : Vec Ideal S1x1024 .f32) (hA : ¬cond0_0 i) (hB : cond0_1 i) :
    out0_B_6 c i a1 h1 a2 h2 a3 h3 a4 h4 a5 h5 a6 h6 a7 h7 a8 h8 a9 h9 hA hB da du w x g r p = rows da du w x g r := by
  refine Eq.trans ?_ (funext fun y => pay15_at _ x r g y)
  unfold acc
  frame_out

theorem outB_7 (p : Vec Ideal S1x1024 .f32) (hA : ¬cond0_0 i) (hB : cond0_1 i) :
    out0_B_7 c i a1 h1 a2 h2 a3 h3 a4 h4 a5 h5 a6 h6 a7 h7 a8 h8 a9 h9 hA hB da du w x g r p = rows da du w x g r := by
  refine Eq.trans ?_ (funext fun y => pay15_at _ x r g y)
  refine Eq.trans (b := k0_pay16 _ x (k0_pay13 x) g r) ?_ rfl
  unfold acc
  frame_out

theorem outB_8 (p : Vec Ideal S1x1024 .f32) (hA : ¬cond0_0 i) (hB : cond0_1 i) :
    out0_B_8 c i a1 h1 a2 h2 a3 h3 a4 h4 a5 h5 a6 h6 a7 h7 a8 h8 a9 h9 hA hB da du w x g r p = k0_pay1 (k0_pay17 (acc da du w) x (k0_pay13 x)) p := by
  unfold acc
  frame_out

/-- The gradient that reaches the norm's result: the products with the gate's weight and with the up projection's. -/
def gD (A B : FVec Ideal S8192x2048 .bf16) (V W : FVec Ideal S1024x2048 .f32) : FVec Ideal S8192x1024 .f32 := fun y =>
  (∑ l : Fin 2048, A (ix2 (y 0) l) * V (ix2 (y 1) l)) + ∑ l : Fin 2048, B (ix2 (y 0) l) * W (ix2 (y 1) l)

section

variable (m : (ℓ : Loc nD τ sig) → Buf (Elt Ideal) ℓ) (c : Dev nD)

/-- Point `t` takes the rows from `512 t` of the operands and of the first two results, and the whole weight, gain and gradient of the gain. -/
theorem idx : ∀ t : Fin cfg0.N, win0_0.index t = ![t.val, 0] ∧ win0_1.index t = ![t.val, 0] ∧ win0_2.index t = ![0, 0, 0] ∧ win0_3.index t = ![t.val, 0] ∧ win0_4.index t = ![0, 0]
    ∧ win0_5.index t = ![t.val, 0] ∧ win0_6.index t = ![t.val, 0] ∧ win0_7.index t = ![t.val, 0] ∧ win0_8.index t = ![0, 0] :=
  (by decide +kernel : ∀ t : Fin grid0.N, _)

/-- The gradient reaching the norm's result, of the call's arguments. -/
abbrev argD : FVec Ideal S8192x1024 .f32 := gD (m ((c.tc : Thread nD τ).loc main_arg0)) (m ((c.tc : Thread nD τ).loc main_arg1))
  (m ((c.tc : Thread nD τ).loc main_arg2)) (m ((c.tc : Thread nD τ).loc main_arg3))

/-- The two weights as the call is handed them: each one's columns in eight blocks, the gate's first. -/
theorem entry_gate (i : S16x1024x256.Idx) (l : Fin 2048) (h8 : (i 0).val < 8) (h : l.val = (i 0).val * 256 + (i 2).val) :
    V m c main_v6 i = m ((c.tc : Thread nD τ).loc main_arg2) (ix2 (i 1) l) := by
  entry_read
  pointwise
  refine (dif_pos h8).trans ?_
  exact congrArg (fun j => m ((c.tc : Thread nD τ).loc main_arg2) (ix2 (i 1) j)) (Fin.ext h.symm)

theorem entry_up (i : S16x1024x256.Idx) (l : Fin 2048) (h8 : ¬(i 0).val < 8) (h : l.val = ((i 0).val - 8) * 256 + (i 2).val) :
    V m c main_v6 i = m ((c.tc : Thread nD τ).loc main_arg3) (ix2 (i 1) l) := by
  entry_read
  pointwise
  refine (dif_neg h8).trans ?_
  exact congrArg (fun j => m ((c.tc : Thread nD τ).loc main_arg3) (ix2 (i 1) j)) (Fin.ext h.symm)

theorem blocks_at (t : Fin cfg0.N) (i : S16x1024x256.Idx) : iblk m c 2 t i = V m c main_v6 i := by
  have e : (win0_2.blk t).view.emb i = i := by
    funext a
    refine Fin.ext ?_
    fin_cases a <;> blk_simp [idx t]
  refine Eq.trans (b := V m c main_v6 ((win0_2.blk t).view.emb i)) rfl ?_
  rw [e]

theorem gateW_at (t : Fin cfg0.N) (i : S16x1024x256.Idx) (j : Fin 1024) (l : Fin 2048) (s : Fin 8) (h8 : (i 0).val = s.val) (hj : (i 1).val = j.val)
    (h : l.val = s.val * 256 + (i 2).val) : iblk m c 2 t i = m ((c.tc : Thread nD τ).loc main_arg2) (ix2 j l) := by
  obtain rfl : i 1 = j := Fin.ext hj
  exact (blocks_at m c t i).trans (entry_gate m c i l (by omega) (by rw [h8]; exact h))

theorem upW_at (t : Fin cfg0.N) (i : S16x1024x256.Idx) (j : Fin 1024) (l : Fin 2048) (s : Fin 8) (h8 : (i 0).val = 8 + s.val) (hj : (i 1).val = j.val)
    (h : l.val = s.val * 256 + (i 2).val) : iblk m c 2 t i = m ((c.tc : Thread nD τ).loc main_arg3) (ix2 j l) := by
  obtain rfl : i 1 = j := Fin.ext hj
  exact (blocks_at m c t i).trans (entry_up m c i l (by omega) (by rw [h8, Nat.add_sub_cancel_left]; exact h))

theorem in0_at (t : Fin cfg0.N) (u : S512x2048.Idx) (i : Fin 8192) (l : Fin 2048) (hi : i.val = t.val * 512 + (u 0).val) (hl : (u 1).val = l.val) :
    iblk m c 0 t u = m ((c.tc : Thread nD τ).loc main_arg0) (ix2 i l) := by
  blk_ext! [iblk, V, idx t]

theorem in1_at (t : Fin cfg0.N) (u : S512x2048.Idx) (i : Fin 8192) (l : Fin 2048) (hi : i.val = t.val * 512 + (u 0).val) (hl : (u 1).val = l.val) :
    iblk m c 1 t u = m ((c.tc : Thread nD τ).loc main_arg1) (ix2 i l) := by
  blk_ext! [iblk, V, idx t]

theorem acc_at (t : Fin cfg0.N) (u : S512x1024.Idx) (z : S8192x1024.Idx) (h0 : (z 0).val = t.val * 512 + (u 0).val) (h1 : (z 1).val = (u 1).val) :
    acc (iblk m c 0 t) (iblk m c 1 t) (iblk m c 2 t) u = argD m c z := by
  unfold acc
  rw [up_at, gate_at, ← sum_eight]
  unfold argD gD
  refine congrArg₂ (· + ·) (Eq.trans ?_ (Fin.sum_mul_add_fin 8 256 _ rfl)) (Eq.trans ?_ (Fin.sum_mul_add_fin 8 256 _ rfl))
  all_goals rw [Fin.sum_univ_eight]
  all_goals refine (congrArg₂ (· + ·) (congrArg₂ (· + ·) (congrArg₂ (· + ·) (congrArg₂ (· + ·) (congrArg₂ (· + ·) (congrArg₂ (· + ·) (congrArg₂ (· + ·) (Cert.Norm.sum_mul_congr (fun k => ?_) fun k => ?_)
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
  iterate 8
    · refine in0_at m c t _ _ _ ?_ ?_
      · rw [Rect.idx_unit_val]
        exact h0.trans (congrArg _ (Nat.zero_add _).symm)
      · rw [Rect.idx_unit_val]
        rfl
    · apply gateW_at m c t
      rotate_left
      · rw [Rect.idx_unit_val]
        exact (Nat.zero_add _).trans h1.symm
      · rw [Rect.idx_unit_val]
        exact congrArg _ (Nat.zero_add _).symm
      · rw [Rect.idx_unit_val]
        rfl
  iterate 8
    · refine in1_at m c t _ _ _ ?_ ?_
      · rw [Rect.idx_unit_val]
        exact h0.trans (congrArg _ (Nat.zero_add _).symm)
      · rw [Rect.idx_unit_val]
        rfl
    · apply upW_at m c t
      rotate_left
      · rw [Rect.idx_unit_val]
        exact (Nat.zero_add _).trans h1.symm
      · rw [Rect.idx_unit_val]
        exact congrArg _ (Nat.zero_add _).symm
      · rw [Rect.idx_unit_val]
        rfl

/-- What a point leaves of the first two results. -/
theorem left_6 (t : Fin cfg0.N) : (outsAt0 m c t.val t.isLt).1
    = rows (iblk m c 0 t) (iblk m c 1 t) (iblk m c 2 t) (iblk m c 3 t) (iblk m c 4 t) (iblk m c 5 t) := by
  by_cases h : t.val % 16 = 0
  · rw [outsAt0_A m c t h (by have := lt_of_lt_of_eq t.isLt N_0; omega)]
    dsimp only
    rw [outA_6]
  · rw [outsAt0_B m c t h (by omega)]
    dsimp only
    rw [outB_6]

theorem left_7 (t : Fin cfg0.N) : (outsAt0 m c t.val t.isLt).2.1
    = rows (iblk m c 0 t) (iblk m c 1 t) (iblk m c 2 t) (iblk m c 3 t) (iblk m c 4 t) (iblk m c 5 t) := by
  by_cases h : t.val % 16 = 0
  · rw [outsAt0_A m c t h (by have := lt_of_lt_of_eq t.isLt N_0; omega)]
    dsimp only
    rw [outA_7]
  · rw [outsAt0_B m c t h (by omega)]
    dsimp only
    rw [outB_7]

/-- A point's rows of the gradient at the norm's argument. -/
theorem rows_at (t : Fin cfg0.N) (u : S512x1024.Idx) (z : S8192x1024.Idx) (h0 : (z 0).val = t.val * 512 + (u 0).val) (h1 : (z 1).val = (u 1).val) :
    rows (iblk m c 0 t) (iblk m c 1 t) (iblk m c 2 t) (iblk m c 3 t) (iblk m c 4 t) (iblk m c 5 t) u
      = Cert.KernelDqkvIdeal.Value.gX (argD m c) (m ((c.tc : Thread nD τ).loc main_arg4)) (m ((c.tc : Thread nD τ).loc main_arg6)) (m ((c.tc : Thread nD τ).loc main_arg5)) z := by
  unfold rows Cert.KernelDqkvIdeal.Value.gX
  refine Cert.Norm.back_congr ?_ (fun j => ?_) (fun j => ?_) (fun j => acc_at m c t (ix2 (u 0) j) (ix2 (z 0) j) h0 rfl) (Fin.ext h1.symm)
  · blk_ext! [iblk, V, idx t]
  · blk_ext! [iblk, V, idx t]
  · blk_ext! [iblk, V, idx t]

/-- The call returns it twice, the second time to be rounded. -/
theorem result6 : (dats m 0 c).arrAt 6 cfg0.N
    = Cert.KernelDqkvIdeal.Value.gX (argD m c) (m ((c.tc : Thread nD τ).loc main_arg4)) (m ((c.tc : Thread nD τ).loc main_arg6)) (m ((c.tc : Thread nD τ).loc main_arg5)) := by
  refine (dats m 0 c).arrAt_eq_of_covers 6 _ (by decide +kernel) fun t hf y => ?_
  blk_simp
  rw [after0_6, left_6]
  refine rows_at m c t y _ ?_ ?_
  · blk_simp [idx t]
  · blk_simp [idx t]

theorem result7 : (dats m 0 c).arrAt 7 cfg0.N
    = Cert.KernelDqkvIdeal.Value.gX (argD m c) (m ((c.tc : Thread nD τ).loc main_arg4)) (m ((c.tc : Thread nD τ).loc main_arg6)) (m ((c.tc : Thread nD τ).loc main_arg5)) := by
  refine (dats m 0 c).arrAt_eq_of_covers 7 _ (by decide +kernel) fun t hf y => ?_
  blk_simp
  rw [after0_7, left_7]
  refine rows_at m c t y _ ?_ ?_
  · blk_simp [idx t]
  · blk_simp [idx t]

/-- A point's part of the gradient at the gain. -/
def part (t : Fin cfg0.N) (y : S1x1024.Idx) : EReal :=
  k0_pay17 (acc (iblk m c 0 t) (iblk m c 1 t) (iblk m c 2 t)) (iblk m c 3 t) (k0_pay13 (iblk m c 3 t)) y

theorem gain_first (t : Fin cfg0.N) (h : t.val % 16 = 0) (y : S1x1024.Idx) : (outsAt0 m c t.val t.isLt).2.2 y = part m c t y := by
  rw [outsAt0_A m c t h (by have := lt_of_lt_of_eq t.isLt N_0; omega)]
  dsimp only
  rw [outA_8]
  rfl

theorem gain_next (t : Fin cfg0.N) (h : ¬t.val % 16 = 0) (y : S1x1024.Idx) :
    (outsAt0 m c t.val t.isLt).2.2 y = (outsAt0 m c (t.val - 1) (Nat.lt_of_le_of_lt (Nat.sub_le _ _) t.isLt)).2.2 y + part m c t y := by
  rw [outsAt0_B m c t h (by omega)]
  dsimp only
  rw [outB_8]
  exact next_at ..

/-- The last point leaves all the points' parts summed. -/
theorem gain_last (t : Fin cfg0.N) (h : t.val + 1 = cfg0.N) (y : S1x1024.Idx) : (outsAt0 m c t.val t.isLt).2.2 y = ∑ p : Fin cfg0.N, part m c p y :=
  (Pipeline.eq_sum_fin_of_reset_step_apply_last (fun n h => (outsAt0 m c n h).2.2) 16 (fun _ => (0 : EReal)) (part m c)
    (fun t h y => (gain_first m c t h y).trans (zero_add _).symm) (gain_next m c) (le_of_eq N_0) t h y).trans (zero_add _)

/-- The parts sum over all the rows. -/
theorem parts (y : S1x1024.Idx) : ∑ p : Fin cfg0.N, part m c p y = Cert.KernelDqkvIdeal.Value.gG (argD m c) (m ((c.tc : Thread nD τ).loc main_arg4)) y := by
  refine (Finset.sum_congr rfl fun p _ => part_at _ _ y).trans (Fin.sum_mul_add_congr (fun s k hl => ?_) (by rw [show cfg0.N = 16 from N_0]))
  refine congrArg₂ (· * ·) (acc_at m c s _ (ix2 ⟨s.val * 512 + k.val, hl⟩ (y 1)) rfl rfl) (congrArg₂ (· * ·) ?_ (congrArg Cert.Norm.inv (funext fun j => ?_)))
  · blk_ext! [iblk, V, idx s]
  · blk_ext! [iblk, V, idx s]

/-- The call returns the gradient at the gain. -/
theorem result8 : (dats m 0 c).arrAt 8 cfg0.N = Cert.KernelDqkvIdeal.Value.gG (argD m c) (m ((c.tc : Thread nD τ).loc main_arg4)) := by
  refine (dats m 0 c).arrAt_eq_of_after_last 8 ⟨15, lt_of_lt_of_eq (by decide) N_0.symm⟩ (by decide +kernel) _ fun j => ?_
  rw [after0_8]
  blk_simp
  exact (gain_last m c ⟨15, lt_of_lt_of_eq (by decide) N_0.symm⟩ N_0.symm j).trans (parts m c j)

end

end Cert.KernelDguIdeal.Value

namespace Cert.ReferenceDguIdeal.Value

open Cert.ReferenceDguIdeal Cert.ReferenceDguIdeal.Gen
open Idealize.ShloMosaic Idealize.ShloMosaic.TcCoe
open scoped BigOperators

/-- So does the reference. -/
theorem out_sum (A B : FVec Ideal S8192x2048 .bf16) (V W : FVec Ideal S1024x2048 .f32) :
    addf (Host.dotGeneral dot_S8192x2048_S1024x2048_S8192x1024_1_1_0_0_n_n none (extf .f32 B bitsLt_bf16_f32) W)
      (Host.dotGeneral dot_S8192x2048_S1024x2048_S8192x1024_1_1_0_0_n_n none (extf .f32 A bitsLt_bf16_f32) V) = Cert.KernelDguIdeal.Value.gD A B V W := by
  funext y
  unfold Cert.KernelDguIdeal.Value.gD
  refine Eq.trans ?_ (add_comm _ _)
  pointwise

/-- The reference's gradient at the norm's argument, from its own arguments. -/
theorem res0 (m : (ℓ : Loc nD τ sig) → Buf (Elt Ideal) ℓ) (c : Dev nD) :
    res_main_v41 m c = Cert.KernelDqkvIdeal.Value.gX (Cert.KernelDguIdeal.Value.gD (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg6)) (m ((c.tc : Thread nD τ).loc main_arg5)) := by
  rw [← out_sum]
  exact Cert.ReferenceDqkvIdeal.Value.out_x _ _ _ _

end Cert.ReferenceDguIdeal.Value

end
-- ==== Proof.DgmOut.lean ====
/-
  The gradient through the memory's first projection and through the norm before it, over the extended reals: the call's results and the reference's, entry by entry.
-/
module

public import proofs.«01_k».proof.Proof.Gen.KernelDgmIdeal.Value
public import proofs.«01_k».proof.Proof.Gen.ReferenceDgmIdeal.Run
public import proofs.«01_k».proof.Proof.DqkvOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelDgmIdeal.Value

open Cert.KernelDgmIdeal Cert.KernelDgmIdeal.Gen
open Idealize.ShloMosaic Idealize.ShloMosaic.TcCoe
open scoped BigOperators

/-- What a point's eight products sum to, at an entry. -/
theorem pay11_at (z0 z1 z2 z3 z4 z5 z6 z7 : Vec Ideal S512x512 .bf16) (w0 w1 w2 w3 w4 w5 w6 w7 : Vec Ideal S1x1024x512 .bf16) (y : S512x1024.Idx) :
    k0_pay11 (k0_pay5 z0 w0) (k0_pay6 z1 w1) (k0_pay7 z2 w2) (k0_pay8 z3 w3) (k0_pay9 z4 w4)
    z5 (k0_pay10 w5) (constant S512x1024 .f32 0#32) z6 w6 z7 w7 y
      = ((((((((∑ e, z0 (ix2 (y 0) e) * w0 (ix3 0 (y 1) e))
    + ∑ e, z1 (ix2 (y 0) e) * w1 (ix3 0 (y 1) e))
    + ∑ e, z2 (ix2 (y 0) e) * w2 (ix3 0 (y 1) e))
    + ∑ e, z3 (ix2 (y 0) e) * w3 (ix3 0 (y 1) e))
    + ∑ e, z4 (ix2 (y 0) e) * w4 (ix3 0 (y 1) e))
    + ∑ e, z5 (ix2 (y 0) e) * w5 (ix3 0 (y 1) e))
    + ∑ e, z6 (ix2 (y 0) e) * w6 (ix3 0 (y 1) e))
    + ∑ e, z7 (ix2 (y 0) e) * w7 (ix3 0 (y 1) e)) := by
  unfold k0_pay11 k0_pay5 k0_pay6 k0_pay7 k0_pay8 k0_pay9 k0_pay10
  pointwise

/-- The gradient at the norm's argument, from the one at its result. -/
theorem pay1_at (z0 z1 z2 z3 z4 z5 z6 z7 : Vec Ideal S512x512 .bf16) (w0 w1 w2 w3 w4 w5 w6 w7 : Vec Ideal S1x1024x512 .bf16)
    (x r : Vec Ideal S512x1024 .f32) (g : Vec Ideal S1x1024 .f32) (y : S512x1024.Idx) :
    k0_pay1 x (k0_pay12 x) (k0_pay14 (k0_pay5 z0 w0) (k0_pay6 z1 w1) (k0_pay7 z2 w2) (k0_pay8 z3 w3) (k0_pay9 z4 w4)
    z5 (k0_pay10 w5) (constant S512x1024 .f32 0#32) z6 w6 z7 w7 x g)
      r (k0_pay15 (k0_pay5 z0 w0) (k0_pay6 z1 w1) (k0_pay7 z2 w2) (k0_pay8 z3 w3) (k0_pay9 z4 w4)
    z5 (k0_pay10 w5) (constant S512x1024 .f32 0#32) z6 w6 z7 w7 x g) (k0_pay16 x) y
      = Cert.Norm.back (r (ix2 (y 0) (y 1))) (fun j => x (ix2 (y 0) j)) (fun j => g (ix2 0 j))
        (fun j => (k0_pay11 (k0_pay5 z0 w0) (k0_pay6 z1 w1) (k0_pay7 z2 w2) (k0_pay8 z3 w3) (k0_pay9 z4 w4)
    z5 (k0_pay10 w5) (constant S512x1024 .f32 0#32) z6 w6 z7 w7) (ix2 (y 0) j)) (y 1) := by
  unfold k0_pay1 k0_pay14 k0_pay15 k0_pay16 k0_pay13 k0_pay12 Cert.Norm.back Cert.Norm.inv Cert.Norm.msq Cert.Norm.cols Cert.Norm.eps
  generalize k0_pay11 (k0_pay5 z0 w0) (k0_pay6 z1 w1) (k0_pay7 z2 w2) (k0_pay8 z3 w3) (k0_pay9 z4 w4)
    z5 (k0_pay10 w5) (constant S512x1024 .f32 0#32) z6 w6 z7 w7 = d
  pointwise

theorem part_at (d x : Vec Ideal S512x1024 .f32) (y : S1x1024.Idx) :
    k0_pay3 d x (k0_pay12 x) y = ∑ e : Fin 512, d (ix2 e (y 1)) * (x (ix2 e (y 1)) * Cert.Norm.inv (fun j => x (ix2 e j))) := by
  unfold k0_pay3 k0_pay12 Cert.Norm.inv Cert.Norm.msq Cert.Norm.cols Cert.Norm.eps
  pointwise

theorem next_at (d x : Vec Ideal S512x1024 .f32) (p : Vec Ideal S1x1024 .f32) (y : S1x1024.Idx) :
    k0_pay4 d x (k0_pay12 x) p y = p y + k0_pay3 d x (k0_pay12 x) y := by
  unfold k0_pay4
  pointwise

variable (c : Dev nD) (i : grid0.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (z : Vec Ideal S512x4096 .bf16) (w : Vec Ideal S8x1024x512 .bf16) (x : Vec Ideal S512x1024 .f32) (g : Vec Ideal S1x1024 .f32) (r : Vec Ideal S512x1024 .f32)

/-- The gradient that reaches the norm's result, at a point. -/
def acc : FVec Ideal S512x1024 .f32 :=
  k0_pay11 (k0_pay5 (View.ld z (Rect.unit ![0, 0] ![512, 512] inb_S512x4096_S512x512_0_0)) (View.ld w (Rect.unit ![0, 0, 0] ![1, 1024, 512] inb_S8x1024x512_S1x1024x512_0_0_0))) (k0_pay6 (View.ld z (Rect.unit ![0, 512] ![512, 512] inb_S512x4096_S512x512_0_512)) (View.ld w (Rect.unit ![1, 0, 0] ![1, 1024, 512] inb_S8x1024x512_S1x1024x512_1_0_0))) (k0_pay7 (View.ld z (Rect.unit ![0, 1024] ![512, 512] inb_S512x4096_S512x512_0_1024)) (View.ld w (Rect.unit ![2, 0, 0] ![1, 1024, 512] inb_S8x1024x512_S1x1024x512_2_0_0))) (k0_pay8 (View.ld z (Rect.unit ![0, 1536] ![512, 512] inb_S512x4096_S512x512_0_1536)) (View.ld w (Rect.unit ![3, 0, 0] ![1, 1024, 512] inb_S8x1024x512_S1x1024x512_3_0_0))) (k0_pay9 (View.ld z (Rect.unit ![0, 2048] ![512, 512] inb_S512x4096_S512x512_0_2048)) (View.ld w (Rect.unit ![4, 0, 0] ![1, 1024, 512] inb_S8x1024x512_S1x1024x512_4_0_0)))
    (View.ld z (Rect.unit ![0, 2560] ![512, 512] inb_S512x4096_S512x512_0_2560)) (k0_pay10 (View.ld w (Rect.unit ![5, 0, 0] ![1, 1024, 512] inb_S8x1024x512_S1x1024x512_5_0_0))) (constant S512x1024 .f32 0#32) (View.ld z (Rect.unit ![0, 3072] ![512, 512] inb_S512x4096_S512x512_0_3072)) (View.ld w (Rect.unit ![6, 0, 0] ![1, 1024, 512] inb_S8x1024x512_S1x1024x512_6_0_0)) (View.ld z (Rect.unit ![0, 3584] ![512, 512] inb_S512x4096_S512x512_0_3584)) (View.ld w (Rect.unit ![7, 0, 0] ![1, 1024, 512] inb_S8x1024x512_S1x1024x512_7_0_0))

/-- A point's rows of the first two results. -/
def rows : FVec Ideal S512x1024 .f32 := fun y =>
  Cert.Norm.back (r (ix2 (y 0) (y 1))) (fun j => x (ix2 (y 0) j)) (fun j => g (ix2 0 j)) (fun j => acc z w (ix2 (y 0) j)) (y 1)

theorem outA_5 (hA : cond0_0 i) (hB : ¬cond0_1 i) :
    out0_A_5 c i a1 h1 a2 h2 a3 h3 a4 h4 a5 h5 a6 h6 a7 h7 a8 h8 hA hB z w x g r = rows z w x g r := by
  refine Eq.trans ?_ (funext fun y => pay1_at _ _ _ _ _ _ _ _ _ _ _ _ _ _ _ _ x r g y)
  frame_out

theorem outA_6 (hA : cond0_0 i) (hB : ¬cond0_1 i) :
    out0_A_6 c i a1 h1 a2 h2 a3 h3 a4 h4 a5 h5 a6 h6 a7 h7 a8 h8 hA hB z w x g r = rows z w x g r := by
  refine Eq.trans ?_ (funext fun y => pay1_at _ _ _ _ _ _ _ _ _ _ _ _ _ _ _ _ x r g y)
  refine Eq.trans (b := k0_pay2 x (k0_pay12 x) (k0_pay14 (k0_pay5 _ _) (k0_pay6 _ _) (k0_pay7 _ _) (k0_pay8 _ _) (k0_pay9 _ _) _ (k0_pay10 _) _ _ _ _ _ x g) r (k0_pay15 (k0_pay5 _ _) (k0_pay6 _ _) (k0_pay7 _ _) (k0_pay8 _ _) (k0_pay9 _ _) _ (k0_pay10 _) _ _ _ _ _ x g) (k0_pay16 x)) ?_ rfl
  frame_out

theorem outA_7 (hA : cond0_0 i) (hB : ¬cond0_1 i) :
    out0_A_7 c i a1 h1 a2 h2 a3 h3 a4 h4 a5 h5 a6 h6 a7 h7 a8 h8 hA hB z w x g r = k0_pay3 (acc z w) x (k0_pay12 x) := by
  unfold acc
  frame_out

theorem outB_5 (p : Vec Ideal S1x1024 .f32) (hA : ¬cond0_0 i) (hB : cond0_1 i) :
    out0_B_5 c i a1 h1 a2 h2 a3 h3 a4 h4 a5 h5 a6 h6 a7 h7 a8 h8 hA hB z w x g r p = rows z w x g r := by
  refine Eq.trans ?_ (funext fun y => pay1_at _ _ _ _ _ _ _ _ _ _ _ _ _ _ _ _ x r g y)
  frame_out

theorem outB_6 (p : Vec Ideal S1x1024 .f32) (hA : ¬cond0_0 i) (hB : cond0_1 i) :
    out0_B_6 c i a1 h1 a2 h2 a3 h3 a4 h4 a5 h5 a6 h6 a7 h7 a8 h8 hA hB z w x g r p = rows z w x g r := by
  refine Eq.trans ?_ (funext fun y => pay1_at _ _ _ _ _ _ _ _ _ _ _ _ _ _ _ _ x r g y)
  refine Eq.trans (b := k0_pay2 x (k0_pay12 x) (k0_pay14 (k0_pay5 _ _) (k0_pay6 _ _) (k0_pay7 _ _) (k0_pay8 _ _) (k0_pay9 _ _) _ (k0_pay10 _) _ _ _ _ _ x g) r (k0_pay15 (k0_pay5 _ _) (k0_pay6 _ _) (k0_pay7 _ _) (k0_pay8 _ _) (k0_pay9 _ _) _ (k0_pay10 _) _ _ _ _ _ x g) (k0_pay16 x)) ?_ rfl
  frame_out

theorem outB_7 (p : Vec Ideal S1x1024 .f32) (hA : ¬cond0_0 i) (hB : cond0_1 i) :
    out0_B_7 c i a1 h1 a2 h2 a3 h3 a4 h4 a5 h5 a6 h6 a7 h7 a8 h8 hA hB z w x g r p = k0_pay4 (acc z w) x (k0_pay12 x) p := by
  unfold acc
  frame_out

/-- The gradient that reaches the norm's result: the product with the weight. -/
def gD (Z : FVec Ideal S8192x4096 .bf16) (W : FVec Ideal S1024x4096 .f32) : FVec Ideal S8192x1024 .f32 := fun y =>
  ∑ l : Fin 4096, Z (ix2 (y 0) l) * W (ix2 (y 1) l)

section

variable (m : (ℓ : Loc nD τ sig) → Buf (Elt Ideal) ℓ) (c : Dev nD)

/-- Point `t` takes the rows from `512 t` of the operands and of the first two results, and the whole weight, gain and gradient of the gain. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The gradient reaching the norm's result, of the call's arguments. -/
abbrev argD : FVec Ideal S8192x1024 .f32 := gD (m ((c.tc : Thread nD τ).loc main_arg0)) (m ((c.tc : Thread nD τ).loc main_arg1))

/-- The weight as the call is handed it: its columns in eight blocks. -/
theorem entry_at (i : S8x1024x512.Idx) (l : Fin 4096) (h : l.val = (i 0).val * 512 + (i 2).val) :
    V m c main_v2 i = m ((c.tc : Thread nD τ).loc main_arg1) (ix2 (i 1) l) := by
  entry_read
  pointwise
  exact congrArg (fun j => m ((c.tc : Thread nD τ).loc main_arg1) (ix2 (i 1) j)) (Fin.ext h.symm)

theorem blocks_at (t : Fin cfg0.N) (i : S8x1024x512.Idx) (j : Fin 1024) (l : Fin 4096) (hj : (i 1).val = j.val) (h : l.val = (i 0).val * 512 + (i 2).val) :
    iblk m c 1 t i = m ((c.tc : Thread nD τ).loc main_arg1) (ix2 j l) := by
  have e : (win0_1.blk t).view.emb i = i := by
    funext a
    refine Fin.ext ?_
    fin_cases a <;> blk_simp [idx t]
  refine Eq.trans (b := V m c main_v2 ((win0_1.blk t).view.emb i)) rfl ?_
  rw [e]
  exact (entry_at m c i l h).trans (congrArg (fun j => m ((c.tc : Thread nD τ).loc main_arg1) (ix2 j l)) (Fin.ext hj))

theorem in_at (t : Fin cfg0.N) (u : S512x4096.Idx) (i : Fin 8192) (l : Fin 4096) (hi : i.val = t.val * 512 + (u 0).val) (hl : (u 1).val = l.val) :
    iblk m c 0 t u = m ((c.tc : Thread nD τ).loc main_arg0) (ix2 i l) := by
  blk_ext! [iblk, V, idx t]

theorem acc_at (t : Fin cfg0.N) (u : S512x1024.Idx) (z : S8192x1024.Idx) (h0 : (z 0).val = t.val * 512 + (u 0).val) (h1 : (z 1).val = (u 1).val) :
    acc (iblk m c 0 t) (iblk m c 1 t) u = argD m c z := by
  unfold acc
  rw [pay11_at]
  unfold argD gD
  refine Eq.trans ?_ (Fin.sum_mul_add_fin 8 512 _ rfl)
  rw [Fin.sum_univ_eight]
  refine (congrArg₂ (· + ·) (congrArg₂ (· + ·) (congrArg₂ (· + ·) (congrArg₂ (· + ·) (congrArg₂ (· + ·) (congrArg₂ (· + ·) (congrArg₂ (· + ·) (Cert.Norm.sum_mul_congr (fun k => ?_) fun k => ?_)
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
    (Cert.Norm.sum_mul_congr (fun k => ?_) fun k => ?_))
  iterate 8
    · refine in_at m c t _ _ _ ?_ ?_
      · rw [Rect.idx_unit_val]
        exact h0.trans (congrArg _ (Nat.zero_add _).symm)
      · rw [Rect.idx_unit_val]
        rfl
    · refine blocks_at m c t _ _ _ ?_ ?_
      · rw [Rect.idx_unit_val]
        exact (Nat.zero_add _).trans h1.symm
      · rw [Rect.idx_unit_val, Rect.idx_unit_val]
        exact congrArg _ (Nat.zero_add _).symm

/-- What a point leaves of the first two results. -/
theorem left_5 (t : Fin cfg0.N) : (outsAt0 m c t.val t.isLt).1
    = rows (iblk m c 0 t) (iblk m c 1 t) (iblk m c 2 t) (iblk m c 3 t) (iblk m c 4 t) := by
  by_cases h : t.val % 16 = 0
  · rw [outsAt0_A m c t h (by have := lt_of_lt_of_eq t.isLt N_0; omega)]
    dsimp only
    rw [outA_5]
  · rw [outsAt0_B m c t h (by omega)]
    dsimp only
    rw [outB_5]

theorem left_6 (t : Fin cfg0.N) : (outsAt0 m c t.val t.isLt).2.1
    = rows (iblk m c 0 t) (iblk m c 1 t) (iblk m c 2 t) (iblk m c 3 t) (iblk m c 4 t) := by
  by_cases h : t.val % 16 = 0
  · rw [outsAt0_A m c t h (by have := lt_of_lt_of_eq t.isLt N_0; omega)]
    dsimp only
    rw [outA_6]
  · rw [outsAt0_B m c t h (by omega)]
    dsimp only
    rw [outB_6]

/-- A point's rows of the gradient at the norm's argument. -/
theorem rows_at (t : Fin cfg0.N) (u : S512x1024.Idx) (z : S8192x1024.Idx) (h0 : (z 0).val = t.val * 512 + (u 0).val) (h1 : (z 1).val = (u 1).val) :
    rows (iblk m c 0 t) (iblk m c 1 t) (iblk m c 2 t) (iblk m c 3 t) (iblk m c 4 t) u
      = Cert.KernelDqkvIdeal.Value.gX (argD m c) (m ((c.tc : Thread nD τ).loc main_arg2)) (m ((c.tc : Thread nD τ).loc main_arg4)) (m ((c.tc : Thread nD τ).loc main_arg3)) z := by
  unfold rows Cert.KernelDqkvIdeal.Value.gX
  refine Cert.Norm.back_congr ?_ (fun j => ?_) (fun j => ?_) (fun j => acc_at m c t (ix2 (u 0) j) (ix2 (z 0) j) h0 rfl) (Fin.ext h1.symm)
  · blk_ext! [iblk, V, idx t]
  · blk_ext! [iblk, V, idx t]
  · blk_ext! [iblk, V, idx t]

/-- The call returns it twice, the second time to be rounded. -/
theorem result5 : (dats m 0 c).arrAt 5 cfg0.N
    = Cert.KernelDqkvIdeal.Value.gX (argD m c) (m ((c.tc : Thread nD τ).loc main_arg2)) (m ((c.tc : Thread nD τ).loc main_arg4)) (m ((c.tc : Thread nD τ).loc main_arg3)) := by
  refine (dats m 0 c).arrAt_eq_of_covers 5 _ (by decide +kernel) fun t hf y => ?_
  blk_simp
  rw [after0_5, left_5]
  refine rows_at m c t y _ ?_ ?_
  · blk_simp [idx t]
  · blk_simp [idx t]

theorem result6 : (dats m 0 c).arrAt 6 cfg0.N
    = Cert.KernelDqkvIdeal.Value.gX (argD m c) (m ((c.tc : Thread nD τ).loc main_arg2)) (m ((c.tc : Thread nD τ).loc main_arg4)) (m ((c.tc : Thread nD τ).loc main_arg3)) := by
  refine (dats m 0 c).arrAt_eq_of_covers 6 _ (by decide +kernel) fun t hf y => ?_
  blk_simp
  rw [after0_6, left_6]
  refine rows_at m c t y _ ?_ ?_
  · blk_simp [idx t]
  · blk_simp [idx t]

/-- A point's part of the gradient at the gain. -/
def part (t : Fin cfg0.N) (y : S1x1024.Idx) : EReal :=
  k0_pay3 (acc (iblk m c 0 t) (iblk m c 1 t)) (iblk m c 2 t) (k0_pay12 (iblk m c 2 t)) y

theorem gain_first (t : Fin cfg0.N) (h : t.val % 16 = 0) (y : S1x1024.Idx) : (outsAt0 m c t.val t.isLt).2.2 y = part m c t y := by
  rw [outsAt0_A m c t h (by have := lt_of_lt_of_eq t.isLt N_0; omega)]
  dsimp only
  rw [outA_7]
  rfl

theorem gain_next (t : Fin cfg0.N) (h : ¬t.val % 16 = 0) (y : S1x1024.Idx) :
    (outsAt0 m c t.val t.isLt).2.2 y = (outsAt0 m c (t.val - 1) (Nat.lt_of_le_of_lt (Nat.sub_le _ _) t.isLt)).2.2 y + part m c t y := by
  rw [outsAt0_B m c t h (by omega)]
  dsimp only
  rw [outB_7]
  exact next_at ..

/-- The last point leaves all the points' parts summed. -/
theorem gain_last (t : Fin cfg0.N) (h : t.val + 1 = cfg0.N) (y : S1x1024.Idx) : (outsAt0 m c t.val t.isLt).2.2 y = ∑ p : Fin cfg0.N, part m c p y :=
  (Pipeline.eq_sum_fin_of_reset_step_apply_last (fun n h => (outsAt0 m c n h).2.2) 16 (fun _ => (0 : EReal)) (part m c)
    (fun t h y => (gain_first m c t h y).trans (zero_add _).symm) (gain_next m c) (le_of_eq N_0) t h y).trans (zero_add _)

/-- The parts sum over all the rows. -/
theorem parts (y : S1x1024.Idx) : ∑ p : Fin cfg0.N, part m c p y = Cert.KernelDqkvIdeal.Value.gG (argD m c) (m ((c.tc : Thread nD τ).loc main_arg2)) y := by
  refine (Finset.sum_congr rfl fun p _ => part_at _ _ y).trans (Fin.sum_mul_add_congr (fun s k hl => ?_) (by rw [show cfg0.N = 16 from N_0]))
  refine congrArg₂ (· * ·) (acc_at m c s _ (ix2 ⟨s.val * 512 + k.val, hl⟩ (y 1)) rfl rfl) (congrArg₂ (· * ·) ?_ (congrArg Cert.Norm.inv (funext fun j => ?_)))
  · blk_ext! [iblk, V, idx s]
  · blk_ext! [iblk, V, idx s]

/-- The call returns the gradient at the gain. -/
theorem result7 : (dats m 0 c).arrAt 7 cfg0.N = Cert.KernelDqkvIdeal.Value.gG (argD m c) (m ((c.tc : Thread nD τ).loc main_arg2)) := by
  refine (dats m 0 c).arrAt_eq_of_after_last 7 ⟨15, lt_of_lt_of_eq (by decide) N_0.symm⟩ (by decide +kernel) _ fun j => ?_
  rw [after0_7]
  blk_simp
  exact (gain_last m c ⟨15, lt_of_lt_of_eq (by decide) N_0.symm⟩ N_0.symm j).trans (parts m c j)

end

end Cert.KernelDgmIdeal.Value

namespace Cert.ReferenceDgmIdeal.Value

open Cert.ReferenceDgmIdeal Cert.ReferenceDgmIdeal.Gen
open Idealize.ShloMosaic Idealize.ShloMosaic.TcCoe
open scoped BigOperators

/-- So does the reference. -/
theorem out_sum (Z : FVec Ideal S8192x4096 .bf16) (W : FVec Ideal S1024x4096 .f32) :
    Host.dotGeneral dot_S8192x4096_S1024x4096_S8192x1024_1_1_0_0_n_n none (extf .f32 Z bitsLt_bf16_f32) W = Cert.KernelDgmIdeal.Value.gD Z W := by
  funext y
  unfold Cert.KernelDgmIdeal.Value.gD
  pointwise

/-- The reference's gradient at the norm's argument, from its own arguments. -/
theorem res0 (m : (ℓ : Loc nD τ sig) → Buf (Elt Ideal) ℓ) (c : Dev nD) :
    res_main_v37 m c = Cert.KernelDqkvIdeal.Value.gX (Cert.KernelDgmIdeal.Value.gD (m ((c.tc : Thread nD τ).loc main_arg0)) (m ((c.tc : Thread nD τ).loc main_arg1)))
      (m ((c.tc : Thread nD τ).loc main_arg2)) (m ((c.tc : Thread nD τ).loc main_arg4)) (m ((c.tc : Thread nD τ).loc main_arg3)) := by
  rw [← out_sum]
  exact Cert.ReferenceDqkvIdeal.Value.out_x _ _ _ _

end Cert.ReferenceDgmIdeal.Value

end
-- ==== Proof.Blk.lean ====
/-
  One block of the kernel's arithmetic, as plain functions: the probabilities and their gradients of a query block against
  a key block, and what the block adds to the three accumulators.
-/
module

public import proofs.«01_k».proof.Proof.Gen.KernelIdeal.Skeleton
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- What a query block brings: for each of the two heads the output's gradient, its product with the output summed over the
    head, the logarithm of the row's normaliser, the query, and the two transposed copies. -/
structure Ctx (F : FTy → Type) where
  do0 : FVec F S512x128 .bf16
  do1 : FVec F S512x128 .bf16
  de0 : FVec F S512x128 .f32
  de1 : FVec F S512x128 .f32
  ls0 : FVec F S512x128 .f32
  ls1 : FVec F S512x128 .f32
  q0 : FVec F S512x128 .bf16
  q1 : FVec F S512x128 .bf16
  qt0 : FVec F S128x512 .bf16
  qt1 : FVec F S128x512 .bf16
  dt0 : FVec F S128x512 .bf16
  dt1 : FVec F S128x512 .bf16

/-- The three accumulators: the keys' gradient (transposed), the values' (transposed) and the queries'. -/
structure St (F : FTy → Type) where
  dk : Vec F S2x128x8192 .f32
  dv : Vec F S128x8192 .f32
  dq : Vec F S2x512x128 .f32

/-- The probabilities of 128 columns of a block; `mk` masks the later keys away. -/
def pCol (mk : Bool) (c : BitVec 32) (o : Fin 2 → ℕ) (h : S512x512.Slices o S512x128) (ls : FVec F S512x128 .f32) (s : FVec F S512x512 .f32) : FVec F S512x128 .f32 :=
  bif mk then
    select (cmpi .sge (iota .tc S512x128 32 [0] iota_S512x128_d0_w32) (addi (iota .tc S512x128 32 [1] iota_S512x128_d1_w32) (broadcast S512x128 c)))
      (exp2 (subf (extractStridedSlice S512x128 o s h) ls)) (broadcast S512x128 (Scalar.ofBits .f32 0x00000000#32))
  else exp2 (subf (extractStridedSlice S512x128 o s h) ls)

/-- Their gradients through the row's normaliser. -/
def dsCol (p : FVec F S512x128 .f32) (o : Fin 2 → ℕ) (h : S512x512.Slices o S512x128) (de : FVec F S512x128 .f32) (dp : FVec F S512x512 .f32) : FVec F S512x128 .bf16 :=
  truncf .bf16 (mulf p (subf (extractStridedSlice S512x128 o dp h) de)) bitsLt_bf16_f32

/-- The block's probabilities. -/
def pBlk (mk : Bool) (ls : FVec F S512x128 .f32) (s : FVec F S512x512 .f32) : FVec F S512x512 .bf16 :=
  concatenate S512x512 1 [⟨S512x128, truncf .bf16 (pCol mk 0#32 ![0, 0] slices_S512x512_o0_0_S512x128 ls s) bitsLt_bf16_f32⟩,
    ⟨S512x128, truncf .bf16 (pCol mk 128#32 ![0, 128] slices_S512x512_o0_128_S512x128 ls s) bitsLt_bf16_f32⟩,
    ⟨S512x128, truncf .bf16 (pCol mk 256#32 ![0, 256] slices_S512x512_o0_256_S512x128 ls s) bitsLt_bf16_f32⟩,
    ⟨S512x128, truncf .bf16 (pCol mk 384#32 ![0, 384] slices_S512x512_o0_384_S512x128 ls s) bitsLt_bf16_f32⟩]
    concatenates_S512x128_S512x128_S512x128_S512x128_S512x512_d1

/-- The block's gradients of the logits. -/
def dsBlk (mk : Bool) (ls de : FVec F S512x128 .f32) (s dp : FVec F S512x512 .f32) : FVec F S512x512 .bf16 :=
  concatenate S512x512 1 [⟨S512x128, dsCol (pCol mk 0#32 ![0, 0] slices_S512x512_o0_0_S512x128 ls s) ![0, 0] slices_S512x512_o0_0_S512x128 de dp⟩,
    ⟨S512x128, dsCol (pCol mk 128#32 ![0, 128] slices_S512x512_o0_128_S512x128 ls s) ![0, 128] slices_S512x512_o0_128_S512x128 de dp⟩,
    ⟨S512x128, dsCol (pCol mk 256#32 ![0, 256] slices_S512x512_o0_256_S512x128 ls s) ![0, 256] slices_S512x512_o0_256_S512x128 de dp⟩,
    ⟨S512x128, dsCol (pCol mk 384#32 ![0, 384] slices_S512x512_o0_384_S512x128 ls s) ![0, 384] slices_S512x512_o0_384_S512x128 de dp⟩]
    concatenates_S512x128_S512x128_S512x128_S512x128_S512x512_d1

/-- The block's logits. -/
def sBlk (q : FVec F S512x128 .bf16) (k : Vec F S1x512x128 .bf16) : FVec F S512x512 .f32 :=
  matmul dot_S512x128_S512x128_S512x512_1_1_0_0_n_n none q (shapeCast S512x128 k shapeCasts_S1x512x128_S512x128) (constant S512x512 .f32 0x00000000#32)

/-- The gradients of the block's probabilities. -/
def dpBlk (d : FVec F S512x128 .bf16) (v : Vec F S128x512 .bf16) : FVec F S512x512 .f32 :=
  matmul dot_S512x128_S128x512_S512x512_1_0_0_1_n_n none d (shapeCast S128x512 v shapeCasts_S128x512_S128x512) (constant S512x512 .f32 0x00000000#32)

/-- One head's queries' gradient after the block. -/
def updQ (ds : FVec F S512x512 .bf16) (k : Vec F S1x512x128 .bf16) (w : Vec F S1x512x128 .f32) : FVec F S1x512x128 .f32 :=
  shapeCast S1x512x128 (addf (shapeCast S512x128 w shapeCasts_S1x512x128_S512x128)
    (matmul dot_S512x512_S512x128_S512x128_1_0_0_1_n_n none ds (shapeCast S512x128 k shapeCasts_S1x512x128_S512x128) (constant S512x128 .f32 0x00000000#32)))
    shapeCasts_S512x128_S1x512x128

/-- One head's keys' gradient after the block. -/
def updK (qt : FVec F S128x512 .bf16) (ds : FVec F S512x512 .bf16) (w : Vec F S1x128x512 .f32) : FVec F S1x128x512 .f32 :=
  shapeCast S1x128x512 (addf (shapeCast S128x512 w shapeCasts_S1x128x512_S128x512)
    (matmul dot_S128x512_S512x512_S128x512_1_0_0_1_n_n none qt ds (constant S128x512 .f32 0x00000000#32)))
    shapeCasts_S128x512_S1x128x512

/-- The values' gradient after the block: both heads at once. -/
def updV (dt0 dt1 : FVec F S128x512 .bf16) (p0 p1 : FVec F S512x512 .bf16) (w : Vec F S128x512 .f32) : FVec F S128x512 .f32 :=
  shapeCast S128x512 (addf w (addf
    (matmul dot_S128x512_S512x512_S128x512_1_0_0_1_n_n none dt0 p0 (constant S128x512 .f32 0x00000000#32))
    (matmul dot_S128x512_S512x512_S128x512_1_0_0_1_n_n none dt1 p1 (constant S128x512 .f32 0x00000000#32))))
    shapeCasts_S128x512_S128x512

/-- Key block `j` of head `h`, and value block `j`: windows of what the key and value operands hold. -/
def kWin (h : Fin 2) (K : Vec F S2x8192x128 .bf16) (j : Fin 16) : Vec F S1x512x128 .bf16 :=
  VecWindow.window K ![h.val, 512 * j.val, 0] S1x512x128.size (by intro a; have := h.isLt; have := j.isLt; fin_cases a <;> simp [S1x512x128, S2x8192x128] <;> omega)
def vWin (V : Vec F S128x8192 .bf16) (j : Fin 16) : Vec F S128x512 .bf16 :=
  VecWindow.window V ![0, 512 * j.val] S128x512.size (by intro a; have := j.isLt; fin_cases a <;> simp [S128x512, S128x8192] <;> omega)
/-- The accumulators' windows of head `h` and key block `j`. -/
def qAcc (h : Fin 2) (A : Vec F S2x512x128 .f32) : Vec F S1x512x128 .f32 :=
  VecWindow.window A ![h.val, 0, 0] S1x512x128.size (by intro a; have := h.isLt; fin_cases a <;> simp [S1x512x128, S2x512x128] <;> omega)
def kAcc (h : Fin 2) (A : Vec F S2x128x8192 .f32) (j : Fin 16) : Vec F S1x128x512 .f32 :=
  VecWindow.window A ![h.val, 0, 512 * j.val] S1x128x512.size (by intro a; have := h.isLt; have := j.isLt; fin_cases a <;> simp [S1x128x512, S2x128x8192] <;> omega)
def vAcc (A : Vec F S128x8192 .f32) (j : Fin 16) : Vec F S128x512 .f32 :=
  VecWindow.window A ![0, 512 * j.val] S128x512.size (by intro a; have := j.isLt; fin_cases a <;> simp [S128x512, S128x8192] <;> omega)

/-- The probabilities and logit gradients of key block `j`, by head. -/
def p0 (mk : Bool) (x : Ctx F) (K : Vec F S2x8192x128 .bf16) (j : Fin 16) : FVec F S512x512 .bf16 := pBlk mk x.ls0 (sBlk x.q0 (kWin 0 K j))
def p1 (mk : Bool) (x : Ctx F) (K : Vec F S2x8192x128 .bf16) (j : Fin 16) : FVec F S512x512 .bf16 := pBlk mk x.ls1 (sBlk x.q1 (kWin 1 K j))
def ds0 (mk : Bool) (x : Ctx F) (K : Vec F S2x8192x128 .bf16) (V : Vec F S128x8192 .bf16) (j : Fin 16) : FVec F S512x512 .bf16 :=
  dsBlk mk x.ls0 x.de0 (sBlk x.q0 (kWin 0 K j)) (dpBlk x.do0 (vWin V j))
def ds1 (mk : Bool) (x : Ctx F) (K : Vec F S2x8192x128 .bf16) (V : Vec F S128x8192 .bf16) (j : Fin 16) : FVec F S512x512 .bf16 :=
  dsBlk mk x.ls1 x.de1 (sBlk x.q1 (kWin 1 K j)) (dpBlk x.do1 (vWin V j))

/-- The keys' gradient after key block `j`. -/
def stepK (mk : Bool) (x : Ctx F) (K : Vec F S2x8192x128 .bf16) (V : Vec F S128x8192 .bf16) (j : Fin 16) (A : Vec F S2x128x8192 .f32) : Vec F S2x128x8192 .f32 :=
  VecWindow.put (VecWindow.put A ![0, 0, 512 * j.val] S1x128x512.size (updK x.qt0 (ds0 mk x K V j) (kAcc 0 A j)))
    ![1, 0, 512 * j.val] S1x128x512.size (updK x.qt1 (ds1 mk x K V j) (kAcc 1 A j))
/-- The values' gradient after key block `j`. -/
def stepV (mk : Bool) (x : Ctx F) (K : Vec F S2x8192x128 .bf16) (j : Fin 16) (A : Vec F S128x8192 .f32) : Vec F S128x8192 .f32 :=
  VecWindow.put A ![0, 512 * j.val] S128x512.size (updV x.dt0 x.dt1 (p0 mk x K j) (p1 mk x K j) (vAcc A j))
/-- The queries' gradient after key block `j`. -/
def stepQ (mk : Bool) (x : Ctx F) (K : Vec F S2x8192x128 .bf16) (V : Vec F S128x8192 .bf16) (j : Fin 16) (A : Vec F S2x512x128 .f32) : Vec F S2x512x128 .f32 :=
  VecWindow.put (VecWindow.put A ![0, 0, 0] S1x512x128.size (updQ (ds0 mk x K V j) (kWin 0 K j) (qAcc 0 A)))
    ![1, 0, 0] S1x512x128.size (updQ (ds1 mk x K V j) (kWin 1 K j) (qAcc 1 A))

/-! ## Which windows a block leaves alone -/

theorem kAcc_stepK (mk : Bool) (x : Ctx F) (K : Vec F S2x8192x128 .bf16) (V : Vec F S128x8192 .bf16) (j j' : Fin 16) (h : Fin 2) (hj : j ≠ j') (A : Vec F S2x128x8192 .f32) :
    kAcc h (stepK mk x K V j A) j' = kAcc h A j' := by
  have hv : j.val ≠ j'.val := fun e => hj (Fin.ext e)
  have hd : ∀ o o' : ℕ, (![o', 0, 512 * j'.val] : Fin 3 → ℕ) 2 + S1x128x512.size 2 ≤ (![o, 0, 512 * j.val] : Fin 3 → ℕ) 2 ∨ (![o, 0, 512 * j.val] : Fin 3 → ℕ) 2 + S1x128x512.size 2 ≤ (![o', 0, 512 * j'.val] : Fin 3 → ℕ) 2 := by
    intro o o'
    show 512 * j'.val + 512 ≤ 512 * j.val ∨ 512 * j.val + 512 ≤ 512 * j'.val
    omega
  unfold kAcc stepK
  exact (VecWindow.window_put_of_disjoint _ _ _ _ _ _ _ 2 (hd _ _)).trans (VecWindow.window_put_of_disjoint _ _ _ _ _ _ _ 2 (hd _ _))

theorem vAcc_stepV (mk : Bool) (x : Ctx F) (K : Vec F S2x8192x128 .bf16) (j j' : Fin 16) (hj : j ≠ j') (A : Vec F S128x8192 .f32) :
    vAcc (stepV mk x K j A) j' = vAcc A j' := by
  have hv : j.val ≠ j'.val := fun e => hj (Fin.ext e)
  unfold vAcc stepV
  refine VecWindow.window_put_of_disjoint _ _ _ _ _ _ _ 1 ?_
  show 512 * j'.val + 512 ≤ 512 * j.val ∨ 512 * j.val + 512 ≤ 512 * j'.val
  omega

theorem qAcc0_stepQ (mk : Bool) (x : Ctx F) (K : Vec F S2x8192x128 .bf16) (V : Vec F S128x8192 .bf16) (j : Fin 16) (A : Vec F S2x512x128 .f32) :
    qAcc 0 (stepQ mk x K V j A) = updQ (ds0 mk x K V j) (kWin 0 K j) (qAcc 0 A) := by
  unfold qAcc stepQ
  exact (VecWindow.window_put_of_disjoint _ _ _ _ _ _ _ 0 (.inl (by decide))).trans (VecWindow.window_put_same _ _ _ _ _)

theorem qAcc1_stepQ (mk : Bool) (x : Ctx F) (K : Vec F S2x8192x128 .bf16) (V : Vec F S128x8192 .bf16) (j : Fin 16) (A : Vec F S2x512x128 .f32) :
    qAcc 1 (stepQ mk x K V j A) = updQ (ds1 mk x K V j) (kWin 1 K j) (qAcc 1 A) := by
  unfold qAcc stepQ
  exact VecWindow.window_put_same _ _ _ _ _

/-! ## Two blocks one after the other -/

theorem stepK_stepK (mk mk' : Bool) (x : Ctx F) (K : Vec F S2x8192x128 .bf16) (V : Vec F S128x8192 .bf16) (j j' : Fin 16) (hj : j ≠ j') (A : Vec F S2x128x8192 .f32) :
    stepK mk' x K V j' (stepK mk x K V j A)
      = VecWindow.put (VecWindow.put (VecWindow.put (VecWindow.put A ![0, 0, 512 * j.val] S1x128x512.size (updK x.qt0 (ds0 mk x K V j) (kAcc 0 A j)))
          ![1, 0, 512 * j.val] S1x128x512.size (updK x.qt1 (ds1 mk x K V j) (kAcc 1 A j)))
          ![0, 0, 512 * j'.val] S1x128x512.size (updK x.qt0 (ds0 mk' x K V j') (kAcc 0 A j')))
          ![1, 0, 512 * j'.val] S1x128x512.size (updK x.qt1 (ds1 mk' x K V j') (kAcc 1 A j')) := by
  conv_lhs => unfold stepK
  rw [show VecWindow.put (VecWindow.put A ![0, 0, 512 * j.val] S1x128x512.size (updK x.qt0 (ds0 mk x K V j) (kAcc 0 A j)))
          ![1, 0, 512 * j.val] S1x128x512.size (updK x.qt1 (ds1 mk x K V j) (kAcc 1 A j)) = stepK mk x K V j A from rfl,
    kAcc_stepK _ _ _ _ _ _ _ hj, kAcc_stepK _ _ _ _ _ _ _ hj]

theorem stepV_stepV (mk mk' : Bool) (x : Ctx F) (K : Vec F S2x8192x128 .bf16) (j j' : Fin 16) (hj : j ≠ j') (A : Vec F S128x8192 .f32) :
    stepV mk' x K j' (stepV mk x K j A)
      = VecWindow.put (VecWindow.put A ![0, 512 * j.val] S128x512.size (updV x.dt0 x.dt1 (p0 mk x K j) (p1 mk x K j) (vAcc A j)))
          ![0, 512 * j'.val] S128x512.size (updV x.dt0 x.dt1 (p0 mk' x K j') (p1 mk' x K j') (vAcc A j')) := by
  conv_lhs => unfold stepV
  rw [show VecWindow.put A ![0, 512 * j.val] S128x512.size (updV x.dt0 x.dt1 (p0 mk x K j) (p1 mk x K j) (vAcc A j)) = stepV mk x K j A from rfl,
    vAcc_stepV _ _ _ _ _ hj]

theorem stepQ_stepQ (mk mk' : Bool) (x : Ctx F) (K : Vec F S2x8192x128 .bf16) (V : Vec F S128x8192 .bf16) (j j' : Fin 16) (A : Vec F S2x512x128 .f32) :
    stepQ mk' x K V j' (stepQ mk x K V j A)
      = VecWindow.put (VecWindow.put (VecWindow.put (VecWindow.put A ![0, 0, 0] S1x512x128.size (updQ (ds0 mk x K V j) (kWin 0 K j) (qAcc 0 A)))
          ![1, 0, 0] S1x512x128.size (updQ (ds1 mk x K V j) (kWin 1 K j) (qAcc 1 A)))
          ![0, 0, 0] S1x512x128.size (updQ (ds0 mk' x K V j') (kWin 0 K j') (updQ (ds0 mk x K V j) (kWin 0 K j) (qAcc 0 A))))
          ![1, 0, 0] S1x512x128.size (updQ (ds1 mk' x K V j') (kWin 1 K j') (updQ (ds1 mk x K V j) (kWin 1 K j) (qAcc 1 A))) := by
  conv_lhs => unfold stepQ
  rw [show VecWindow.put (VecWindow.put A ![0, 0, 0] S1x512x128.size (updQ (ds0 mk x K V j) (kWin 0 K j) (qAcc 0 A)))
          ![1, 0, 0] S1x512x128.size (updQ (ds1 mk x K V j) (kWin 1 K j) (qAcc 1 A)) = stepQ mk x K V j A from rfl,
    qAcc0_stepQ, qAcc1_stepQ]

/-! ## Loads that read a store back -/

theorem readCov_q1 {sig : RefSig} {κ : Kind} {sp : Space} (v : View sig κ sp S2x512x128 .f32) (inb2 inb1 inb1') (x2 : S1x512x128.Idx → F .f32) (x1 : S1x512x128.Idx → F .f32)
    (L : List (View.Piece (Elt F) S2x512x128 .f32)) :
    v.readCov (Val := Elt F) (⟨Rect.unit (s := S2x512x128) ![0, 0, 0] S1x512x128.size inb2, x2⟩ :: ⟨Rect.unit (s := S2x512x128) ![1, 0, 0] S1x512x128.size inb1, x1⟩ :: L)
      (Rect.unit (s := S2x512x128) ![1, 0, 0] ![1, 512, 128] inb1').toLoadRect = x1 := by
  show v.readAt (Elt F) (Rect.unit (s := S2x512x128) ![1, 0, 0] S1x512x128.size inb1').toLoadRect (v.writes (Elt F) v.junk _) = x1
  rw [View.readAt_unit v _ _ rfl inb1, View.read_writes_cons_put _ _ _ _ _ rfl, View.read_writes_cons_put _ _ _ _ _ rfl]
  exact (VecWindow.window_put_of_disjoint _ _ _ _ _ _ _ 0 (.inr (by decide))).trans (VecWindow.window_put_same _ _ _ _ _)

theorem readCov_q0 {sig : RefSig} {κ : Kind} {sp : Space} (v : View sig κ sp S2x512x128 .f32) (inb1 inb0 inb0') (x1 : S1x512x128.Idx → F .f32) (x0 : S1x512x128.Idx → F .f32) :
    v.readCov (Val := Elt F) [⟨Rect.unit (s := S2x512x128) ![1, 0, 0] ![1, 512, 128] inb1, x1⟩, ⟨Rect.unit (s := S2x512x128) ![0, 0, 0] ![1, 512, 128] inb0, x0⟩]
      (Rect.unit (s := S2x512x128) ![0, 0, 0] ![1, 512, 128] inb0').toLoadRect = x0 := by
  show v.readAt (Elt F) (Rect.unit (s := S2x512x128) ![0, 0, 0] S1x512x128.size inb0').toLoadRect (v.writes (Elt F) v.junk _) = x0
  rw [View.readAt_unit v _ _ rfl inb0, View.read_writes_cons_put _ _ _ _ _ rfl, View.read_writes_cons_put _ _ _ _ _ rfl]
  exact (VecWindow.window_put_of_disjoint _ _ _ _ _ _ _ 0 (.inl (by decide))).trans (VecWindow.window_put_same _ _ _ _ _)

theorem readCov_q0' {sig : RefSig} {κ : Kind} {sp : Space} (v : View sig κ sp S2x512x128 .f32) (inb1 inb0 inb0') (x1 : S1x512x128.Idx → F .f32) (x0 : S1x512x128.Idx → F .f32)
    (L : List (View.Piece (Elt F) S2x512x128 .f32)) :
    v.readCov (Val := Elt F) (⟨Rect.unit (s := S2x512x128) ![1, 0, 0] S1x512x128.size inb1, x1⟩ :: ⟨Rect.unit (s := S2x512x128) ![0, 0, 0] S1x512x128.size inb0, x0⟩ :: L)
      (Rect.unit (s := S2x512x128) ![0, 0, 0] S1x512x128.size inb0').toLoadRect = x0 := by
  show v.readAt (Elt F) (Rect.unit (s := S2x512x128) ![0, 0, 0] S1x512x128.size inb0').toLoadRect (v.writes (Elt F) v.junk _) = x0
  rw [View.readAt_unit v _ _ rfl inb0, View.read_writes_cons_put _ _ _ _ _ rfl, View.read_writes_cons_put _ _ _ _ _ rfl]
  exact (VecWindow.window_put_of_disjoint _ _ _ _ _ _ _ 0 (.inl (by decide))).trans (VecWindow.window_put_same _ _ _ _ _)

end Cert.KernelIdeal.Attn

end
-- ==== Proof.Off.lean ====
/-
  Closed forms of the offsets that the kernel computes: block `j` of the keys starts at row (or column) `512 j`.
-/
module

public import proofs.«01_k».proof.Proof.Gen.KernelIdeal.Skeleton
public import Idealize.ShloMosaic.Lib.Exec
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The loop over the unmasked pairs of blocks takes half the query block's number of trips. -/
theorem trips1 : ∀ i : grid0.Coords, (k0_t1_loop i).trips = (i 1).val / 2 := by decide +kernel

/-- The remainder loop takes no trip. -/
theorem trips2 : ∀ i : grid0.Coords, (k0_t2_loop i).trips = 0 := by decide +kernel

theorem off1_0 : ∀ (i : grid0.Coords) (k : Fin (k0_t1_loop i).trips), k0_off1 i k 0#32 = ![0, 1024 * k.val + 0] := by decide +kernel
instance (i : grid0.Coords) (k : Fin (k0_t1_loop i).trips) : ClosedOff (k0_off1 i k 0#32) := ⟨_, off1_0 i k⟩
theorem off1_1 : ∀ (i : grid0.Coords) (k : Fin (k0_t1_loop i).trips), k0_off1 i k 1#32 = ![0, 1024 * k.val + 512] := by decide +kernel
instance (i : grid0.Coords) (k : Fin (k0_t1_loop i).trips) : ClosedOff (k0_off1 i k 1#32) := ⟨_, off1_1 i k⟩
theorem off2_0 : ∀ (i : grid0.Coords) (k : Fin (k0_t1_loop i).trips), k0_off2 i k 0#32 = ![0, 1024 * k.val + 0, 0] := by decide +kernel
instance (i : grid0.Coords) (k : Fin (k0_t1_loop i).trips) : ClosedOff (k0_off2 i k 0#32) := ⟨_, off2_0 i k⟩
theorem off2_1 : ∀ (i : grid0.Coords) (k : Fin (k0_t1_loop i).trips), k0_off2 i k 1#32 = ![0, 1024 * k.val + 512, 0] := by decide +kernel
instance (i : grid0.Coords) (k : Fin (k0_t1_loop i).trips) : ClosedOff (k0_off2 i k 1#32) := ⟨_, off2_1 i k⟩
theorem off3_0 : ∀ (i : grid0.Coords) (k : Fin (k0_t1_loop i).trips), k0_off3 i k 0#32 = ![1, 1024 * k.val + 0, 0] := by decide +kernel
instance (i : grid0.Coords) (k : Fin (k0_t1_loop i).trips) : ClosedOff (k0_off3 i k 0#32) := ⟨_, off3_0 i k⟩
theorem off3_1 : ∀ (i : grid0.Coords) (k : Fin (k0_t1_loop i).trips), k0_off3 i k 1#32 = ![1, 1024 * k.val + 512, 0] := by decide +kernel
instance (i : grid0.Coords) (k : Fin (k0_t1_loop i).trips) : ClosedOff (k0_off3 i k 1#32) := ⟨_, off3_1 i k⟩
theorem off4_0 : ∀ (i : grid0.Coords) (k : Fin (k0_t1_loop i).trips), k0_off4 i k 0#32 = ![0, 0, 1024 * k.val + 0] := by decide +kernel
instance (i : grid0.Coords) (k : Fin (k0_t1_loop i).trips) : ClosedOff (k0_off4 i k 0#32) := ⟨_, off4_0 i k⟩
theorem off4_1 : ∀ (i : grid0.Coords) (k : Fin (k0_t1_loop i).trips), k0_off4 i k 1#32 = ![0, 0, 1024 * k.val + 512] := by decide +kernel
instance (i : grid0.Coords) (k : Fin (k0_t1_loop i).trips) : ClosedOff (k0_off4 i k 1#32) := ⟨_, off4_1 i k⟩
theorem off5_0 : ∀ (i : grid0.Coords) (k : Fin (k0_t1_loop i).trips), k0_off5 i k 0#32 = ![1, 0, 1024 * k.val + 0] := by decide +kernel
instance (i : grid0.Coords) (k : Fin (k0_t1_loop i).trips) : ClosedOff (k0_off5 i k 0#32) := ⟨_, off5_0 i k⟩
theorem off5_1 : ∀ (i : grid0.Coords) (k : Fin (k0_t1_loop i).trips), k0_off5 i k 1#32 = ![1, 0, 1024 * k.val + 512] := by decide +kernel
instance (i : grid0.Coords) (k : Fin (k0_t1_loop i).trips) : ClosedOff (k0_off5 i k 1#32) := ⟨_, off5_1 i k⟩
theorem off11 : ∀ (i : grid0.Coords), k0_off11 i = ![0, 512 * (i 1).val] := by decide +kernel
instance (i : grid0.Coords) : ClosedOff (k0_off11 i) := ⟨_, off11 i⟩
theorem off12 : ∀ (i : grid0.Coords), k0_off12 i = ![0, 512 * (i 1).val, 0] := by decide +kernel
instance (i : grid0.Coords) : ClosedOff (k0_off12 i) := ⟨_, off12 i⟩
theorem off13 : ∀ (i : grid0.Coords), k0_off13 i = ![1, 512 * (i 1).val, 0] := by decide +kernel
instance (i : grid0.Coords) : ClosedOff (k0_off13 i) := ⟨_, off13 i⟩
theorem off14 : ∀ (i : grid0.Coords), k0_off14 i = ![0, 0, 512 * (i 1).val] := by decide +kernel
instance (i : grid0.Coords) : ClosedOff (k0_off14 i) := ⟨_, off14 i⟩
theorem off15 : ∀ (i : grid0.Coords), k0_off15 i = ![1, 0, 512 * (i 1).val] := by decide +kernel
instance (i : grid0.Coords) : ClosedOff (k0_off15 i) := ⟨_, off15 i⟩
theorem off16_0 : ∀ (i : grid0.Coords), k0_cond3 i = 1#1 → k0_off16 i 0#32 = ![0, 512 * ((i 1).val - 1)] := by decide +kernel
theorem off16_1 : ∀ (i : grid0.Coords), k0_cond3 i = 1#1 → k0_off16 i 1#32 = ![0, 512 * (i 1).val] := by decide +kernel
theorem off17_0 : ∀ (i : grid0.Coords), k0_cond3 i = 1#1 → k0_off17 i 0#32 = ![0, 512 * ((i 1).val - 1), 0] := by decide +kernel
theorem off17_1 : ∀ (i : grid0.Coords), k0_cond3 i = 1#1 → k0_off17 i 1#32 = ![0, 512 * (i 1).val, 0] := by decide +kernel
theorem off18_0 : ∀ (i : grid0.Coords), k0_cond3 i = 1#1 → k0_off18 i 0#32 = ![1, 512 * ((i 1).val - 1), 0] := by decide +kernel
theorem off18_1 : ∀ (i : grid0.Coords), k0_cond3 i = 1#1 → k0_off18 i 1#32 = ![1, 512 * (i 1).val, 0] := by decide +kernel
theorem off19_0 : ∀ (i : grid0.Coords), k0_cond3 i = 1#1 → k0_off19 i 0#32 = ![0, 0, 512 * ((i 1).val - 1)] := by decide +kernel
theorem off19_1 : ∀ (i : grid0.Coords), k0_cond3 i = 1#1 → k0_off19 i 1#32 = ![0, 0, 512 * (i 1).val] := by decide +kernel
theorem off20_0 : ∀ (i : grid0.Coords), k0_cond3 i = 1#1 → k0_off20 i 0#32 = ![1, 0, 512 * ((i 1).val - 1)] := by decide +kernel
theorem off20_1 : ∀ (i : grid0.Coords), k0_cond3 i = 1#1 → k0_off20 i 1#32 = ![1, 0, 512 * (i 1).val] := by decide +kernel

end Cert.KernelIdeal.Attn

end
-- ==== Proof.Trip.lean ====
/-
  One trip of the loop over the unmasked pairs of key blocks.
-/
module

public import proofs.«01_k».proof.Proof.Blk
public import proofs.«01_k».proof.Proof.Off
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The two key blocks of trip `k`. -/
def jA (i : grid0.Coords) (k : Fin (k0_t1_loop i).trips) : Fin 16 := ⟨2 * k.val, by have hk := Nat.lt_of_lt_of_eq k.isLt (trips1 i); have h : (i 1).val < 16 := (i 1).isLt; omega⟩
def jB (i : grid0.Coords) (k : Fin (k0_t1_loop i).trips) : Fin 16 := ⟨2 * k.val + 1, by have hk := Nat.lt_of_lt_of_eq k.isLt (trips1 i); have h : (i 1).val < 16 := (i 1).isLt; omega⟩
theorem jA_ne (i : grid0.Coords) (k : Fin (k0_t1_loop i).trips) : jA i k ≠ jB i k := fun h => absurd (congrArg Fin.val h) (by show 2 * k.val ≠ 2 * k.val + 1; omega)

theorem eA (i : grid0.Coords) (k : Fin (k0_t1_loop i).trips) : 1024 * k.val + 0 = 512 * (jA i k).val := by show _ = 512 * (2 * k.val); omega
theorem eB (i : grid0.Coords) (k : Fin (k0_t1_loop i).trips) : 1024 * k.val + 512 = 512 * (jB i k).val := by show _ = 512 * (2 * k.val + 1); omega

theorem o1_0 (i : grid0.Coords) (k : Fin (k0_t1_loop i).trips) : k0_off1 i k 0#32 = ![0, 512 * (jA i k).val] := (off1_0 i k).trans (by rw [eA])
theorem o1_1 (i : grid0.Coords) (k : Fin (k0_t1_loop i).trips) : k0_off1 i k 1#32 = ![0, 512 * (jB i k).val] := (off1_1 i k).trans (by rw [eB])
theorem o2_0 (i : grid0.Coords) (k : Fin (k0_t1_loop i).trips) : k0_off2 i k 0#32 = ![0, 512 * (jA i k).val, 0] := (off2_0 i k).trans (by rw [eA])
theorem o2_1 (i : grid0.Coords) (k : Fin (k0_t1_loop i).trips) : k0_off2 i k 1#32 = ![0, 512 * (jB i k).val, 0] := (off2_1 i k).trans (by rw [eB])
theorem o3_0 (i : grid0.Coords) (k : Fin (k0_t1_loop i).trips) : k0_off3 i k 0#32 = ![1, 512 * (jA i k).val, 0] := (off3_0 i k).trans (by rw [eA])
theorem o3_1 (i : grid0.Coords) (k : Fin (k0_t1_loop i).trips) : k0_off3 i k 1#32 = ![1, 512 * (jB i k).val, 0] := (off3_1 i k).trans (by rw [eB])
theorem o4_0 (i : grid0.Coords) (k : Fin (k0_t1_loop i).trips) : k0_off4 i k 0#32 = ![0, 0, 512 * (jA i k).val] := (off4_0 i k).trans (by rw [eA])
theorem o4_1 (i : grid0.Coords) (k : Fin (k0_t1_loop i).trips) : k0_off4 i k 1#32 = ![0, 0, 512 * (jB i k).val] := (off4_1 i k).trans (by rw [eB])
theorem o5_0 (i : grid0.Coords) (k : Fin (k0_t1_loop i).trips) : k0_off5 i k 0#32 = ![1, 0, 512 * (jA i k).val] := (off5_0 i k).trans (by rw [eA])
theorem o5_1 (i : grid0.Coords) (k : Fin (k0_t1_loop i).trips) : k0_off5 i k 1#32 = ![1, 0, 512 * (jB i k).val] := (off5_1 i k).trans (by rw [eB])

set_option maxHeartbeats 4000000 in
/-- One trip: from the three accumulators at `A`, `B`, `C` to what the two blocks leave. -/
theorem trip1 (c : Dev nD) (E : Set ℕ) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F) (v80 c0 : BitVec 32)
    (k : Fin (k0_t1_loop i).trips)
    (K : Vec F S2x8192x128 .bf16) (V : Vec F S128x8192 .bf16) (A : Vec F S2x128x8192 .f32) (B : Vec F S128x8192 .f32) (C : Vec F S2x512x128 .f32)
    (Q : PUnit → sProp 𝕄) :
    iprop(owns (c : Thread nD τ) arg3 fullShare K ∗ owns (c : Thread nD τ) arg4 fullShare V
      ∗ owns (c : Thread nD τ) arg13 fullShare A ∗ owns (c : Thread nD τ) arg14 fullShare B ∗ owns (c : Thread nD τ) arg15 fullShare C
      ∗ (iprop(owns (c : Thread nD τ) arg3 fullShare K ∗ owns (c : Thread nD τ) arg4 fullShare V
          ∗ owns (c : Thread nD τ) arg13 fullShare (stepK false x K V (jB i k) (stepK false x K V (jA i k) A))
          ∗ owns (c : Thread nD τ) arg14 fullShare (stepV false x K (jB i k) (stepV false x K (jA i k) B))
          ∗ owns (c : Thread nD τ) arg15 fullShare (stepQ false x K V (jB i k) (stepQ false x K V (jA i k) C))) -∗ Q ⟨⟩))
    ⊢ wp frame (wpE (defs₀ (F := F)) Variants.none c none) E
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 v80 c0 k ⟨⟩) Q := by
  unfold k0_t1_body
  simp only [k0_part1_eq_skeleton, k0_part2_eq_skeleton, k0_part3_eq_skeleton, k0_part4_eq_skeleton, k0_part5_eq_skeleton]
  unfold owns
  iintro ⟨⟨%f3, %h3, H3⟩, ⟨%f4, %h4, H4⟩, ⟨%f13, %h13, H13⟩, ⟨%f14, %h14, H14⟩, ⟨%f15, %h15, H15⟩, HQ⟩
  sl_exec
  subst h3 h4 h13 h14 h15
  sl_step
  iapply HQ
  have l20 : arg3.view.readAt (Elt F) (Rect.unit (s := S2x8192x128) (k0_off2 i k 0#32) S1x512x128.size (k0_off2_inb i k 0)).toLoadRect f3 = kWin 0 (arg3.view.read (Elt F) f3) (jA i k) := View.readAt_unit _ _ _ (o2_0 i k) _
  have l21 : arg3.view.readAt (Elt F) (Rect.unit (s := S2x8192x128) (k0_off2 i k 1#32) S1x512x128.size (k0_off2_inb i k 1)).toLoadRect f3 = kWin 0 (arg3.view.read (Elt F) f3) (jB i k) := View.readAt_unit _ _ _ (o2_1 i k) _
  have l30 : arg3.view.readAt (Elt F) (Rect.unit (s := S2x8192x128) (k0_off3 i k 0#32) S1x512x128.size (k0_off3_inb i k 0)).toLoadRect f3 = kWin 1 (arg3.view.read (Elt F) f3) (jA i k) := View.readAt_unit _ _ _ (o3_0 i k) _
  have l31 : arg3.view.readAt (Elt F) (Rect.unit (s := S2x8192x128) (k0_off3 i k 1#32) S1x512x128.size (k0_off3_inb i k 1)).toLoadRect f3 = kWin 1 (arg3.view.read (Elt F) f3) (jB i k) := View.readAt_unit _ _ _ (o3_1 i k) _
  have l10 : arg4.view.readAt (Elt F) (Rect.unit (s := S128x8192) (k0_off1 i k 0#32) S128x512.size (k0_off1_inb i k 0)).toLoadRect f4 = vWin (arg4.view.read (Elt F) f4) (jA i k) := View.readAt_unit _ _ _ (o1_0 i k) _
  have l11 : arg4.view.readAt (Elt F) (Rect.unit (s := S128x8192) (k0_off1 i k 1#32) S128x512.size (k0_off1_inb i k 1)).toLoadRect f4 = vWin (arg4.view.read (Elt F) f4) (jB i k) := View.readAt_unit _ _ _ (o1_1 i k) _
  have a40 : arg13.view.readAt (Elt F) (Rect.unit (s := S2x128x8192) (k0_off4 i k 0#32) S1x128x512.size (k0_off4_inb i k 0)).toLoadRect f13 = kAcc 0 (arg13.view.read (Elt F) f13) (jA i k) := View.readAt_unit _ _ _ (o4_0 i k) _
  have a41 : arg13.view.readAt (Elt F) (Rect.unit (s := S2x128x8192) (k0_off4 i k 1#32) S1x128x512.size (k0_off4_inb i k 1)).toLoadRect f13 = kAcc 0 (arg13.view.read (Elt F) f13) (jB i k) := View.readAt_unit _ _ _ (o4_1 i k) _
  have a50 : arg13.view.readAt (Elt F) (Rect.unit (s := S2x128x8192) (k0_off5 i k 0#32) S1x128x512.size (k0_off5_inb i k 0)).toLoadRect f13 = kAcc 1 (arg13.view.read (Elt F) f13) (jA i k) := View.readAt_unit _ _ _ (o5_0 i k) _
  have a51 : arg13.view.readAt (Elt F) (Rect.unit (s := S2x128x8192) (k0_off5 i k 1#32) S1x128x512.size (k0_off5_inb i k 1)).toLoadRect f13 = kAcc 1 (arg13.view.read (Elt F) f13) (jB i k) := View.readAt_unit _ _ _ (o5_1 i k) _
  have b10 : arg14.view.readAt (Elt F) (Rect.unit (s := S128x8192) (k0_off1 i k 0#32) S128x512.size (k0_off1_inb i k 0)).toLoadRect f14 = vAcc (arg14.view.read (Elt F) f14) (jA i k) := View.readAt_unit _ _ _ (o1_0 i k) _
  have b11 : arg14.view.readAt (Elt F) (Rect.unit (s := S128x8192) (k0_off1 i k 1#32) S128x512.size (k0_off1_inb i k 1)).toLoadRect f14 = vAcc (arg14.view.read (Elt F) f14) (jB i k) := View.readAt_unit _ _ _ (o1_1 i k) _
  isplitl [H3]
  · iexists _; isplitr; swap; · iexact H3
    ipureintro; rfl
  isplitl [H4]
  · iexists _; isplitr; swap; · iexact H4
    ipureintro; rfl
  isplitl [H13]
  · iexists _; isplitr; swap; · iexact H13
    ipureintro
    rw [View.read_writes_cons_put _ _ _ _ _ (o5_1 i k), View.read_writes_cons_put _ _ _ _ _ (o4_1 i k), View.read_writes_cons_put _ _ _ _ _ (o5_0 i k), View.read_writes_cons_put _ _ _ _ _ (o4_0 i k), View.writes_nil]
    delta trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30 trip1.sl.v352 trip1.sl.v403 trip1.sl.v293 trip1.sl.cst_115
    simp only [l20, l21, l30, l31, l10, l11, a40, a41, a50, a51]
    rw [stepK_stepK _ _ _ _ _ _ _ (jA_ne i k)]
    rfl
  isplitl [H14]
  · iexists _; isplitr; swap; · iexact H14
    ipureintro
    rw [View.read_writes_cons_put _ _ _ _ _ (o1_1 i k), View.read_writes_cons_put _ _ _ _ _ (o1_0 i k), View.writes_nil]
    delta trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30 trip1.sl.v414
    simp only [l20, l21, l30, l31, l10, l11, b10, b11]
    rw [stepV_stepV _ _ _ _ _ _ (jA_ne i k)]
    rfl
  iexists _; isplitr; swap; · iexact H15
  ipureintro
  delta trip1.sl.H15_3 trip1.sl.H15_2
  rw [View.read_writes_cons_put _ _ _ _ _ rfl, View.read_writes_cons_put _ _ _ _ _ rfl, View.read_writes_cons_put _ _ _ _ _ rfl, View.read_writes_cons_put _ _ _ _ _ rfl, View.writes_nil]
  delta trip1.sl.v344 trip1.sl.v395
  delta trip1.sl.H15_3 trip1.sl.H15_2
  rw [readCov_q1]
  delta trip1.sl.v285 trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30
  simp only [l20, l21, l30, l31, l10, l11]
  rw [readCov_q0, stepQ_stepQ]
  rfl

end Cert.KernelIdeal.Attn

end
-- ==== Proof.Loop.lean ====
/-
  The loop over the unmasked pairs of key blocks, by its invariant: before trip `k` the first `2 k` blocks are in the
  accumulators.
-/
module

public import proofs.«01_k».proof.Proof.Trip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Key block `n`. -/
def jN (n : ℕ) : Fin 16 := ⟨n % 16, Nat.mod_lt _ (by decide)⟩

/-- The accumulators after the first `n` key blocks, none masked. -/
def accK (x : Ctx F) (K : Vec F S2x8192x128 .bf16) (V : Vec F S128x8192 .bf16) (A : Vec F S2x128x8192 .f32) : ℕ → Vec F S2x128x8192 .f32
  | 0 => A
  | n + 1 => stepK false x K V (jN n) (accK x K V A n)
def accV (x : Ctx F) (K : Vec F S2x8192x128 .bf16) (A : Vec F S128x8192 .f32) : ℕ → Vec F S128x8192 .f32
  | 0 => A
  | n + 1 => stepV false x K (jN n) (accV x K A n)
def accQ (x : Ctx F) (K : Vec F S2x8192x128 .bf16) (V : Vec F S128x8192 .bf16) (A : Vec F S2x512x128 .f32) : ℕ → Vec F S2x512x128 .f32
  | 0 => A
  | n + 1 => stepQ false x K V (jN n) (accQ x K V A n)

theorem jA_eq (i : grid0.Coords) (k : Fin (k0_t1_loop i).trips) : jA i k = jN (2 * k.val) :=
  Fin.ext (Nat.mod_eq_of_lt (jA i k).isLt).symm
theorem jB_eq (i : grid0.Coords) (k : Fin (k0_t1_loop i).trips) : jB i k = jN (2 * k.val + 1) :=
  Fin.ext (Nat.mod_eq_of_lt (jB i k).isLt).symm

@[reducible] def inv1 (c : Dev nD) (arg3 : Memref sig .tc .vmem S2x8192x128 .bf16) (arg4 : Memref sig .tc .vmem S128x8192 .bf16)
    (arg13 : Memref sig .tc .vmem S2x128x8192 .f32) (arg14 : Memref sig .tc .vmem S128x8192 .f32) (arg15 : Memref sig .tc .vmem S2x512x128 .f32)
    (x : Ctx F) (K : Vec F S2x8192x128 .bf16) (V : Vec F S128x8192 .bf16) (A : Vec F S2x128x8192 .f32) (B : Vec F S128x8192 .f32) (C : Vec F S2x512x128 .f32) (k : ℕ) : sProp 𝕄 :=
  iprop(owns (c : Thread nD τ) arg3 fullShare K ∗ owns (c : Thread nD τ) arg4 fullShare V
    ∗ owns (c : Thread nD τ) arg13 fullShare (accK x K V A (2 * k)) ∗ owns (c : Thread nD τ) arg14 fullShare (accV x K B (2 * k)) ∗ owns (c : Thread nD τ) arg15 fullShare (accQ x K V C (2 * k)))

set_option maxHeartbeats 1000000 in
@[reducible] def loopInv1 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F) (v80 c0 : BitVec 32)
    (K : Vec F S2x8192x128 .bf16) (V : Vec F S128x8192 .bf16) (A : Vec F S2x128x8192 .f32) (B : Vec F S128x8192 .f32) (C : Vec F S2x512x128 .f32) :
    Gen.LoopInvTy_k0_t1 Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 v80 c0 where
  inv k _ := inv1 c arg3 arg4 arg13 arg14 arg15 x K V A B C k
  step k _ := by
    iintro ⟨H3, H4, H13, H14, H15⟩
    iapply (trip1 c Set.univ i arg2 harg2 arg3 harg3 arg4 harg4 arg5 harg5 arg6 harg6 arg7 harg7 arg8 harg8 arg9 harg9 arg10 harg10 arg11 harg11 arg12 harg12 arg13 harg13 arg14 harg14 arg15 harg15 arg1 x v80 c0 k K V (accK x K V A (2 * k)) (accV x K B (2 * k)) (accQ x K V C (2 * k)))
    isplitl [H3]; · iexact H3
    isplitl [H4]; · iexact H4
    isplitl [H13]; · iexact H13
    isplitl [H14]; · iexact H14
    isplitl [H15]; · iexact H15
    rw [jA_eq, jB_eq]
    iintro H
    iexact H

end Cert.KernelIdeal.Attn

end
-- ==== Proof.Even.lean ====
/-
  The blocks after the loop, where the query block's number is even: the masked block alone.
-/
module

public import proofs.«01_k».proof.Proof.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query block's own key block. -/
def jI (i : grid0.Coords) : Fin 16 := i 1

set_option maxHeartbeats 4000000 in
theorem partEven (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F) (v80 c0 : BitVec 32)
    (K : Vec F S2x8192x128 .bf16) (V : Vec F S128x8192 .bf16) (A : Vec F S2x128x8192 .f32) (B : Vec F S128x8192 .f32) (C : Vec F S2x512x128 .f32)
    (h2 : k0_cond2 i = 1#1) (h3 : ¬ k0_cond3 i = 1#1)
    (Q : FVec F S512x128 .f32 → sProp 𝕄) :
    iprop(owns (c : Thread nD τ) arg3 fullShare K ∗ owns (c : Thread nD τ) arg4 fullShare V ∗ owns (c : Thread nD τ) arg13 fullShare A ∗ owns (c : Thread nD τ) arg14 fullShare B ∗ owns (c : Thread nD τ) arg15 fullShare C
      ∗ (iprop(owns (c : Thread nD τ) arg3 fullShare K ∗ owns (c : Thread nD τ) arg4 fullShare V
          ∗ owns (c : Thread nD τ) arg13 fullShare (stepK true x K V (jI i) (accK x K V A (2 * (k0_t1_loop i).trips)))
          ∗ owns (c : Thread nD τ) arg14 fullShare (stepV true x K (jI i) (accV x K B (2 * (k0_t1_loop i).trips)))
          ∗ owns (c : Thread nD τ) arg15 fullShare (stepQ true x K V (jI i) (accQ x K V C (2 * (k0_t1_loop i).trips)))) -∗ Q (k0_pay288 (qAcc 0 (stepQ true x K V (jI i) (accQ x K V C (2 * (k0_t1_loop i).trips)))))))
    ⊢ wp frame (wpE (defs₀ (F := F)) Variants.none c none) Set.univ
        (k0_part34 i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 v80 c0) Q := by
  rw [k0_part34_eq_skeleton]
  unfold k0_part34_skel
  simp only [k0_part11_eq_skeleton, k0_part12_eq_skeleton, k0_part13_eq_skeleton, k0_part14_eq_skeleton]
  have htr : (k0_t2_loop i).trips = 0 := trips2 i
  iintro ⟨H3, H4, H13, H14, H15, HQ⟩
  iapply (Scf.wp_for_bind _ _ _ _ _ _ _ _ _ (fun k _ => inv1 c arg3 arg4 arg13 arg14 arg15 x K V A B C k) (loopInv1 c i arg2 harg2 arg3 harg3 arg4 harg4 arg5 harg5 arg6 harg6 arg7 harg7 arg8 harg8 arg9 harg9 arg10 harg10 arg11 harg11 arg12 harg12 arg13 harg13 arg14 harg14 arg15 harg15 arg1 x v80 c0 K V A B C).step) $$ [H3 H4 H13 H14 H15]
  · isplitl [H3]; · iexact H3
    isplitl [H4]; · iexact H4
    isplitl [H13]; · iexact H13
    isplitl [H14]; · iexact H14
    iexact H15
  iintro %acc ⟨H3, H4, H13, H14, H15⟩
  unfold owns
  icases H3 with ⟨%f3, %h3', H3⟩
  icases H4 with ⟨%f4, %h4, H4⟩
  icases H13 with ⟨%f13, %h13, H13⟩
  icases H14 with ⟨%f14, %h14, H14⟩
  icases H15 with ⟨%f15, %h15, H15⟩
  sl_exec
  subst h3' h4
  sl_step
  have e13 : accK x (arg3.view.read (Elt F) f3) (arg4.view.read (Elt F) f4) A (2 * (k0_t1_loop i).trips) = arg13.view.read (Elt F) f13 := h13.symm
  have e14 : accV x (arg3.view.read (Elt F) f3) B (2 * (k0_t1_loop i).trips) = arg14.view.read (Elt F) f14 := h14.symm
  have e15 : accQ x (arg3.view.read (Elt F) f3) (arg4.view.read (Elt F) f4) C (2 * (k0_t1_loop i).trips) = arg15.view.read (Elt F) f15 := h15.symm
  rw [e13, e14, e15]
  have l1 : arg4.view.readAt (Elt F) (Rect.unit (s := S128x8192) (k0_off11 i) S128x512.size (k0_off11_inb i h2)).toLoadRect f4 = vWin (arg4.view.read (Elt F) f4) (jI i) := View.readAt_unit _ _ _ (off11 i) _
  have l2 : arg3.view.readAt (Elt F) (Rect.unit (s := S2x8192x128) (k0_off12 i) S1x512x128.size (k0_off12_inb i h2)).toLoadRect f3 = kWin 0 (arg3.view.read (Elt F) f3) (jI i) := View.readAt_unit _ _ _ (off12 i) _
  have l3 : arg3.view.readAt (Elt F) (Rect.unit (s := S2x8192x128) (k0_off13 i) S1x512x128.size (k0_off13_inb i h2)).toLoadRect f3 = kWin 1 (arg3.view.read (Elt F) f3) (jI i) := View.readAt_unit _ _ _ (off13 i) _
  have a4 : arg13.view.readAt (Elt F) (Rect.unit (s := S2x128x8192) (k0_off14 i) S1x128x512.size (k0_off14_inb i h2)).toLoadRect f13 = kAcc 0 (arg13.view.read (Elt F) f13) (jI i) := View.readAt_unit _ _ _ (off14 i) _
  have a5 : arg13.view.readAt (Elt F) (Rect.unit (s := S2x128x8192) (k0_off15 i) S1x128x512.size (k0_off15_inb i h2)).toLoadRect f13 = kAcc 1 (arg13.view.read (Elt F) f13) (jI i) := View.readAt_unit _ _ _ (off15 i) _
  have b1 : arg14.view.readAt (Elt F) (Rect.unit (s := S128x8192) (k0_off11 i) S128x512.size (k0_off11_inb i h2)).toLoadRect f14 = vAcc (arg14.view.read (Elt F) f14) (jI i) := View.readAt_unit _ _ _ (off11 i) _
  have eQ : arg15.view.read (Elt F) (arg15.view.writes (Elt F) f15 (partEven.sl.H15_2 c i arg3 arg4 arg15 x h2 f3 f4 f15)) = stepQ true x (arg3.view.read (Elt F) f3) (arg4.view.read (Elt F) f4) (jI i) (arg15.view.read (Elt F) f15) := by
    delta partEven.sl.H15_2
    rw [View.read_writes_cons_put _ _ _ _ _ rfl, View.read_writes_cons_put _ _ _ _ _ rfl, View.writes_nil]
    delta partEven.sl.r partEven.sl.r_1 partEven.sl.r_2 partEven.sl.r_3 partEven.sl.r_4 partEven.sl.r_5 partEven.sl.r_6 partEven.sl.r_7 partEven.sl.r_8 partEven.sl.r_9 partEven.sl.r_10 partEven.sl.r_11 partEven.sl.r_12 partEven.sl.r_13 partEven.sl.r_14 partEven.sl.r_15 partEven.sl.r_16 partEven.sl.r_17 partEven.sl.r_18 partEven.sl.r_19 partEven.sl.r_20 partEven.sl.r_21 partEven.sl.r_22 partEven.sl.v324
    simp only [l1, l2, l3]
    rfl
  have e112 : partEven.sl.v112 c i arg3 arg4 arg15 x h2 f3 f4 f15 = qAcc 0 (stepQ true x (arg3.view.read (Elt F) f3) (arg4.view.read (Elt F) f4) (jI i) (arg15.view.read (Elt F) f15)) := by
    rw [qAcc0_stepQ]
    delta partEven.sl.v112 partEven.sl.H15_2
    rw [readCov_q0']
    delta partEven.sl.r partEven.sl.r_1 partEven.sl.r_2 partEven.sl.r_3 partEven.sl.r_4 partEven.sl.r_5 partEven.sl.r_6 partEven.sl.r_7 partEven.sl.r_8 partEven.sl.r_9 partEven.sl.r_10 partEven.sl.r_11 partEven.sl.r_12 partEven.sl.r_13 partEven.sl.r_14 partEven.sl.r_15 partEven.sl.r_16 partEven.sl.r_17 partEven.sl.r_18 partEven.sl.r_19 partEven.sl.r_20 partEven.sl.r_21 partEven.sl.r_22
    simp only [l1, l2, l3]
    rfl
  rw [e112]
  iapply HQ
  isplitl [H3]
  · iexists _; isplitr; swap; · iexact H3
    ipureintro; rfl
  isplitl [H4]
  · iexists _; isplitr; swap; · iexact H4
    ipureintro; rfl
  isplitl [H13]
  · iexists _; isplitr; swap; · iexact H13
    ipureintro
    rw [View.read_writes_cons_put _ _ _ _ _ (off15 i), View.read_writes_cons_put _ _ _ _ _ (off14 i), View.writes_nil]
    delta partEven.sl.r partEven.sl.r_1 partEven.sl.r_2 partEven.sl.r_3 partEven.sl.r_4 partEven.sl.r_5 partEven.sl.r_6 partEven.sl.r_7 partEven.sl.r_8 partEven.sl.r_9 partEven.sl.r_10 partEven.sl.r_11 partEven.sl.r_12 partEven.sl.r_13 partEven.sl.r_14 partEven.sl.r_15 partEven.sl.r_16 partEven.sl.r_17 partEven.sl.r_18 partEven.sl.r_19 partEven.sl.r_20 partEven.sl.r_21 partEven.sl.r_22 partEven.sl.v332 partEven.sl.cst_95
    simp only [l1, l2, l3, a4, a5]
    rfl
  isplitl [H14]
  · iexists _; isplitr; swap; · iexact H14
    ipureintro
    rw [View.read_writes_cons_put _ _ _ _ _ (off11 i), View.writes_nil]
    delta partEven.sl.r partEven.sl.r_1 partEven.sl.r_2 partEven.sl.r_3 partEven.sl.r_4 partEven.sl.r_5 partEven.sl.r_6 partEven.sl.r_7 partEven.sl.r_8 partEven.sl.r_9 partEven.sl.r_10 partEven.sl.r_11 partEven.sl.r_12 partEven.sl.r_13 partEven.sl.r_14 partEven.sl.r_15 partEven.sl.r_16 partEven.sl.r_17 partEven.sl.r_18 partEven.sl.r_19 partEven.sl.r_20 partEven.sl.r_21 partEven.sl.r_22
    simp only [l1, l2, l3, b1]
    rfl
  iexists _; isplitr; swap; · iexact H15
  ipureintro
  exact eQ

end Cert.KernelIdeal.Attn

end
-- ==== Proof.Part21.lean ====
/-
  The last unmasked block and the masked one, where the query block's number is odd.
-/
module

public import proofs.«01_k».proof.Proof.Even

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The key block before the query block's own. -/
def jP (i : grid0.Coords) : Fin 16 := jN ((i 1).val - 1)
theorem eP (i : grid0.Coords) : (i 1).val - 1 = (jP i).val := (Nat.mod_eq_of_lt (by have h : (i 1).val < 16 := (i 1).isLt; omega)).symm
theorem jP_ne : ∀ i : grid0.Coords, k0_cond3 i = 1#1 → jP i ≠ jI i := by decide +kernel

theorem p16_0 (i : grid0.Coords) (h : k0_cond3 i = 1#1) : k0_off16 i 0#32 = ![0, 512 * (jP i).val] := (off16_0 i h).trans (by rw [eP])
theorem p16_1 (i : grid0.Coords) (h : k0_cond3 i = 1#1) : k0_off16 i 1#32 = ![0, 512 * (jI i).val] := (off16_1 i h)
theorem p17_0 (i : grid0.Coords) (h : k0_cond3 i = 1#1) : k0_off17 i 0#32 = ![0, 512 * (jP i).val, 0] := (off17_0 i h).trans (by rw [eP])
theorem p17_1 (i : grid0.Coords) (h : k0_cond3 i = 1#1) : k0_off17 i 1#32 = ![0, 512 * (jI i).val, 0] := (off17_1 i h)
theorem p18_0 (i : grid0.Coords) (h : k0_cond3 i = 1#1) : k0_off18 i 0#32 = ![1, 512 * (jP i).val, 0] := (off18_0 i h).trans (by rw [eP])
theorem p18_1 (i : grid0.Coords) (h : k0_cond3 i = 1#1) : k0_off18 i 1#32 = ![1, 512 * (jI i).val, 0] := (off18_1 i h)
theorem p19_0 (i : grid0.Coords) (h : k0_cond3 i = 1#1) : k0_off19 i 0#32 = ![0, 0, 512 * (jP i).val] := (off19_0 i h).trans (by rw [eP])
theorem p19_1 (i : grid0.Coords) (h : k0_cond3 i = 1#1) : k0_off19 i 1#32 = ![0, 0, 512 * (jI i).val] := (off19_1 i h)
theorem p20_0 (i : grid0.Coords) (h : k0_cond3 i = 1#1) : k0_off20 i 0#32 = ![1, 0, 512 * (jP i).val] := (off20_0 i h).trans (by rw [eP])
theorem p20_1 (i : grid0.Coords) (h : k0_cond3 i = 1#1) : k0_off20 i 1#32 = ![1, 0, 512 * (jI i).val] := (off20_1 i h)
instance (i : grid0.Coords) [h : Fact (k0_cond3 i = 1#1)] : ClosedOff (k0_off16 i 0#32) := ⟨_, off16_0 i h.out⟩
instance (i : grid0.Coords) [h : Fact (k0_cond3 i = 1#1)] : ClosedOff (k0_off16 i 1#32) := ⟨_, off16_1 i h.out⟩
instance (i : grid0.Coords) [h : Fact (k0_cond3 i = 1#1)] : ClosedOff (k0_off17 i 0#32) := ⟨_, off17_0 i h.out⟩
instance (i : grid0.Coords) [h : Fact (k0_cond3 i = 1#1)] : ClosedOff (k0_off17 i 1#32) := ⟨_, off17_1 i h.out⟩
instance (i : grid0.Coords) [h : Fact (k0_cond3 i = 1#1)] : ClosedOff (k0_off18 i 0#32) := ⟨_, off18_0 i h.out⟩
instance (i : grid0.Coords) [h : Fact (k0_cond3 i = 1#1)] : ClosedOff (k0_off18 i 1#32) := ⟨_, off18_1 i h.out⟩
instance (i : grid0.Coords) [h : Fact (k0_cond3 i = 1#1)] : ClosedOff (k0_off19 i 0#32) := ⟨_, off19_0 i h.out⟩
instance (i : grid0.Coords) [h : Fact (k0_cond3 i = 1#1)] : ClosedOff (k0_off19 i 1#32) := ⟨_, off19_1 i h.out⟩
instance (i : grid0.Coords) [h : Fact (k0_cond3 i = 1#1)] : ClosedOff (k0_off20 i 0#32) := ⟨_, off20_0 i h.out⟩
instance (i : grid0.Coords) [h : Fact (k0_cond3 i = 1#1)] : ClosedOff (k0_off20 i 1#32) := ⟨_, off20_1 i h.out⟩

set_option maxHeartbeats 4000000 in
theorem part21 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F)
    (K : Vec F S2x8192x128 .bf16) (V : Vec F S128x8192 .bf16) (A : Vec F S2x128x8192 .f32) (B : Vec F S128x8192 .f32) (C : Vec F S2x512x128 .f32)
    (h3 : k0_cond3 i = 1#1) (Q : FVec F S128x512 .f32 → sProp 𝕄) :
    iprop(owns (c : Thread nD τ) arg3 fullShare K ∗ owns (c : Thread nD τ) arg4 fullShare V ∗ owns (c : Thread nD τ) arg13 fullShare A ∗ owns (c : Thread nD τ) arg14 fullShare B ∗ owns (c : Thread nD τ) arg15 fullShare C
      ∗ (∀ r, iprop(⌜k0_pay287 r = updV x.dt0 x.dt1 (p0 true x K (jI i)) (p1 true x K (jI i)) (vAcc (stepV false x K (jP i) B) (jI i))⌝
          ∗ owns (c : Thread nD τ) arg3 fullShare K ∗ owns (c : Thread nD τ) arg4 fullShare V
          ∗ owns (c : Thread nD τ) arg13 fullShare (stepK true x K V (jI i) (stepK false x K V (jP i) A))
          ∗ owns (c : Thread nD τ) arg14 fullShare (stepV false x K (jP i) B)
          ∗ owns (c : Thread nD τ) arg15 fullShare (stepQ true x K V (jI i) (stepQ false x K V (jP i) C))) -∗ Q r))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 h3) Q := by
  rw [k0_part21_eq_skeleton]
  unfold k0_part21_skel
  simp only [k0_part15_eq_skeleton, k0_part16_eq_skeleton, k0_part17_eq_skeleton, k0_part18_eq_skeleton, k0_part19_eq_skeleton, k0_part20_eq_skeleton]
  haveI : Fact (k0_cond3 i = 1#1) := ⟨h3⟩
  unfold owns
  iintro ⟨⟨%f3, %h3', H3⟩, ⟨%f4, %h4, H4⟩, ⟨%f13, %h13, H13⟩, ⟨%f14, %h14, H14⟩, ⟨%f15, %h15, H15⟩, HQ⟩
  sl_exec
  subst h3' h4 h13 h14 h15
  sl_step
  have l1a : arg4.view.readAt (Elt F) (Rect.unit (s := S128x8192) (k0_off16 i 0#32) S128x512.size (k0_off16_inb i h3 0)).toLoadRect f4 = vWin (arg4.view.read (Elt F) f4) (jP i) := View.readAt_unit _ _ _ (p16_0 i h3) _
  have l2a : arg3.view.readAt (Elt F) (Rect.unit (s := S2x8192x128) (k0_off17 i 0#32) S1x512x128.size (k0_off17_inb i h3 0)).toLoadRect f3 = kWin 0 (arg3.view.read (Elt F) f3) (jP i) := View.readAt_unit _ _ _ (p17_0 i h3) _
  have l3a : arg3.view.readAt (Elt F) (Rect.unit (s := S2x8192x128) (k0_off18 i 0#32) S1x512x128.size (k0_off18_inb i h3 0)).toLoadRect f3 = kWin 1 (arg3.view.read (Elt F) f3) (jP i) := View.readAt_unit _ _ _ (p18_0 i h3) _
  have l1b : arg4.view.readAt (Elt F) (Rect.unit (s := S128x8192) (k0_off16 i 1#32) S128x512.size (k0_off16_inb i h3 1)).toLoadRect f4 = vWin (arg4.view.read (Elt F) f4) (jI i) := View.readAt_unit _ _ _ (p16_1 i h3) _
  have l2b : arg3.view.readAt (Elt F) (Rect.unit (s := S2x8192x128) (k0_off17 i 1#32) S1x512x128.size (k0_off17_inb i h3 1)).toLoadRect f3 = kWin 0 (arg3.view.read (Elt F) f3) (jI i) := View.readAt_unit _ _ _ (p17_1 i h3) _
  have l3b : arg3.view.readAt (Elt F) (Rect.unit (s := S2x8192x128) (k0_off18 i 1#32) S1x512x128.size (k0_off18_inb i h3 1)).toLoadRect f3 = kWin 1 (arg3.view.read (Elt F) f3) (jI i) := View.readAt_unit _ _ _ (p18_1 i h3) _
  have a4a : arg13.view.readAt (Elt F) (Rect.unit (s := S2x128x8192) (k0_off19 i 0#32) S1x128x512.size (k0_off19_inb i h3 0)).toLoadRect f13 = kAcc 0 (arg13.view.read (Elt F) f13) (jP i) := View.readAt_unit _ _ _ (p19_0 i h3) _
  have a5a : arg13.view.readAt (Elt F) (Rect.unit (s := S2x128x8192) (k0_off20 i 0#32) S1x128x512.size (k0_off20_inb i h3 0)).toLoadRect f13 = kAcc 1 (arg13.view.read (Elt F) f13) (jP i) := View.readAt_unit _ _ _ (p20_0 i h3) _
  have b1a : arg14.view.readAt (Elt F) (Rect.unit (s := S128x8192) (k0_off16 i 0#32) S128x512.size (k0_off16_inb i h3 0)).toLoadRect f14 = vAcc (arg14.view.read (Elt F) f14) (jP i) := View.readAt_unit _ _ _ (p16_0 i h3) _
  have iK0 : ∀ a, (![0, 0, 512 * (jI i).val] : Fin S2x128x8192.rank → ℕ) a + S1x128x512.size a ≤ S2x128x8192.size a := p19_1 i h3 ▸ k0_off19_inb i h3 1
  have iK1 : ∀ a, (![1, 0, 512 * (jI i).val] : Fin S2x128x8192.rank → ℕ) a + S1x128x512.size a ≤ S2x128x8192.size a := p20_1 i h3 ▸ k0_off20_inb i h3 1
  have iV : ∀ a, (![0, 512 * (jI i).val] : Fin S128x8192.rank → ℕ) a + S128x512.size a ≤ S128x8192.size a := p16_1 i h3 ▸ k0_off16_inb i h3 1
  have S1 : arg13.view.read (Elt F) (arg13.view.writes (Elt F) f13 (part21.sl.H13_2 c i arg3 arg4 arg13 x h3 f3 f4 f13)) = (stepK false x (arg3.view.read (Elt F) f3) (arg4.view.read (Elt F) f4) (jP i) (arg13.view.read (Elt F) f13)) := by
    delta part21.sl.H13_2
    rw [View.read_writes_cons_put _ _ _ _ _ (p20_0 i h3), View.read_writes_cons_put _ _ _ _ _ (p19_0 i h3), View.writes_nil]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    delta part21.sl.v293
    simp only [l1a, l2a, l3a, l1b, l2b, l3b, a4a, a5a]
    rfl
  have a4c : arg13.view.readAt (Elt F) (Rect.unit (s := S2x128x8192) (k0_off19 i 1#32) S1x128x512.size (k0_off19_inb i h3 1)).toLoadRect (arg13.view.writes (Elt F) f13 (part21.sl.H13_2 c i arg3 arg4 arg13 x h3 f3 f4 f13)) = kAcc 0 (stepK false x (arg3.view.read (Elt F) f3) (arg4.view.read (Elt F) f4) (jP i) (arg13.view.read (Elt F) f13)) (jI i) := by
    rw [View.readAt_unit _ _ _ (p19_1 i h3) iK0, S1]
    rfl
  have S2 : arg13.view.read (Elt F) (arg13.view.writes (Elt F) f13 (part21.sl.H13_3 c i arg3 arg4 arg13 x h3 f3 f4 f13))
      = VecWindow.put (stepK false x (arg3.view.read (Elt F) f3) (arg4.view.read (Elt F) f4) (jP i) (arg13.view.read (Elt F) f13)) ![0, 0, 512 * (jI i).val] S1x128x512.size (updK x.qt0 (ds0 true x (arg3.view.read (Elt F) f3) (arg4.view.read (Elt F) f4) (jI i)) (kAcc 0 (stepK false x (arg3.view.read (Elt F) f3) (arg4.view.read (Elt F) f4) (jP i) (arg13.view.read (Elt F) f13)) (jI i))) := by
    delta part21.sl.H13_3
    rw [View.read_writes_cons_put _ _ _ _ _ (p19_1 i h3), S1]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    simp only [l1a, l2a, l3a, l1b, l2b, l3b, a4c]
    rfl
  have a5c : part21.sl.v459 c i arg3 arg4 arg13 x h3 f3 f4 f13 = kAcc 1 (stepK false x (arg3.view.read (Elt F) f3) (arg4.view.read (Elt F) f4) (jP i) (arg13.view.read (Elt F) f13)) (jI i) := by
    delta part21.sl.v459
    rw [View.readAt_unit _ _ _ (p20_1 i h3) iK1, S2]
    exact VecWindow.window_put_of_disjoint _ _ _ _ _ _ _ 0 (.inr (by show 0 + 1 ≤ 1; omega))
  have T1 : arg14.view.read (Elt F) (arg14.view.writes (Elt F) f14 (part21.sl.H14_1 c i arg3 arg14 x h3 f3 f14)) = (stepV false x (arg3.view.read (Elt F) f3) (jP i) (arg14.view.read (Elt F) f14)) := by
    delta part21.sl.H14_1
    rw [View.read_writes_cons_put _ _ _ _ _ (p16_0 i h3), View.writes_nil]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    simp only [l1a, l2a, l3a, l1b, l2b, l3b, b1a]
    rfl
  have b1c : arg14.view.readAt (Elt F) (Rect.unit (s := S128x8192) (k0_off16 i 1#32) S128x512.size (k0_off16_inb i h3 1)).toLoadRect (arg14.view.writes (Elt F) f14 (part21.sl.H14_1 c i arg3 arg14 x h3 f3 f14)) = vAcc (stepV false x (arg3.view.read (Elt F) f3) (jP i) (arg14.view.read (Elt F) f14)) (jI i) := by
    rw [View.readAt_unit _ _ _ (p16_1 i h3) iV, T1]
    rfl
  have U1 : arg15.view.read (Elt F) (arg15.view.writes (Elt F) f15 (part21.sl.H15_2 c i arg3 arg4 arg15 x h3 f3 f4 f15)) = (stepQ false x (arg3.view.read (Elt F) f3) (arg4.view.read (Elt F) f4) (jP i) (arg15.view.read (Elt F) f15)) := by
    delta part21.sl.H15_2
    rw [View.read_writes_cons_put _ _ _ _ _ rfl, View.read_writes_cons_put _ _ _ _ _ rfl, View.writes_nil]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    delta part21.sl.v285
    simp only [l1a, l2a, l3a, l1b, l2b, l3b]
    rfl
  have c0c : part21.sl.v372 c i arg3 arg4 arg15 x h3 f3 f4 f15 = updQ (ds0 false x (arg3.view.read (Elt F) f3) (arg4.view.read (Elt F) f4) (jP i)) (kWin 0 (arg3.view.read (Elt F) f3) (jP i)) (qAcc 0 (arg15.view.read (Elt F) f15)) := by
    delta part21.sl.v372 part21.sl.H15_2
    rw [readCov_q0']
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    simp only [l1a, l2a, l3a, l1b, l2b, l3b]
    rfl
  have c1c : part21.sl.v451 c i arg3 arg4 arg15 x h3 f3 f4 f15 = updQ (ds1 false x (arg3.view.read (Elt F) f3) (arg4.view.read (Elt F) f4) (jP i)) (kWin 1 (arg3.view.read (Elt F) f3) (jP i)) (qAcc 1 (arg15.view.read (Elt F) f15)) := by
    delta part21.sl.v451 part21.sl.H15_3 part21.sl.H15_2
    rw [readCov_q1]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    delta part21.sl.v285
    simp only [l1a, l2a, l3a, l1b, l2b, l3b]
    rfl
  rw [← qAcc0_stepQ] at c0c
  rw [← qAcc1_stepQ] at c1c
  iapply HQ
  isplitr
  · ipureintro
    rw [b1c]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    simp only [l1a, l2a, l3a, l1b, l2b, l3b]
    rfl
  isplitl [H3]
  · iexists _; isplitr; swap; · iexact H3
    ipureintro; rfl
  isplitl [H4]
  · iexists _; isplitr; swap; · iexact H4
    ipureintro; rfl
  isplitl [H13]
  · iexists _; isplitr; swap; · iexact H13
    ipureintro
    rw [View.read_writes_cons_put _ _ _ _ _ (p20_1 i h3), S2, a5c]
    repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
    simp only [l1a, l2a, l3a, l1b, l2b, l3b]
    rfl
  isplitl [H14]
  · iexists _; isplitr; swap; · iexact H14
    ipureintro
    exact T1
  iexists _; isplitr; swap; · iexact H15
  ipureintro
  delta part21.sl.H15_3
  rw [View.read_writes_cons_put _ _ _ _ _ rfl, View.read_writes_cons_put _ _ _ _ _ rfl, U1, c1c, c0c]
  repeat delta part21.sl.r part21.sl.r_1 part21.sl.r_2 part21.sl.r_3 part21.sl.r_4 part21.sl.r_5 part21.sl.r_6 part21.sl.r_7 part21.sl.r_8 part21.sl.r_9 part21.sl.r_10 part21.sl.r_11 part21.sl.r_12 part21.sl.r_13 part21.sl.r_14 part21.sl.r_15 part21.sl.r_16 part21.sl.r_17 part21.sl.r_18 part21.sl.r_19 part21.sl.r_20 part21.sl.r_21 part21.sl.r_22 part21.sl.r_23 part21.sl.r_24 part21.sl.r_25 part21.sl.r_26 part21.sl.r_27 part21.sl.r_28 part21.sl.r_29 part21.sl.r_30 part21.sl.r_31 part21.sl.r_32 part21.sl.r_33
  simp only [l1a, l2a, l3a, l1b, l2b, l3b]
  rfl

end Cert.KernelIdeal.Attn

end
-- ==== Proof.Odd.lean ====
/-
  The blocks after the loop, where the query block's number is odd: the last unmasked block and the masked one.
-/
module

public import proofs.«01_k».proof.Proof.Part21

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
theorem partOdd (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F) (v80 c0 : BitVec 32)
    (K : Vec F S2x8192x128 .bf16) (V : Vec F S128x8192 .bf16) (A : Vec F S2x128x8192 .f32) (B : Vec F S128x8192 .f32) (C : Vec F S2x512x128 .f32)
    (h2 : ¬ k0_cond2 i = 1#1) (h3 : k0_cond3 i = 1#1)
    (Q : FVec F S512x128 .f32 → sProp 𝕄) :
    iprop(owns (c : Thread nD τ) arg3 fullShare K ∗ owns (c : Thread nD τ) arg4 fullShare V ∗ owns (c : Thread nD τ) arg13 fullShare A ∗ owns (c : Thread nD τ) arg14 fullShare B ∗ owns (c : Thread nD τ) arg15 fullShare C
      ∗ (iprop(owns (c : Thread nD τ) arg3 fullShare K ∗ owns (c : Thread nD τ) arg4 fullShare V
          ∗ owns (c : Thread nD τ) arg13 fullShare (stepK true x K V (jI i) (stepK false x K V (jP i) (accK x K V A (2 * (k0_t1_loop i).trips))))
          ∗ owns (c : Thread nD τ) arg14 fullShare (stepV true x K (jI i) (stepV false x K (jP i) (accV x K B (2 * (k0_t1_loop i).trips))))
          ∗ owns (c : Thread nD τ) arg15 fullShare (stepQ true x K V (jI i) (stepQ false x K V (jP i) (accQ x K V C (2 * (k0_t1_loop i).trips))))) -∗ Q (k0_pay288 (qAcc 0 (stepQ true x K V (jI i) (stepQ false x K V (jP i) (accQ x K V C (2 * (k0_t1_loop i).trips))))))))
    ⊢ wp frame (wpE (defs₀ (F := F)) Variants.none c none) Set.univ
        (k0_part34 i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 v80 c0) Q := by
  rw [k0_part34_eq_skeleton]
  unfold k0_part34_skel
  haveI : Fact (k0_cond3 i = 1#1) := ⟨h3⟩
  have htr : (k0_t2_loop i).trips = 0 := trips2 i
  iintro ⟨H3, H4, H13, H14, H15, HQ⟩
  iapply (Scf.wp_for_bind _ _ _ _ _ _ _ _ _ (fun k _ => inv1 c arg3 arg4 arg13 arg14 arg15 x K V A B C k) (loopInv1 c i arg2 harg2 arg3 harg3 arg4 harg4 arg5 harg5 arg6 harg6 arg7 harg7 arg8 harg8 arg9 harg9 arg10 harg10 arg11 harg11 arg12 harg12 arg13 harg13 arg14 harg14 arg15 harg15 arg1 x v80 c0 K V A B C).step) $$ [H3 H4 H13 H14 H15]
  · isplitl [H3]; · iexact H3
    isplitl [H4]; · iexact H4
    isplitl [H13]; · iexact H13
    isplitl [H14]; · iexact H14
    iexact H15
  iintro %acc ⟨H3, H4, H13, H14, H15⟩
  have hcut := part21 c i arg2 harg2 arg3 harg3 arg4 harg4 arg5 harg5 arg6 harg6 arg7 harg7 arg8 harg8 arg9 harg9 arg10 harg10 arg11 harg11 arg12 harg12 arg13 harg13 arg14 harg14 arg15 harg15 arg1 x K V (accK x K V A (2 * (k0_t1_loop i).trips)) (accV x K B (2 * (k0_t1_loop i).trips)) (accQ x K V C (2 * (k0_t1_loop i).trips)) h3
  unfold owns at hcut ⊢
  icases H3 with ⟨%f3, %h3', H3⟩
  icases H4 with ⟨%f4, %h4, H4⟩
  icases H13 with ⟨%f13, %h13, H13⟩
  icases H14 with ⟨%f14, %h14, H14⟩
  icases H15 with ⟨%f15, %h15, H15⟩
  have e13 : accK x K V A (2 * (k0_t1_loop i).trips) = arg13.view.read (Elt F) f13 := h13.symm
  have e14 : accV x K B (2 * (k0_t1_loop i).trips) = arg14.view.read (Elt F) f14 := h14.symm
  have e15 : accQ x K V C (2 * (k0_t1_loop i).trips) = arg15.view.read (Elt F) f15 := h15.symm
  have hc : iprop(((arg3.view.loc (c : Thread nD τ)) ↦[arg3.view.set]{fullShare} f3 : sProp 𝕄) ∗ ((arg4.view.loc (c : Thread nD τ)) ↦[arg4.view.set]{fullShare} f4 : sProp 𝕄) ∗ ((arg13.view.loc (c : Thread nD τ)) ↦[arg13.view.set]{fullShare} f13 : sProp 𝕄) ∗ ((arg14.view.loc (c : Thread nD τ)) ↦[arg14.view.set]{fullShare} f14 : sProp 𝕄) ∗ ((arg15.view.loc (c : Thread nD τ)) ↦[arg15.view.set]{fullShare} f15 : sProp 𝕄))
      ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 h3)
        (fun r => iprop(⌜k0_pay287 r = updV x.dt0 x.dt1 (p0 true x K (jI i)) (p1 true x K (jI i)) (vAcc (stepV false x K (jP i) (accV x K B (2 * (k0_t1_loop i).trips))) (jI i))⌝
          ∗ (∃ f, ⌜arg3.view.read (Elt F) f = K⌝ ∗ ((arg3.view.loc (c : Thread nD τ)) ↦[arg3.view.set]{fullShare} f : sProp 𝕄)) ∗ (∃ f, ⌜arg4.view.read (Elt F) f = V⌝ ∗ ((arg4.view.loc (c : Thread nD τ)) ↦[arg4.view.set]{fullShare} f : sProp 𝕄)) ∗ (∃ f, ⌜arg13.view.read (Elt F) f = stepK true x K V (jI i) (stepK false x K V (jP i) (accK x K V A (2 * (k0_t1_loop i).trips)))⌝ ∗ ((arg13.view.loc (c : Thread nD τ)) ↦[arg13.view.set]{fullShare} f : sProp 𝕄)) ∗ (∃ f, ⌜arg14.view.read (Elt F) f = stepV false x K (jP i) (accV x K B (2 * (k0_t1_loop i).trips))⌝ ∗ ((arg14.view.loc (c : Thread nD τ)) ↦[arg14.view.set]{fullShare} f : sProp 𝕄)) ∗ (∃ f, ⌜arg15.view.read (Elt F) f = stepQ true x K V (jI i) (stepQ false x K V (jP i) (accQ x K V C (2 * (k0_t1_loop i).trips)))⌝ ∗ ((arg15.view.loc (c : Thread nD τ)) ↦[arg15.view.set]{fullShare} f : sProp 𝕄)))) := by
    iintro ⟨H3, H4, H13, H14, H15⟩
    iapply hcut
    isplitl [H3]; · iexists _; isplitr; swap; · iexact H3
                    ipureintro; exact h3'
    isplitl [H4]; · iexists _; isplitr; swap; · iexact H4
                    ipureintro; exact h4
    isplitl [H13]; · iexists _; isplitr; swap; · iexact H13
                     ipureintro; exact h13
    isplitl [H14]; · iexists _; isplitr; swap; · iexact H14
                     ipureintro; exact h14
    isplitl [H15]; · iexists _; isplitr; swap; · iexact H15
                     ipureintro; exact h15
    iintro %r H
    iexact H
  clear hcut
  sl_exec
  sl_step
  have q1 : arg15.view.readAt (Elt F) (Rect.unit (s := S2x512x128) ![0, 0, 0] S1x512x128.size inb_S2x512x128_S1x512x128_0_0_0).toLoadRect fk0_part21_4
      = qAcc 0 (stepQ true x K V (jI i) (stepQ false x K V (jP i) (accQ x K V C (2 * (k0_t1_loop i).trips)))) := by
    rw [← hk0_part21_9]
    exact View.readAt_unit _ _ _ rfl _
  rw [q1]
  iapply HQ
  isplitl [Hk0_part21_2]
  · iexists _; isplitr; swap; · iexact Hk0_part21_2
    ipureintro; exact hk0_part21_1
  isplitl [Hk0_part21_4]
  · iexists _; isplitr; swap; · iexact Hk0_part21_4
    ipureintro; exact hk0_part21_3
  isplitl [Hk0_part21_6]
  · iexists _; isplitr; swap; · iexact Hk0_part21_6
    ipureintro; exact hk0_part21_5
  isplitl [Hk0_part21_8]
  · iexists _; isplitr; swap; · iexact Hk0_part21_8
    ipureintro
    rw [View.read_writes_cons_put _ _ _ _ _ (p16_1 i h3), View.writes_nil, hk0_part21_7, hk0_part21_0]
    rfl
  iexists _; isplitr; swap; · iexact Hk0_part21_10
  ipureintro
  exact hk0_part21_9

end Cert.KernelIdeal.Attn

end
-- ==== Proof.Step.lean ====
/-
  One grid point's two loops and the blocks after them, for a query block of either parity.
-/
module

public import proofs.«01_k».proof.Proof.Odd

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem par : ∀ i : grid0.Coords, (k0_cond2 i = 1#1 ∧ ¬ k0_cond3 i = 1#1 ∧ (i 1).val % 2 = 0) ∨ (¬ k0_cond2 i = 1#1 ∧ k0_cond3 i = 1#1 ∧ (i 1).val % 2 = 1) := by decide +kernel

/-- The gradient of the keys after a grid point: every key block before the query block's own without the mask, then its own with it. -/
def finK (x : Ctx F) (K : Vec F S2x8192x128 .bf16) (V : Vec F S128x8192 .bf16) (i : grid0.Coords) (A : Vec F S2x128x8192 .f32) : Vec F S2x128x8192 .f32 :=
  stepK true x K V (jI i) (accK x K V A (i 1).val)
/-- The gradient of the values after a grid point. -/
def finV (x : Ctx F) (K : Vec F S2x8192x128 .bf16) (i : grid0.Coords) (B : Vec F S128x8192 .f32) : Vec F S128x8192 .f32 :=
  stepV true x K (jI i) (accV x K B (i 1).val)
/-- The gradient of the queries after a grid point. -/
def finQ (x : Ctx F) (K : Vec F S2x8192x128 .bf16) (V : Vec F S128x8192 .bf16) (i : grid0.Coords) (C : Vec F S2x512x128 .f32) : Vec F S2x512x128 .f32 :=
  stepQ true x K V (jI i) (accQ x K V C (i 1).val)

theorem part34 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32) (x : Ctx F) (v80 c0 : BitVec 32)
    (K : Vec F S2x8192x128 .bf16) (V : Vec F S128x8192 .bf16) (A : Vec F S2x128x8192 .f32) (B : Vec F S128x8192 .f32) (C : Vec F S2x512x128 .f32)
    (Q : FVec F S512x128 .f32 → sProp 𝕄) :
    iprop(owns (c : Thread nD τ) arg3 fullShare (K) ∗ owns (c : Thread nD τ) arg4 fullShare (V) ∗ owns (c : Thread nD τ) arg13 fullShare (A) ∗ owns (c : Thread nD τ) arg14 fullShare (B) ∗ owns (c : Thread nD τ) arg15 fullShare (C)
      ∗ (iprop(owns (c : Thread nD τ) arg3 fullShare (K) ∗ owns (c : Thread nD τ) arg4 fullShare (V) ∗ owns (c : Thread nD τ) arg13 fullShare (finK x K V i A) ∗ owns (c : Thread nD τ) arg14 fullShare (finV x K i B) ∗ owns (c : Thread nD τ) arg15 fullShare (finQ x K V i C)) -∗ Q (k0_pay288 (qAcc 0 (finQ x K V i C)))))
    ⊢ wp frame (wpE (defs₀ (F := F)) Variants.none c none) Set.univ
        (k0_part34 i arg2 harg2 arg3 harg3 arg4 harg4 arg5 harg5 arg6 harg6 arg7 harg7 arg8 harg8 arg9 harg9 arg10 harg10 arg11 harg11 arg12 harg12 arg13 harg13 arg14 harg14 arg15 harg15 arg1 x.do0 x.do1 x.de0 x.de1 x.ls0 x.ls1 x.q0 x.q1 x.qt0 x.qt1 x.dt0 x.dt1 v80 c0) Q := by
  rcases par i with ⟨h2, h3, hp⟩ | ⟨h2, h3, hp⟩
  · have ht : 2 * (k0_t1_loop i).trips = (i 1).val := by have := trips1 i; omega
    have h := partEven c i arg2 harg2 arg3 harg3 arg4 harg4 arg5 harg5 arg6 harg6 arg7 harg7 arg8 harg8 arg9 harg9 arg10 harg10 arg11 harg11 arg12 harg12 arg13 harg13 arg14 harg14 arg15 harg15 arg1 x v80 c0 K V A B C h2 h3 Q
    rw [ht] at h
    exact h
  · obtain ⟨n, hn⟩ : ∃ n, (i 1).val = n + 1 := ⟨(i 1).val - 1, by omega⟩
    have ht : 2 * (k0_t1_loop i).trips = n := by have := trips1 i; omega
    have hj : jP i = jN n := by unfold jP; rw [hn]; rfl
    have h := partOdd c i arg2 harg2 arg3 harg3 arg4 harg4 arg5 harg5 arg6 harg6 arg7 harg7 arg8 harg8 arg9 harg9 arg10 harg10 arg11 harg11 arg12 harg12 arg13 harg13 arg14 harg14 arg15 harg15 arg1 x v80 c0 K V A B C h2 h3 Q
    rw [ht, hj] at h
    unfold finK finV finQ
    rw [hn]
    exact h

end Cert.KernelIdeal.Attn

end
-- ==== Proof.Head.lean ====
/-
  What a grid point reads before its loops: the accumulators' first contents and the vectors the loops use.
-/
module

public import proofs.«01_k».proof.Proof.Step

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the loops use of the query block `q`, the attention's output `o`, its gradient `g` and the logits' normalisers `l`. -/
def ctxOf (q : Vec F S2x512x128 .bf16) (o : Vec F S512x128 .f32) (g : Vec F S512x128 .bf16) (l : Vec F S1x512x128 .f32) : Ctx F where
  do0 := k0_pay264 g
  do1 := k0_pay265 g
  de0 := k0_pay266 g o
  de1 := k0_pay269 (k0_pay260 g o) k0_pay267 (k0_pay268 (F := F))
  ls0 := k0_pay270 k0_pay258 (k0_pay261 l) (k0_pay262 l)
  ls1 := k0_pay271 k0_pay258 (k0_pay261 l) (k0_pay262 l)
  q0 := k0_pay272 (VecWindow.window q ![0, 0, 0] S1x512x128.size inb_S2x512x128_S1x512x128_0_0_0)
  q1 := k0_pay273 (VecWindow.window q ![1, 0, 0] S1x512x128.size inb_S2x512x128_S1x512x128_1_0_0)
  qt0 := k0_pay274 (VecWindow.window q ![0, 0, 0] S1x512x128.size inb_S2x512x128_S1x512x128_0_0_0)
  qt1 := k0_pay275 (VecWindow.window q ![1, 0, 0] S1x512x128.size inb_S2x512x128_S1x512x128_1_0_0)
  dt0 := k0_pay276 (k0_pay264 g)
  dt1 := k0_pay277 (k0_pay265 g)

/-- The keys' accumulator as the loops find it: zero at a head's first query block. -/
def iniK (i : grid0.Coords) (A : Vec F S2x128x8192 .f32) : Vec F S2x128x8192 .f32 := if (i 1).val = 0 then k0_pay255 else A
/-- The values' accumulator as the loops find it: zero at a head's first query block. -/
def iniV (i : grid0.Coords) (B : Vec F S128x8192 .f32) : Vec F S128x8192 .f32 := if (i 1).val = 0 then k0_pay256 else B

theorem first : ∀ n : Fin 16, (Scalar.cmpi .ne (Scalar.extui (Scalar.cmpi .eq (BitVec.ofNat 32 n.val) 0#32)) 0#32 = 1#1) ↔ n.val = 0 := by decide +kernel

set_option maxHeartbeats 1000000 in
theorem part32 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole)
    (O : Vec F S512x128 .f32) (G : Vec F S512x128 .bf16) (L : Vec F S1x512x128 .f32) (A : Vec F S2x128x8192 .f32) (B : Vec F S128x8192 .f32) (C : Vec F S2x512x128 .f32)
    (Q : _ → sProp 𝕄) :
    iprop(owns (c : Thread nD τ) arg5 fullShare (O) ∗ owns (c : Thread nD τ) arg6 fullShare (G) ∗ owns (c : Thread nD τ) arg7 fullShare (L) ∗ owns (c : Thread nD τ) arg13 fullShare (A) ∗ owns (c : Thread nD τ) arg14 fullShare (B) ∗ owns (c : Thread nD τ) arg15 fullShare (C)
      ∗ (iprop(owns (c : Thread nD τ) arg5 fullShare (O) ∗ owns (c : Thread nD τ) arg6 fullShare (G) ∗ owns (c : Thread nD τ) arg7 fullShare (L) ∗ owns (c : Thread nD τ) arg13 fullShare (iniK i A) ∗ owns (c : Thread nD τ) arg14 fullShare (iniV i B) ∗ owns (c : Thread nD τ) arg15 fullShare (k0_pay257))
          -∗ Q ⟨BitVec.ofNat 32 (i 1).val, k0_pay258, k0_pay260 G O, k0_pay261 L, k0_pay262 L, k0_pay264 G, k0_pay265 G, k0_pay266 G O, k0_pay267, k0_pay268 (F := F)⟩))
    ⊢ wp frame (wpE (defs₀ (F := F)) Variants.none c none) Set.univ (k0_part32 i arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part32_eq_skeleton]
  unfold k0_part32_skel owns
  iintro ⟨⟨%f5, %h5, H5⟩, ⟨%f6, %h6, H6⟩, ⟨%f7, %h7, H7⟩, ⟨%f13, %h13, H13⟩, ⟨%f14, %h14, H14⟩, ⟨%f15, %h15, H15⟩, HQ⟩
  by_cases h0 : (i 1).val = 0
  · have hc : Scalar.cmpi .ne (Scalar.extui (Scalar.cmpi .eq (BitVec.ofNat 32 (i 1).val) 0#32)) 0#32 = 1#1 := (first (i 1)).mpr h0
    sl_exec
    sl_step
    rw [View.readAt_full, View.readAt_full, View.readAt_full, h5, h6, h7]
    iapply HQ
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H13]
    · iexists _; isplitr; swap; · iexact H13
      ipureintro; rw [iniK, if_pos h0]; exact View.read_writes_full _ _ _ _ _
    isplitl [H14]
    · iexists _; isplitr; swap; · iexact H14
      ipureintro; rw [iniV, if_pos h0]; exact View.read_writes_full _ _ _ _ _
    iexists _; isplitr; swap; · iexact H15
    ipureintro; exact View.read_writes_full _ _ _ _ _
  · have hc : ¬ Scalar.cmpi .ne (Scalar.extui (Scalar.cmpi .eq (BitVec.ofNat 32 (i 1).val) 0#32)) 0#32 = 1#1 := fun h => h0 ((first (i 1)).mp h)
    sl_exec
    sl_step
    rw [View.readAt_full, View.readAt_full, View.readAt_full, h5, h6, h7]
    iapply HQ
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H13]
    · iexists _; isplitr; swap; · iexact H13
      ipureintro; rw [iniK, if_neg h0]; exact h13
    isplitl [H14]
    · iexists _; isplitr; swap; · iexact H14
      ipureintro; rw [iniV, if_neg h0]; exact h14
    iexists _; isplitr; swap; · iexact H15
    ipureintro; exact View.read_writes_full _ _ _ _ _

theorem part33 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (arg1 : BitVec 32)
    (q : Vec F S2x512x128 .bf16) (v15 v17 v18 : FVec F S512x128 .f32) (v22 v25 : FVec F S512x128 .bf16) (v35 : IVec S512x128 1) (v36 : FVec F S512x128 .f32) (v9 : IVec S1x128 1)
    (Q : _ → sProp 𝕄) :
    iprop(owns (c : Thread nD τ) arg2 fullShare (q)
      ∗ (∀ v80, iprop(owns (c : Thread nD τ) arg2 fullShare (q)) -∗ Q ⟨k0_pay269 v15 v35 v36, k0_pay270 v9 v17 v18, k0_pay271 v9 v17 v18, k0_pay272 (VecWindow.window q ![0, 0, 0] S1x512x128.size inb_S2x512x128_S1x512x128_0_0_0),
          k0_pay273 (VecWindow.window q ![1, 0, 0] S1x512x128.size inb_S2x512x128_S1x512x128_1_0_0), k0_pay274 (VecWindow.window q ![0, 0, 0] S1x512x128.size inb_S2x512x128_S1x512x128_0_0_0),
          k0_pay275 (VecWindow.window q ![1, 0, 0] S1x512x128.size inb_S2x512x128_S1x512x128_1_0_0), k0_pay276 v22, k0_pay277 v25, v80, 0#32⟩))
    ⊢ wp frame (wpE (defs₀ (F := F)) Variants.none c none) Set.univ (k0_part33 i arg2 harg2 arg3 harg3 arg4 harg4 arg5 harg5 arg6 harg6 arg7 harg7 arg8 harg8 arg9 harg9 arg10 harg10 arg11 harg11 arg12 harg12 arg13 harg13 arg14 harg14 arg15 harg15 arg1 v9 v15 v17 v18 v22 v25 v35 v36) Q := by
  rw [k0_part33_eq_skeleton]
  unfold k0_part33_skel owns
  iintro ⟨⟨%f2, %h2, H2⟩, HQ⟩
  sl_exec
  sl_step
  have e0 : arg2.view.readAt (Elt F) (Rect.unit (s := S2x512x128) ![0, 0, 0] S1x512x128.size inb_S2x512x128_S1x512x128_0_0_0).toLoadRect f2 = VecWindow.window q ![0, 0, 0] S1x512x128.size inb_S2x512x128_S1x512x128_0_0_0 := by
    rw [← h2]; exact View.readAt_unit _ _ _ rfl _
  have e1 : arg2.view.readAt (Elt F) (Rect.unit (s := S2x512x128) ![1, 0, 0] S1x512x128.size inb_S2x512x128_S1x512x128_1_0_0).toLoadRect f2 = VecWindow.window q ![1, 0, 0] S1x512x128.size inb_S2x512x128_S1x512x128_1_0_0 := by
    rw [← h2]; exact View.readAt_unit _ _ _ rfl _
  rw [e0, e1]
  iapply HQ
  iexists _; isplitr; swap; · iexact H2
  ipureintro; exact h2

/-- The block of the queries' gradient that a grid point writes. -/
def dqOut (C : Vec F S2x512x128 .f32) : Vec F S512x128 .bf16 :=
  k0_pay290 k0_pay258 (k0_pay288 (qAcc 0 C)) (qAcc 1 C)
/-- The block of the query-side cumulative decay's gradient that a grid point writes. -/
def dqeOut (C : Vec F S2x512x128 .f32) : Vec F S1x8x512 .f32 :=
  k0_pay1 (k0_pay291 (qAcc 1 C)) k0_pay292 (k0_pay293 (k0_pay288 (qAcc 0 C)))

theorem part35 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole)
    (D : Vec F S512x128 .bf16) (C : Vec F S2x512x128 .f32)
    (Q : _ → sProp 𝕄) :
    iprop(owns (c : Thread nD τ) arg8 fullShare (D) ∗ owns (c : Thread nD τ) arg15 fullShare (C)
      ∗ (iprop(owns (c : Thread nD τ) arg8 fullShare (dqOut C) ∗ owns (c : Thread nD τ) arg15 fullShare (C)) -∗ Q ⟨iota .tc S8x1 32 [0] iota_S8x1_d0_w32, k0_pay291 (qAcc 1 C), k0_pay292, k0_pay293 (k0_pay288 (qAcc 0 C))⟩))
    ⊢ wp frame (wpE (defs₀ (F := F)) Variants.none c none) Set.univ (k0_part35 i arg2 harg2 arg3 harg3 arg4 harg4 arg5 harg5 arg6 harg6 arg7 harg7 arg8 harg8 arg9 harg9 arg10 harg10 arg11 harg11 arg12 harg12 arg13 harg13 arg14 harg14 arg15 harg15 k0_pay258 (k0_pay288 (qAcc 0 C))) Q := by
  rw [k0_part35_eq_skeleton]
  unfold k0_part35_skel owns
  iintro ⟨⟨%f8, %h8, H8⟩, ⟨%f15, %h15, H15⟩, HQ⟩
  sl_exec
  sl_step
  have e : arg15.view.readAt (Elt F) (Rect.unit (s := S2x512x128) ![1, 0, 0] S1x512x128.size inb_S2x512x128_S1x512x128_1_0_0).toLoadRect f15 = qAcc 1 C := by
    rw [← h15]; exact View.readAt_unit _ _ _ rfl _
  rw [e]
  delta part35.sl.v124
  iapply HQ
  isplitl [H8]
  · iexists _; isplitr; swap; · iexact H8
    ipureintro
    exact View.read_writes_full _ _ _ _ _
  iexists _; isplitr; swap; · iexact H15
  ipureintro; exact h15

end Cert.KernelIdeal.Attn

end
-- ==== Proof.Tail.lean ====
/-
  What a head's last query block writes: the keys' and values' gradients from their accumulators.
-/
module

public import proofs.«01_k».proof.Proof.Head

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The keys' gradient read from its accumulator, sixteen blocks of 512 rows. -/
def dkBlk (A : Vec F S2x128x8192 .f32) (n : Fin 16) : Vec F S512x128 .bf16 :=
  k0_pay220 k0_pay258 (VecWindow.window A ![0, 0, 512 * n.val] S1x128x512.size (by intro a; fin_cases a <;> simp [S1x128x512, S2x128x8192] <;> omega))
    (VecWindow.window A ![1, 0, 512 * n.val] S1x128x512.size (by intro a; fin_cases a <;> simp [S1x128x512, S2x128x8192] <;> omega))
/-- The values' gradient read from its accumulator, sixteen blocks of 512 rows. -/
def dvBlk (B : Vec F S128x8192 .f32) (n : Fin 16) : Vec F S512x128 .bf16 :=
  k0_pay221 (VecWindow.window B ![0, 512 * n.val] S128x512.size (by intro a; fin_cases a <;> simp [S128x512, S128x8192] <;> omega))

/-- The index of row `r` of a block, in the column of `y`. -/
def rowAt (y : S8192x128.Idx) (r : Fin 512) : S512x128.Idx := Fin.cons r (Fin.cons (y 1) fun a => a.elim0)

/-- Sixteen blocks of 512 rows, one below the other. -/
def stackRows (G : Fin 16 → Vec F S512x128 .bf16) : Vec F S8192x128 .bf16 := fun y =>
  G ⟨(y 0).val / 512, by have : (y 0).val < 8192 := (y 0).isLt; omega⟩ (rowAt y ⟨(y 0).val % 512, Nat.mod_lt _ (by decide)⟩)

/-- The keys' gradient a head writes. -/
def dkOut (A : Vec F S2x128x8192 .f32) : Vec F S8192x128 .bf16 := stackRows (dkBlk A)
/-- The values' gradient a head writes. -/
def dvOut (B : Vec F S128x8192 .f32) : Vec F S8192x128 .bf16 := stackRows (dvBlk B)
/-- The gradient of the key-side cumulative decay a head writes. -/
def dkeOut (A : Vec F S2x128x8192 .f32) : Vec F S1x8x8192 .f32 :=
  k0_pay214 (iota .tc S8x1 32 [0] iota_S8x1_d0_w32) (VecWindow.window A ![0, 64, 0] S1x8x8192.size inb_S2x128x8192_S1x8x8192_0_64_0)
    (VecWindow.window A ![1, 64, 0] S1x8x8192.size inb_S2x128x8192_S1x8x8192_1_64_0)

theorem stack_at (G : Fin 16 → Vec F S512x128 .bf16) (y : S8192x128.Idx) (n : Fin 16) (r : ℕ) (hr : r < 512) (hy : (y 0).val = 512 * n.val + r) :
    G n (rowAt y ⟨r, hr⟩) = stackRows G y := by
  have e1 : (⟨(y 0).val / 512, by have : (y 0).val < 8192 := (y 0).isLt; omega⟩ : Fin 16) = n := Fin.ext (by show (y 0).val / 512 = n.val; omega)
  have e2 : (⟨(y 0).val % 512, Nat.mod_lt _ (by decide)⟩ : Fin 512) = ⟨r, hr⟩ := Fin.ext (by show (y 0).val % 512 = r; omega)
  unfold stackRows
  rw [e1]
  exact congrArg (fun k : Fin 512 => G n (rowAt y k)) e2.symm

section Stack

variable {κ : Kind} {sp : Space} (v : View sig κ sp S8192x128 .bf16) (f : v.ty.Contents (Elt F))

theorem skip (o : ℕ) (inb : ∀ a, (![o, 0] : Fin 2 → ℕ) a + S512x128.size a ≤ S8192x128.size a) (w : Vec F S512x128 .bf16) (L : List (View.Piece (Elt F) S8192x128 .bf16))
    (y : S8192x128.Idx) (h : (y 0).val < o ∨ o + 512 ≤ (y 0).val) :
    v.read (Elt F) (v.writes (Elt F) f (⟨Rect.unit (s := S8192x128) ![o, 0] S512x128.size inb, w⟩ :: L)) y = v.read (Elt F) (v.writes (Elt F) f L) y :=
  View.read_writes_cons_rows_of_not_mem (o := o) (W := 512) v f inb w L y rfl rfl h

theorem hit (o : ℕ) (inb : ∀ a, (![o, 0] : Fin 2 → ℕ) a + S512x128.size a ≤ S8192x128.size a) (w : Vec F S512x128 .bf16) (L : List (View.Piece (Elt F) S8192x128 .bf16))
    (y : S8192x128.Idx) (r : ℕ) (hr : r < 512) (h : (y 0).val = o + r) :
    v.read (Elt F) (v.writes (Elt F) f (⟨Rect.unit (s := S8192x128) ![o, 0] S512x128.size inb, w⟩ :: L)) y = w (rowAt y ⟨r, hr⟩) :=
  View.read_writes_cons_rows_of_mem (o := o) v f inb w L y (rowAt y ⟨r, hr⟩) rfl h rfl

/-- A block of the stack on top of blocks that hold it below. -/
theorem next (G : Fin 16 → Vec F S512x128 .bf16) (n : Fin 16) (o : ℕ) (inb : ∀ a, (![o, 0] : Fin 2 → ℕ) a + S512x128.size a ≤ S8192x128.size a)
    (L : List (View.Piece (Elt F) S8192x128 .bf16)) (y : S8192x128.Idx) (ho : o = 512 * n.val)
    (hL : (y 0).val < o → v.read (Elt F) (v.writes (Elt F) f L) y = stackRows G y) (hy : (y 0).val < o + 512) :
    v.read (Elt F) (v.writes (Elt F) f (⟨Rect.unit (s := S8192x128) ![o, 0] S512x128.size inb, G n⟩ :: L)) y = stackRows G y := by
  by_cases h : (y 0).val < o
  · exact (skip v f o inb (G n) L y (.inl h)).trans (hL h)
  · exact (hit v f o inb (G n) L y ((y 0).val - o) (by omega) (by omega)).trans (stack_at G y n _ _ (by omega))

theorem read_stack (G : Fin 16 → Vec F S512x128 .bf16) :
    v.read (Elt F) (v.writes (Elt F) f [⟨Rect.unit ![7680, 0] S512x128.size inb_S8192x128_S512x128_7680_0, G 15⟩, ⟨Rect.unit ![7168, 0] S512x128.size inb_S8192x128_S512x128_7168_0, G 14⟩, ⟨Rect.unit ![6656, 0] S512x128.size inb_S8192x128_S512x128_6656_0, G 13⟩, ⟨Rect.unit ![6144, 0] S512x128.size inb_S8192x128_S512x128_6144_0, G 12⟩, ⟨Rect.unit ![5632, 0] S512x128.size inb_S8192x128_S512x128_5632_0, G 11⟩, ⟨Rect.unit ![5120, 0] S512x128.size inb_S8192x128_S512x128_5120_0, G 10⟩, ⟨Rect.unit ![4608, 0] S512x128.size inb_S8192x128_S512x128_4608_0, G 9⟩, ⟨Rect.unit ![4096, 0] S512x128.size inb_S8192x128_S512x128_4096_0, G 8⟩, ⟨Rect.unit ![3584, 0] S512x128.size inb_S8192x128_S512x128_3584_0, G 7⟩, ⟨Rect.unit ![3072, 0] S512x128.size inb_S8192x128_S512x128_3072_0, G 6⟩, ⟨Rect.unit ![2560, 0] S512x128.size inb_S8192x128_S512x128_2560_0, G 5⟩, ⟨Rect.unit ![2048, 0] S512x128.size inb_S8192x128_S512x128_2048_0, G 4⟩, ⟨Rect.unit ![1536, 0] S512x128.size inb_S8192x128_S512x128_1536_0, G 3⟩, ⟨Rect.unit ![1024, 0] S512x128.size inb_S8192x128_S512x128_1024_0, G 2⟩, ⟨Rect.unit ![512, 0] S512x128.size inb_S8192x128_S512x128_512_0, G 1⟩, ⟨Rect.unit ![0, 0] S512x128.size inb_S8192x128_S512x128_0_0, G 0⟩]) = stackRows G := by
  funext y
  have hlt : (y 0).val < 8192 := (y 0).isLt
  iterate 16
    refine next v f G _ _ _ _ y rfl (fun hlt => ?_) hlt
  exact absurd hlt (Nat.not_lt_zero _)

end Stack

set_option maxHeartbeats 2000000 in
theorem closing (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole)
    (D9 D10 : Vec F S8192x128 .bf16) (D12 : Vec F S1x8x8192 .f32) (A : Vec F S2x128x8192 .f32) (B : Vec F S128x8192 .f32)
    (Q : _ → sProp 𝕄) :
    iprop(owns (c : Thread nD τ) arg9 fullShare (D9) ∗ owns (c : Thread nD τ) arg10 fullShare (D10) ∗ owns (c : Thread nD τ) arg12 fullShare (D12) ∗ owns (c : Thread nD τ) arg13 fullShare (A) ∗ owns (c : Thread nD τ) arg14 fullShare (B)
      ∗ (iprop(owns (c : Thread nD τ) arg9 fullShare (dkOut A) ∗ owns (c : Thread nD τ) arg10 fullShare (dvOut B) ∗ owns (c : Thread nD τ) arg12 fullShare (dkeOut A) ∗ owns (c : Thread nD τ) arg13 fullShare (A) ∗ owns (c : Thread nD τ) arg14 fullShare (B)) -∗ Q ⟨⟩))
    ⊢ wp frame (wpE (defs₀ (F := F)) Variants.none c none) Set.univ ((do
      k0_part22 i arg2 harg2 arg3 harg3 arg4 harg4 arg5 harg5 arg6 harg6 arg7 harg7 arg8 harg8 arg9 harg9 arg10 harg10 arg11 harg11 arg12 harg12 arg13 harg13 arg14 harg14 arg15 harg15 (iota .tc S8x1 32 [0] iota_S8x1_d0_w32)
      let v237 : FVec F S512x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 k0_pay258
      let v270 : FVec F S512x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 k0_pay258 v237
      let ⟨v296, v299, c64_i32_157⟩ : Σ' (v296 : FVec F S512x128 .f32) (v299 : FVec F S512x128 .f32), BitVec 32 ← k0_part25 i arg2 harg2 arg3 harg3 arg4 harg4 arg5 harg5 arg6 harg6 arg7 harg7 arg8 harg8 arg9 harg9 arg10 harg10 arg11 harg11 arg12 harg12 arg13 harg13 arg14 harg14 arg15 harg15 k0_pay258 v270
      let v331 : FVec F S128x512 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 k0_pay258 v296 v299 c64_i32_157
      let v364 : FVec F S512x128 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 k0_pay258 v331
      let v396 : FVec F S512x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 k0_pay258 v364
      let ⟨v422, v426, v427⟩ : Σ' (v422 : FVec F S512x128 .f32) (v426 : FVec F S512x128 .f32), IVec S1x128 1 ← k0_part29 i arg2 harg2 arg3 harg3 arg4 harg4 arg5 harg5 arg6 harg6 arg7 harg7 arg8 harg8 arg9 harg9 arg10 harg10 arg11 harg11 arg12 harg12 arg13 harg13 arg14 harg14 arg15 harg15 k0_pay258 v396
      let v458 : FVec F S512x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 k0_pay258 v422 v426 v427
      let v490 : FVec F S512x128 .bf16 ← k0_part31 i arg2 harg2 arg3 harg3 arg4 harg4 arg5 harg5 arg6 harg6 arg7 harg7 arg8 harg8 arg9 harg9 arg10 harg10 arg11 harg11 arg12 harg12 arg13 harg13 arg14 harg14 arg15 harg15 k0_pay258 v458
      Prog.lift (.store arg10 (Rect.unit (s := S8192x128) ![7680, 0] S512x128.size inb_S8192x128_S512x128_7680_0) v490 Finset.univ (View.stores_vmem h_S512x128 (harg10.storeExact_slice rfl _ packedbf16_S8192x128_S512x128_7680_0) (fun _ => rfl)) (.inl rfl))
      pure ⟨⟩) : Prog (TpuEff nD τ sig (Elt F) Λ₀ .tc) PUnit) Q := by
  unfold owns
  iintro ⟨⟨%f9, %h9, H9⟩, ⟨%f10, %h10, H10⟩, ⟨%f12, %h12, H12⟩, ⟨%f13, %h13, H13⟩, ⟨%f14, %h14, H14⟩, HQ⟩
  sl_exec
  sl_step
  have hk (o : Fin 3 → ℕ) (inb : ∀ a, o a + S1x128x512.size a ≤ S2x128x8192.size a) :
      arg13.view.readAt (Elt F) (Rect.unit (s := S2x128x8192) o S1x128x512.size inb).toLoadRect f13 = VecWindow.window A o S1x128x512.size inb := by
    rw [← h13]; exact View.readAt_unit _ _ _ rfl _
  have hv (o : Fin 2 → ℕ) (inb : ∀ a, o a + S128x512.size a ≤ S128x8192.size a) :
      arg14.view.readAt (Elt F) (Rect.unit (s := S128x8192) o S128x512.size inb).toLoadRect f14 = VecWindow.window B o S128x512.size inb := by
    rw [← h14]; exact View.readAt_unit _ _ _ rfl _
  have he (o : Fin 3 → ℕ) (inb : ∀ a, o a + S1x8x8192.size a ≤ S2x128x8192.size a) :
      arg13.view.readAt (Elt F) (Rect.unit (s := S2x128x8192) o S1x8x8192.size inb).toLoadRect f13 = VecWindow.window A o S1x8x8192.size inb := by
    rw [← h13]; exact View.readAt_unit _ _ _ rfl _
  iapply HQ
  isplitl [H9]
  · iexists _; isplitr; swap; · iexact H9
    ipureintro
    repeat (first | delta closing.sl.r_10 | delta closing.sl.r_9 | delta closing.sl.r_8 | delta closing.sl.r_7 | delta closing.sl.r_6 | delta closing.sl.r_5 | delta closing.sl.r_4 | delta closing.sl.r_3 | delta closing.sl.r_2 | delta closing.sl.r_1 | delta closing.sl.r)
    simp only [hk]
    exact read_stack _ _ (dkBlk A)
  isplitl [H10]
  · iexists _; isplitr; swap; · iexact H10
    ipureintro
    repeat (first | delta closing.sl.r_10 | delta closing.sl.r_9 | delta closing.sl.r_8 | delta closing.sl.r_7 | delta closing.sl.r_6 | delta closing.sl.r_5 | delta closing.sl.r_4 | delta closing.sl.r_3 | delta closing.sl.r_2 | delta closing.sl.r_1 | delta closing.sl.r)
    simp only [hv]
    exact read_stack _ _ (dvBlk B)
  isplitl [H12]
  · iexists _; isplitr; swap; · iexact H12
    ipureintro
    refine (View.read_writes_full _ _ _ _ _).trans ?_
    exact congrArg₂ (k0_pay214 (iota .tc S8x1 32 [0] iota_S8x1_d0_w32)) (he ![0, 64, 0] inb_S2x128x8192_S1x8x8192_0_64_0) (he ![1, 64, 0] inb_S2x128x8192_S1x8x8192_1_64_0)
  isplitl [H13]
  · iexists _; isplitr; swap; · iexact H13
    ipureintro; exact h13
  iexists _; isplitr; swap; · iexact H14
  ipureintro; exact h14

end Cert.KernelIdeal.Attn
-- ==== Proof.Body.lean ====
/-
  One grid point of the backward pass of the attention, from the blocks and accumulators it finds to those it leaves.
-/
module

public import proofs.«01_k».proof.Proof.Tail

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem store11 (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (D w : Vec F S1x8x512 .f32)
    (Q : PUnit → sProp 𝕄) :
    iprop(owns (c : Thread nD τ) arg11 fullShare (D) ∗ (iprop(owns (c : Thread nD τ) arg11 fullShare (w)) -∗ Q ⟨⟩))
    ⊢ wp frame (wpE (defs₀ (F := F)) Variants.none c none) Set.univ ((do
        let v160 : Vec F S1x8x512 .f32 ← Prog.lift (.load arg11 (Rect.unit (s := S1x8x512) ![0, 0, 0] S1x8x512.size inb_S1x8x512_S1x8x512_0_0_0).toLoadRect (View.loadsAt_vmem h_S1x8x512))
        Prog.lift (.store arg11 (Rect.unit (s := S1x8x512) ![0, 0, 0] S1x8x512.size inb_S1x8x512_S1x8x512_0_0_0) w Finset.univ (View.stores_vmem_bits_univ h_S1x8x512 rfl) (.inl rfl))) : Prog (TpuEff nD τ sig (Elt F) Λ₀ .tc) PUnit) Q := by
  unfold owns
  iintro ⟨⟨%f11, %h11, H11⟩, HQ⟩
  sl_exec
  sl_step
  iapply HQ
  iexists _; isplitr; swap; · iexact H11
  ipureintro; exact View.read_writes_full _ _ _ _ _

theorem storeThen (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole) (D w : Vec F S1x8x512 .f32) (rest : Prog (TpuEff nD τ sig (Elt F) Λ₀ .tc) PUnit)
    (Q : PUnit → sProp 𝕄) :
    iprop(owns (c : Thread nD τ) arg11 fullShare (D) ∗ (iprop(owns (c : Thread nD τ) arg11 fullShare (w)) -∗ wp frame (wpE (defs₀ (F := F)) Variants.none c none) Set.univ rest Q))
    ⊢ wp frame (wpE (defs₀ (F := F)) Variants.none c none) Set.univ ((Prog.lift (.load arg11 (Rect.unit (s := S1x8x512) ![0, 0, 0] S1x8x512.size inb_S1x8x512_S1x8x512_0_0_0).toLoadRect (View.loadsAt_vmem h_S1x8x512)) : Prog (TpuEff nD τ sig (Elt F) Λ₀ .tc) (Vec F S1x8x512 .f32)) >>= fun _ => (Prog.lift (.store arg11 (Rect.unit (s := S1x8x512) ![0, 0, 0] S1x8x512.size inb_S1x8x512_S1x8x512_0_0_0) w Finset.univ (View.stores_vmem_bits_univ h_S1x8x512 rfl) (.inl rfl)) : Prog (TpuEff nD τ sig (Elt F) Λ₀ .tc) PUnit) >>= fun _ => rest) Q := by
  have e := store11 c i arg2 harg2 arg3 harg3 arg4 harg4 arg5 harg5 arg6 harg6 arg7 harg7 arg8 harg8 arg9 harg9 arg10 harg10 arg11 harg11 arg12 harg12 arg13 harg13 arg14 harg14 arg15 harg15 D w (fun _ => wp frame (wpE (defs₀ (F := F)) Variants.none c none) Set.univ rest Q)
  rw [wp_bind] at e
  rw [wp_bind]
  simp only [wp_bind]
  exact e

set_option maxHeartbeats 400000 in
theorem body (c : Dev nD) (i : grid0.Coords) (arg2 : Memref sig .tc .vmem S2x512x128 .bf16) (harg2 : arg2.IsWhole) (arg3 : Memref sig .tc .vmem S2x8192x128 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1x8x512 .f32) (harg11 : arg11.IsWhole) (arg12 : Memref sig .tc .vmem S1x8x8192 .f32) (harg12 : arg12.IsWhole) (arg13 : Memref sig .tc .vmem S2x128x8192 .f32) (harg13 : arg13.IsWhole) (arg14 : Memref sig .tc .vmem S128x8192 .f32) (harg14 : arg14.IsWhole) (arg15 : Memref sig .tc .vmem S2x512x128 .f32) (harg15 : arg15.IsWhole)
    (q : Vec F S2x512x128 .bf16) (K : Vec F S2x8192x128 .bf16) (V : Vec F S128x8192 .bf16) (O : Vec F S512x128 .f32) (G : Vec F S512x128 .bf16) (L : Vec F S1x512x128 .f32)
    (D8 : Vec F S512x128 .bf16) (D9 D10 : Vec F S8192x128 .bf16) (D11 : Vec F S1x8x512 .f32) (D12 : Vec F S1x8x8192 .f32) (A : Vec F S2x128x8192 .f32) (B : Vec F S128x8192 .f32) (C : Vec F S2x512x128 .f32)
    (Q : PUnit → sProp 𝕄) :
    iprop(owns (c : Thread nD τ) arg2 fullShare (q) ∗ owns (c : Thread nD τ) arg3 fullShare (K) ∗ owns (c : Thread nD τ) arg4 fullShare (V) ∗ owns (c : Thread nD τ) arg5 fullShare (O) ∗ owns (c : Thread nD τ) arg6 fullShare (G) ∗ owns (c : Thread nD τ) arg7 fullShare (L) ∗ owns (c : Thread nD τ) arg8 fullShare (D8) ∗ owns (c : Thread nD τ) arg9 fullShare (D9) ∗ owns (c : Thread nD τ) arg10 fullShare (D10) ∗ owns (c : Thread nD τ) arg11 fullShare (D11) ∗ owns (c : Thread nD τ) arg12 fullShare (D12) ∗ owns (c : Thread nD τ) arg13 fullShare (A) ∗ owns (c : Thread nD τ) arg14 fullShare (B) ∗ owns (c : Thread nD τ) arg15 fullShare (C)
      ∗ (iprop(owns (c : Thread nD τ) arg2 fullShare (q) ∗ owns (c : Thread nD τ) arg3 fullShare (K) ∗ owns (c : Thread nD τ) arg4 fullShare (V) ∗ owns (c : Thread nD τ) arg5 fullShare (O) ∗ owns (c : Thread nD τ) arg6 fullShare (G) ∗ owns (c : Thread nD τ) arg7 fullShare (L) ∗ owns (c : Thread nD τ) arg8 fullShare (dqOut (finQ (ctxOf q O G L) K V i k0_pay257)) ∗ owns (c : Thread nD τ) arg9 fullShare (if k0_cond4 i = 1#1 then dkOut (finK (ctxOf q O G L) K V i (iniK i A)) else D9) ∗ owns (c : Thread nD τ) arg10 fullShare (if k0_cond4 i = 1#1 then dvOut (finV (ctxOf q O G L) K i (iniV i B)) else D10) ∗ owns (c : Thread nD τ) arg11 fullShare (dqeOut (finQ (ctxOf q O G L) K V i k0_pay257)) ∗ owns (c : Thread nD τ) arg12 fullShare (if k0_cond4 i = 1#1 then dkeOut (finK (ctxOf q O G L) K V i (iniK i A)) else D12) ∗ owns (c : Thread nD τ) arg13 fullShare (finK (ctxOf q O G L) K V i (iniK i A)) ∗ owns (c : Thread nD τ) arg14 fullShare (finV (ctxOf q O G L) K i (iniV i B)) ∗ owns (c : Thread nD τ) arg15 fullShare (finQ (ctxOf q O G L) K V i k0_pay257)) -∗ Q ⟨⟩))
    ⊢ wp frame (wpE (defs₀ (F := F)) Variants.none c none) Set.univ (cc0_fox_dattn i arg2 harg2 arg3 harg3 arg4 harg4 arg5 harg5 arg6 harg6 arg7 harg7 arg8 harg8 arg9 harg9 arg10 harg10 arg11 harg11 arg12 harg12 arg13 harg13 arg14 harg14 arg15 harg15) Q := by
  rw [cc0_fox_dattn_eq_skeleton]
  unfold cc0_fox_dattn_skel
  iintro ⟨H2, H3, H4, H5, H6, H7, H8, H9, H10, H11, H12, H13, H14, H15, HQ⟩
  rw [wp_bind]
  iapply part32 c i arg2 harg2 arg3 harg3 arg4 harg4 arg5 harg5 arg6 harg6 arg7 harg7 arg8 harg8 arg9 harg9 arg10 harg10 arg11 harg11 arg12 harg12 arg13 harg13 arg14 harg14 arg15 harg15 O G L A B C
  isplitl [H5]
  · iexact H5
  isplitl [H6]
  · iexact H6
  isplitl [H7]
  · iexact H7
  isplitl [H13]
  · iexact H13
  isplitl [H14]
  · iexact H14
  isplitl [H15]
  · iexact H15
  iintro ⟨H5, H6, H7, H13, H14, H15⟩
  rw [wp_bind]
  iapply part33 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) q (k0_pay260 G O) (k0_pay261 L) (k0_pay262 L) (k0_pay264 G) (k0_pay265 G) k0_pay267 (k0_pay268 (F := F)) k0_pay258
  isplitl [H2]
  · iexact H2
  iintro %v80 H2
  rw [wp_bind]
  iapply part34 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (ctxOf q O G L) v80 0#32 K V (iniK i A) (iniV i B) k0_pay257
  isplitl [H3]
  · iexact H3
  isplitl [H4]
  · iexact H4
  isplitl [H13]
  · iexact H13
  isplitl [H14]
  · iexact H14
  isplitl [H15]
  · iexact H15
  iintro ⟨H3, H4, H13, H14, H15⟩
  rw [wp_bind]
  iapply part35 c i arg2 harg2 arg3 harg3 arg4 harg4 arg5 harg5 arg6 harg6 arg7 harg7 arg8 harg8 arg9 harg9 arg10 harg10 arg11 harg11 arg12 harg12 arg13 harg13 arg14 harg14 arg15 harg15 D8 (finQ (ctxOf q O G L) K V i k0_pay257)
  isplitl [H8]
  · iexact H8
  isplitl [H15]
  · iexact H15
  iintro ⟨H8, H15⟩
  iapply storeThen c i arg2 harg2 arg3 harg3 arg4 harg4 arg5 harg5 arg6 harg6 arg7 harg7 arg8 harg8 arg9 harg9 arg10 harg10 arg11 harg11 arg12 harg12 arg13 harg13 arg14 harg14 arg15 harg15 D11 (k0_pay1 (k0_pay291 (qAcc 1 (finQ (ctxOf q O G L) K V i k0_pay257))) k0_pay292 (k0_pay293 (k0_pay288 (qAcc 0 (finQ (ctxOf q O G L) K V i k0_pay257))))) _ Q
  isplitl [H11]
  · iexact H11
  iintro H11
  by_cases h4 : k0_cond4 i = 1#1
  · rw [if_pos h4, if_pos h4, if_pos h4]
    rw [dif_pos h4]
    iapply closing c i arg2 harg2 arg3 harg3 arg4 harg4 arg5 harg5 arg6 harg6 arg7 harg7 arg8 harg8 arg9 harg9 arg10 harg10 arg11 harg11 arg12 harg12 arg13 harg13 arg14 harg14 arg15 harg15 D9 D10 D12 (finK (ctxOf q O G L) K V i (iniK i A)) (finV (ctxOf q O G L) K i (iniV i B))
    isplitl [H9]
    · iexact H9
    isplitl [H10]
    · iexact H10
    isplitl [H12]
    · iexact H12
    isplitl [H13]
    · iexact H13
    isplitl [H14]
    · iexact H14
    iintro ⟨H9, H10, H12, H13, H14⟩
    iapply HQ
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    iexact H15
  · rw [if_neg h4, if_neg h4, if_neg h4]
    rw [dif_neg h4]
    sl_step
    iapply HQ
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    iexact H15

end Cert.KernelIdeal.Attn
-- ==== Proof.Run.lean ====
/-
  The run of the backward pass of the attention: what every buffer holds after each grid point, the body's obligation,
  the launch, and the claim that the arguments end as they were.
-/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S2x512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x8192 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x8192 .f32 := win0_10.stage (cfg0.slots t 10)
abbrev hs10 (t : Fin cfg0.N) : (ms10 t).IsWhole := hstage0_10 ((cfg0.slots t 10).cast nbuf0_10)
abbrev sc0 : Memref sig .tc .vmem S2x128x8192 .f32 := Memref.whole cc0_scratch0
abbrev sc1 : Memref sig .tc .vmem S128x8192 .f32 := Memref.whole cc0_scratch1
abbrev sc2 : Memref sig .tc .vmem S2x512x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA
  rw [scopedRest0_eq]
  simp only [sc0, sc1, sc2, owns_whole]
  try rfl

theorem coord1 (t : Fin cfg0.N) : (grid0.coords t 1).val = t.val % 16 := by
  rw [Pipeline.Grid.coords_val (G := grid0) t 1 (S := 1) (B := 16) (by decide +kernel) (by decide +kernel), Nat.div_one]

theorem cond4_of : ∀ i : grid0.Coords, k0_cond4 i = 1#1 ↔ (i 1).val = 15 := by decide +kernel

theorem hcond4 (t : Fin cfg0.N) : k0_cond4 (grid0.coords t) = 1#1 ↔ t.val % 16 = 15 := by
  rw [cond4_of, coord1]

/-- What the loops of point `t` use. -/
def xAt (c : Dev nD) (t : Fin cfg0.N) : Ctx F := ctxOf (iblk m c 0 t) (iblk m c 3 t) (iblk m c 4 t) (iblk m c 5 t)
/-- The keys' accumulator after point `t`, from what the point before left. -/
def nextK (c : Dev nD) (t : Fin cfg0.N) (A : Vec F S2x128x8192 .f32) : Vec F S2x128x8192 .f32 :=
  finK (xAt m c t) (iblk m c 1 t) (iblk m c 2 t) (grid0.coords t) (iniK (grid0.coords t) A)
/-- The values' accumulator after point `t`, from what the point before left. -/
def nextV (c : Dev nD) (t : Fin cfg0.N) (B : Vec F S128x8192 .f32) : Vec F S128x8192 .f32 :=
  finV (xAt m c t) (iblk m c 1 t) (grid0.coords t) (iniV (grid0.coords t) B)
/-- The queries' accumulator after point `t`. -/
def endQ (c : Dev nD) (t : Fin cfg0.N) : Vec F S2x512x128 .f32 :=
  finQ (xAt m c t) (iblk m c 1 t) (iblk m c 2 t) (grid0.coords t) k0_pay257

/-- The two carried accumulators after point `n`. -/
def accAt (c : Dev nD) : (n : ℕ) → n < cfg0.N → Vec F S2x128x8192 .f32 × Vec F S128x8192 .f32
  | 0, hn => (nextK m c ⟨0, hn⟩ k0_pay255, nextV m c ⟨0, hn⟩ k0_pay256)
  | n + 1, hn => (nextK m c ⟨n + 1, hn⟩ (accAt c n (Nat.lt_of_succ_lt hn)).1, nextV m c ⟨n + 1, hn⟩ (accAt c n (Nat.lt_of_succ_lt hn)).2)

theorem accAt_pos (c : Dev nD) (t : Fin cfg0.N) (hz : ¬ t.val = 0) :
    accAt m c t.val t.isLt = (nextK m c t (accAt m c (t.val - 1) (Nat.lt_of_le_of_lt (Nat.sub_le _ _) t.isLt)).1, nextV m c t (accAt m c (t.val - 1) (Nat.lt_of_le_of_lt (Nat.sub_le _ _) t.isLt)).2) := by
  obtain ⟨n, hn⟩ := t
  cases n with
  | zero => exact absurd rfl hz
  | succ n => rfl

/-- At a head's first query block the accumulators do not depend on what was there. -/
theorem accAt_first (c : Dev nD) (t : Fin cfg0.N) (hz : t.val % 16 = 0) (A : Vec F S2x128x8192 .f32) (B : Vec F S128x8192 .f32) :
    accAt m c t.val t.isLt = (nextK m c t A, nextV m c t B) := by
  have e : ∀ A', nextK m c t A' = nextK m c t A := fun A' => by
    unfold nextK iniK; rw [if_pos (by rw [coord1]; exact hz), if_pos (by rw [coord1]; exact hz)]
  have e' : ∀ B', nextV m c t B' = nextV m c t B := fun B' => by
    unfold nextV iniV; rw [if_pos (by rw [coord1]; exact hz), if_pos (by rw [coord1]; exact hz)]
  obtain ⟨n, hn⟩ := t
  cases n with
  | zero => exact Prod.ext (e _) (e' _)
  | succ n => exact Prod.ext (e _) (e' _)

/-- The invariant before point `n`. -/
def PhiS (c : Dev nD) : (n : ℕ) → n ≤ cfg0.N → sProp 𝕄
  | 0, _ => Pipeline.ΦA spec0 c
  | n + 1, hn => iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).1 ∗ owns (c : Thread nD τ) sc1 fullShare (accAt m c (n - 1) (by omega)).2 ∗ (∃ d, owns (c : Thread nD τ) sc2 fullShare d)) ∗ (∃ r, prngReg c r)) := by
  cases n with
  | zero => exact absurd rfl hz
  | succ n => rfl

/-- The proof data: every buffer after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut (endQ m c t)
    | ⟨7, _⟩ => dkOut (accAt m c t.val t.isLt).1
    | ⟨8, _⟩ => dvOut (accAt m c t.val t.isLt).2
    | ⟨9, _⟩ => dqeOut (endQ m c t)
    | ⟨10, _⟩ => dkeOut (accAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqOut (endQ m c t) := by dsimp only [dats]
theorem after_7 (c : Dev nD) (t : Fin cfg0.N) : (dats m 0 c).after 7 t = dkOut (accAt m c t.val t.isLt).1 := by dsimp only [dats]
theorem after_8 (c : Dev nD) (t : Fin cfg0.N) : (dats m 0 c).after 8 t = dvOut (accAt m c t.val t.isLt).2 := by dsimp only [dats]
theorem after_9 (c : Dev nD) (t : Fin cfg0.N) : (dats m 0 c).after 9 t = dqeOut (endQ m c t) := by dsimp only [dats]
theorem after_10 (c : Dev nD) (t : Fin cfg0.N) : (dats m 0 c).after 10 t = dkeOut (accAt m c t.val t.isLt).1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem point_last (c : Dev nD) (t : Fin cfg0.N) (h : t.val % 16 = 15)
    (D6 : Vec F S512x128 .bf16) (D7 D8 : Vec F S8192x128 .bf16) (D9 : Vec F S1x8x512 .f32) (D10 : Vec F S1x8x8192 .f32) (A : Vec F S2x128x8192 .f32) (B : Vec F S128x8192 .f32) (C : Vec F S2x512x128 .f32)
    (Q : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (D6) ∗ owns (c : Thread nD τ) (ms7 t) fullShare (D7) ∗ owns (c : Thread nD τ) (ms8 t) fullShare (D8) ∗ owns (c : Thread nD τ) (ms9 t) fullShare (D9) ∗ owns (c : Thread nD τ) (ms10 t) fullShare (D10) ∗ owns (c : Thread nD τ) sc0 fullShare (A) ∗ owns (c : Thread nD τ) sc1 fullShare (B) ∗ owns (c : Thread nD τ) sc2 fullShare (C) ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (dqOut (endQ m c t)) ∗ owns (c : Thread nD τ) (ms7 t) fullShare (dkOut (nextK m c t A)) ∗ owns (c : Thread nD τ) (ms8 t) fullShare (dvOut (nextV m c t B)) ∗ owns (c : Thread nD τ) (ms9 t) fullShare (dqeOut (endQ m c t)) ∗ owns (c : Thread nD τ) (ms10 t) fullShare (dkeOut (nextK m c t A)) ∗ owns (c : Thread nD τ) sc0 fullShare (nextK m c t A) ∗ owns (c : Thread nD τ) sc1 fullShare (nextV m c t B) ∗ owns (c : Thread nD τ) sc2 fullShare (endQ m c t)) -∗ Q ⟨⟩))
    ⊢ wp frame (wpE (defs₀ (F := F)) Variants.none c none) Set.univ (bodyAt0 t) Q := by
  have hb := body (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (iblk m c 0 t) (iblk m c 1 t) (iblk m c 2 t) (iblk m c 3 t) (iblk m c 4 t) (iblk m c 5 t) D6 D7 D8 D9 D10 A B C Q
  rw [if_pos ((hcond4 t).mpr h), if_pos ((hcond4 t).mpr h), if_pos ((hcond4 t).mpr h)] at hb
  exact hb

theorem point_inner (c : Dev nD) (t : Fin cfg0.N) (h : ¬ t.val % 16 = 15)
    (D6 : Vec F S512x128 .bf16) (D7 D8 : Vec F S8192x128 .bf16) (D9 : Vec F S1x8x512 .f32) (D10 : Vec F S1x8x8192 .f32) (A : Vec F S2x128x8192 .f32) (B : Vec F S128x8192 .f32) (C : Vec F S2x512x128 .f32)
    (Q : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (D6) ∗ owns (c : Thread nD τ) (ms7 t) fullShare (D7) ∗ owns (c : Thread nD τ) (ms8 t) fullShare (D8) ∗ owns (c : Thread nD τ) (ms9 t) fullShare (D9) ∗ owns (c : Thread nD τ) (ms10 t) fullShare (D10) ∗ owns (c : Thread nD τ) sc0 fullShare (A) ∗ owns (c : Thread nD τ) sc1 fullShare (B) ∗ owns (c : Thread nD τ) sc2 fullShare (C) ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (dqOut (endQ m c t)) ∗ owns (c : Thread nD τ) (ms7 t) fullShare (D7) ∗ owns (c : Thread nD τ) (ms8 t) fullShare (D8) ∗ owns (c : Thread nD τ) (ms9 t) fullShare (dqeOut (endQ m c t)) ∗ owns (c : Thread nD τ) (ms10 t) fullShare (D10) ∗ owns (c : Thread nD τ) sc0 fullShare (nextK m c t A) ∗ owns (c : Thread nD τ) sc1 fullShare (nextV m c t B) ∗ owns (c : Thread nD τ) sc2 fullShare (endQ m c t)) -∗ Q ⟨⟩))
    ⊢ wp frame (wpE (defs₀ (F := F)) Variants.none c none) Set.univ (bodyAt0 t) Q := by
  have hb := body (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) (iblk m c 0 t) (iblk m c 1 t) (iblk m c 2 t) (iblk m c 3 t) (iblk m c 4 t) (iblk m c 5 t) D6 D7 D8 D9 D10 A B C Q
  rw [if_neg (fun e => h ((hcond4 t).mp e)), if_neg (fun e => h ((hcond4 t).mp e)), if_neg (fun e => h ((hcond4 t).mp e))] at hb
  exact hb

set_option maxHeartbeats 3200000 in
theorem sound_last (c : Dev nD) (t : Fin cfg0.N) (h : t.val % 16 = 15) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)))
    ⊢ wp frame (wpE (defs₀ (F := F)) Variants.none c none) Set.univ (bodyAt0 t) (fun _ =>
      iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t))) := by
  simp only [before_0, before_1, before_2, before_3, before_4, before_5]
  rw [show (dats m 0 c).owesAt () t.succ = (dats m 0 c).owesAt () t.castSucc from rfl, after_0, after_1, after_2, after_3, after_4, after_5, after_6, after_9, after_7, after_8, after_10]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨⟨%a0, S0⟩, ⟨%b0, S1⟩, ⟨%c0, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [accAt_first m c t (by rw [hz]) a0 b0]
    iapply point_last m c t h _ _ _ _ _ a0 b0 c0 _
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    iintro ⟨H0, H1, H2, H3, H4, H5, H6, H7, H8, H9, H10, S0, S1, S2⟩
    isplitl [S0 S1 S2 Hg]
    · isplitl [S0 S1 S2]
      · isplitl [S0]
        · iexact S0
        isplitl [S1]
        · iexact S1
        iexists _; iexact S2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  · rw [PhiS_castSucc m c t, PhiS_pos m c _ _ hz]
    rw [accAt_pos m c t hz]
    iintro ⟨⟨⟨S0, S1, ⟨%c0, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply point_last m c t h _ _ _ _ _ _ _ c0 _
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    iintro ⟨H0, H1, H2, H3, H4, H5, H6, H7, H8, H9, H10, S0, S1, S2⟩
    isplitl [S0 S1 S2 Hg]
    · isplitl [S0 S1 S2]
      · isplitl [S0]
        · iexact S0
        isplitl [S1]
        · iexact S1
        iexists _; iexact S2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10

set_option maxHeartbeats 3200000 in
theorem sound_inner (c : Dev nD) (t : Fin cfg0.N) (h : ¬ t.val % 16 = 15) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)))
    ⊢ wp frame (wpE (defs₀ (F := F)) Variants.none c none) Set.univ (bodyAt0 t) (fun _ =>
      iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ d, owns (c : Thread nD τ) (ms7 t) fullShare ((dats m 0 c).before 7 t d)) ∗ (∃ d, owns (c : Thread nD τ) (ms8 t) fullShare ((dats m 0 c).before 8 t d)) ∗ owns (c : Thread nD τ) (ms9 t) fullShare ((dats m 0 c).after 9 t) ∗ (∃ d, owns (c : Thread nD τ) (ms10 t) fullShare ((dats m 0 c).before 10 t d)))) := by
  simp only [before_0, before_1, before_2, before_3, before_4, before_5]
  rw [show (dats m 0 c).owesAt () t.succ = (dats m 0 c).owesAt () t.castSucc from rfl, after_0, after_1, after_2, after_3, after_4, after_5, after_6, after_9]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨⟨%a0, S0⟩, ⟨%b0, S1⟩, ⟨%c0, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [accAt_first m c t (by rw [hz]) a0 b0]
    iapply point_inner m c t h _ _ _ _ _ a0 b0 c0 _
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    iintro ⟨H0, H1, H2, H3, H4, H5, H6, H7, H8, H9, H10, S0, S1, S2⟩
    isplitl [S0 S1 S2 Hg]
    · isplitl [S0 S1 S2]
      · isplitl [S0]
        · iexact S0
        isplitl [S1]
        · iexact S1
        iexists _; iexact S2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists _; iexact H7
    isplitl [H8]
    · iexists _; iexact H8
    isplitl [H9]
    · iexact H9
    iexists _; iexact H10
  · rw [PhiS_castSucc m c t, PhiS_pos m c _ _ hz]
    rw [accAt_pos m c t hz]
    iintro ⟨⟨⟨S0, S1, ⟨%c0, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply point_inner m c t h _ _ _ _ _ _ _ c0 _
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    iintro ⟨H0, H1, H2, H3, H4, H5, H6, H7, H8, H9, H10, S0, S1, S2⟩
    isplitl [S0 S1 S2 Hg]
    · isplitl [S0 S1 S2]
      · isplitl [S0]
        · iexact S0
        isplitl [S1]
        · iexact S1
        iexists _; iexact S2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists _; iexact H7
    isplitl [H8]
    · iexists _; iexact H8
    isplitl [H9]
    · iexact H9
    iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val % 16 = 15
  · have hc := (hcond4 t).mpr h
    have i7 : cfg0.idle 7 (cfg0.grid.coords t) = false := by show (!(k0_cond4 (grid0.coords t) == 1#1)) = false; rw [hc]; rfl
    have i8 : cfg0.idle 8 (cfg0.grid.coords t) = false := i7
    have i10 : cfg0.idle 10 (cfg0.grid.coords t) = false := i7
    have i7' : idle0 7 (grid0.coords t) = false := i7
    have i8' : idle0 8 (grid0.coords t) = false := i7
    have i10' : idle0 10 (grid0.coords t) = false := i7
    refine triple_restated (sound_last m c t h) rfl .rfl fun _ => ?_
    simp only [i7', i8', i10', i7, i8, i10]
    exact Idealize.SL.BI.Entails.refl _
  · have hc : ¬ k0_cond4 (grid0.coords t) = 1#1 := fun e => h ((hcond4 t).mp e)
    have i7 : cfg0.idle 7 (cfg0.grid.coords t) = true := by
      show (!(k0_cond4 (grid0.coords t) == 1#1)) = true
      rw [beq_eq_false_iff_ne.mpr hc]; rfl
    have i8 : cfg0.idle 8 (cfg0.grid.coords t) = true := i7
    have i10 : cfg0.idle 10 (cfg0.grid.coords t) = true := i7
    have i7' : idle0 7 (grid0.coords t) = true := i7
    have i8' : idle0 8 (grid0.coords t) = true := i7
    have i10' : idle0 10 (grid0.coords t) = true := i7
    have f7 : (cfg0.win 7).flush t = false := Bool.eq_false_iff.mpr fun e => h ((flush0_7 t).mp e)
    have f8 : (cfg0.win 8).flush t = false := Bool.eq_false_iff.mpr fun e => h ((flush0_8 t).mp e)
    have f10 : (cfg0.win 10).flush t = false := Bool.eq_false_iff.mpr fun e => h ((flush0_10 t).mp e)
    refine triple_restated (sound_inner m c t h) rfl .rfl fun _ => ?_
    simp only [i7', i8', i10', i7, i8, i10, f7, f8, f10]
    exact Idealize.SL.BI.Entails.refl _

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨S0, S1, S2⟩, Hg⟩
  isplitl [S0 S1 S2]
  · isplitl [S0]
    · iexists _; iexact S0
    isplitl [S1]
    · iexists _; iexact S1
    iexact S2
  iexact Hg

set_option backward.isDefEq.respectTransparency.types false in
/-- The launch: it ends, every array at what the points left, every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.HostTerm.lean ====
/-
  What the host hands the call, as terms of the arguments.
-/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe
open scoped BigOperators

variable {F : FTy → Type} [FloatOps F] [Named F]

/-- Which keys a query sees. -/
def hMask : IVec S16x8192x8192 1 :=
  broadcastInDim S16x8192x8192 ![1, 2] bcast_S8192x8192_S16x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))

/-- An argument by heads. -/
def hHeads (x : FVec F S8192x1024 .f32) : FVec F S8192x16x64 .f32 := fun i => shapeCast S8192x16x64 x shapeCasts_S8192x1024_S8192x16x64 i

/-- The logits before masking. -/
def hLogit (q k : FVec F S8192x1024 .f32) (c : FVec F S8192x16 .f32) : FVec F S16x8192x8192 .f32 :=
  subf (addf (mulf (Host.dotGeneral dot_S8192x16x64_S8192x16x64_S16x8192x8192_2_2_0_0_1_1 none (hHeads q) (hHeads k)) (broadcastInDim S16x8192x8192 ![] bcast_S_S16x8192x8192 (constant S_ .f32 0x3E000000#32))) (broadcastInDim S16x8192x8192 ![0, 1, 2] bcast_S16x8192x1_S16x8192x8192_0_1_2 (broadcastInDim S16x8192x1 ![0, 1] bcast_S16x8192_S16x8192x1_0_1 (transpose S16x8192 [1, 0] c transposes_S8192x16_S16x8192_1_0)))) (broadcastInDim S16x8192x8192 ![0, 1, 2] bcast_S16x1x8192_S16x8192x8192_0_1_2 (broadcastInDim S16x1x8192 ![0, 2] bcast_S16x8192_S16x1x8192_0_2 (transpose S16x8192 [1, 0] c transposes_S8192x16_S16x8192_1_0)))

/-- The masked logits. -/
def hS (q k : FVec F S8192x1024 .f32) (c : FVec F S8192x16 .f32) : FVec F S16x8192x8192 .f32 :=
  select hMask (hLogit q k c) (broadcastInDim S16x8192x8192 ![] bcast_S_S16x8192x8192 (id (constant S_ .f32 0xFF800000#32)))

/-- A row's maximum. -/
def hTop (s : FVec F S16x8192x8192 .f32) : FVec F S16x8192 .f32 :=
  Host.reduce FloatOps.maximumf s (constant S_ .f32 0xFF800000#32) reducesTo_S16x8192x8192_S16x8192_d2 h_S_

/-- The shifted exponentials. -/
def hE (s : FVec F S16x8192x8192 .f32) : FVec F S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 (hTop s))))

/-- Their sums along a row. -/
def hZ (e : FVec F S16x8192x8192 .f32) : FVec F S16x8192 .f32 :=
  Host.reduceAdd e (constant S_ .f32 0x00000000#32) reducesTo_S16x8192x8192_S16x8192_d2 h_S_

/-- The probabilities. -/
def hP (e : FVec F S16x8192x8192 .f32) : FVec F S16x8192x8192 .f32 :=
  Host.divf e (broadcastInDim S16x8192x8192 ![0, 1, 2] bcast_S16x8192x1_S16x8192x8192_0_1_2 (broadcastInDim S16x8192x1 ![0, 1] bcast_S16x8192_S16x8192x1_0_1 (hZ e)))

/-- The forward output. -/
def hO (v : FVec F S8192x1024 .f32) (e : FVec F S16x8192x8192 .f32) : FVec F S8192x1024 .f32 :=
  fun i => shapeCast S8192x1024 (transpose S8192x16x64 [2, 0, 1] (Host.dotGeneral dot_S8192x16x64_S16x8192x8192_S16x64x8192_0_2_2_1_1_0 none (hHeads v) (hP e)) transposes_S16x64x8192_S8192x16x64_2_0_1) shapeCasts_S8192x16x64_S8192x1024 i

/-- One over the logarithm of two. -/
def hL : FVec F S_ .f32 := Host.divf (constant S_ .f32 0x3F800000#32) (Host.log (constant S_ .f32 0x40000000#32))

/-- The logarithm to base two of a row's sum. -/
def hBase (m z : FVec F S16x8192 .f32) : FVec F S16x8192 .f32 :=
  mulf (addf m (Host.log z)) (broadcastInDim S16x8192 ![] bcast_S_S16x8192 hL)
def hLse (s : FVec F S16x8192x8192 .f32) : FVec F S16x8192 .f32 := hBase (hTop s) (hZ (hE s))

/-- The same along a head's lanes. -/
def hLseL (l : FVec F S16x8192 .f32) : FVec F S8x8192x128 .f32 :=
  fun i => shapeCast S8x8192x128 (broadcastInDim S8x8192x2x64 ![0, 1, 2] bcast_S8x8192x2_S8x8192x2x64_0_1_2 (transpose S8x8192x2 [0, 2, 1] (fun i => shapeCast S8x2x8192 l shapeCasts_S16x8192_S8x2x8192 i) transposes_S8x2x8192_S8x8192x2_0_2_1)) shapeCasts_S8x8192x2x64_S8x8192x128 i

/-- The decay to base two, and its three parts. -/
def hC2 (c : FVec F S8192x16 .f32) : FVec F S16x8192x1 .f32 :=
  mulf (broadcastInDim S16x8192x1 ![0, 1] bcast_S16x8192_S16x8192x1_0_1 (transpose S16x8192 [1, 0] c transposes_S8192x16_S16x8192_1_0)) (broadcastInDim S16x8192x1 ![] bcast_S_S16x8192x1 hL)
def hTrim (x : FVec F S16x8192x1 .f32) : FVec F S16x8192x1 .f32 := extf .f32 (truncf .bf16 x bitsLt_bf16_f32) bitsLt_bf16_f32
def hHi (x : FVec F S16x8192x1 .f32) : FVec F S16x8192x1 .f32 := hTrim x
def hMid (x : FVec F S16x8192x1 .f32) : FVec F S16x8192x1 .f32 := hTrim (subf x (hHi x))
def hLo (x : FVec F S16x8192x1 .f32) : FVec F S16x8192x1 .f32 := hTrim (subf (subf x (hHi x)) (hMid x))
def hOnes : FVec F S16x8192x3 .f32 := broadcastInDim S16x8192x3 ![] bcast_S_S16x8192x3 (constant S_ .f32 0x3F800000#32)
def hZeros : FVec F S16x8192x58 .f32 := broadcastInDim S16x8192x58 ![] bcast_S_S16x8192x58 (constant S_ .f32 0x00000000#32)
def hRows (x : FVec F S8192x1024 .f32) : FVec F S16x8192x64 .f32 := transpose S16x8192x64 [1, 0, 2] (hHeads x) transposes_S8192x16x64_S16x8192x64_1_0_2
def hQs (q : FVec F S8192x1024 .f32) : FVec F S16x8192x64 .f32 :=
  mulf (hRows q) (broadcastInDim S16x8192x64 ![] bcast_S_S16x8192x64 (mulf (constant S_ .f32 0x3E000000#32) hL))

/-- The query rows and the key rows the call reads. -/
def hQp (q : FVec F S8192x1024 .f32) (c : FVec F S8192x16 .f32) : FVec F S16x8192x128 .bf16 :=
  truncf .bf16 (concatenate S16x8192x128 2 [⟨S16x8192x64, hQs q⟩, ⟨S16x8192x1, hHi (hC2 c)⟩, ⟨S16x8192x1, hMid (hC2 c)⟩, ⟨S16x8192x1, hLo (hC2 c)⟩, ⟨S16x8192x3, hOnes⟩, ⟨S16x8192x58, hZeros⟩] concatenates_S16x8192x64_S16x8192x1_S16x8192x1_S16x8192x1_S16x8192x3_S16x8192x58_S16x8192x128_d2) bitsLt_bf16_f32
def hKp (k : FVec F S8192x1024 .f32) (c : FVec F S8192x16 .f32) : FVec F S16x8192x128 .bf16 :=
  truncf .bf16 (concatenate S16x8192x128 2 [⟨S16x8192x64, hRows k⟩, ⟨S16x8192x3, hOnes⟩, ⟨S16x8192x1, Host.negf (hHi (hC2 c))⟩, ⟨S16x8192x1, Host.negf (hMid (hC2 c))⟩, ⟨S16x8192x1, Host.negf (hLo (hC2 c))⟩, ⟨S16x8192x58, hZeros⟩] concatenates_S16x8192x64_S16x8192x3_S16x8192x1_S16x8192x1_S16x8192x1_S16x8192x58_S16x8192x128_d2) bitsLt_bf16_f32

variable (σ : Valuation τ sig (Elt F))

theorem v32 : StableHlo.after hostOps0_2 σ main_v32 = hO (σ main_arg2) (hE (σ main_v19)) := by
  simp only [hostOps0_2, StableHlo.after_cons, StableHlo.after_nil]
  after_results_simp
  rfl
theorem v77 : StableHlo.after hostOps0_2 σ main_v77 = hLseL (hLse (σ main_v19)) := by
  simp only [hostOps0_2, StableHlo.after_cons, StableHlo.after_nil]
  after_results_simp
  rfl
theorem v73 : StableHlo.after hostOps0_2 σ main_v73 = truncf .bf16 (transpose S1024x8192 [1, 0] (σ main_arg2) transposes_S8192x1024_S1024x8192_1_0) bitsLt_bf16_f32 := by
  simp only [hostOps0_2, StableHlo.after_cons, StableHlo.after_nil]
  after_results_simp
theorem v78 : StableHlo.after hostOps0_2 σ main_v78 = truncf .bf16 (σ main_arg4) bitsLt_bf16_f32 := by
  simp only [hostOps0_2, StableHlo.after_cons, StableHlo.after_nil]
  after_results_simp
/-- The two stretches of the host's work: up to the rows' parts, and their joining. -/
theorem split : (hostOps0_2 : List (HloOp τ sig (Elt F))) = hostOps0_2.take 54 ++ hostOps0_2.drop 54 := (List.take_append_drop 54 _).symm

theorem j64 : StableHlo.after (hostOps0_2.drop 54) σ main_v64 = truncf .bf16 (concatenate S16x8192x128 2 [⟨S16x8192x64, σ main_v62⟩, ⟨S16x8192x1, σ main_v46⟩, ⟨S16x8192x1, σ main_v49⟩, ⟨S16x8192x1, σ main_v53⟩, ⟨S16x8192x3, σ main_v54⟩, ⟨S16x8192x58, σ main_v55⟩] concatenates_S16x8192x64_S16x8192x1_S16x8192x1_S16x8192x1_S16x8192x3_S16x8192x58_S16x8192x128_d2) bitsLt_bf16_f32 := by
  simp only [hostOps0_2, List.drop_succ_cons, List.drop_zero, StableHlo.after_cons, StableHlo.after_nil]
  after_results_simp
  after_results_loop
  rfl
theorem split' : (hostOps0_2 : List (HloOp τ sig (Elt F))) = hostOps0_2.take 61 ++ hostOps0_2.drop 61 := (List.take_append_drop 61 _).symm
theorem j71 : StableHlo.after (hostOps0_2.drop 61) σ main_v71 = truncf .bf16 (concatenate S16x8192x128 2 [⟨S16x8192x64, σ main_v66⟩, ⟨S16x8192x3, σ main_v54⟩, ⟨S16x8192x1, σ main_v67⟩, ⟨S16x8192x1, σ main_v68⟩, ⟨S16x8192x1, σ main_v69⟩, ⟨S16x8192x58, σ main_v55⟩] concatenates_S16x8192x64_S16x8192x3_S16x8192x1_S16x8192x1_S16x8192x1_S16x8192x58_S16x8192x128_d2) bitsLt_bf16_f32 := by
  simp only [hostOps0_2, List.drop_succ_cons, List.drop_zero, StableHlo.after_cons, StableHlo.after_nil]
  after_results_simp
  after_results_loop
  rfl
theorem k_v66 : StableHlo.after (hostOps0_2.take 61) σ main_v66 = hRows (σ main_arg1) := by
  simp only [hostOps0_2, List.take_succ_cons, List.take_zero, StableHlo.after_cons, StableHlo.after_nil]
  after_results_simp
  rfl
theorem k_v67 : StableHlo.after (hostOps0_2.take 61) σ main_v67 = Host.negf (hHi (hC2 (σ main_arg3))) := by
  simp only [hostOps0_2, List.take_succ_cons, List.take_zero, StableHlo.after_cons, StableHlo.after_nil]
  after_results_simp
  rfl
theorem k_v68 : StableHlo.after (hostOps0_2.take 61) σ main_v68 = Host.negf (hMid (hC2 (σ main_arg3))) := by
  simp only [hostOps0_2, List.take_succ_cons, List.take_zero, StableHlo.after_cons, StableHlo.after_nil]
  after_results_simp
  rfl
theorem k_v69 : StableHlo.after (hostOps0_2.take 61) σ main_v69 = Host.negf (hLo (hC2 (σ main_arg3))) := by
  simp only [hostOps0_2, List.take_succ_cons, List.take_zero, StableHlo.after_cons, StableHlo.after_nil]
  after_results_simp
  rfl
theorem k_v54 : StableHlo.after (hostOps0_2.take 61) σ main_v54 = hOnes := by
  simp only [hostOps0_2, List.take_succ_cons, List.take_zero, StableHlo.after_cons, StableHlo.after_nil]
  after_results_simp
  rfl
theorem k_v55 : StableHlo.after (hostOps0_2.take 61) σ main_v55 = hZeros := by
  simp only [hostOps0_2, List.take_succ_cons, List.take_zero, StableHlo.after_cons, StableHlo.after_nil]
  after_results_simp
  rfl
theorem i_v62 : StableHlo.after (hostOps0_2.take 54) σ main_v62 = hQs (σ main_arg0) := by
  simp only [hostOps0_2, List.take_succ_cons, List.take_zero, StableHlo.after_cons, StableHlo.after_nil]
  after_results_simp
  rfl
theorem i_v46 : StableHlo.after (hostOps0_2.take 54) σ main_v46 = hHi (hC2 (σ main_arg3)) := by
  simp only [hostOps0_2, List.take_succ_cons, List.take_zero, StableHlo.after_cons, StableHlo.after_nil]
  after_results_simp
  rfl
theorem i_v49 : StableHlo.after (hostOps0_2.take 54) σ main_v49 = hMid (hC2 (σ main_arg3)) := by
  simp only [hostOps0_2, List.take_succ_cons, List.take_zero, StableHlo.after_cons, StableHlo.after_nil]
  after_results_simp
  rfl
theorem i_v53 : StableHlo.after (hostOps0_2.take 54) σ main_v53 = hLo (hC2 (σ main_arg3)) := by
  simp only [hostOps0_2, List.take_succ_cons, List.take_zero, StableHlo.after_cons, StableHlo.after_nil]
  after_results_simp
  rfl
theorem i_v54 : StableHlo.after (hostOps0_2.take 54) σ main_v54 = hOnes := by
  simp only [hostOps0_2, List.take_succ_cons, List.take_zero, StableHlo.after_cons, StableHlo.after_nil]
  after_results_simp
  rfl
theorem i_v55 : StableHlo.after (hostOps0_2.take 54) σ main_v55 = hZeros := by
  simp only [hostOps0_2, List.take_succ_cons, List.take_zero, StableHlo.after_cons, StableHlo.after_nil]
  after_results_simp
  rfl
theorem v64 : StableHlo.after hostOps0_2 σ main_v64 = hQp (σ main_arg0) (σ main_arg3) := by
  rw [split, StableHlo.after_append, j64, i_v62, i_v46, i_v49, i_v53, i_v54, i_v55]
  rfl
theorem v71 : StableHlo.after hostOps0_2 σ main_v71 = hKp (σ main_arg1) (σ main_arg3) := by
  rw [split', StableHlo.after_append, j71, k_v66, k_v54, k_v67, k_v68, k_v69, k_v55]
  rfl

variable (m : (ℓ : Loc nD τ sig) → Buf (Elt F) ℓ) (c : Dev nD)

/-- The buffers once the logits are masked. -/
def pre (m : (ℓ : Loc nD τ sig) → Buf (Elt F) ℓ) (c : Dev nD) : Valuation τ sig (Elt F) :=
  StableHlo.after hostOps0_1 (StableHlo.after hostOps0 (fun b => m (c, b)))

theorem pre_19 : pre m c main_v19 = hS (m (c, main_arg0)) (m (c, main_arg1)) (m (c, main_arg3)) := by
  unfold pre
  simp only [hostOps0_1, hostOps0, StableHlo.after_cons, StableHlo.after_nil]
  after_results_simp
  rfl
theorem pre_0 : pre m c main_arg0 = m (c, main_arg0) := by
  unfold pre
  simp only [hostOps0_1, hostOps0, StableHlo.after_cons, StableHlo.after_nil]
  after_results_simp
theorem pre_1 : pre m c main_arg1 = m (c, main_arg1) := by
  unfold pre
  simp only [hostOps0_1, hostOps0, StableHlo.after_cons, StableHlo.after_nil]
  after_results_simp
theorem pre_2 : pre m c main_arg2 = m (c, main_arg2) := by
  unfold pre
  simp only [hostOps0_1, hostOps0, StableHlo.after_cons, StableHlo.after_nil]
  after_results_simp
theorem pre_3 : pre m c main_arg3 = m (c, main_arg3) := by
  unfold pre
  simp only [hostOps0_1, hostOps0, StableHlo.after_cons, StableHlo.after_nil]
  after_results_simp
theorem pre_4 : pre m c main_arg4 = m (c, main_arg4) := by
  unfold pre
  simp only [hostOps0_1, hostOps0, StableHlo.after_cons, StableHlo.after_nil]
  after_results_simp

theorem V_eq (b) : V m c b = StableHlo.after hostOps0_2 (pre m c) b := by
  unfold V pre
  rw [List.flatten_cons, List.flatten_cons, List.flatten_cons, List.flatten_nil, List.append_nil, StableHlo.after_append, StableHlo.after_append]

end Cert.KernelIdeal.Attn

end
-- ==== Proof.RefTerm.lean ====
/-
  The reference's result terms, cut into stages.
-/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe

variable {F : FTy → Type} [FloatOps F]

/-- Which keys a query sees. -/
def rMask : IVec S16x8192x8192 1 :=
  broadcastInDim S16x8192x8192 ![1, 2] bcast_S8192x8192_S16x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))

/-- An argument by heads. -/
def rHeads (x : FVec F S8192x1024 .f32) : FVec F S8192x16x64 .f32 := shapeCast S8192x16x64 x shapeCasts_S8192x1024_S8192x16x64

/-- The logits before masking. -/
def rLogit (q k : FVec F S8192x1024 .f32) (c : FVec F S8192x16 .f32) : FVec F S16x8192x8192 .f32 :=
  subf (addf (mulf (Host.dotGeneral dot_S8192x16x64_S8192x16x64_S16x8192x8192_2_2_0_0_1_1 none (rHeads q) (rHeads k)) (broadcastInDim S16x8192x8192 ![] bcast_S_S16x8192x8192 (constant S_ .f32 0x3E000000#32))) (broadcastInDim S16x8192x8192 ![0, 1, 2] bcast_S16x8192x1_S16x8192x8192_0_1_2 (broadcastInDim S16x8192x1 ![0, 1] bcast_S16x8192_S16x8192x1_0_1 (transpose S16x8192 [1, 0] c transposes_S8192x16_S16x8192_1_0)))) (broadcastInDim S16x8192x8192 ![0, 1, 2] bcast_S16x1x8192_S16x8192x8192_0_1_2 (broadcastInDim S16x1x8192 ![0, 2] bcast_S16x8192_S16x1x8192_0_2 (transpose S16x8192 [1, 0] c transposes_S8192x16_S16x8192_1_0)))

/-- The masked logits. -/
def rS (q k : FVec F S8192x1024 .f32) (c : FVec F S8192x16 .f32) : FVec F S16x8192x8192 .f32 :=
  select rMask (rLogit q k c) (broadcastInDim S16x8192x8192 ![] bcast_S_S16x8192x8192 (id (constant S_ .f32 0xFF800000#32)))

/-- A row's maximum. -/
def rTop (s : FVec F S16x8192x8192 .f32) : FVec F S16x8192 .f32 :=
  Host.reduce FloatOps.maximumf s (constant S_ .f32 0xFF800000#32) reducesTo_S16x8192x8192_S16x8192_d2 h_S_
/-- The same, of minus infinity at least. -/
def rMax (s : FVec F S16x8192x8192 .f32) : FVec F S16x8192 .f32 :=
  maximumf (broadcastInDim S16x8192 ![] bcast_S_S16x8192 (constant S_ .f32 0xFF800000#32)) (rTop s)

/-- The shifted exponentials. -/
def rE (s : FVec F S16x8192x8192 .f32) : FVec F S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 (rMax s))))

/-- Their sums along a row. -/
def rZ (e : FVec F S16x8192x8192 .f32) : FVec F S16x8192x1 .f32 :=
  broadcastInDim S16x8192x1 ![0, 1] bcast_S16x8192_S16x8192x1_0_1 (Host.reduceAdd e (constant S_ .f32 0x00000000#32) reducesTo_S16x8192x8192_S16x8192_d2 h_S_)

/-- The probabilities. -/
def rP (e : FVec F S16x8192x8192 .f32) : FVec F S16x8192x8192 .f32 :=
  Host.divf e (broadcastInDim S16x8192x8192 ![0, 1, 2] bcast_S16x8192x1_S16x8192x8192_0_1_2 (rZ e))

/-- The output's gradient by heads. -/
def rD (d : FVec F S8192x1024 .f32) : FVec F S16x64x8192 .f32 := transpose S16x64x8192 [1, 2, 0] (rHeads d) transposes_S8192x16x64_S16x64x8192_1_2_0

/-- The gradient of the probabilities. -/
def rdP (d v : FVec F S8192x1024 .f32) : FVec F S16x8192x8192 .f32 :=
  Host.dotGeneral dot_S16x64x8192_S8192x16x64_S16x8192x8192_1_2_2_0_0_1 none (rD d) (rHeads v)

/-- The gradient of a row's normaliser. -/
def rdZ (dp e : FVec F S16x8192x8192 .f32) : FVec F S16x8192 .f32 :=
  Host.reduceAdd (Host.negf (shapeCast S16x8192x1 (Host.reduceAdd (mulf (mulf dp (broadcastInDim S16x8192x8192 ![0, 1, 2] bcast_S16x8192x1_S16x8192x8192_0_1_2 (Host.divf (broadcastInDim S16x8192x1 ![] bcast_S_S16x8192x1 (constant S_ .f32 0x3F800000#32)) (mulf (rZ e) (rZ e))))) e) (constant S_ .f32 0x00000000#32) reducesTo_S16x8192x8192_S16x8192_d2 h_S_) shapeCasts_S16x8192_S16x8192x1)) (constant S_ .f32 0x00000000#32) reducesTo_S16x8192x1_S16x8192_d2 h_S_

/-- The gradient of the logits. -/
def rdS (dp e : FVec F S16x8192x8192 .f32) : FVec F S16x8192x8192 .f32 :=
  select rMask (mulf (addf (Host.divf dp (broadcastInDim S16x8192x8192 ![0, 1, 2] bcast_S16x8192x1_S16x8192x8192_0_1_2 (rZ e))) (broadcastInDim S16x8192x8192 ![0, 1] bcast_S16x8192_S16x8192x8192_0_1 (rdZ dp e))) e) (broadcastInDim S16x8192x8192 ![] bcast_S_S16x8192x8192 (constant S_ .f32 0x00000000#32))

/-- The scaled gradient of the logits. -/
def rdL (ds : FVec F S16x8192x8192 .f32) : FVec F S16x8192x8192 .f32 := mulf ds (broadcastInDim S16x8192x8192 ![] bcast_S_S16x8192x8192 (constant S_ .f32 0x3E000000#32))

/-- The five results. -/
def rDq (dl : FVec F S16x8192x8192 .f32) (k : FVec F S8192x1024 .f32) : FVec F S8192x1024 .bf16 :=
  truncf .bf16 (shapeCast S8192x1024 (transpose S8192x16x64 [1, 0, 2] (Host.dotGeneral dot_S16x8192x8192_S8192x16x64_S16x8192x64_2_0_1_2_0_1 none dl (rHeads k)) transposes_S16x8192x64_S8192x16x64_1_0_2) shapeCasts_S8192x16x64_S8192x1024) bitsLt_bf16_f32
def rDk (dl : FVec F S16x8192x8192 .f32) (q : FVec F S8192x1024 .f32) : FVec F S8192x1024 .bf16 :=
  truncf .bf16 (shapeCast S8192x1024 (transpose S8192x16x64 [1, 0, 2] (Host.dotGeneral dot_S16x8192x8192_S8192x16x64_S16x8192x64_1_0_2_2_0_1 none dl (rHeads q)) transposes_S16x8192x64_S8192x16x64_1_0_2) shapeCasts_S8192x16x64_S8192x1024) bitsLt_bf16_f32
def rDv (d : FVec F S8192x1024 .f32) (p : FVec F S16x8192x8192 .f32) : FVec F S8192x1024 .bf16 :=
  truncf .bf16 (shapeCast S8192x1024 (transpose S8192x16x64 [2, 0, 1] (Host.dotGeneral dot_S16x64x8192_S16x8192x8192_S16x64x8192_2_1_1_2_0_0 none (rD d) p) transposes_S16x64x8192_S8192x16x64_2_0_1) shapeCasts_S8192x16x64_S8192x1024) bitsLt_bf16_f32
def rDcq (ds : FVec F S16x8192x8192 .f32) : FVec F S8x8x8192 .f32 :=
  pad S8x8x8192 ![0, 0, 0] ![0, 6, 0] ![0, 0, 0] (shapeCast S8x2x8192 (transpose S16x8192 [1, 0] (transpose S8192x16 [1, 0] (Host.reduceAdd (shapeCast S16x8192x1 (Host.reduceAdd ds (constant S_ .f32 0x00000000#32) reducesTo_S16x8192x8192_S16x8192_d2 h_S_) shapeCasts_S16x8192_S16x8192x1) (constant S_ .f32 0x00000000#32) reducesTo_S16x8192x1_S16x8192_d2 h_S_) transposes_S16x8192_S8192x16_1_0) transposes_S8192x16_S16x8192_1_0) shapeCasts_S16x8192_S8x2x8192)
    (sitofp .f32 (constantI S_ 32 0#32)) pads_S8x2x8192_S8x8x8192_000_060_000 h_S_
def rDck (ds : FVec F S16x8192x8192 .f32) : FVec F S8x8x8192 .f32 :=
  pad S8x8x8192 ![0, 0, 0] ![0, 6, 0] ![0, 0, 0] (shapeCast S8x2x8192 (transpose S16x8192 [1, 0] (Host.negf (transpose S8192x16 [1, 0] (Host.reduceAdd (shapeCast S16x1x8192 (Host.reduceAdd (Host.negf ds) (constant S_ .f32 0x00000000#32) reducesTo_S16x8192x8192_S16x8192_d1 h_S_) shapeCasts_S16x8192_S16x1x8192) (constant S_ .f32 0x00000000#32) reducesTo_S16x1x8192_S16x8192_d1 h_S_) transposes_S16x8192_S8192x16_1_0)) transposes_S8192x16_S16x8192_1_0) shapeCasts_S16x8192_S8x2x8192)
    (sitofp .f32 (constantI S_ 32 0#32)) pads_S8x2x8192_S8x8x8192_000_060_000 h_S_

variable (m : (ℓ : Loc nD τ sig) → Buf (Elt F) ℓ) (c : Dev nD)

/-- The exponentials of the launch's arguments, and the gradient of their logits. -/
def aE : FVec F S16x8192x8192 .f32 := rE (rS (m ((c.tc : Thread nD τ).loc main_arg0)) (m ((c.tc : Thread nD τ).loc main_arg1)) (m ((c.tc : Thread nD τ).loc main_arg3)))
def adS : FVec F S16x8192x8192 .f32 := rdS (rdP (m ((c.tc : Thread nD τ).loc main_arg4)) (m ((c.tc : Thread nD τ).loc main_arg2))) (aE m c)

theorem res_dv : res_main_v91 m c = rDv (m ((c.tc : Thread nD τ).loc main_arg4)) (rP (aE m c)) := rfl
theorem res_dk : res_main_v90 m c = rDk (rdL (adS m c)) (m ((c.tc : Thread nD τ).loc main_arg0)) := rfl
theorem res_dq : res_main_v89 m c = rDq (rdL (adS m c)) (m ((c.tc : Thread nD τ).loc main_arg1)) := rfl
theorem res_dcq : res_main_v94 m c = rDcq (adS m c) := rfl
theorem res_dck : res_main_v98 m c = rDck (adS m c) := rfl

end Cert.ReferenceIdeal.Value

end
-- ==== Proof.Spec.lean ====
/-
  The backward pass of the forgetting attention over the real numbers, and the algebra that takes the kernel's form and
  the reference's form of it to one another.
-/
module

public import Idealize.ShloMosaic.Lib.Pointwise

@[expose] public section

noncomputable section

namespace Cert.Spec

open scoped BigOperators

/-- A finite sum of real numbers, read in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Column `d` of head `h`. -/
def hd (h : Fin 16) (d : Fin 64) : Fin 1024 := ⟨h.val * 64 + d.val, by omega⟩
/-- The head of a column, and the column's place in it. -/
def hdOf (j : Fin 1024) : Fin 16 := ⟨j.val / 64, by omega⟩

theorem hdOf_hd (h : Fin 16) (d : Fin 64) : hdOf (hd h d) = h := Fin.ext (by show (h.val * 64 + d.val) / 64 = h.val; omega)

/-- The arguments as real numbers. -/
structure Args where
  Q : Fin 8192 → Fin 1024 → ℝ
  K : Fin 8192 → Fin 1024 → ℝ
  V : Fin 8192 → Fin 1024 → ℝ
  C : Fin 8192 → Fin 16 → ℝ
  D : Fin 8192 → Fin 1024 → ℝ

variable (a : Args)

/-- The logit of query `t` and key `s`. -/
def logit (h : Fin 16) (t s : Fin 8192) : ℝ := (∑ d, a.Q t (hd h d) * a.K s (hd h d)) * (1 / 8) + a.C t h - a.C s h
/-- Its weight before normalising: zero for a later key. -/
def wt (h : Fin 16) (t s : Fin 8192) : ℝ := if s.val ≤ t.val then Real.exp (logit a h t s) else 0
def Z (h : Fin 16) (t : Fin 8192) : ℝ := ∑ s, wt a h t s
/-- The attention's probabilities. -/
def P (h : Fin 16) (t s : Fin 8192) : ℝ := wt a h t s / Z a h t
/-- The attention's output. -/
def O (t : Fin 8192) (j : Fin 1024) : ℝ := ∑ s, P a (hdOf j) t s * a.V s j
/-- The gradient of a probability. -/
def dP (h : Fin 16) (t s : Fin 8192) : ℝ := ∑ d, a.D t (hd h d) * a.V s (hd h d)
def dl (h : Fin 16) (t : Fin 8192) : ℝ := ∑ d, a.D t (hd h d) * O a t (hd h d)
/-- The gradient of a logit. -/
def dS (h : Fin 16) (t s : Fin 8192) : ℝ := P a h t s * (dP a h t s - dl a h t)
def dQ (t : Fin 8192) (j : Fin 1024) : ℝ := ∑ s, dS a (hdOf j) t s * (1 / 8) * a.K s j
def dK (s : Fin 8192) (j : Fin 1024) : ℝ := ∑ t, dS a (hdOf j) t s * (1 / 8) * a.Q t j
def dV (s : Fin 8192) (j : Fin 1024) : ℝ := ∑ t, P a (hdOf j) t s * a.D t j

theorem wt_nonneg (h : Fin 16) (t s : Fin 8192) : 0 ≤ wt a h t s := by
  unfold wt; split
  · exact (Real.exp_pos _).le
  · exact le_rfl

theorem Z_pos (h : Fin 16) (t : Fin 8192) : 0 < Z a h t := by
  refine Finset.sum_pos' (fun s _ => wt_nonneg a h t s) ⟨t, Finset.mem_univ _, ?_⟩
  unfold wt; rw [if_pos le_rfl]; exact Real.exp_pos _

theorem P_later (h : Fin 16) (t s : Fin 8192) (hs : t.val < s.val) : P a h t s = 0 := by
  unfold P wt; rw [if_neg (by omega), zero_div]

theorem dS_later (h : Fin 16) (t s : Fin 8192) (hs : t.val < s.val) : dS a h t s = 0 := by
  unfold dS; rw [P_later a h t s hs, zero_mul]

theorem dl_eq (h : Fin 16) (t : Fin 8192) : dl a h t = ∑ s, P a h t s * dP a h t s := by
  unfold dl dP O
  simp only [hdOf_hd, Finset.mul_sum]
  rw [Finset.sum_comm]
  exact Finset.sum_congr rfl fun s _ => Finset.sum_congr rfl fun d _ => by ring

/-! ## The reference's form: weights shifted by a row maximum `M` -/

/-- The shifted weight. -/
def ew (M : ℝ) (h : Fin 16) (t s : Fin 8192) : ℝ := if s.val ≤ t.val then Real.exp (logit a h t s - M) else 0

theorem ew_eq (M : ℝ) (h : Fin 16) (t s : Fin 8192) : ew a M h t s = wt a h t s * Real.exp (-M) := by
  unfold ew wt; split
  · rw [sub_eq_add_neg, Real.exp_add]
  · rw [zero_mul]

theorem sum_ew (M : ℝ) (h : Fin 16) (t : Fin 8192) : ∑ s, ew a M h t s = Z a h t * Real.exp (-M) := by
  simp only [ew_eq]; rw [← Finset.sum_mul]; rfl

theorem sum_ew_pos (M : ℝ) (h : Fin 16) (t : Fin 8192) : 0 < ∑ s, ew a M h t s := by
  rw [sum_ew]; exact mul_pos (Z_pos a h t) (Real.exp_pos _)

theorem ew_div (M : ℝ) (h : Fin 16) (t s : Fin 8192) : ew a M h t s / (∑ s', ew a M h t s') = P a h t s := by
  rw [sum_ew, ew_eq]; unfold P
  exact mul_div_mul_right _ _ (Real.exp_pos _).ne'

theorem ref_dS (M : ℝ) (h : Fin 16) (t s : Fin 8192) (E : ℝ) (hE : E = ∑ s', ew a M h t s') :
    (dP a h t s * (1 / E) + -(∑ s', dP a h t s' * (1 * (1 / (E * E))) * ew a M h t s')) * ew a M h t s = dS a h t s := by
  have hp : 0 < E := hE ▸ sum_ew_pos a M h t
  have e : ∀ s', ew a M h t s' = P a h t s' * E := fun s' => by
    rw [← ew_div a M h t s', ← hE]; field_simp
  have e2 : (∑ s', dP a h t s' * (1 * (1 / (E * E))) * ew a M h t s') = dl a h t / E := by
    rw [dl_eq, Finset.sum_div]
    exact Finset.sum_congr rfl fun s' _ => by rw [e s']; field_simp
  rw [e2, e s]; unfold dS; field_simp; ring

/-! ## The kernel's form: base 2 -/

/-- The base-2 logarithm of e. -/
def L : ℝ := 1 / Real.log 2

theorem log2_ne : Real.log 2 ≠ 0 := (Real.log_pos (by norm_num)).ne'

theorem L_log2 : L * Real.log 2 = 1 := by unfold L; field_simp [log2_ne]

theorem two_rpow (x : ℝ) : (2 : ℝ) ^ (L * x) = Real.exp x := by
  rw [Real.rpow_def_of_pos (by norm_num)]
  congr 1
  rw [← mul_assoc, mul_comm (Real.log 2) L, L_log2, one_mul]

/-- The row's logarithm of the normaliser, in base 2, from shifted weights. -/
theorem lse_eq (M : ℝ) (h : Fin 16) (t : Fin 8192) : (M + Real.log (∑ s, ew a M h t s)) * L = L * Real.log (Z a h t) := by
  rw [sum_ew, Real.log_mul (Z_pos a h t).ne' (Real.exp_pos _).ne', Real.log_exp]; ring

/-- The kernel's probability of an earlier key. -/
theorem kernel_P (h : Fin 16) (t s : Fin 8192) (hs : s.val ≤ t.val) :
    (2 : ℝ) ^ (L * logit a h t s - L * Real.log (Z a h t)) = P a h t s := by
  rw [← mul_sub, two_rpow, Real.exp_sub, Real.exp_log (Z_pos a h t)]
  unfold P wt; rw [if_pos hs]

/-- What the query operand holds: the scaled query, the cumulated gate, ones. -/
def qp (h : Fin 16) (t : Fin 8192) (l : Fin 128) : ℝ :=
  if hl : l.val < 64 then a.Q t (hd h ⟨l.val, hl⟩) * (1 / 8 * L) else if l.val = 64 then a.C t h * L else if l.val < 67 then 0 else if l.val < 70 then 1 else 0
/-- What the key operand holds. -/
def kp (h : Fin 16) (s : Fin 8192) (l : Fin 128) : ℝ :=
  if hl : l.val < 64 then a.K s (hd h ⟨l.val, hl⟩) else if l.val < 67 then 1 else if l.val = 67 then -(a.C s h * L) else 0

theorem sum_lanes (f : Fin 128 → ℝ) : ∑ l, f l = (∑ d : Fin 64, f ⟨d.val, by omega⟩) + ∑ d : Fin 64, f ⟨64 + d.val, by omega⟩ := by
  exact Fin.sum_univ_add (a := 64) (b := 64) f

theorem kernel_logit (h : Fin 16) (t s : Fin 8192) : ∑ l, qp a h t l * kp a h s l = L * logit a h t s := by
  rw [sum_lanes]
  have e1 : ∀ d : Fin 64, qp a h t ⟨d.val, by omega⟩ * kp a h s ⟨d.val, by omega⟩ = (a.Q t (hd h d) * a.K s (hd h d)) * (1 / 8 * L) := fun d => by
    unfold qp kp; rw [dif_pos d.isLt, dif_pos d.isLt]; ring
  have e2 : ∀ d : Fin 64, qp a h t ⟨64 + d.val, by omega⟩ * kp a h s ⟨64 + d.val, by omega⟩
      = (if d = (0 : Fin 64) then a.C t h * L else 0) + (if d = (3 : Fin 64) then -(a.C s h * L) else 0) := fun d => by
    unfold qp kp
    rw [dif_neg (by simp), dif_neg (by simp)]
    by_cases h0 : d = (0 : Fin 64)
    · subst h0; simp
    · by_cases h3 : d = (3 : Fin 64)
      · subst h3; simp
      · have h0' : d.val ≠ 0 := fun e => h0 (Fin.ext e)
        have h3' : d.val ≠ 3 := fun e => h3 (Fin.ext e)
        have n64 : ¬ (64 + d.val = 64) := by omega
        have n67 : ¬ (64 + d.val = 67) := by omega
        simp only [n64, n67, h0, h3, if_false, mul_zero, add_zero]
        by_cases h4 : 64 + d.val < 67
        · simp only [h4, if_true, zero_mul]
        · simp only [h4, if_false, mul_zero]
  simp only [e1, e2, Finset.sum_add_distrib, Finset.sum_ite_eq', Finset.mem_univ, if_true, ← Finset.sum_mul]
  unfold logit; ring

end Cert.Spec

end
-- ==== Proof.RefVal.lean ====
/-
  The reference's stages over the extended reals: each entry is the real number the specification names.
-/
module

public import proofs.«01_k».proof.Proof.RefTerm
public import proofs.«01_k».proof.Proof.Spec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe
open Cert.Spec (coe_sum)
open scoped BigOperators

theorem eighth : Ideal.ofBits .f32 0x3E000000#32 = ((1 / 8 : ℝ) : EReal) := by
  simp [Ideal.ofBits, Ideal.ieee, -EReal.coe_mul]; norm_num
theorem negInf : Ideal.ofBits .f32 0xFF800000#32 = (⊥ : EReal) := by
  simp [Ideal.ofBits, Ideal.ieee, -EReal.coe_mul]

/-- The greatest of finitely many values, each real or minus infinity, one of them real. -/
theorem fold_max_real {ι : Type*} (s : Finset ι) (f : ι → EReal) (hf : ∀ i ∈ s, f i = ⊥ ∨ ∃ r : ℝ, f i = (r : EReal)) (i : ι) (hi : i ∈ s) (r : ℝ) (hr : f i = (r : EReal)) :
    ∃ M : ℝ, s.fold max (⊥ : EReal) f = (M : EReal) := by
  classical
  have key : ∀ s : Finset ι, (∀ i ∈ s, f i = ⊥ ∨ ∃ r : ℝ, f i = (r : EReal)) → (s.fold max (⊥ : EReal) f = ⊥ ∧ ∀ i ∈ s, f i = ⊥) ∨ ∃ M : ℝ, s.fold max (⊥ : EReal) f = (M : EReal) := by
    intro s
    induction s using Finset.induction_on with
    | empty => intro _; left; simp
    | insert a s ha ih =>
      intro h
      rw [Finset.fold_insert ha]
      rcases ih (fun i hi => h i (Finset.mem_insert_of_mem hi)) with ⟨e, e'⟩ | ⟨M, e⟩ <;> rcases h a (Finset.mem_insert_self _ _) with ea | ⟨x, ea⟩
      · left; rw [e, ea]; refine ⟨max_self _, ?_⟩
        intro i hi
        rcases Finset.mem_insert.mp hi with rfl | hi
        · exact ea
        · exact e' i hi
      · right; exact ⟨x, by rw [e, ea]; exact max_eq_left bot_le⟩
      · right; exact ⟨M, by rw [e, ea]; exact max_eq_right bot_le⟩
      · right; refine ⟨max x M, ?_⟩
        rw [e, ea]
        rcases le_total x M with hh | hh
        · rw [max_eq_right hh, max_eq_right (EReal.coe_le_coe_iff.mpr hh)]
        · rw [max_eq_left hh, max_eq_left (EReal.coe_le_coe_iff.mpr hh)]
  rcases key s hf with ⟨_, h⟩ | h
  · rw [h i hi] at hr; exact absurd hr.symm (EReal.coe_ne_bot r)
  · exact h

theorem rMask_at (h : Fin 16) (t s : Fin 8192) : rMask (ix3 h t s) = BitVec.ofBool (decide (s.val ≤ t.val)) := by
  unfold rMask
  pointwise
  exact WordCmp.cmpi_sge_ofNat (by have := t.isLt; omega) (by have := s.isLt; omega)

variable (a : Spec.Args)

theorem rHeads_at (x : FVec Ideal S8192x1024 .f32) (f : Fin 8192 → Fin 1024 → ℝ) (hx : ∀ t j, x (ix2 t j) = ((f t j : ℝ) : EReal)) (t : Fin 8192) (h : Fin 16) (d : Fin 64) :
    rHeads x (ix3 t h d) = ((f t (Spec.hd h d) : ℝ) : EReal) := by
  unfold rHeads
  pointwise
  exact hx _ _

theorem rLogit_at (q k : FVec Ideal S8192x1024 .f32) (c : FVec Ideal S8192x16 .f32)
    (hq : ∀ t j, q (ix2 t j) = ((a.Q t j : ℝ) : EReal)) (hk : ∀ t j, k (ix2 t j) = ((a.K t j : ℝ) : EReal)) (hc : ∀ t h, c (ix2 t h) = ((a.C t h : ℝ) : EReal))
    (h : Fin 16) (t s : Fin 8192) : rLogit q k c (ix3 h t s) = ((Spec.logit a h t s : ℝ) : EReal) := by
  unfold rLogit
  pointwise
  simp only [rHeads_at q a.Q hq, rHeads_at k a.K hk, hc, eighth, ← EReal.coe_mul, coe_sum, ← EReal.coe_add, ← EReal.coe_sub]
  rfl

theorem rS_at (q k : FVec Ideal S8192x1024 .f32) (c : FVec Ideal S8192x16 .f32)
    (hq : ∀ t j, q (ix2 t j) = ((a.Q t j : ℝ) : EReal)) (hk : ∀ t j, k (ix2 t j) = ((a.K t j : ℝ) : EReal)) (hc : ∀ t h, c (ix2 t h) = ((a.C t h : ℝ) : EReal))
    (h : Fin 16) (t s : Fin 8192) : rS q k c (ix3 h t s) = if s.val ≤ t.val then ((Spec.logit a h t s : ℝ) : EReal) else ⊥ := by
  unfold rS
  pointwise
  rw [rMask_at, rLogit_at a q k c hq hk hc]
  by_cases hs : s.val ≤ t.val
  · rw [decide_eq_true hs, if_pos hs]; rfl
  · rw [decide_eq_false hs, if_neg hs]; exact negInf

theorem rTop_eq (s : FVec Ideal S16x8192x8192 .f32) (j : S16x8192.Idx) :
    rTop s j = (Finset.univ.filter fun i => reducesTo_S16x8192x8192_S16x8192_d2.drop i = j).fold max (Ideal.ofBits .f32 0xFF800000#32) s :=
  Host.reduce_eq_fold (max : EReal → EReal → EReal) s (constant (F := Ideal) S_ .f32 0xFF800000#32) reducesTo_S16x8192x8192_S16x8192_d2 h_S_ j

theorem drop_at (h : Fin 16) (t : Fin 8192) : reducesTo_S16x8192x8192_S16x8192_d2.drop (ix3 h t t) = ix2 h t := by
  funext b
  fin_cases b <;> rfl

theorem rTop_real (s : FVec Ideal S16x8192x8192 .f32) (hs : ∀ h t u, s (ix3 h t u) = if u.val ≤ t.val then ((Spec.logit a h t u : ℝ) : EReal) else ⊥)
    (h : Fin 16) (t : Fin 8192) : ∃ M : ℝ, rTop s (ix2 h t) = (M : EReal) := by
  have hs' : ∀ i, s i = ⊥ ∨ ∃ r : ℝ, s i = (r : EReal) := by
    intro i
    have e : s i = _ := (congrArg s (eq_ix3 (n0 := 16) (n1 := 8192) (n2 := 8192) i)).trans (hs _ _ _)
    rw [e]
    split
    · exact Or.inr ⟨_, rfl⟩
    · exact Or.inl rfl
  obtain ⟨M, hM⟩ := fold_max_real (Finset.univ.filter fun i => reducesTo_S16x8192x8192_S16x8192_d2.drop i = ix2 h t) s (fun i _ => hs' i) (ix3 h t t)
    (Finset.mem_filter.mpr ⟨Finset.mem_univ _, drop_at h t⟩) (Spec.logit a h t t) (by rw [hs, if_pos le_rfl])
  exact ⟨M, by rw [rTop_eq, negInf]; exact hM⟩

theorem max_at (x y : FVec Ideal S16x8192 .f32) (j : S16x8192.Idx) : maximumf x y j = max (x j) (y j) := rfl

theorem rMax_eq (s : FVec Ideal S16x8192x8192 .f32) (j : S16x8192.Idx) : rMax s j = max (Ideal.ofBits .f32 0xFF800000#32) (rTop s j) := by
  unfold rMax
  rw [max_at]
  rfl

theorem rMax_real (s : FVec Ideal S16x8192x8192 .f32) (hs : ∀ h t u, s (ix3 h t u) = if u.val ≤ t.val then ((Spec.logit a h t u : ℝ) : EReal) else ⊥) :
    ∃ M : Fin 16 → Fin 8192 → ℝ, ∀ h t, rMax s (ix2 h t) = ((M h t : ℝ) : EReal) := by
  have : ∀ h t, ∃ M : ℝ, rMax s (ix2 h t) = (M : EReal) := by
    intro h t
    obtain ⟨M, hM⟩ := rTop_real a s hs h t
    exact ⟨M, by rw [rMax_eq, hM, negInf]; exact max_eq_right bot_le⟩
  choose M hM using this
  exact ⟨M, hM⟩

theorem rE_at (s : FVec Ideal S16x8192x8192 .f32) (hs : ∀ h t u, s (ix3 h t u) = if u.val ≤ t.val then ((Spec.logit a h t u : ℝ) : EReal) else ⊥)
    (M : Fin 16 → Fin 8192 → ℝ) (hM : ∀ h t, rMax s (ix2 h t) = ((M h t : ℝ) : EReal)) (h : Fin 16) (t u : Fin 8192) :
    rE s (ix3 h t u) = ((Spec.ew a (M h t) h t u : ℝ) : EReal) := by
  unfold rE
  pointwise
  rw [hs, hM]
  unfold Spec.ew
  split
  · rw [← EReal.coe_sub]; rfl
  · rw [EReal.bot_sub]; rfl

variable (M : Fin 16 → Fin 8192 → ℝ) (e : FVec Ideal S16x8192x8192 .f32) (he : ∀ h t u, e (ix3 h t u) = ((Spec.ew a (M h t) h t u : ℝ) : EReal))

include he in
theorem rZ_at (h : Fin 16) (t : Fin 8192) : rZ e (ix3 h t (0 : Fin 1)) = ((∑ u, Spec.ew a (M h t) h t u : ℝ) : EReal) := by
  unfold rZ
  pointwise
  simp only [he, coe_sum, zero_add]

include he in
theorem rP_at (h : Fin 16) (t u : Fin 8192) : rP e (ix3 h t u) = ((Spec.P a h t u : ℝ) : EReal) := by
  unfold rP
  pointwise
  rw [rZ_at a M e he, he, Ideal.div_coe (Spec.sum_ew_pos a _ h t).ne', ← EReal.coe_mul, mul_one_div, Spec.ew_div]

theorem rD_at (d : FVec Ideal S8192x1024 .f32) (hd : ∀ t j, d (ix2 t j) = ((a.D t j : ℝ) : EReal)) (h : Fin 16) (j : Fin 64) (t : Fin 8192) :
    rD d (ix3 h j t) = ((a.D t (Spec.hd h j) : ℝ) : EReal) := by
  unfold rD
  pointwise
  exact rHeads_at d a.D hd t h j

theorem rdP_at (d v : FVec Ideal S8192x1024 .f32) (hd : ∀ t j, d (ix2 t j) = ((a.D t j : ℝ) : EReal)) (hv : ∀ t j, v (ix2 t j) = ((a.V t j : ℝ) : EReal))
    (h : Fin 16) (t s : Fin 8192) : rdP d v (ix3 h t s) = ((Spec.dP a h t s : ℝ) : EReal) := by
  unfold rdP
  pointwise
  simp only [rD_at a d hd, rHeads_at v a.V hv, ← EReal.coe_mul, coe_sum]
  rfl

variable (dp : FVec Ideal S16x8192x8192 .f32) (hdp : ∀ h t u, dp (ix3 h t u) = ((Spec.dP a h t u : ℝ) : EReal))

include he hdp in
theorem rdZ_at (h : Fin 16) (t : Fin 8192) :
    rdZ dp e (ix2 h t) = ((-(∑ u, Spec.dP a h t u * (1 * (1 / ((∑ u, Spec.ew a (M h t) h t u) * (∑ u, Spec.ew a (M h t) h t u)))) * Spec.ew a (M h t) h t u) : ℝ) : EReal) := by
  have hz : ((∑ u, Spec.ew a (M h t) h t u) * (∑ u, Spec.ew a (M h t) h t u)) ≠ 0 := (mul_pos (Spec.sum_ew_pos a _ h t) (Spec.sum_ew_pos a _ h t)).ne'
  unfold rdZ
  pointwise
  simp only [he, hdp, rZ_at a M e he, ← EReal.coe_mul, Ideal.div_coe hz, ← EReal.coe_one, coe_sum, zero_add, ← EReal.coe_neg]
  simp

include he hdp in
theorem rdS_at (h : Fin 16) (t u : Fin 8192) : rdS dp e (ix3 h t u) = ((Spec.dS a h t u : ℝ) : EReal) := by
  unfold rdS
  pointwise
  rw [rMask_at, rdZ_at a M e he dp hdp, rZ_at a M e he, he, hdp, Ideal.div_coe (Spec.sum_ew_pos a _ h t).ne', ← EReal.coe_mul, ← EReal.coe_add, ← EReal.coe_mul]
  rw [Spec.ref_dS a (M h t) h t u _ rfl]
  by_cases hs : u.val ≤ t.val
  · rw [decide_eq_true hs]; rfl
  · rw [decide_eq_false hs, Spec.dS_later a h t u (by omega)]; rfl

theorem hd_col (j : Fin 1024) (h1) (h2) : Spec.hd ⟨j.val / 64, h1⟩ ⟨j.val % 64, h2⟩ = j := Fin.ext (by show j.val / 64 * 64 + j.val % 64 = j.val; omega)

theorem sitofp0 : (FloatOps.sitofp FTy.f32 0#32 : Ideal .f32) = ((0 : ℝ) : EReal) := by
  show (((0#32 : BitVec 32).toInt : ℝ) : EReal) = _
  simp

variable (ds : FVec Ideal S16x8192x8192 .f32) (hds : ∀ h t u, ds (ix3 h t u) = ((Spec.dS a h t u : ℝ) : EReal))

include hds in
theorem rdL_at (h : Fin 16) (t u : Fin 8192) : rdL ds (ix3 h t u) = ((Spec.dS a h t u * (1 / 8) : ℝ) : EReal) := by
  unfold rdL
  pointwise
  rw [hds, eighth, ← EReal.coe_mul]

include hds in
theorem rDq_at (k : FVec Ideal S8192x1024 .f32) (hk : ∀ t j, k (ix2 t j) = ((a.K t j : ℝ) : EReal)) (t : Fin 8192) (j : Fin 1024) :
    rDq (rdL ds) k (ix2 t j) = ((Spec.dQ a t j : ℝ) : EReal) := by
  unfold rDq
  pointwise
  simp only [rdL_at a ds hds, rHeads_at k a.K hk, ← EReal.coe_mul, coe_sum, hd_col]
  rfl

include hds in
theorem rDk_at (q : FVec Ideal S8192x1024 .f32) (hq : ∀ t j, q (ix2 t j) = ((a.Q t j : ℝ) : EReal)) (t : Fin 8192) (j : Fin 1024) :
    rDk (rdL ds) q (ix2 t j) = ((Spec.dK a t j : ℝ) : EReal) := by
  unfold rDk
  pointwise
  simp only [rdL_at a ds hds, rHeads_at q a.Q hq, ← EReal.coe_mul, coe_sum, hd_col]
  rfl

theorem rDv_at (d : FVec Ideal S8192x1024 .f32) (hd : ∀ t j, d (ix2 t j) = ((a.D t j : ℝ) : EReal)) (p : FVec Ideal S16x8192x8192 .f32)
    (hp : ∀ h t u, p (ix3 h t u) = ((Spec.P a h t u : ℝ) : EReal)) (t : Fin 8192) (j : Fin 1024) :
    rDv d p (ix2 t j) = ((Spec.dV a t j : ℝ) : EReal) := by
  unfold rDv
  pointwise
  simp only [rD_at a d hd, hp, ← EReal.coe_mul, coe_sum, hd_col]
  exact congrArg _ (Finset.sum_congr rfl fun _ _ => mul_comm _ _)

include hds in
theorem rDcq_at (p : Fin 8) (u : Fin 8) (t : Fin 8192) :
    rDcq ds (ix3 p u t) = ((if hu : u.val < 2 then ∑ s, Spec.dS a ⟨2 * p.val + u.val, by omega⟩ t s else 0 : ℝ) : EReal) := by
  unfold rDcq
  pointwise
  have e : ∀ hp, (⟨p.val * 2 + u.val, hp⟩ : Fin 16) = ⟨2 * p.val + u.val, by omega⟩ := fun _ => Fin.ext (by show p.val * 2 + u.val = 2 * p.val + u.val; omega)
  split
  · simp only [hds, coe_sum, zero_add, e]
    simp
  · exact sitofp0

include hds in
theorem rDck_at (p : Fin 8) (u : Fin 8) (s : Fin 8192) :
    rDck ds (ix3 p u s) = ((if hu : u.val < 2 then ∑ t, Spec.dS a ⟨2 * p.val + u.val, by omega⟩ t s else 0 : ℝ) : EReal) := by
  unfold rDck
  pointwise
  have e : ∀ hp, (⟨p.val * 2 + u.val, hp⟩ : Fin 16) = ⟨2 * p.val + u.val, by omega⟩ := fun _ => Fin.ext (by show p.val * 2 + u.val = 2 * p.val + u.val; omega)
  split
  · simp only [hds, ← EReal.coe_neg, coe_sum, zero_add, e]
    simp
  · exact sitofp0

end Cert.ReferenceIdeal.Value

end
-- ==== Proof.HostVal.lean ====
/-
  What the host hands the call, over the extended reals.
-/
module

public import proofs.«01_k».proof.Proof.HostTerm
public import proofs.«01_k».proof.Proof.RefVal

@[expose] public section

set_option maxRecDepth 16384

noncomputable section

namespace Cert.KernelIdeal.Attn

open Cert.KernelIdeal Cert.KernelIdeal.Gen
open Idealize.ShloMosaic Idealize.ShloMosaic.TcCoe
open Cert.Spec (coe_sum)
open Cert.ReferenceIdeal.Value (eighth negInf fold_max_real)
open scoped BigOperators

theorem two_bits : Ideal.ofBits .f32 0x40000000#32 = ((2 : ℝ) : EReal) := by
  simp [Ideal.ofBits, Ideal.ieee, -EReal.coe_mul]; norm_num

theorem hMask_at (h : Fin 16) (t s : Fin 8192) : hMask (ix3 h t s) = BitVec.ofBool (decide (s.val ≤ t.val)) := by
  unfold hMask
  pointwise
  exact WordCmp.cmpi_sge_ofNat (by have := t.isLt; omega) (by have := s.isLt; omega)

variable (a : Spec.Args)

theorem hHeads_at (x : FVec Ideal S8192x1024 .f32) (f : Fin 8192 → Fin 1024 → ℝ) (hx : ∀ t j, x (ix2 t j) = ((f t j : ℝ) : EReal)) (t : Fin 8192) (h : Fin 16) (d : Fin 64) :
    hHeads x (ix3 t h d) = ((f t (Spec.hd h d) : ℝ) : EReal) := by
  unfold hHeads
  pointwise
  exact hx _ _

theorem hS_at (q k : FVec Ideal S8192x1024 .f32) (c : FVec Ideal S8192x16 .f32)
    (hq : ∀ t j, q (ix2 t j) = ((a.Q t j : ℝ) : EReal)) (hk : ∀ t j, k (ix2 t j) = ((a.K t j : ℝ) : EReal)) (hc : ∀ t h, c (ix2 t h) = ((a.C t h : ℝ) : EReal))
    (h : Fin 16) (t s : Fin 8192) : hS q k c (ix3 h t s) = if s.val ≤ t.val then ((Spec.logit a h t s : ℝ) : EReal) else ⊥ := by
  have hl : hLogit q k c (ix3 h t s) = ((Spec.logit a h t s : ℝ) : EReal) := by
    unfold hLogit
    pointwise
    simp only [hHeads_at q a.Q hq, hHeads_at k a.K hk, hc, eighth, ← EReal.coe_mul, coe_sum, ← EReal.coe_add, ← EReal.coe_sub]
    rfl
  unfold hS
  pointwise
  rw [hMask_at, hl]
  by_cases hs : s.val ≤ t.val
  · rw [decide_eq_true hs, if_pos hs]; rfl
  · rw [decide_eq_false hs, if_neg hs]; exact negInf

theorem hTop_eq (s : FVec Ideal S16x8192x8192 .f32) (j : S16x8192.Idx) :
    hTop s j = (Finset.univ.filter fun i => reducesTo_S16x8192x8192_S16x8192_d2.drop i = j).fold max (Ideal.ofBits .f32 0xFF800000#32) s :=
  Host.reduce_eq_fold (max : EReal → EReal → EReal) s (constant (F := Ideal) S_ .f32 0xFF800000#32) reducesTo_S16x8192x8192_S16x8192_d2 h_S_ j

theorem drop_at (h : Fin 16) (t : Fin 8192) : reducesTo_S16x8192x8192_S16x8192_d2.drop (ix3 h t t) = ix2 h t := by
  funext b
  fin_cases b <;> rfl

variable (s : FVec Ideal S16x8192x8192 .f32) (hs : ∀ h t u, s (ix3 h t u) = if u.val ≤ t.val then ((Spec.logit a h t u : ℝ) : EReal) else ⊥)

include hs in
theorem hTop_real : ∃ M : Fin 16 → Fin 8192 → ℝ, ∀ h t, hTop s (ix2 h t) = ((M h t : ℝ) : EReal) := by
  have hs' : ∀ i, s i = ⊥ ∨ ∃ r : ℝ, s i = (r : EReal) := by
    intro i
    have e : s i = _ := (congrArg s (eq_ix3 (n0 := 16) (n1 := 8192) (n2 := 8192) i)).trans (hs _ _ _)
    rw [e]
    split
    · exact Or.inr ⟨_, rfl⟩
    · exact Or.inl rfl
  have key : ∀ h t, ∃ M : ℝ, hTop s (ix2 h t) = (M : EReal) := by
    intro h t
    obtain ⟨M, hM⟩ := fold_max_real (Finset.univ.filter fun i => reducesTo_S16x8192x8192_S16x8192_d2.drop i = ix2 h t) s (fun i _ => hs' i) (ix3 h t t)
      (Finset.mem_filter.mpr ⟨Finset.mem_univ _, drop_at h t⟩) (Spec.logit a h t t) (by rw [hs, if_pos le_rfl])
    exact ⟨M, by rw [hTop_eq, negInf]; exact hM⟩
  choose M hM using key
  exact ⟨M, hM⟩

variable (M : Fin 16 → Fin 8192 → ℝ) (hM : ∀ h t, hTop s (ix2 h t) = ((M h t : ℝ) : EReal))

include hs hM in
theorem hE_at (h : Fin 16) (t u : Fin 8192) : hE s (ix3 h t u) = ((Spec.ew a (M h t) h t u : ℝ) : EReal) := by
  unfold hE
  pointwise
  rw [hs, hM]
  unfold Spec.ew
  split
  · rw [← EReal.coe_sub]; rfl
  · rw [EReal.bot_sub]; rfl

include hs hM in
theorem hZ_at (h : Fin 16) (t : Fin 8192) : hZ (hE s) (ix2 h t) = ((∑ u, Spec.ew a (M h t) h t u : ℝ) : EReal) := by
  unfold hZ
  pointwise
  simp only [hE_at a s hs M hM, coe_sum, zero_add]

include hs hM in
theorem hP_at (h : Fin 16) (t u : Fin 8192) : hP (hE s) (ix3 h t u) = ((Spec.P a h t u : ℝ) : EReal) := by
  unfold hP
  pointwise
  rw [hZ_at a s hs M hM, hE_at a s hs M hM, Ideal.div_coe (Spec.sum_ew_pos a _ h t).ne', ← EReal.coe_mul, mul_one_div, Spec.ew_div]

include hs hM in
theorem hO_at (v : FVec Ideal S8192x1024 .f32) (hv : ∀ t j, v (ix2 t j) = ((a.V t j : ℝ) : EReal)) (t : Fin 8192) (j : Fin 1024) :
    hO v (hE s) (ix2 t j) = ((Spec.O a t j : ℝ) : EReal) := by
  unfold hO
  pointwise
  simp only [hHeads_at v a.V hv, hP_at a s hs M hM, ← EReal.coe_mul, coe_sum]
  exact congrArg _ (Finset.sum_congr rfl fun i _ => by
    rw [show Spec.hd ⟨j.val / 64, by omega⟩ ⟨j.val % 64, by omega⟩ = j from Fin.ext (by show j.val / 64 * 64 + j.val % 64 = j.val; omega)]
    exact mul_comm _ _)

theorem hL_at (i) : hL (F := Ideal) i = ((Spec.L : ℝ) : EReal) := by
  unfold hL
  pointwise
  rw [two_bits, Ideal.log_coe, if_neg (by norm_num), ← EReal.coe_one, Ideal.div_coe Spec.log2_ne, ← EReal.coe_mul, one_mul]
  rfl

theorem hBase_at (u z : FVec Ideal S16x8192 .f32) (h : Fin 16) (t : Fin 8192) (x y : ℝ) (hx : u (ix2 h t) = (x : EReal)) (hy : z (ix2 h t) = (y : EReal)) (h0 : 0 < y) :
    hBase u z (ix2 h t) = (((x + Real.log y) * Spec.L : ℝ) : EReal) := by
  unfold hBase
  pointwise
  rw [hL_at, hx, hy, Ideal.log_coe, if_neg (not_le.mpr h0), ← EReal.coe_add, ← EReal.coe_mul]

include hs hM in
theorem hLse_at (h : Fin 16) (t : Fin 8192) : hLse s (ix2 h t) = ((Spec.L * Real.log (Spec.Z a h t) : ℝ) : EReal) := by
  unfold hLse
  rw [hBase_at _ _ h t _ _ (hM h t) (hZ_at a s hs M hM h t) (Spec.sum_ew_pos a _ h t), Spec.lse_eq]

theorem hLseL_at (l : FVec Ideal S16x8192 .f32) (p : Fin 8) (t : Fin 8192) (x : Fin 128) :
    hLseL l (ix3 p t x) = l (ix2 ⟨p.val * 2 + x.val / 64, by omega⟩ t) := by
  unfold hLseL
  pointwise

variable (c : FVec Ideal S8192x16 .f32) (hc : ∀ t h, c (ix2 t h) = ((a.C t h : ℝ) : EReal))

include hc in
theorem hC2_at (h : Fin 16) (t : Fin 8192) (z : Fin 1) : hC2 c (ix3 h t z) = ((a.C t h * Spec.L : ℝ) : EReal) := by
  unfold hC2
  pointwise
  rw [hL_at, hc, ← EReal.coe_mul]

include hc in
theorem hHi_at (h : Fin 16) (t : Fin 8192) (z : Fin 1) : hHi (hC2 c) (ix3 h t z) = ((a.C t h * Spec.L : ℝ) : EReal) := by
  unfold hHi hTrim
  pointwise
  exact hC2_at a c hc h t z

include hc in
theorem hMid_at (h : Fin 16) (t : Fin 8192) (z : Fin 1) : hMid (hC2 c) (ix3 h t z) = ((0 : ℝ) : EReal) := by
  unfold hMid hTrim
  pointwise
  rw [hC2_at a c hc, hHi_at a c hc, ← EReal.coe_sub, sub_self]

include hc in
theorem hLo_at (h : Fin 16) (t : Fin 8192) (z : Fin 1) : hLo (hC2 c) (ix3 h t z) = ((0 : ℝ) : EReal) := by
  unfold hLo hTrim
  pointwise
  rw [hC2_at a c hc, hHi_at a c hc, hMid_at a c hc, ← EReal.coe_sub, ← EReal.coe_sub, sub_self, sub_zero]

theorem hRows_at (x : FVec Ideal S8192x1024 .f32) (f : Fin 8192 → Fin 1024 → ℝ) (hx : ∀ t j, x (ix2 t j) = ((f t j : ℝ) : EReal)) (h : Fin 16) (t : Fin 8192) (d : Fin 64) :
    hRows x (ix3 h t d) = ((f t (Spec.hd h d) : ℝ) : EReal) := by
  unfold hRows
  pointwise
  exact hHeads_at x f hx t h d

theorem hQs_at (x : FVec Ideal S8192x1024 .f32) (f : Fin 8192 → Fin 1024 → ℝ) (hx : ∀ t j, x (ix2 t j) = ((f t j : ℝ) : EReal)) (h : Fin 16) (t : Fin 8192) (d : Fin 64) :
    hQs x (ix3 h t d) = ((f t (Spec.hd h d) * (1 / 8 * Spec.L) : ℝ) : EReal) := by
  unfold hQs
  pointwise
  rw [hRows_at x f hx, hL_at, eighth, ← EReal.coe_mul, ← EReal.coe_mul]

theorem hOnes_at (i) : hOnes (F := Ideal) i = ((1 : ℝ) : EReal) := by
  unfold hOnes
  pointwise
  exact EReal.coe_one.symm
theorem hZeros_at (i) : hZeros (F := Ideal) i = ((0 : ℝ) : EReal) := by
  unfold hZeros
  pointwise
  exact EReal.coe_zero.symm

include hc in
theorem hQp_at (q : FVec Ideal S8192x1024 .f32) (hq : ∀ t j, q (ix2 t j) = ((a.Q t j : ℝ) : EReal)) (h : Fin 16) (t : Fin 8192) (l : Fin 128) :
    hQp q c (ix3 h t l) = ((Spec.qp a h t l : ℝ) : EReal) := by
  unfold hQp
  pointwise
  simp only [hQs_at q a.Q hq, hHi_at a c hc, hMid_at a c hc, hLo_at a c hc, hOnes_at, hZeros_at]
  unfold Spec.qp
  split_ifs <;> first | rfl | (exfalso; omega) | (rw [EReal.coe_zero, neg_zero])

include hc in
theorem hKp_at (k : FVec Ideal S8192x1024 .f32) (hk : ∀ t j, k (ix2 t j) = ((a.K t j : ℝ) : EReal)) (h : Fin 16) (t : Fin 8192) (l : Fin 128) :
    hKp k c (ix3 h t l) = ((Spec.kp a h t l : ℝ) : EReal) := by
  unfold hKp
  pointwise
  simp only [hRows_at k a.K hk, hHi_at a c hc, hMid_at a c hc, hLo_at a c hc, hOnes_at, hZeros_at]
  unfold Spec.kp
  split_ifs <;> first | rfl | (exfalso; omega) | (rw [EReal.coe_zero, neg_zero])

end Cert.KernelIdeal.Attn

end
-- ==== Proof.ValBlk.lean ====
/-
  One block of the kernel's arithmetic over the extended reals: every entry as a real number.
-/
module

public import proofs.«01_k».proof.Proof.Blk
public import proofs.«01_k».proof.Proof.Spec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe
open scoped BigOperators

/-- A window's entry, and the entries of a vector with a window put over it, by coordinates. -/
theorem window3 {α : Type} {n0 n1 n2 : ℕ} (x : (⟨3, ![n0, n1, n2]⟩ : Shape).Idx → α) (o0 o1 o2 s0 s1 s2 : ℕ) (inb) (i : Fin s0) (j : Fin s1) (k : Fin s2)
    (h0 : o0 + i.val < n0) (h1 : o1 + j.val < n1) (h2 : o2 + k.val < n2) :
    VecWindow.window x ![o0, o1, o2] ![s0, s1, s2] inb (ix3 i j k) = x (ix3 ⟨o0 + i.val, h0⟩ ⟨o1 + j.val, h1⟩ ⟨o2 + k.val, h2⟩) := by
  refine congrArg x (funext fun a => ?_)
  fin_cases a
  · exact Fin.ext (by show o0 + 1 * i.val = o0 + i.val; omega)
  · exact Fin.ext (by show o1 + 1 * j.val = o1 + j.val; omega)
  · exact Fin.ext (by show o2 + 1 * k.val = o2 + k.val; omega)

theorem window2 {α : Type} {n0 n1 : ℕ} (x : (⟨2, ![n0, n1]⟩ : Shape).Idx → α) (o0 o1 s0 s1 : ℕ) (inb) (i : Fin s0) (j : Fin s1)
    (h0 : o0 + i.val < n0) (h1 : o1 + j.val < n1) :
    VecWindow.window x ![o0, o1] ![s0, s1] inb (ix2 i j) = x (ix2 ⟨o0 + i.val, h0⟩ ⟨o1 + j.val, h1⟩) := by
  refine congrArg x (funext fun a => ?_)
  fin_cases a
  · exact Fin.ext (by show o0 + 1 * i.val = o0 + i.val; omega)
  · exact Fin.ext (by show o1 + 1 * j.val = o1 + j.val; omega)

theorem put3_in {α : Type} {n0 n1 n2 : ℕ} (x : (⟨3, ![n0, n1, n2]⟩ : Shape).Idx → α) (o0 o1 o2 s0 s1 s2 : ℕ) (w : (⟨3, ![s0, s1, s2]⟩ : Shape).Idx → α)
    (i : Fin n0) (j : Fin n1) (k : Fin n2) (i' : Fin s0) (j' : Fin s1) (k' : Fin s2) (h0 : i.val = o0 + i'.val) (h1 : j.val = o1 + j'.val) (h2 : k.val = o2 + k'.val) :
    VecWindow.put x ![o0, o1, o2] ![s0, s1, s2] w (ix3 i j k) = w (ix3 i' j' k') := by
  have hh : ∀ a, (![o0, o1, o2] : Fin 3 → ℕ) a ≤ ((ix3 i j k : (⟨3, ![n0, n1, n2]⟩ : Shape).Idx) a).val ∧ ((ix3 i j k : (⟨3, ![n0, n1, n2]⟩ : Shape).Idx) a).val < (![o0, o1, o2] : Fin 3 → ℕ) a + (![s0, s1, s2] : Fin 3 → ℕ) a := by
    have := i'.isLt; have := j'.isLt; have := k'.isLt
    intro a
    fin_cases a
    · show o0 ≤ i.val ∧ i.val < o0 + s0; omega
    · show o1 ≤ j.val ∧ j.val < o1 + s1; omega
    · show o2 ≤ k.val ∧ k.val < o2 + s2; omega
  unfold VecWindow.put
  rw [dif_pos hh]
  refine congrArg w (funext fun a => ?_)
  fin_cases a
  · exact Fin.ext (by show i.val - o0 = i'.val; omega)
  · exact Fin.ext (by show j.val - o1 = j'.val; omega)
  · exact Fin.ext (by show k.val - o2 = k'.val; omega)

theorem put3_out {α : Type} {n0 n1 n2 : ℕ} (x : (⟨3, ![n0, n1, n2]⟩ : Shape).Idx → α) (o0 o1 o2 s0 s1 s2 : ℕ) (w : (⟨3, ![s0, s1, s2]⟩ : Shape).Idx → α)
    (i : Fin n0) (j : Fin n1) (k : Fin n2) (h : ¬ ((o0 ≤ i.val ∧ i.val < o0 + s0) ∧ (o2 ≤ k.val ∧ k.val < o2 + s2))) :
    VecWindow.put x ![o0, o1, o2] ![s0, s1, s2] w (ix3 i j k) = x (ix3 i j k) := by
  unfold VecWindow.put
  rw [dif_neg (fun hh => h ⟨hh 0, hh 2⟩)]

theorem put2_in {α : Type} {n0 n1 : ℕ} (x : (⟨2, ![n0, n1]⟩ : Shape).Idx → α) (o0 o1 s0 s1 : ℕ) (w : (⟨2, ![s0, s1]⟩ : Shape).Idx → α)
    (i : Fin n0) (j : Fin n1) (i' : Fin s0) (j' : Fin s1) (h0 : i.val = o0 + i'.val) (h1 : j.val = o1 + j'.val) :
    VecWindow.put x ![o0, o1] ![s0, s1] w (ix2 i j) = w (ix2 i' j') := by
  have hh : ∀ a, (![o0, o1] : Fin 2 → ℕ) a ≤ ((ix2 i j : (⟨2, ![n0, n1]⟩ : Shape).Idx) a).val ∧ ((ix2 i j : (⟨2, ![n0, n1]⟩ : Shape).Idx) a).val < (![o0, o1] : Fin 2 → ℕ) a + (![s0, s1] : Fin 2 → ℕ) a := by
    have := i'.isLt; have := j'.isLt
    intro a
    fin_cases a
    · show o0 ≤ i.val ∧ i.val < o0 + s0; omega
    · show o1 ≤ j.val ∧ j.val < o1 + s1; omega
  unfold VecWindow.put
  rw [dif_pos hh]
  refine congrArg w (funext fun a => ?_)
  fin_cases a
  · exact Fin.ext (by show i.val - o0 = i'.val; omega)
  · exact Fin.ext (by show j.val - o1 = j'.val; omega)

theorem put2_out {α : Type} {n0 n1 : ℕ} (x : (⟨2, ![n0, n1]⟩ : Shape).Idx → α) (o0 o1 s0 s1 : ℕ) (w : (⟨2, ![s0, s1]⟩ : Shape).Idx → α)
    (i : Fin n0) (j : Fin n1) (h : ¬ (o1 ≤ j.val ∧ j.val < o1 + s1)) :
    VecWindow.put x ![o0, o1] ![s0, s1] w (ix2 i j) = x (ix2 i j) := by
  unfold VecWindow.put
  rw [dif_neg (fun hh => h (hh 1))]

/-- The block's logits. -/
theorem sBlk_at (q : FVec Ideal S512x128 .bf16) (k : Vec Ideal S1x512x128 .bf16) (f g : Fin 512 → Fin 128 → ℝ)
    (hq : ∀ r l, q (ix2 r l) = ((f r l : ℝ) : EReal)) (hk : ∀ u l, k (ix3 (0 : Fin 1) u l) = ((g u l : ℝ) : EReal)) (r u : Fin 512) :
    sBlk q k (ix2 r u) = ((∑ l, f r l * g u l : ℝ) : EReal) := by
  unfold sBlk
  pointwise
  simp only [hq, hk, ← EReal.coe_mul, Spec.coe_sum, zero_add]

theorem dpBlk_at (d : FVec Ideal S512x128 .bf16) (v : Vec Ideal S128x512 .bf16) (f : Fin 512 → Fin 128 → ℝ) (g : Fin 128 → Fin 512 → ℝ)
    (hq : ∀ r l, d (ix2 r l) = ((f r l : ℝ) : EReal)) (hk : ∀ l u, v (ix2 l u) = ((g l u : ℝ) : EReal)) (r u : Fin 512) :
    dpBlk d v (ix2 r u) = ((∑ l, f r l * g l u : ℝ) : EReal) := by
  unfold dpBlk
  pointwise
  simp only [hq, hk, ← EReal.coe_mul, Spec.coe_sum, zero_add]

theorem pCol_at (mk : Bool) (c : ℕ) (hc : c ≤ 384) (h : S512x512.Slices ![0, c] S512x128) (ls : FVec Ideal S512x128 .f32) (s : FVec Ideal S512x512 .f32)
    (r : Fin 512) (l : Fin 128) :
    pCol mk (BitVec.ofNat 32 c) ![0, c] h ls s (ix2 r l)
      = if mk = true ∧ r.val < l.val + c then 0 else Ideal.exp2 (s (ix2 r ⟨c + l.val, by omega⟩) - ls (ix2 r l)) := by
  cases mk with
  | false =>
    unfold pCol
    simp only [cond_false, Bool.false_eq_true, false_and, if_false]
    pointwise
    rfl
  | true =>
    unfold pCol
    simp only [cond_true, true_and]
    pointwise
    have e : IntOp.cmpi CmpIPredicate.sge (BitVec.ofNat 32 r.val) (IntOp.addi (BitVec.ofNat 32 l.val) (BitVec.ofNat 32 c)) = BitVec.ofBool (decide (l.val + c ≤ r.val)) := by
      show IntOp.cmpi CmpIPredicate.sge (BitVec.ofNat 32 r.val) (BitVec.ofNat 32 l.val + BitVec.ofNat 32 c) = _
      rw [← BitVec.ofNat_add, WordCmp.cmpi_sge_ofNat (by have := r.isLt; omega) (by have := l.isLt; omega)]
    rw [e]
    by_cases hh : l.val + c ≤ r.val
    · rw [decide_eq_true hh, if_neg (by omega)]; rfl
    · rw [decide_eq_false hh, if_pos (by omega)]; rfl

/-- A probability from its logit, the row's logarithm and the mask. -/
def pR (mk : Bool) (f : Fin 512 → Fin 512 → ℝ) (g : Fin 512 → ℝ) (r u : Fin 512) : ℝ :=
  if mk = true ∧ r.val < u.val then 0 else (2 : ℝ) ^ (f r u - g r)

theorem pCol_real (mk : Bool) (c : ℕ) (hc : c ≤ 384) (h : S512x512.Slices ![0, c] S512x128) (ls : FVec Ideal S512x128 .f32) (s : FVec Ideal S512x512 .f32)
    (f : Fin 512 → Fin 512 → ℝ) (g : Fin 512 → ℝ)
    (hs : ∀ r u, s (ix2 r u) = ((f r u : ℝ) : EReal)) (hl : ∀ r l, ls (ix2 r l) = ((g r : ℝ) : EReal)) (r : Fin 512) (l : Fin 128) :
    pCol mk (BitVec.ofNat 32 c) ![0, c] h ls s (ix2 r l) = ((pR mk f g r ⟨c + l.val, by omega⟩ : ℝ) : EReal) := by
  rw [pCol_at mk c hc, hs, hl, ← EReal.coe_sub, Ideal.exp2_coe]
  unfold pR
  by_cases hh : mk = true ∧ r.val < l.val + c
  · rw [if_pos hh, if_pos ⟨hh.1, by show r.val < c + l.val; omega⟩, EReal.coe_zero]
  · rw [if_neg hh, if_neg (fun h' => hh ⟨h'.1, by have : r.val < c + l.val := h'.2; omega⟩)]
    rfl

theorem dsCol_real (p : FVec Ideal S512x128 .f32) (c : ℕ) (hc : c ≤ 384) (h : S512x512.Slices ![0, c] S512x128) (de : FVec Ideal S512x128 .f32) (dp : FVec Ideal S512x512 .f32)
    (w : Fin 512 → Fin 512 → ℝ) (f : Fin 512 → Fin 512 → ℝ) (g : Fin 512 → ℝ)
    (hp : ∀ (r : Fin 512) (l : Fin 128), p (ix2 r l) = ((w r ⟨c + l.val, by omega⟩ : ℝ) : EReal))
    (hs : ∀ r u, dp (ix2 r u) = ((f r u : ℝ) : EReal)) (hl : ∀ r l, de (ix2 r l) = ((g r : ℝ) : EReal)) (r : Fin 512) (l : Fin 128) :
    dsCol p ![0, c] h de dp (ix2 r l) = ((w r ⟨c + l.val, by omega⟩ * (f r ⟨c + l.val, by omega⟩ - g r) : ℝ) : EReal) := by
  unfold dsCol
  pointwise
  rw [hs, hl, hp, ← EReal.coe_sub, ← EReal.coe_mul]

/-- Four blocks of 128 columns side by side. -/
theorem cat4_at (x0 x1 x2 x3 : FVec Ideal S512x128 .bf16) (h) (f : Fin 512 → Fin 512 → ℝ)
    (h0 : ∀ (r : Fin 512) (l : Fin 128), x0 (ix2 r l) = ((f r ⟨0 + l.val, by omega⟩ : ℝ) : EReal))
    (h1 : ∀ (r : Fin 512) (l : Fin 128), x1 (ix2 r l) = ((f r ⟨128 + l.val, by omega⟩ : ℝ) : EReal))
    (h2 : ∀ (r : Fin 512) (l : Fin 128), x2 (ix2 r l) = ((f r ⟨256 + l.val, by omega⟩ : ℝ) : EReal))
    (h3 : ∀ (r : Fin 512) (l : Fin 128), x3 (ix2 r l) = ((f r ⟨384 + l.val, by omega⟩ : ℝ) : EReal)) (r u : Fin 512) :
    concatenate S512x512 1 [⟨S512x128, x0⟩, ⟨S512x128, x1⟩, ⟨S512x128, x2⟩, ⟨S512x128, x3⟩] h (ix2 r u) = ((f r u : ℝ) : EReal) := by
  pointwise
  have e : ∀ (c v : ℕ) (hv : v < 128) (hc : c ≤ 384) (hu : c + v = u.val), f r ⟨c + v, by omega⟩ = f r u := fun c v _ _ hu => congrArg (f r) (Fin.ext hu)
  split
  · rw [h0, e _ _ (by assumption) (by omega) (by show 0 + u.val = u.val; omega)]
  · split
    · rw [h1, e _ _ (by assumption) (by omega) (by show 128 + (u.val - 128) = u.val; omega)]
    · split
      · rw [h2, e _ _ (by assumption) (by omega) (by show 256 + (u.val - 128 - 128) = u.val; omega)]
      · rw [h3, e _ _ (by have := u.isLt; omega) (by omega) (by show 384 + (u.val - 128 - 128 - 128) = u.val; omega)]

/-- The block's probabilities. -/
theorem pBlk_at (mk : Bool) (ls : FVec Ideal S512x128 .f32) (s : FVec Ideal S512x512 .f32) (f : Fin 512 → Fin 512 → ℝ) (g : Fin 512 → ℝ)
    (hs : ∀ r u, s (ix2 r u) = ((f r u : ℝ) : EReal)) (hl : ∀ r l, ls (ix2 r l) = ((g r : ℝ) : EReal)) (r u : Fin 512) :
    pBlk mk ls s (ix2 r u) = ((pR mk f g r u : ℝ) : EReal) := by
  have h0 := pCol_real mk 0 (by omega) slices_S512x512_o0_0_S512x128 ls s f g hs hl
  have h1 := pCol_real mk 128 (by omega) slices_S512x512_o0_128_S512x128 ls s f g hs hl
  have h2 := pCol_real mk 256 (by omega) slices_S512x512_o0_256_S512x128 ls s f g hs hl
  have h3 := pCol_real mk 384 (by omega) slices_S512x512_o0_384_S512x128 ls s f g hs hl
  unfold pBlk
  exact cat4_at _ _ _ _ _ (pR mk f g) (by intro r l; exact (h0 r l)) h1 h2 h3 r u

/-- The block's gradients of the logits. -/
theorem dsBlk_at (mk : Bool) (ls de : FVec Ideal S512x128 .f32) (s dp : FVec Ideal S512x512 .f32) (f f' : Fin 512 → Fin 512 → ℝ) (g g' : Fin 512 → ℝ)
    (hs : ∀ r u, s (ix2 r u) = ((f r u : ℝ) : EReal)) (hl : ∀ r l, ls (ix2 r l) = ((g r : ℝ) : EReal))
    (hs' : ∀ r u, dp (ix2 r u) = ((f' r u : ℝ) : EReal)) (hl' : ∀ r l, de (ix2 r l) = ((g' r : ℝ) : EReal)) (r u : Fin 512) :
    dsBlk mk ls de s dp (ix2 r u) = ((pR mk f g r u * (f' r u - g' r) : ℝ) : EReal) := by
  have h0 := pCol_real mk 0 (by omega) slices_S512x512_o0_0_S512x128 ls s f g hs hl
  have h1 := pCol_real mk 128 (by omega) slices_S512x512_o0_128_S512x128 ls s f g hs hl
  have h2 := pCol_real mk 256 (by omega) slices_S512x512_o0_256_S512x128 ls s f g hs hl
  have h3 := pCol_real mk 384 (by omega) slices_S512x512_o0_384_S512x128 ls s f g hs hl
  unfold dsBlk
  exact cat4_at _ _ _ _ _ (fun r u => pR mk f g r u * (f' r u - g' r))
    (fun r l => dsCol_real _ 0 (by omega) _ de dp _ f' g' h0 hs' hl' r l) (fun r l => dsCol_real _ 128 (by omega) _ de dp _ f' g' h1 hs' hl' r l)
    (fun r l => dsCol_real _ 256 (by omega) _ de dp _ f' g' h2 hs' hl' r l) (fun r l => dsCol_real _ 384 (by omega) _ de dp _ f' g' h3 hs' hl' r l) r u

theorem updQ_at (ds : FVec Ideal S512x512 .bf16) (k : Vec Ideal S1x512x128 .bf16) (w : Vec Ideal S1x512x128 .f32)
    (f : Fin 512 → Fin 512 → ℝ) (g : Fin 512 → Fin 128 → ℝ) (z : Fin 512 → Fin 128 → ℝ)
    (hd : ∀ r u, ds (ix2 r u) = ((f r u : ℝ) : EReal)) (hk : ∀ u l, k (ix3 (0 : Fin 1) u l) = ((g u l : ℝ) : EReal))
    (hw : ∀ r l, w (ix3 (0 : Fin 1) r l) = ((z r l : ℝ) : EReal)) (r : Fin 512) (l : Fin 128) :
    updQ ds k w (ix3 (0 : Fin 1) r l) = ((z r l + ∑ u, f r u * g u l : ℝ) : EReal) := by
  unfold updQ
  pointwise
  simp only [hd, hk, hw, ← EReal.coe_mul, Spec.coe_sum, zero_add, EReal.coe_add]

theorem updK_at (qt : FVec Ideal S128x512 .bf16) (ds : FVec Ideal S512x512 .bf16) (w : Vec Ideal S1x128x512 .f32)
    (g : Fin 128 → Fin 512 → ℝ) (f : Fin 512 → Fin 512 → ℝ) (z : Fin 128 → Fin 512 → ℝ)
    (hq : ∀ l r, qt (ix2 l r) = ((g l r : ℝ) : EReal)) (hd : ∀ r u, ds (ix2 r u) = ((f r u : ℝ) : EReal))
    (hw : ∀ l u, w (ix3 (0 : Fin 1) l u) = ((z l u : ℝ) : EReal)) (l : Fin 128) (u : Fin 512) :
    updK qt ds w (ix3 (0 : Fin 1) l u) = ((z l u + ∑ r, g l r * f r u : ℝ) : EReal) := by
  unfold updK
  pointwise
  simp only [hd, hq, hw, ← EReal.coe_mul, Spec.coe_sum, zero_add, EReal.coe_add]

theorem updV_at (dt0 dt1 : FVec Ideal S128x512 .bf16) (p0 p1 : FVec Ideal S512x512 .bf16) (w : Vec Ideal S128x512 .f32)
    (g0 g1 : Fin 128 → Fin 512 → ℝ) (f0 f1 : Fin 512 → Fin 512 → ℝ) (z : Fin 128 → Fin 512 → ℝ)
    (hq0 : ∀ l r, dt0 (ix2 l r) = ((g0 l r : ℝ) : EReal)) (hd0 : ∀ r u, p0 (ix2 r u) = ((f0 r u : ℝ) : EReal))
    (hq1 : ∀ l r, dt1 (ix2 l r) = ((g1 l r : ℝ) : EReal)) (hd1 : ∀ r u, p1 (ix2 r u) = ((f1 r u : ℝ) : EReal))
    (hw : ∀ l u, w (ix2 l u) = ((z l u : ℝ) : EReal)) (l : Fin 128) (u : Fin 512) :
    updV dt0 dt1 p0 p1 w (ix2 l u) = ((z l u + ((∑ r, g0 l r * f0 r u) + ∑ r, g1 l r * f1 r u) : ℝ) : EReal) := by
  unfold updV
  pointwise
  simp only [hd0, hq0, hd1, hq1, hw, ← EReal.coe_mul, Spec.coe_sum, zero_add, EReal.coe_add]

end Cert.KernelIdeal.Attn

end
-- ==== Proof.ValCtx.lean ====
/-
  What a query block brings to the key blocks, over the extended reals.
-/
module

public import proofs.«01_k».proof.Proof.Head
public import proofs.«01_k».proof.Proof.ValBlk

@[expose] public section

set_option maxRecDepth 16384

noncomputable section

namespace Cert.KernelIdeal.Attn

open Cert.KernelIdeal Cert.KernelIdeal.Gen
open Idealize.ShloMosaic Idealize.ShloMosaic.TcCoe
open scoped BigOperators

theorem lo_at (z : Fin 1) (l : Fin 128) : k0_pay258 (ix2 z l) = BitVec.ofBool (decide (l.val < 64)) := by
  unfold k0_pay258
  pointwise
  exact WordCmp.cmpi_slt_ofNat (by have := l.isLt; omega) (by decide)

theorem sel_lo {α : Type} (z : Fin 1) (l : Fin 128) (x y : α) : Scalar.select (k0_pay258 (ix2 z l)) x y = if l.val < 64 then x else y := by
  rw [lo_at]
  by_cases h : l.val < 64
  · rw [decide_eq_true h, if_pos h]; rfl
  · rw [decide_eq_false h, if_neg h]; rfl

/-- Sums over the lanes of one half. -/
theorem sum_lo (f : Fin 128 → ℝ) : ∑ x : Fin 128, (if x.val < 64 then f x else 0) = ∑ d : Fin 64, f ⟨d.val, by omega⟩ := by
  rw [Spec.sum_lanes]
  have e1 : ∀ d : Fin 64, (if (⟨d.val, by omega⟩ : Fin 128).val < 64 then f ⟨d.val, by omega⟩ else 0) = f ⟨d.val, by omega⟩ := fun d => if_pos d.isLt
  have e2 : ∀ d : Fin 64, (if (⟨64 + d.val, by omega⟩ : Fin 128).val < 64 then f ⟨64 + d.val, by omega⟩ else 0) = 0 := fun d => if_neg (by simp)
  simp only [e1, e2, Finset.sum_const_zero, add_zero]

theorem sum_hi (f : Fin 128 → ℝ) : ∑ x : Fin 128, (if x.val < 64 then 0 else f x) = ∑ d : Fin 64, f ⟨64 + d.val, by omega⟩ := by
  rw [Spec.sum_lanes]
  have e1 : ∀ d : Fin 64, (if (⟨d.val, by omega⟩ : Fin 128).val < 64 then 0 else f ⟨d.val, by omega⟩) = 0 := fun d => if_pos d.isLt
  have e2 : ∀ d : Fin 64, (if (⟨64 + d.val, by omega⟩ : Fin 128).val < 64 then 0 else f ⟨64 + d.val, by omega⟩) = f ⟨64 + d.val, by omega⟩ := fun d => if_neg (by simp)
  simp only [e1, e2, Finset.sum_const_zero, zero_add]

variable (q : Vec Ideal S2x512x128 .bf16) (o : Vec Ideal S512x128 .f32) (g : Vec Ideal S512x128 .bf16) (l : Vec Ideal S1x512x128 .f32)
variable (fo fg : Fin 512 → Fin 128 → ℝ) (fl : Fin 512 → Fin 128 → ℝ) (fq : Fin 2 → Fin 512 → Fin 128 → ℝ)

theorem ctx_do0 (hg : ∀ r c, g (ix2 r c) = ((fg r c : ℝ) : EReal)) (r : Fin 512) (c : Fin 128) :
    (ctxOf q o g l).do0 (ix2 r c) = ((if c.val < 64 then fg r c else 0 : ℝ) : EReal) := by
  show k0_pay264 g (ix2 r c) = _
  unfold k0_pay264 k0_pay259 k0_pay263
  pointwise
  simp only [sel_lo, hg]
  split <;> simp

theorem ctx_do1 (hg : ∀ r c, g (ix2 r c) = ((fg r c : ℝ) : EReal)) (r : Fin 512) (c : Fin 128) :
    (ctxOf q o g l).do1 (ix2 r c) = ((if c.val < 64 then 0 else fg r c : ℝ) : EReal) := by
  show k0_pay265 g (ix2 r c) = _
  unfold k0_pay265 k0_pay259 k0_pay263
  pointwise
  simp only [sel_lo, hg]
  split <;> simp

theorem ctx_de0 (ho : ∀ r c, o (ix2 r c) = ((fo r c : ℝ) : EReal)) (hg : ∀ r c, g (ix2 r c) = ((fg r c : ℝ) : EReal)) (r : Fin 512) (c : Fin 128) :
    (ctxOf q o g l).de0 (ix2 r c) = ((∑ d : Fin 64, fg r ⟨d.val, by omega⟩ * fo r ⟨d.val, by omega⟩ : ℝ) : EReal) := by
  show k0_pay266 g o (ix2 r c) = _
  unfold k0_pay266 k0_pay260 k0_pay259
  pointwise
  simp only [sel_lo, hg, ho, ← EReal.coe_mul, ← EReal.coe_zero, ← apply_ite Real.toEReal, Spec.coe_sum]
  exact congrArg _ (sum_lo fun x => fg r x * fo r x)

theorem ctx_de1 (ho : ∀ r c, o (ix2 r c) = ((fo r c : ℝ) : EReal)) (hg : ∀ r c, g (ix2 r c) = ((fg r c : ℝ) : EReal)) (r : Fin 512) (c : Fin 128) :
    (ctxOf q o g l).de1 (ix2 r c) = ((∑ d : Fin 64, fg r ⟨64 + d.val, by omega⟩ * fo r ⟨64 + d.val, by omega⟩ : ℝ) : EReal) := by
  show k0_pay269 (k0_pay260 g o) k0_pay267 (k0_pay268 (F := Ideal)) (ix2 r c) = _
  unfold k0_pay269 k0_pay267 k0_pay268 k0_pay260 k0_pay259
  pointwise
  simp only [sel_lo, hg, ho, ← EReal.coe_mul, ← EReal.coe_zero, ← apply_ite Real.toEReal, Spec.coe_sum]
  exact congrArg _ (sum_hi fun x => fg r x * fo r x)

theorem ctx_ls0 (r : Fin 512) (c : Fin 128) :
    (ctxOf q o g l).ls0 (ix2 r c) = l (ix3 (0 : Fin 1) r ⟨c.val % 64, by omega⟩) := by
  show k0_pay270 k0_pay258 (k0_pay261 l) (k0_pay262 l) (ix2 r c) = _
  unfold k0_pay270 k0_pay262 k0_pay261
  pointwise
  rw [sel_lo]
  split
  · exact congrArg l (congrArg (ix3 (0 : Fin 1) r) (Fin.ext (by show c.val = c.val % 64; omega)))
  · exact congrArg l (congrArg (ix3 (0 : Fin 1) r) (Fin.ext (by show (c.val + 128 - 64) % 128 = c.val % 64; omega)))

theorem ctx_ls1 (r : Fin 512) (c : Fin 128) :
    (ctxOf q o g l).ls1 (ix2 r c) = l (ix3 (0 : Fin 1) r ⟨64 + c.val % 64, by omega⟩) := by
  show k0_pay271 k0_pay258 (k0_pay261 l) (k0_pay262 l) (ix2 r c) = _
  unfold k0_pay271 k0_pay262 k0_pay261
  pointwise
  rw [sel_lo]
  split
  · exact congrArg l (congrArg (ix3 (0 : Fin 1) r) (Fin.ext (by show (c.val + 128 - 64) % 128 = 64 + c.val % 64; omega)))
  · exact congrArg l (congrArg (ix3 (0 : Fin 1) r) (Fin.ext (by show c.val = 64 + c.val % 64; omega)))

theorem ctx_q0 (r : Fin 512) (c : Fin 128) : (ctxOf q o g l).q0 (ix2 r c) = q (ix3 (0 : Fin 2) r c) := by
  show k0_pay272 (VecWindow.window q ![0, 0, 0] S1x512x128.size inb_S2x512x128_S1x512x128_0_0_0) (ix2 r c) = _
  unfold k0_pay272
  pointwise
  refine (window3 q 0 0 0 1 512 128 _ (0 : Fin 1) r c (by decide) (by omega) (by omega)).trans ?_
  simp

theorem ctx_q1 (r : Fin 512) (c : Fin 128) : (ctxOf q o g l).q1 (ix2 r c) = q (ix3 (1 : Fin 2) r c) := by
  show k0_pay273 (VecWindow.window q ![1, 0, 0] S1x512x128.size inb_S2x512x128_S1x512x128_1_0_0) (ix2 r c) = _
  unfold k0_pay273
  pointwise
  refine (window3 q 1 0 0 1 512 128 _ (0 : Fin 1) r c (by decide) (by omega) (by omega)).trans ?_
  simp

theorem ctx_qt0 (r : Fin 512) (c : Fin 128) : (ctxOf q o g l).qt0 (ix2 c r) = q (ix3 (0 : Fin 2) r c) := by
  show k0_pay274 (VecWindow.window q ![0, 0, 0] S1x512x128.size inb_S2x512x128_S1x512x128_0_0_0) (ix2 c r) = _
  unfold k0_pay274 k0_pay272
  pointwise
  refine (window3 q 0 0 0 1 512 128 _ (0 : Fin 1) r c (by decide) (by omega) (by omega)).trans ?_
  simp

theorem ctx_qt1 (r : Fin 512) (c : Fin 128) : (ctxOf q o g l).qt1 (ix2 c r) = q (ix3 (1 : Fin 2) r c) := by
  show k0_pay275 (VecWindow.window q ![1, 0, 0] S1x512x128.size inb_S2x512x128_S1x512x128_1_0_0) (ix2 c r) = _
  unfold k0_pay275 k0_pay273
  pointwise
  refine (window3 q 1 0 0 1 512 128 _ (0 : Fin 1) r c (by decide) (by omega) (by omega)).trans ?_
  simp

theorem ctx_dt0 (r : Fin 512) (c : Fin 128) : (ctxOf q o g l).dt0 (ix2 c r) = (ctxOf q o g l).do0 (ix2 r c) := by
  show k0_pay276 (k0_pay264 g) (ix2 c r) = k0_pay264 g (ix2 r c)
  unfold k0_pay276
  pointwise

theorem ctx_dt1 (r : Fin 512) (c : Fin 128) : (ctxOf q o g l).dt1 (ix2 c r) = (ctxOf q o g l).do1 (ix2 r c) := by
  show k0_pay277 (k0_pay265 g) (ix2 c r) = k0_pay265 g (ix2 r c)
  unfold k0_pay277
  pointwise

end Cert.KernelIdeal.Attn

end
-- ==== Proof.ValStep.lean ====
/-
  What one key block adds to the accumulators, over the real numbers.
-/
module

public import proofs.«01_k».proof.Proof.Step
public import proofs.«01_k».proof.Proof.ValCtx

@[expose] public section

set_option maxRecDepth 16384

noncomputable section

namespace Cert.KernelIdeal.Attn

open Cert.KernelIdeal Cert.KernelIdeal.Gen
open Idealize.ShloMosaic Idealize.ShloMosaic.TcCoe
open scoped BigOperators

/-- Row `r` of block `n`, column `l` of head pair `p`, and head `h` of the pair. -/
def row (n : Fin 16) (r : Fin 512) : Fin 8192 := ⟨512 * n.val + r.val, by omega⟩
def cl (p : Fin 8) (l : Fin 128) : Fin 1024 := ⟨128 * p.val + l.val, by omega⟩
def hh (p : Fin 8) (h : Fin 2) : Fin 16 := ⟨2 * p.val + h.val, by omega⟩

theorem cl_lo (p : Fin 8) (d : Fin 64) : cl p ⟨d.val, by omega⟩ = Spec.hd (hh p 0) d :=
  Fin.ext (by show 128 * p.val + d.val = (2 * p.val + 0) * 64 + d.val; omega)
theorem cl_hi (p : Fin 8) (d : Fin 64) : cl p ⟨64 + d.val, by omega⟩ = Spec.hd (hh p 1) d :=
  Fin.ext (by show 128 * p.val + (64 + d.val) = (2 * p.val + 1) * 64 + d.val; omega)

variable (a : Spec.Args) (p : Fin 8)

/-- The query block's context is what the arguments make it. -/
structure CtxIs (i : Fin 16) (x : Ctx Ideal) : Prop where
  do0 : ∀ r c, x.do0 (ix2 r c) = ((if c.val < 64 then a.D (row i r) (cl p c) else 0 : ℝ) : EReal)
  do1 : ∀ r c, x.do1 (ix2 r c) = ((if c.val < 64 then 0 else a.D (row i r) (cl p c) : ℝ) : EReal)
  de0 : ∀ r c, x.de0 (ix2 r c) = ((Spec.dl a (hh p 0) (row i r) : ℝ) : EReal)
  de1 : ∀ r c, x.de1 (ix2 r c) = ((Spec.dl a (hh p 1) (row i r) : ℝ) : EReal)
  ls0 : ∀ r c, x.ls0 (ix2 r c) = ((Spec.L * Real.log (Spec.Z a (hh p 0) (row i r)) : ℝ) : EReal)
  ls1 : ∀ r c, x.ls1 (ix2 r c) = ((Spec.L * Real.log (Spec.Z a (hh p 1) (row i r)) : ℝ) : EReal)
  q0 : ∀ r c, x.q0 (ix2 r c) = ((Spec.qp a (hh p 0) (row i r) c : ℝ) : EReal)
  q1 : ∀ r c, x.q1 (ix2 r c) = ((Spec.qp a (hh p 1) (row i r) c : ℝ) : EReal)
  qt0 : ∀ c r, x.qt0 (ix2 c r) = ((Spec.qp a (hh p 0) (row i r) c : ℝ) : EReal)
  qt1 : ∀ c r, x.qt1 (ix2 c r) = ((Spec.qp a (hh p 1) (row i r) c : ℝ) : EReal)
  dt0 : ∀ c r, x.dt0 (ix2 c r) = ((if c.val < 64 then a.D (row i r) (cl p c) else 0 : ℝ) : EReal)
  dt1 : ∀ c r, x.dt1 (ix2 c r) = ((if c.val < 64 then 0 else a.D (row i r) (cl p c) : ℝ) : EReal)

def KIs (K : Vec Ideal S2x8192x128 .bf16) : Prop := ∀ (h : Fin 2) (s : Fin 8192) (l : Fin 128), K (ix3 h s l) = ((Spec.kp a (hh p h) s l : ℝ) : EReal)
def VIs (V : Vec Ideal S128x8192 .bf16) : Prop := ∀ (l : Fin 128) (s : Fin 8192), V (ix2 l s) = ((a.V s (cl p l) : ℝ) : EReal)

variable {a p} {i : Fin 16} {x : Ctx Ideal} {K : Vec Ideal S2x8192x128 .bf16} {V : Vec Ideal S128x8192 .bf16}

theorem kWin_at (hK : KIs a p K) (h : Fin 2) (j : Fin 16) (u : Fin 512) (l : Fin 128) :
    kWin h K j (ix3 (0 : Fin 1) u l) = ((Spec.kp a (hh p h) (row j u) l : ℝ) : EReal) := by
  refine (window3 K h.val (512 * j.val) 0 1 512 128 _ (0 : Fin 1) u l (by have := h.isLt; simp; omega) (by omega) (by omega)).trans ?_
  refine Eq.trans ?_ (hK h (row j u) l)
  have e : (⟨0 + l.val, by omega⟩ : Fin 128) = l := Fin.ext (Nat.zero_add _)
  show K (ix3 (h) (row j u) (⟨0 + l.val, _⟩ : Fin 128)) = _
  rw [e]

theorem vWin_at (hV : VIs a p V) (j : Fin 16) (l : Fin 128) (u : Fin 512) :
    vWin V j (ix2 l u) = ((a.V (row j u) (cl p l) : ℝ) : EReal) := by
  refine (window2 V 0 (512 * j.val) 128 512 _ l u (by omega) (by omega)).trans ?_
  refine Eq.trans ?_ (hV l (row j u))
  have e : (⟨0 + l.val, by omega⟩ : Fin 128) = l := Fin.ext (Nat.zero_add _)
  show V (ix2 (⟨0 + l.val, _⟩ : Fin 128) (row j u)) = _
  rw [e]

theorem pR_eq (mk : Bool) (h : Fin 16) (i j : Fin 16) (hj : (mk = false ∧ j.val < i.val) ∨ (mk = true ∧ j = i)) (r u : Fin 512) :
    pR mk (fun r u => Spec.L * Spec.logit a h (row i r) (row j u)) (fun r => Spec.L * Real.log (Spec.Z a h (row i r))) r u = Spec.P a h (row i r) (row j u) := by
  unfold pR
  rcases hj with ⟨hm, hj⟩ | ⟨hm, hj⟩
  · rw [if_neg (by rw [hm]; simp)]
    exact Spec.kernel_P a h _ _ (by show 512 * j.val + u.val ≤ 512 * i.val + r.val; omega)
  · subst hj
    by_cases hr : r.val < u.val
    · rw [if_pos ⟨hm, hr⟩]
      exact (Spec.P_later a h _ _ (by show 512 * j.val + r.val < 512 * j.val + u.val; omega)).symm
    · rw [if_neg (fun e => hr e.2)]
      exact Spec.kernel_P a h _ _ (by show 512 * j.val + u.val ≤ 512 * j.val + r.val; omega)

theorem s0_at (hx : CtxIs a p i x) (hK : KIs a p K) (j : Fin 16) (r u : Fin 512) :
    sBlk x.q0 (kWin 0 K j) (ix2 r u) = ((Spec.L * Spec.logit a (hh p 0) (row i r) (row j u) : ℝ) : EReal) := by
  rw [sBlk_at _ _ _ _ hx.q0 (kWin_at hK 0 j), Spec.kernel_logit]

theorem s1_at (hx : CtxIs a p i x) (hK : KIs a p K) (j : Fin 16) (r u : Fin 512) :
    sBlk x.q1 (kWin 1 K j) (ix2 r u) = ((Spec.L * Spec.logit a (hh p 1) (row i r) (row j u) : ℝ) : EReal) := by
  rw [sBlk_at _ _ _ _ hx.q1 (kWin_at hK 1 j), Spec.kernel_logit]

theorem dp0_at (hx : CtxIs a p i x) (hV : VIs a p V) (j : Fin 16) (r u : Fin 512) :
    dpBlk x.do0 (vWin V j) (ix2 r u) = ((Spec.dP a (hh p 0) (row i r) (row j u) : ℝ) : EReal) := by
  rw [dpBlk_at _ _ _ _ hx.do0 (vWin_at hV j)]
  simp only [ite_mul, zero_mul]
  rw [sum_lo fun l => a.D (row i r) (cl p l) * a.V (row j u) (cl p l)]
  simp only [cl_lo]
  rfl

theorem dp1_at (hx : CtxIs a p i x) (hV : VIs a p V) (j : Fin 16) (r u : Fin 512) :
    dpBlk x.do1 (vWin V j) (ix2 r u) = ((Spec.dP a (hh p 1) (row i r) (row j u) : ℝ) : EReal) := by
  rw [dpBlk_at _ _ _ _ hx.do1 (vWin_at hV j)]
  simp only [ite_mul, zero_mul]
  rw [sum_hi fun l => a.D (row i r) (cl p l) * a.V (row j u) (cl p l)]
  simp only [cl_hi]
  rfl

section
variable (mk : Bool) (j : Fin 16) (hj : (mk = false ∧ j.val < i.val) ∨ (mk = true ∧ j = i)) (hx : CtxIs a p i x) (hK : KIs a p K) (hV : VIs a p V)
include hj hx hK

theorem p0_at (r u : Fin 512) : p0 mk x K j (ix2 r u) = ((Spec.P a (hh p 0) (row i r) (row j u) : ℝ) : EReal) := by
  unfold p0
  rw [pBlk_at mk _ _ _ _ (s0_at hx hK j) hx.ls0, pR_eq mk _ i j hj]

theorem p1_at (r u : Fin 512) : p1 mk x K j (ix2 r u) = ((Spec.P a (hh p 1) (row i r) (row j u) : ℝ) : EReal) := by
  unfold p1
  rw [pBlk_at mk _ _ _ _ (s1_at hx hK j) hx.ls1, pR_eq mk _ i j hj]

include hV

theorem ds0_at (r u : Fin 512) : ds0 mk x K V j (ix2 r u) = ((Spec.dS a (hh p 0) (row i r) (row j u) : ℝ) : EReal) := by
  unfold ds0
  rw [dsBlk_at mk _ _ _ _ _ _ _ _ (s0_at hx hK j) hx.ls0 (dp0_at hx hV j) hx.de0, pR_eq mk _ i j hj]
  rfl

theorem ds1_at (r u : Fin 512) : ds1 mk x K V j (ix2 r u) = ((Spec.dS a (hh p 1) (row i r) (row j u) : ℝ) : EReal) := by
  unfold ds1
  rw [dsBlk_at mk _ _ _ _ _ _ _ _ (s1_at hx hK j) hx.ls1 (dp1_at hx hV j) hx.de1, pR_eq mk _ i j hj]
  rfl

end

end Cert.KernelIdeal.Attn

end
-- ==== Proof.ValAcc.lean ====
/-
  The accumulators after a grid point, over the real numbers: the sums over the query rows (or the keys) so far.
-/
module

public import proofs.«01_k».proof.Proof.ValStep

@[expose] public section

set_option maxRecDepth 16384

noncomputable section

namespace Cert.KernelIdeal.Attn

open Cert.KernelIdeal Cert.KernelIdeal.Gen
open Idealize.ShloMosaic Idealize.ShloMosaic.TcCoe
open scoped BigOperators

variable (a : Spec.Args) (p : Fin 8)

/-- A sum over all the rows, block by block. -/
theorem sum_rows (f : Fin 8192 → ℝ) : ∑ t, f t = ∑ k : Fin 16, ∑ u : Fin 512, f (row k u) := by
  rw [Fin.sum_univ_tiles 16 512 rfl]
  refine Finset.sum_congr rfl fun k _ => Finset.sum_congr rfl fun u _ => congrArg f (Fin.ext ?_)
  show k.val * 512 + u.val = 512 * k.val + u.val
  omega

/-- The half of a pair that a lane belongs to. -/
def half (l : Fin 128) : Fin 2 := ⟨l.val / 64, by omega⟩

/-- What query block `i` adds to the keys' gradient and to the values', and what key block `j` adds to the queries'. -/
def gK (i : Fin 16) (h : Fin 2) (l : Fin 128) (s : Fin 8192) : ℝ := ∑ r, Spec.qp a (hh p h) (row i r) l * Spec.dS a (hh p h) (row i r) s
def gV (i : Fin 16) (l : Fin 128) (s : Fin 8192) : ℝ := ∑ r, Spec.P a (hh p (half l)) (row i r) s * a.D (row i r) (cl p l)
def gQ (i j : Fin 16) (h : Fin 2) (r : Fin 512) (l : Fin 128) : ℝ := ∑ u, Spec.dS a (hh p h) (row i r) (row j u) * Spec.kp a (hh p h) (row j u) l

theorem gK_later (i : Fin 16) (h : Fin 2) (l : Fin 128) (s : Fin 8192) (hs : 512 * (i.val + 1) ≤ s.val) : gK a p i h l s = 0 :=
  Finset.sum_eq_zero fun r _ => by rw [Spec.dS_later a _ _ _ (by show 512 * i.val + r.val < s.val; omega), mul_zero]
theorem gV_later (i : Fin 16) (l : Fin 128) (s : Fin 8192) (hs : 512 * (i.val + 1) ≤ s.val) : gV a p i l s = 0 :=
  Finset.sum_eq_zero fun r _ => by rw [Spec.P_later a _ _ _ (by show 512 * i.val + r.val < s.val; omega), zero_mul]
theorem gQ_later (i j : Fin 16) (h : Fin 2) (r : Fin 512) (l : Fin 128) (hj : i.val < j.val) : gQ a p i j h r l = 0 :=
  Finset.sum_eq_zero fun u _ => by rw [Spec.dS_later a _ _ _ (by show 512 * i.val + r.val < 512 * j.val + u.val; omega), zero_mul]

variable {a p} {i : Fin 16} {x : Ctx Ideal} {K : Vec Ideal S2x8192x128 .bf16} {V : Vec Ideal S128x8192 .bf16}

theorem kAcc_at (A : Vec Ideal S2x128x8192 .f32) (h : Fin 2) (j : Fin 16) (l : Fin 128) (u : Fin 512) :
    kAcc h A j (ix3 (0 : Fin 1) l u) = A (ix3 h l (row j u)) := by
  refine (window3 A h.val 0 (512 * j.val) 1 128 512 _ (0 : Fin 1) l u (by have := h.isLt; simp; omega) (by omega) (by omega)).trans ?_
  have e : (⟨0 + l.val, by omega⟩ : Fin 128) = l := Fin.ext (Nat.zero_add _)
  show A (ix3 h (⟨0 + l.val, _⟩ : Fin 128) (row j u)) = _
  rw [e]

theorem qAcc_at (A : Vec Ideal S2x512x128 .f32) (h : Fin 2) (r : Fin 512) (l : Fin 128) :
    qAcc h A (ix3 (0 : Fin 1) r l) = A (ix3 h r l) := by
  refine (window3 A h.val 0 0 1 512 128 _ (0 : Fin 1) r l (by have := h.isLt; simp; omega) (by omega) (by omega)).trans ?_
  have e : (⟨0 + l.val, by omega⟩ : Fin 128) = l := Fin.ext (Nat.zero_add _)
  have e' : (⟨0 + r.val, by omega⟩ : Fin 512) = r := Fin.ext (Nat.zero_add _)
  show A (ix3 h (⟨0 + r.val, _⟩ : Fin 512) (⟨0 + l.val, _⟩ : Fin 128)) = _
  rw [e, e']

theorem vAcc_at (A : Vec Ideal S128x8192 .f32) (j : Fin 16) (l : Fin 128) (u : Fin 512) :
    vAcc A j (ix2 l u) = A (ix2 l (row j u)) := by
  refine (window2 A 0 (512 * j.val) 128 512 _ l u (by omega) (by omega)).trans ?_
  have e : (⟨0 + l.val, by omega⟩ : Fin 128) = l := Fin.ext (Nat.zero_add _)
  show A (ix2 (⟨0 + l.val, _⟩ : Fin 128) (row j u)) = _
  rw [e]

section
variable (mk : Bool) (j : Fin 16) (hj : (mk = false ∧ j.val < i.val) ∨ (mk = true ∧ j = i)) (hx : CtxIs a p i x) (hK : KIs a p K)
include hj hx hK

theorem stepK_at (hV : VIs a p V) (A : Vec Ideal S2x128x8192 .f32) (f : Fin 2 → Fin 128 → Fin 8192 → ℝ)
    (hA : ∀ h l s, A (ix3 h l s) = ((f h l s : ℝ) : EReal)) (h : Fin 2) (l : Fin 128) (s : Fin 8192) :
    stepK mk x K V j A (ix3 h l s) = ((f h l s + if s.val / 512 = j.val then gK a p i h l s else 0 : ℝ) : EReal) := by
  have k0 := updK_at x.qt0 (ds0 mk x K V j) (kAcc 0 A j) _ _ (fun l u => f 0 l (row j u)) hx.qt0 (ds0_at mk j hj hx hK hV)
    (fun l u => (kAcc_at A 0 j l u).trans (hA _ _ _))
  have k1 := updK_at x.qt1 (ds1 mk x K V j) (kAcc 1 A j) _ _ (fun l u => f 1 l (row j u)) hx.qt1 (ds1_at mk j hj hx hK hV)
    (fun l u => (kAcc_at A 1 j l u).trans (hA _ _ _))
  unfold stepK
  by_cases hs : s.val / 512 = j.val
  · rw [if_pos hs]
    obtain ⟨u, rfl⟩ : ∃ u, s = row j u := ⟨⟨s.val % 512, Nat.mod_lt _ (by decide)⟩, Fin.ext (by show s.val = 512 * j.val + s.val % 512; omega)⟩
    have hc : h = 0 ∨ h = 1 := by omega
    rcases hc with rfl | rfl
    · refine (put3_out _ 1 0 (512 * j.val) 1 128 512 _ 0 l (row j u) (by simp)).trans ?_
      refine (put3_in _ 0 0 (512 * j.val) 1 128 512 _ 0 l (row j u) (0 : Fin 1) l u rfl (Nat.zero_add _).symm rfl).trans ?_
      exact k0 l u
    · refine (put3_in _ 1 0 (512 * j.val) 1 128 512 _ 1 l (row j u) (0 : Fin 1) l u rfl (Nat.zero_add _).symm rfl).trans ?_
      exact k1 l u
  · rw [if_neg hs, add_zero]
    have hn : ∀ o, ¬ ((o ≤ h.val ∧ h.val < o + 1) ∧ (512 * j.val ≤ s.val ∧ s.val < 512 * j.val + 512)) := by intro o; omega
    refine (put3_out _ 1 0 (512 * j.val) 1 128 512 _ h l s (hn 1)).trans ?_
    refine (put3_out _ 0 0 (512 * j.val) 1 128 512 _ h l s (hn 0)).trans ?_
    exact hA _ _ _

theorem stepQ_at (hV : VIs a p V) (A : Vec Ideal S2x512x128 .f32) (f : Fin 2 → Fin 512 → Fin 128 → ℝ)
    (hA : ∀ h r l, A (ix3 h r l) = ((f h r l : ℝ) : EReal)) (h : Fin 2) (r : Fin 512) (l : Fin 128) :
    stepQ mk x K V j A (ix3 h r l) = ((f h r l + gQ a p i j h r l : ℝ) : EReal) := by
  have k0 := updQ_at (ds0 mk x K V j) (kWin 0 K j) (qAcc 0 A) _ _ (fun r l => f 0 r l) (ds0_at mk j hj hx hK hV) (kWin_at hK 0 j)
    (fun r l => (qAcc_at A 0 r l).trans (hA _ _ _))
  have k1 := updQ_at (ds1 mk x K V j) (kWin 1 K j) (qAcc 1 A) _ _ (fun r l => f 1 r l) (ds1_at mk j hj hx hK hV) (kWin_at hK 1 j)
    (fun r l => (qAcc_at A 1 r l).trans (hA _ _ _))
  unfold stepQ
  have hc : h = 0 ∨ h = 1 := by omega
  rcases hc with rfl | rfl
  · refine (put3_out _ 1 0 0 1 512 128 _ 0 r l (by simp)).trans ?_
    refine (put3_in _ 0 0 0 1 512 128 _ 0 r l (0 : Fin 1) r l rfl (Nat.zero_add _).symm (Nat.zero_add _).symm).trans ?_
    exact k0 r l
  · refine (put3_in _ 1 0 0 1 512 128 _ 1 r l (0 : Fin 1) r l rfl (Nat.zero_add _).symm (Nat.zero_add _).symm).trans ?_
    exact k1 r l

theorem stepV_at (A : Vec Ideal S128x8192 .f32) (f : Fin 128 → Fin 8192 → ℝ)
    (hA : ∀ l s, A (ix2 l s) = ((f l s : ℝ) : EReal)) (l : Fin 128) (s : Fin 8192) :
    stepV mk x K j A (ix2 l s) = ((f l s + if s.val / 512 = j.val then gV a p i l s else 0 : ℝ) : EReal) := by
  have k := updV_at x.dt0 x.dt1 (p0 mk x K j) (p1 mk x K j) (vAcc A j) _ _ _ _ (fun l u => f l (row j u)) hx.dt0 (p0_at mk j hj hx hK) hx.dt1 (p1_at mk j hj hx hK)
    (fun l u => (vAcc_at A j l u).trans (hA _ _))
  unfold stepV
  by_cases hs : s.val / 512 = j.val
  · rw [if_pos hs]
    obtain ⟨u, rfl⟩ : ∃ u, s = row j u := ⟨⟨s.val % 512, Nat.mod_lt _ (by decide)⟩, Fin.ext (by show s.val = 512 * j.val + s.val % 512; omega)⟩
    refine (put2_in _ 0 (512 * j.val) 128 512 _ l (row j u) l u (Nat.zero_add _).symm rfl).trans ?_
    refine (k l u).trans (congrArg _ ?_)
    unfold gV
    by_cases hl : l.val < 64
    · have e : half l = 0 := Fin.ext (by show l.val / 64 = 0; omega)
      simp only [if_pos hl, zero_mul, Finset.sum_const_zero, add_zero, e]
      exact congrArg _ (Finset.sum_congr rfl fun r _ => mul_comm _ _)
    · have e : half l = 1 := Fin.ext (by show l.val / 64 = 1; omega)
      simp only [if_neg hl, zero_mul, Finset.sum_const_zero, zero_add, e]
      exact congrArg _ (Finset.sum_congr rfl fun r _ => mul_comm _ _)
  · rw [if_neg hs, add_zero]
    refine (put2_out _ 0 (512 * j.val) 128 512 _ l s (by omega)).trans ?_
    exact hA _ _

end

section
variable (hx : CtxIs a p i x) (hK : KIs a p K)
include hx hK

theorem accK_at (hV : VIs a p V) (A : Vec Ideal S2x128x8192 .f32) (f : Fin 2 → Fin 128 → Fin 8192 → ℝ)
    (hA : ∀ h l s, A (ix3 h l s) = ((f h l s : ℝ) : EReal)) (n : ℕ) (hn : n ≤ i.val) : ∀ (h : Fin 2) (l : Fin 128) (s : Fin 8192),
    accK x K V A n (ix3 h l s) = ((f h l s + if s.val < 512 * n then gK a p i h l s else 0 : ℝ) : EReal) := by
  induction n with
  | zero => intro h l s; rw [if_neg (by omega), add_zero]; exact hA h l s
  | succ n ih =>
    intro h l s
    have hjn : (jN n).val = n := Nat.mod_eq_of_lt (by omega)
    refine (stepK_at false (jN n) (.inl ⟨rfl, by omega⟩) hx hK hV _ _ (ih (by omega)) h l s).trans (congrArg _ ?_)
    rw [hjn, add_assoc]
    congr 1
    by_cases h1 : s.val < 512 * n
    · rw [if_pos h1, if_neg (by omega), if_pos (by omega), add_zero]
    · by_cases h2 : s.val < 512 * (n + 1)
      · rw [if_neg h1, if_pos (by omega), if_pos h2, zero_add]
      · rw [if_neg h1, if_neg (by omega), if_neg h2, zero_add]

theorem accV_at (A : Vec Ideal S128x8192 .f32) (f : Fin 128 → Fin 8192 → ℝ)
    (hA : ∀ l s, A (ix2 l s) = ((f l s : ℝ) : EReal)) (n : ℕ) (hn : n ≤ i.val) : ∀ (l : Fin 128) (s : Fin 8192),
    accV x K A n (ix2 l s) = ((f l s + if s.val < 512 * n then gV a p i l s else 0 : ℝ) : EReal) := by
  induction n with
  | zero => intro l s; rw [if_neg (by omega), add_zero]; exact hA l s
  | succ n ih =>
    intro l s
    have hjn : (jN n).val = n := Nat.mod_eq_of_lt (by omega)
    refine (stepV_at false (jN n) (.inl ⟨rfl, by omega⟩) hx hK _ _ (ih (by omega)) l s).trans (congrArg _ ?_)
    rw [hjn, add_assoc]
    congr 1
    by_cases h1 : s.val < 512 * n
    · rw [if_pos h1, if_neg (by omega), if_pos (by omega), add_zero]
    · by_cases h2 : s.val < 512 * (n + 1)
      · rw [if_neg h1, if_pos (by omega), if_pos h2, zero_add]
      · rw [if_neg h1, if_neg (by omega), if_neg h2, zero_add]

theorem accQ_at (hV : VIs a p V) (A : Vec Ideal S2x512x128 .f32)
    (hA : ∀ h r l, A (ix3 h r l) = ((0 : ℝ) : EReal)) (n : ℕ) (hn : n ≤ i.val) : ∀ (h : Fin 2) (r : Fin 512) (l : Fin 128),
    accQ x K V A n (ix3 h r l) = ((∑ k ∈ Finset.range n, gQ a p i (jN k) h r l : ℝ) : EReal) := by
  induction n with
  | zero => intro h r l; rw [Finset.sum_range_zero]; exact hA h r l
  | succ n ih =>
    intro h r l
    have hjn : (jN n).val = n := Nat.mod_eq_of_lt (by omega)
    refine (stepQ_at false (jN n) (.inl ⟨rfl, by omega⟩) hx hK hV _ _ (ih (by omega)) h r l).trans (congrArg _ ?_)
    rw [Finset.sum_range_succ]

end

/-! ## A whole grid point -/

variable {c : grid0.Coords} (hc : jI c = i)
include hc

theorem finK_at (hx : CtxIs a p i x) (hK : KIs a p K) (hV : VIs a p V) (A : Vec Ideal S2x128x8192 .f32) (f : Fin 2 → Fin 128 → Fin 8192 → ℝ)
    (hA : ∀ h l s, A (ix3 h l s) = ((f h l s : ℝ) : EReal)) (h : Fin 2) (l : Fin 128) (s : Fin 8192) :
    finK x K V c A (ix3 h l s) = ((f h l s + gK a p i h l s : ℝ) : EReal) := by
  have hi : (c 1).val = i.val := congrArg Fin.val hc
  unfold finK
  rw [hc, hi]
  refine (stepK_at true i (.inr ⟨rfl, rfl⟩) hx hK hV _ _ (accK_at hx hK hV A f hA i.val le_rfl) h l s).trans (congrArg _ ?_)
  rw [add_assoc]
  congr 1
  by_cases h1 : s.val < 512 * i.val
  · rw [if_pos h1, if_neg (by omega), add_zero]
  · by_cases h2 : s.val < 512 * (i.val + 1)
    · rw [if_neg h1, if_pos (by omega), zero_add]
    · rw [if_neg h1, if_neg (by omega), zero_add, gK_later a p i h l s (by omega)]

theorem finV_at (hx : CtxIs a p i x) (hK : KIs a p K) (A : Vec Ideal S128x8192 .f32) (f : Fin 128 → Fin 8192 → ℝ)
    (hA : ∀ l s, A (ix2 l s) = ((f l s : ℝ) : EReal)) (l : Fin 128) (s : Fin 8192) :
    finV x K c A (ix2 l s) = ((f l s + gV a p i l s : ℝ) : EReal) := by
  have hi : (c 1).val = i.val := congrArg Fin.val hc
  unfold finV
  rw [hc, hi]
  refine (stepV_at true i (.inr ⟨rfl, rfl⟩) hx hK _ _ (accV_at hx hK A f hA i.val le_rfl) l s).trans (congrArg _ ?_)
  rw [add_assoc]
  congr 1
  by_cases h1 : s.val < 512 * i.val
  · rw [if_pos h1, if_neg (by omega), add_zero]
  · by_cases h2 : s.val < 512 * (i.val + 1)
    · rw [if_neg h1, if_pos (by omega), zero_add]
    · rw [if_neg h1, if_neg (by omega), zero_add, gV_later a p i l s (by omega)]

theorem finQ_at (hx : CtxIs a p i x) (hK : KIs a p K) (hV : VIs a p V) (A : Vec Ideal S2x512x128 .f32)
    (hA : ∀ h r l, A (ix3 h r l) = ((0 : ℝ) : EReal)) (h : Fin 2) (r : Fin 512) (l : Fin 128) :
    finQ x K V c A (ix3 h r l) = ((∑ s : Fin 8192, Spec.dS a (hh p h) (row i r) s * Spec.kp a (hh p h) s l : ℝ) : EReal) := by
  have hi : (c 1).val = i.val := congrArg Fin.val hc
  unfold finQ
  rw [hc, hi]
  refine (stepQ_at true i (.inr ⟨rfl, rfl⟩) hx hK hV _ _ (accQ_at hx hK hV A hA i.val le_rfl) h r l).trans (congrArg _ ?_)
  have ei : jN i.val = i := Fin.ext (Nat.mod_eq_of_lt i.isLt)
  rw [← congrArg (fun j => gQ a p i j h r l) ei, ← Finset.sum_range_succ (fun k => gQ a p i (jN k) h r l)]
  have e16 : ∑ k ∈ Finset.range 16, gQ a p i (jN k) h r l = ∑ k ∈ Finset.range (i.val + 1), gQ a p i (jN k) h r l := by
    refine (Finset.sum_subset (fun k hk => Finset.mem_range.mpr (by have := Finset.mem_range.mp hk; omega)) fun k hk hk' => ?_).symm
    have h1 := Finset.mem_range.mp hk
    have h2 : ¬ k < i.val + 1 := fun e => hk' (Finset.mem_range.mpr e)
    have hjn : (jN k).val = k := Nat.mod_eq_of_lt h1
    exact gQ_later a p i (jN k) h r l (by omega)
  rw [← e16, Finset.sum_range, sum_rows]
  refine Finset.sum_congr rfl fun k _ => ?_
  have ek : jN k.val = k := Fin.ext (Nat.mod_eq_of_lt k.isLt)
  rw [ek]
  rfl

end Cert.KernelIdeal.Attn

end
-- ==== Proof.ValOut.lean ====
/-
  The blocks that the kernel writes, entry by entry.
-/
module

public import proofs.«01_k».proof.Proof.Tail
public import proofs.«01_k».proof.Proof.ValAcc

@[expose] public section

set_option maxRecDepth 16384

noncomputable section

namespace Cert.KernelIdeal.Attn

open Cert.KernelIdeal Cert.KernelIdeal.Gen
open Idealize.ShloMosaic Idealize.ShloMosaic.TcCoe
open scoped BigOperators

theorem sel_bool {α : Type} (b : Bool) (x y : α) : Scalar.select (BitVec.ofBool b) x y = if b = true then x else y := by
  cases b <;> rfl

theorem eq0 : ∀ u : Fin 8, IntOp.cmpi CmpIPredicate.eq (BitVec.ofNat 32 u.val) 0#32 = BitVec.ofBool (decide (u = 0)) := by decide
theorem eq1 : ∀ u : Fin 8, IntOp.cmpi CmpIPredicate.eq (BitVec.ofNat 32 u.val) 1#32 = BitVec.ofBool (decide (u = 1)) := by decide
theorem eq3 : ∀ u : Fin 8, IntOp.cmpi CmpIPredicate.eq (BitVec.ofNat 32 u.val) 3#32 = BitVec.ofBool (decide (u = 3)) := by decide

/-- Lane `u` of eight, when only the first two hold anything. -/
theorem two_of (f : Fin 2 → ℝ) (u : Fin 8) :
    (if u = 0 then ((f 0 : ℝ) : EReal) else if u = 1 then ((f 1 : ℝ) : EReal) else 0) = ((if hu : u.val < 2 then f ⟨u.val, hu⟩ else 0 : ℝ) : EReal) := by
  by_cases h0 : u = 0
  · subst h0; rfl
  · by_cases h1 : u = 1
    · subst h1; rfl
    · have : ¬ u.val < 2 := by
        have h0' : u.val ≠ 0 := fun e => h0 (Fin.ext e)
        have h1' : u.val ≠ 1 := fun e => h1 (Fin.ext e)
        omega
      rw [if_neg h0, if_neg h1, dif_neg this, EReal.coe_zero]

theorem eighth_bits : Ideal.ofBits FTy.f32 1040187392#32 = ((1 / 8 : ℝ) : EReal) := by
  simp [Ideal.ofBits, Ideal.ieee, -EReal.coe_mul]; norm_num

/-- The named constant is the natural logarithm of two. -/
theorem ln2 : (Named.named (F := Ideal) κ "ln2" (φ := .f32) 1060205080#32 : EReal) = ((Real.log 2 : ℝ) : EReal) :=
  IdealRules.named_const.ideal_named_scalar _ _ _ _ rfl

theorem dq_pay (C : Vec Ideal S2x512x128 .f32) (f : Fin 2 → Fin 512 → Fin 128 → ℝ) (hC : ∀ h r l, C (ix3 h r l) = ((f h r l : ℝ) : EReal)) (r : Fin 512) (l : Fin 128) :
    dqOut C (ix2 r l) = ((f (half l) r ⟨l.val % 64, by omega⟩ * (1 / 8) : ℝ) : EReal) := by
  have e := fun h r l => (qAcc_at C h r l).trans (hC h r l)
  unfold dqOut k0_pay290 k0_pay289 k0_pay288
  pointwise
  simp only [e]
  rw [sel_lo, eighth_bits]
  by_cases hl : l.val < 64
  · rw [if_pos hl, ← EReal.coe_mul]
    have e1 : half l = 0 := Fin.ext (by show l.val / 64 = 0; omega)
    have e2 : (⟨l.val % 64, by omega⟩ : Fin 128) = l := Fin.ext (by show l.val % 64 = l.val; omega)
    rw [e1, e2]
  · rw [if_neg hl, ← EReal.coe_mul]
    have e1 : half l = 1 := Fin.ext (by show l.val / 64 = 1; omega)
    have e2 : (⟨l.val % 64, by omega⟩ : Fin 128) = ⟨(l.val + 128 - 64) % 128, by omega⟩ := Fin.ext (by show l.val % 64 = (l.val + 128 - 64) % 128; omega)
    rw [e1, e2]

theorem dqe_pay (C : Vec Ideal S2x512x128 .f32) (f : Fin 2 → Fin 512 → Fin 128 → ℝ) (hC : ∀ h r l, C (ix3 h r l) = ((f h r l : ℝ) : EReal)) (z : Fin 1) (u : Fin 8) (r : Fin 512) :
    dqeOut C (ix3 z u r) = ((if hu : u.val < 2 then f ⟨u.val, hu⟩ r 64 else 0 : ℝ) : EReal) := by
  have e := fun h r l => (qAcc_at C h r l).trans (hC h r l)
  unfold dqeOut k0_pay1 k0_pay291 k0_pay292 k0_pay293 k0_pay289 k0_pay288
  pointwise
  simp only [e]
  simp only [eq0, eq1, sel_bool, decide_eq_true_eq, Finset.sum_ite_eq', Finset.mem_univ, if_true]
  exact two_of (fun h => f h r 64) u

theorem dk_pay (A : Vec Ideal S2x128x8192 .f32) (f : Fin 2 → Fin 128 → Fin 8192 → ℝ) (hA : ∀ h l s, A (ix3 h l s) = ((f h l s : ℝ) : EReal)) (n : Fin 16) (r : Fin 512) (l : Fin 128) :
    dkBlk A n (ix2 r l) = ((f (half l) ⟨l.val % 64, by omega⟩ (row n r) * Real.log 2 : ℝ) : EReal) := by
  have e : ∀ (h : Fin 2) (l : Fin 128) (u : Fin 512), kAcc h A n (ix3 (0 : Fin 1) l u) = ((f h l (row n u) : ℝ) : EReal) := fun h l u => (kAcc_at A h n l u).trans (hA _ _ _)
  show k0_pay220 k0_pay258 (kAcc 0 A n) (kAcc 1 A n) (ix2 r l) = _
  unfold k0_pay220
  pointwise
  simp only [e]
  rw [sel_lo, ln2]
  by_cases hl : l.val < 64
  · rw [if_pos hl, ← EReal.coe_mul]
    have e1 : half l = 0 := Fin.ext (by show l.val / 64 = 0; omega)
    have e2 : (⟨l.val % 64, by omega⟩ : Fin 128) = l := Fin.ext (by show l.val % 64 = l.val; omega)
    rw [e1, e2]
  · rw [if_neg hl, ← EReal.coe_mul]
    have e1 : half l = 1 := Fin.ext (by show l.val / 64 = 1; omega)
    have e2 : (⟨l.val % 64, by omega⟩ : Fin 128) = ⟨(l.val + 128 - 64) % 128, by omega⟩ := Fin.ext (by show l.val % 64 = (l.val + 128 - 64) % 128; omega)
    rw [e1, e2]

theorem dv_pay (A : Vec Ideal S128x8192 .f32) (f : Fin 128 → Fin 8192 → ℝ) (hA : ∀ l s, A (ix2 l s) = ((f l s : ℝ) : EReal)) (n : Fin 16) (r : Fin 512) (l : Fin 128) :
    dvBlk A n (ix2 r l) = ((f l (row n r) : ℝ) : EReal) := by
  have e : ∀ (l : Fin 128) (u : Fin 512), vAcc A n (ix2 l u) = ((f l (row n u) : ℝ) : EReal) := fun l u => (vAcc_at A n l u).trans (hA _ _)
  show k0_pay221 (vAcc A n) (ix2 r l) = _
  unfold k0_pay221
  pointwise
  simp only [e]

theorem dke_pay (A : Vec Ideal S2x128x8192 .f32) (f : Fin 2 → Fin 128 → Fin 8192 → ℝ) (hA : ∀ h l s, A (ix3 h l s) = ((f h l s : ℝ) : EReal)) (z : Fin 1) (u : Fin 8) (s : Fin 8192) :
    dkeOut A (ix3 z u s) = ((if hu : u.val < 2 then f ⟨u.val, hu⟩ 67 s else 0 : ℝ) : EReal) := by
  unfold dkeOut k0_pay214
  pointwise
  have w : ∀ (h : Fin 2) (inb) (x : Fin 8), VecWindow.window A ![h.val, 64, 0] ![1, 8, 8192] inb (ix3 (0 : Fin 1) x s) = ((f h ⟨64 + x.val, by omega⟩ s : ℝ) : EReal) := by
    intro h inb x
    refine (window3 A h.val 64 0 1 8 8192 inb (0 : Fin 1) x s (by have := h.isLt; simp; omega) (by omega) (by omega)).trans ?_
    refine Eq.trans ?_ (hA h _ s)
    have e : (⟨0 + s.val, by omega⟩ : Fin 8192) = s := Fin.ext (Nat.zero_add _)
    show A (ix3 h _ (⟨0 + s.val, _⟩ : Fin 8192)) = _
    rw [e]
  have w0 := w 0
  have w1 := w 1
  simp only [Fin.val_zero, Fin.val_one] at w0 w1
  simp only [w0, w1, eq0, eq1, eq3, sel_bool, decide_eq_true_eq, Finset.sum_ite_eq', Finset.mem_univ, if_true]
  exact two_of (fun h => f h 67 s) u

end Cert.KernelIdeal.Attn

end
-- ==== Proof.ValPt.lean ====
/-
  The accumulators after every grid point, and the blocks that the points write, over the real numbers.
-/
module

public import proofs.«01_k».proof.Proof.Run
public import proofs.«01_k».proof.Proof.ValOut

@[expose] public section

set_option maxRecDepth 16384

noncomputable section

namespace Cert.KernelIdeal.Attn

open Cert.KernelIdeal Cert.KernelIdeal.Gen
open Idealize.ShloMosaic Idealize.ShloMosaic.TcCoe
open scoped BigOperators

/-- The head pair and the query block of a point. -/
def pOf (n : ℕ) : Fin 8 := ⟨n / 16 % 8, Nat.mod_lt _ (by decide)⟩

variable (m : (ℓ : Loc nD τ sig) → Buf (Elt Ideal) ℓ) (c : Dev nD) (a : Spec.Args)

/-- What the operands hold at every point. -/
structure InIs : Prop where
  x : ∀ t : Fin cfg0.N, CtxIs a (pOf t.val) (jN t.val) (xAt m c t)
  k : ∀ t : Fin cfg0.N, KIs a (pOf t.val) (iblk m c 1 t)
  v : ∀ t : Fin cfg0.N, VIs a (pOf t.val) (iblk m c 2 t)

theorem jI_coords (t : Fin cfg0.N) : jI (grid0.coords t) = jN t.val := Fin.ext (coord1 t)

theorem zeroK (h : Fin 2) (l : Fin 128) (s : Fin 8192) : k0_pay255 (F := Ideal) (ix3 h l s) = ((0 : ℝ) : EReal) := by
  unfold k0_pay255; pointwise; exact EReal.coe_zero.symm
theorem zeroV (l : Fin 128) (s : Fin 8192) : k0_pay256 (F := Ideal) (ix2 l s) = ((0 : ℝ) : EReal) := by
  unfold k0_pay256; pointwise; exact EReal.coe_zero.symm
theorem zeroQ (h : Fin 2) (r : Fin 512) (l : Fin 128) : k0_pay257 (F := Ideal) (ix3 h r l) = ((0 : ℝ) : EReal) := by
  unfold k0_pay257; pointwise; exact EReal.coe_zero.symm

variable {m c a} (hin : InIs m c a)
include hin

theorem accAt_at (n : ℕ) (hn : n < cfg0.N) :
    (∀ (h : Fin 2) (l : Fin 128) (s : Fin 8192), (accAt m c n hn).1 (ix3 h l s) = ((∑ k ∈ Finset.range (n % 16 + 1), gK a (pOf n) (jN k) h l s : ℝ) : EReal))
    ∧ ∀ (l : Fin 128) (s : Fin 8192), (accAt m c n hn).2 (ix2 l s) = ((∑ k ∈ Finset.range (n % 16 + 1), gV a (pOf n) (jN k) l s : ℝ) : EReal) := by
  induction n using Nat.strong_induction_on with
  | _ n ih =>
  have hj : jI (grid0.coords ⟨n, hn⟩) = jN n := jI_coords ⟨n, hn⟩
  have hx := hin.x ⟨n, hn⟩
  have hk := hin.k ⟨n, hn⟩
  have hv := hin.v ⟨n, hn⟩
  have hjm : jN (n % 16) = jN n := Fin.ext (Nat.mod_mod n 16)
  by_cases hz : n % 16 = 0
  · have e := accAt_first m c ⟨n, hn⟩ hz (k0_pay255 (F := Ideal)) (k0_pay256 (F := Ideal))
    have ek : iniK (F := Ideal) (grid0.coords ⟨n, hn⟩) (k0_pay255 (F := Ideal)) = k0_pay255 (F := Ideal) := by unfold iniK; split <;> rfl
    have ev : iniV (F := Ideal) (grid0.coords ⟨n, hn⟩) (k0_pay256 (F := Ideal)) = k0_pay256 (F := Ideal) := by unfold iniV; split <;> rfl
    constructor
    · intro h l s
      refine (congrFun (congrArg Prod.fst e) _).trans ?_
      show nextK m c ⟨n, hn⟩ (k0_pay255 (F := Ideal)) (ix3 h l s) = _
      unfold nextK
      rw [ek]
      refine (finK_at hj hx hk hv _ (fun _ _ _ => 0) zeroK h l s).trans (congrArg _ ?_)
      rw [← hjm, hz, zero_add, zero_add, Finset.sum_range_one]
    · intro l s
      refine (congrFun (congrArg Prod.snd e) _).trans ?_
      show nextV m c ⟨n, hn⟩ (k0_pay256 (F := Ideal)) (ix2 l s) = _
      unfold nextV
      rw [ev]
      refine (finV_at hj hx hk _ (fun _ _ => 0) zeroV l s).trans (congrArg _ ?_)
      rw [← hjm, hz, zero_add, zero_add, Finset.sum_range_one]
  · have e := accAt_pos m c ⟨n, hn⟩ (by show ¬ n = 0; omega)
    obtain ⟨ih1, ih2⟩ := ih (n - 1) (by omega) (by omega)
    have ec : ¬ ((grid0.coords ⟨n, hn⟩) 1).val = 0 := by rw [coord1]; exact hz
    have ek : ∀ A, iniK (F := Ideal) (grid0.coords ⟨n, hn⟩) A = A := fun A => by unfold iniK; rw [if_neg ec]
    have ev : ∀ A, iniV (F := Ideal) (grid0.coords ⟨n, hn⟩) A = A := fun A => by unfold iniV; rw [if_neg ec]
    have em : (n - 1) % 16 + 1 = n % 16 := by omega
    have ep : pOf (n - 1) = pOf n := Fin.ext (by show (n - 1) / 16 % 8 = n / 16 % 8; omega)
    rw [em, ep] at ih1 ih2
    constructor
    · intro h l s
      refine (congrFun (congrArg Prod.fst e) _).trans ?_
      show nextK m c ⟨n, hn⟩ (accAt m c (n - 1) _).1 (ix3 h l s) = _
      unfold nextK
      rw [ek]
      refine (finK_at hj hx hk hv _ _ ih1 h l s).trans (congrArg _ ?_)
      rw [Finset.sum_range_succ, hjm]
    · intro l s
      refine (congrFun (congrArg Prod.snd e) _).trans ?_
      show nextV m c ⟨n, hn⟩ (accAt m c (n - 1) _).2 (ix2 l s) = _
      unfold nextV
      rw [ev]
      refine (finV_at hj hx hk _ _ ih2 l s).trans (congrArg _ ?_)
      rw [Finset.sum_range_succ, hjm]

omit hin in
theorem sum_gK (p : Fin 8) (h : Fin 2) (l : Fin 128) (s : Fin 8192) :
    ∑ k ∈ Finset.range 16, gK a p (jN k) h l s = ∑ t, Spec.qp a (hh p h) t l * Spec.dS a (hh p h) t s := by
  rw [Finset.sum_range, sum_rows]
  refine Finset.sum_congr rfl fun k _ => ?_
  rw [show jN k.val = k from Fin.ext (Nat.mod_eq_of_lt k.isLt)]
  rfl
omit hin in
theorem sum_gV (p : Fin 8) (l : Fin 128) (s : Fin 8192) :
    ∑ k ∈ Finset.range 16, gV a p (jN k) l s = ∑ t, Spec.P a (hh p (half l)) t s * a.D t (cl p l) := by
  rw [Finset.sum_range, sum_rows]
  refine Finset.sum_congr rfl fun k _ => ?_
  rw [show jN k.val = k from Fin.ext (Nat.mod_eq_of_lt k.isLt)]
  rfl

omit hin in
/-- The head and the place of a lane, as those of its column. -/
theorem hdOf_cl (p : Fin 8) (l : Fin 128) : Spec.hdOf (cl p l) = hh p (half l) :=
  Fin.ext (by show (128 * p.val + l.val) / 64 = 2 * p.val + l.val / 64; omega)
omit hin in
theorem hd_cl (p : Fin 8) (l : Fin 128) : Spec.hd (hh p (half l)) ⟨l.val % 64, by omega⟩ = cl p l :=
  Fin.ext (by show (2 * p.val + l.val / 64) * 64 + l.val % 64 = 128 * p.val + l.val; omega)

theorem endQ_at (t : Fin cfg0.N) (h : Fin 2) (r : Fin 512) (l : Fin 128) :
    endQ m c t (ix3 h r l) = ((∑ s : Fin 8192, Spec.dS a (hh (pOf t.val) h) (row (jN t.val) r) s * Spec.kp a (hh (pOf t.val) h) s l : ℝ) : EReal) := by
  unfold endQ
  exact finQ_at (jI_coords t) (hin.x t) (hin.k t) (hin.v t) _ zeroQ h r l

/-! ## The five blocks -/

theorem out6 (t : Fin cfg0.N) (r : Fin 512) (l : Fin 128) :
    dqOut (endQ m c t) (ix2 r l) = ((Spec.dQ a (row (jN t.val) r) (cl (pOf t.val) l) : ℝ) : EReal) := by
  refine (dq_pay _ _ (endQ_at hin t) r l).trans (congrArg _ ?_)
  unfold Spec.dQ
  rw [Finset.sum_mul, hdOf_cl]
  refine Finset.sum_congr rfl fun s _ => ?_
  have e : Spec.kp a (hh (pOf t.val) (half l)) s ⟨l.val % 64, by omega⟩ = a.K s (cl (pOf t.val) l) := by
    unfold Spec.kp
    rw [dif_pos (show l.val % 64 < 64 by omega), hd_cl]
  rw [e]; ring

theorem out9 (t : Fin cfg0.N) (z : Fin 1) (u : Fin 8) (r : Fin 512) :
    dqeOut (endQ m c t) (ix3 z u r) = ((if hu : u.val < 2 then ∑ s, Spec.dS a (hh (pOf t.val) ⟨u.val, hu⟩) (row (jN t.val) r) s else 0 : ℝ) : EReal) := by
  refine (dqe_pay _ _ (endQ_at hin t) z u r).trans (congrArg _ ?_)
  split
  · refine Finset.sum_congr rfl fun s _ => ?_
    unfold Spec.kp
    rw [dif_neg (by decide), if_pos (by decide), mul_one]
  · rfl

theorem out7 (t : Fin cfg0.N) (ht : t.val % 16 = 15) (n : Fin 16) (r : Fin 512) (l : Fin 128) :
    dkBlk (accAt m c t.val t.isLt).1 n (ix2 r l) = ((Spec.dK a (row n r) (cl (pOf t.val) l) : ℝ) : EReal) := by
  have e := (accAt_at hin t.val t.isLt).1
  rw [ht] at e
  refine (dk_pay _ _ e n r l).trans (congrArg _ ?_)
  rw [sum_gK, Finset.sum_mul]
  unfold Spec.dK
  rw [hdOf_cl]
  refine Finset.sum_congr rfl fun s _ => ?_
  have e : Spec.qp a (hh (pOf t.val) (half l)) s ⟨l.val % 64, by omega⟩ = a.Q s (cl (pOf t.val) l) * (1 / 8 * Spec.L) := by
    unfold Spec.qp
    rw [dif_pos (show l.val % 64 < 64 by omega), hd_cl]
  rw [e]
  have := Spec.L_log2
  linear_combination (a.Q s (cl (pOf t.val) l) * (1 / 8) * Spec.dS a (hh (pOf t.val) (half l)) s (row n r)) * this

theorem out8 (t : Fin cfg0.N) (ht : t.val % 16 = 15) (n : Fin 16) (r : Fin 512) (l : Fin 128) :
    dvBlk (accAt m c t.val t.isLt).2 n (ix2 r l) = ((Spec.dV a (row n r) (cl (pOf t.val) l) : ℝ) : EReal) := by
  have e := (accAt_at hin t.val t.isLt).2
  rw [ht] at e
  refine (dv_pay _ _ e n r l).trans (congrArg _ ?_)
  rw [sum_gV]
  unfold Spec.dV
  rw [hdOf_cl]

theorem out10 (t : Fin cfg0.N) (ht : t.val % 16 = 15) (z : Fin 1) (u : Fin 8) (s : Fin 8192) :
    dkeOut (accAt m c t.val t.isLt).1 (ix3 z u s) = ((if hu : u.val < 2 then ∑ t', Spec.dS a (hh (pOf t.val) ⟨u.val, hu⟩) t' s else 0 : ℝ) : EReal) := by
  have e := (accAt_at hin t.val t.isLt).1
  rw [ht] at e
  refine (dke_pay _ _ e z u s).trans (congrArg _ ?_)
  split
  · rw [sum_gK]
    refine Finset.sum_congr rfl fun t' _ => ?_
    unfold Spec.qp
    rw [dif_neg (by decide), if_neg (by decide), if_neg (by decide), if_pos (by decide), one_mul]
  · rfl

end Cert.KernelIdeal.Attn

end
-- ==== Proof.InVal.lean ====
/-
  The blocks the call's points read, over the extended reals.
-/
module

public import proofs.«01_k».proof.Proof.HostVal
public import proofs.«01_k».proof.Proof.ValPt

@[expose] public section

set_option maxRecDepth 16384

noncomputable section

namespace Cert.KernelIdeal.Attn

open Cert.KernelIdeal Cert.KernelIdeal.Gen
open Idealize.ShloMosaic Idealize.ShloMosaic.TcCoe
open scoped BigOperators

theorem idx_in : ∀ t : Fin cfg0.N, win0_0.index t = ![t.val / 16, t.val % 16, 0] ∧ win0_1.index t = ![t.val / 16, 0, 0] ∧ win0_2.index t = ![t.val / 16, 0]
    ∧ win0_3.index t = ![t.val % 16, t.val / 16] ∧ win0_4.index t = ![t.val % 16, t.val / 16] ∧ win0_5.index t = ![t.val / 16, t.val % 16, 0] :=
  (by decide +kernel : ∀ t : Fin grid0.N, _)

section Blocks

variable {F : FTy → Type} [FloatOps F] [Named F]
variable (m : (ℓ : Loc nD τ sig) → Buf (Elt F) ℓ) (c : Dev nD) (t : Fin cfg0.N)

theorem p_lt : t.val / 16 % 8 = t.val / 16 := by
  have : t.val < 128 := t.isLt
  omega

theorem blk0 (h : Fin 2) (r : Fin 512) (l : Fin 128) : iblk m c 0 t (ix3 h r l) = V m c main_v64 (ix3 (hh (pOf t.val) h) (row (jN t.val) r) l) := by
  unfold hh row pOf jN
  have := p_lt t
  blk_ext [iblk, idx_in t]
theorem blk1 (h : Fin 2) (r : Fin 8192) (l : Fin 128) : iblk m c 1 t (ix3 h r l) = V m c main_v71 (ix3 (hh (pOf t.val) h) r l) := by
  unfold hh pOf
  have := p_lt t
  blk_ext [iblk, idx_in t]
theorem blk2 (l : Fin 128) (r : Fin 8192) : iblk m c 2 t (ix2 l r) = V m c main_v73 (ix2 (cl (pOf t.val) l) r) := by
  unfold cl pOf
  have := p_lt t
  blk_ext [iblk, idx_in t]
theorem blk3 (r : Fin 512) (l : Fin 128) : iblk m c 3 t (ix2 r l) = V m c main_v32 (ix2 (row (jN t.val) r) (cl (pOf t.val) l)) := by
  unfold cl row pOf jN
  have := p_lt t
  blk_ext [iblk, idx_in t]
theorem blk4 (r : Fin 512) (l : Fin 128) : iblk m c 4 t (ix2 r l) = V m c main_v78 (ix2 (row (jN t.val) r) (cl (pOf t.val) l)) := by
  unfold cl row pOf jN
  have := p_lt t
  blk_ext [iblk, idx_in t]
theorem blk5 (z : Fin 1) (r : Fin 512) (l : Fin 128) : iblk m c 5 t (ix3 z r l) = V m c main_v77 (ix3 (pOf t.val) (row (jN t.val) r) l) := by
  unfold row pOf jN
  have := p_lt t
  blk_ext [iblk, idx_in t]

end Blocks

/-- The launch's arguments, as real numbers. -/
structure ArgIs (m : (ℓ : Loc nD τ sig) → Buf (Elt Ideal) ℓ) (c : Dev nD) (a : Spec.Args) : Prop where
  q : ∀ t j, (m (c, main_arg0) : FVec Ideal S8192x1024 .f32) (ix2 t j) = ((a.Q t j : ℝ) : EReal)
  k : ∀ t j, (m (c, main_arg1) : FVec Ideal S8192x1024 .f32) (ix2 t j) = ((a.K t j : ℝ) : EReal)
  v : ∀ t j, (m (c, main_arg2) : FVec Ideal S8192x1024 .f32) (ix2 t j) = ((a.V t j : ℝ) : EReal)
  g : ∀ t h, (m (c, main_arg3) : FVec Ideal S8192x16 .f32) (ix2 t h) = ((a.C t h : ℝ) : EReal)
  d : ∀ t j, (m (c, main_arg4) : FVec Ideal S8192x1024 .f32) (ix2 t j) = ((a.D t j : ℝ) : EReal)

variable (m : (ℓ : Loc nD τ sig) → Buf (Elt Ideal) ℓ) (c : Dev nD) (a : Spec.Args) (h : ArgIs m c a)

include h in
theorem arr0 (p t l) : V m c main_v64 (ix3 p t l) = ((Spec.qp a p t l : ℝ) : EReal) := by
  rw [V_eq, v64, pre_0, pre_3]
  exact hQp_at a _ h.g _ h.q p t l
include h in
theorem arr1 (p t l) : V m c main_v71 (ix3 p t l) = ((Spec.kp a p t l : ℝ) : EReal) := by
  rw [V_eq, v71, pre_1, pre_3]
  exact hKp_at a _ h.g _ h.k p t l
include h in
theorem arr2 (j : Fin 1024) (t : Fin 8192) : V m c main_v73 (ix2 j t) = ((a.V t j : ℝ) : EReal) := by
  rw [V_eq, v73, pre_2]
  pointwise
  exact h.v t j
include h in
theorem arr4 (t : Fin 8192) (j : Fin 1024) : V m c main_v78 (ix2 t j) = ((a.D t j : ℝ) : EReal) := by
  rw [V_eq, v78, pre_4]
  pointwise
  exact h.d t j
include h in
theorem arr3 (t : Fin 8192) (j : Fin 1024) : V m c main_v32 (ix2 t j) = ((Spec.O a t j : ℝ) : EReal) := by
  rw [V_eq, v32, pre_2, pre_19]
  obtain ⟨M, hM⟩ := hTop_real a _ (hS_at a _ _ _ h.q h.k h.g)
  exact hO_at a _ (hS_at a _ _ _ h.q h.k h.g) M hM _ h.v t j
include h in
theorem arr5 (p : Fin 8) (t : Fin 8192) (x : Fin 128) : V m c main_v77 (ix3 p t x) = ((Spec.L * Real.log (Spec.Z a ⟨p.val * 2 + x.val / 64, by omega⟩ t) : ℝ) : EReal) := by
  rw [V_eq, v77, pre_19]
  obtain ⟨M, hM⟩ := hTop_real a _ (hS_at a _ _ _ h.q h.k h.g)
  exact (hLseL_at _ p t x).trans (hLse_at a _ (hS_at a _ _ _ h.q h.k h.g) M hM _ t)

include h in
theorem in_is : InIs m c a where
  k t hd s l := by rw [blk1, arr1 m c a h]
  v t l s := by rw [blk2, arr2 m c a h]
  x t := by
    have hg : ∀ r l, iblk m c 4 t (ix2 r l) = ((a.D (row (jN t.val) r) (cl (pOf t.val) l) : ℝ) : EReal) := fun r l => by rw [blk4, arr4 m c a h]
    have ho : ∀ r l, iblk m c 3 t (ix2 r l) = ((Spec.O a (row (jN t.val) r) (cl (pOf t.val) l) : ℝ) : EReal) := fun r l => by rw [blk3, arr3 m c a h]
    have hq : ∀ u r l, iblk m c 0 t (ix3 u r l) = ((Spec.qp a (hh (pOf t.val) u) (row (jN t.val) r) l : ℝ) : EReal) := fun u r l => by rw [blk0, arr0 m c a h]
    exact {
      do0 := fun r l => ctx_do0 _ _ _ _ _ hg r l
      do1 := fun r l => ctx_do1 _ _ _ _ _ hg r l
      de0 := fun r l => by
        refine (ctx_de0 _ _ _ _ _ _ ho hg r l).trans (congrArg _ ?_)
        simp only [cl_lo]; rfl
      de1 := fun r l => by
        refine (ctx_de1 _ _ _ _ _ _ ho hg r l).trans (congrArg _ ?_)
        simp only [cl_hi]; rfl
      ls0 := fun r l => by
        refine (ctx_ls0 _ _ _ _ r l).trans ?_
        rw [blk5, arr5 m c a h]
        refine congrArg (fun z : Fin 16 => ((Spec.L * Real.log (Spec.Z a z (row (jN t.val) r)) : ℝ) : EReal)) (Fin.ext ?_)
        show (pOf t.val).val * 2 + l.val % 64 / 64 = 2 * (pOf t.val).val + 0
        omega
      ls1 := fun r l => by
        refine (ctx_ls1 _ _ _ _ r l).trans ?_
        rw [blk5, arr5 m c a h]
        refine congrArg (fun z : Fin 16 => ((Spec.L * Real.log (Spec.Z a z (row (jN t.val) r)) : ℝ) : EReal)) (Fin.ext ?_)
        show (pOf t.val).val * 2 + (64 + l.val % 64) / 64 = 2 * (pOf t.val).val + 1
        omega
      q0 := fun r l => (ctx_q0 _ _ _ _ r l).trans (hq 0 r l)
      q1 := fun r l => (ctx_q1 _ _ _ _ r l).trans (hq 1 r l)
      qt0 := fun l r => (ctx_qt0 _ _ _ _ r l).trans (hq 0 r l)
      qt1 := fun l r => (ctx_qt1 _ _ _ _ r l).trans (hq 1 r l)
      dt0 := fun l r => (ctx_dt0 _ _ _ _ r l).trans (ctx_do0 _ _ _ _ _ hg r l)
      dt1 := fun l r => (ctx_dt1 _ _ _ _ r l).trans (ctx_do1 _ _ _ _ _ hg r l) }

end Cert.KernelIdeal.Attn

end
-- ==== Proof.OutVal.lean ====
/-
  The result arrays after the run, over the extended reals.
-/
module

public import proofs.«01_k».proof.Proof.InVal

@[expose] public section

set_option maxRecDepth 16384

noncomputable section

namespace Cert.KernelIdeal.Attn

open Cert.KernelIdeal Cert.KernelIdeal.Gen
open Idealize.ShloMosaic Idealize.ShloMosaic.TcCoe
open scoped BigOperators

theorem idx_out : ∀ t : Fin cfg0.N, win0_6.index t = ![t.val % 16, t.val / 16] ∧ win0_7.index t = ![0, t.val / 16] ∧ win0_8.index t = ![0, t.val / 16]
    ∧ win0_9.index t = ![t.val / 16, 0, t.val % 16] ∧ win0_10.index t = ![t.val / 16, 0, 0] :=
  (by decide +kernel : ∀ t : Fin grid0.N, _)

theorem last_of : (∀ t : Fin cfg0.N, (cfg0.win 7).flush t = true → t.val % 16 = 15) ∧ (∀ t : Fin cfg0.N, (cfg0.win 8).flush t = true → t.val % 16 = 15)
    ∧ (∀ t : Fin cfg0.N, (cfg0.win 10).flush t = true → t.val % 16 = 15) :=
  (by decide +kernel : (∀ t : Fin grid0.N, win0_7.flush t = true → t.val % 16 = 15) ∧ (∀ t : Fin grid0.N, win0_8.flush t = true → t.val % 16 = 15)
    ∧ (∀ t : Fin grid0.N, win0_10.flush t = true → t.val % 16 = 15))

variable (a : Spec.Args)

/-- The five results as arrays. -/
def gDq : FVec Ideal S8192x1024 .bf16 := fun y => ((Spec.dQ a (y 0) (y 1) : ℝ) : EReal)
def gDk : FVec Ideal S8192x1024 .bf16 := fun y => ((Spec.dK a (y 0) (y 1) : ℝ) : EReal)
def gDv : FVec Ideal S8192x1024 .bf16 := fun y => ((Spec.dV a (y 0) (y 1) : ℝ) : EReal)
def gDcq : FVec Ideal S8x8x8192 .f32 := fun y => ((if hu : (y 1).val < 2 then ∑ s, Spec.dS a (hh (y 0) ⟨(y 1).val, hu⟩) (y 2) s else 0 : ℝ) : EReal)
def gDck : FVec Ideal S8x8x8192 .f32 := fun y => ((if hu : (y 1).val < 2 then ∑ t, Spec.dS a (hh (y 0) ⟨(y 1).val, hu⟩) t (y 2) else 0 : ℝ) : EReal)

theorem row_val (n : ℕ) (r : Fin 512) : (row (jN n) r).val = 512 * (n % 16) + r.val := rfl
theorem cl_val (n : ℕ) (l : Fin 128) : (cl (pOf n) l).val = 128 * (n / 16 % 8) + l.val := rfl
theorem p_val (n : ℕ) : (pOf n).val = n / 16 % 8 := rfl

theorem rowAt_ix (r : Fin 8192) (l : Fin 128) (u : Fin 512) : rowAt (ix2 r l) u = ix2 u l := by
  funext b
  fin_cases b <;> rfl

/-- A stacked array read at a row. -/
theorem rows_at (G : Fin 16 → Vec Ideal S512x128 .bf16) (f : Fin 8192 → Fin 128 → ℝ) (hG : ∀ n r l, G n (ix2 r l) = ((f (row n r) l : ℝ) : EReal)) (r : Fin 8192) (l : Fin 128) :
    stackRows G (ix2 r l) = ((f r l : ℝ) : EReal) := by
  unfold stackRows
  rw [rowAt_ix]
  refine (hG _ _ _).trans (congrArg (fun z => ((f z l : ℝ) : EReal)) (Fin.ext ?_))
  show 512 * (r.val / 512) + r.val % 512 = r.val
  omega

variable (m : (ℓ : Loc nD τ sig) → Buf (Elt Ideal) ℓ) (c : Dev nD) (h : InIs m c a)

include h in
theorem final6 : (dats m 0 c).arrAt 6 (cfgs 0).N = gDq a := by
  refine (dats m 0 c).arrAt_eq_of_covers 6 _ (by decide +kernel) fun t hf y => ?_
  blk_simp
  rw [after_6]
  have e := p_lt t
  rw [eq_ix2 (n0 := 512) (n1 := 128) y]
  refine (out6 h t (y 0) (y 1)).trans ?_
  unfold gDq
  refine congrArg Real.toEReal (congrArg₂ (Spec.dQ a) (Fin.ext ?_) (Fin.ext ?_))
  · blk_simp [idx_out t]
    refine (row_val _ _).trans ?_
    omega
  · blk_simp [idx_out t]
    refine (cl_val _ _).trans ?_
    omega

include h in
theorem final7 : (dats m 0 c).arrAt 7 (cfgs 0).N = gDk a := by
  refine (dats m 0 c).arrAt_eq_of_covers 7 _ (by decide +kernel) fun t hf y => ?_
  blk_simp
  rw [after_7]
  have e := p_lt t
  rw [eq_ix2 (n0 := 8192) (n1 := 128) y]
  refine (rows_at _ (fun r l => Spec.dK a r (cl (pOf t.val) l)) (fun n r l => out7 h t (last_of.1 t hf) n r l) (y 0) (y 1)).trans ?_
  unfold gDk
  refine congrArg Real.toEReal (congrArg₂ (Spec.dK a) (Fin.ext ?_) (Fin.ext ?_))
  · blk_simp [idx_out t]
  · blk_simp [idx_out t]
    refine (cl_val _ _).trans ?_
    omega

include h in
theorem final8 : (dats m 0 c).arrAt 8 (cfgs 0).N = gDv a := by
  refine (dats m 0 c).arrAt_eq_of_covers 8 _ (by decide +kernel) fun t hf y => ?_
  blk_simp
  rw [after_8]
  have e := p_lt t
  rw [eq_ix2 (n0 := 8192) (n1 := 128) y]
  refine (rows_at _ (fun r l => Spec.dV a r (cl (pOf t.val) l)) (fun n r l => out8 h t (last_of.2.1 t hf) n r l) (y 0) (y 1)).trans ?_
  unfold gDv
  refine congrArg Real.toEReal (congrArg₂ (Spec.dV a) (Fin.ext ?_) (Fin.ext ?_))
  · blk_simp [idx_out t]
  · blk_simp [idx_out t]
    refine (cl_val _ _).trans ?_
    omega

/-- A pair's row of sums, at equal places. -/
theorem cq_congr (p p' : Fin 8) (u u' : Fin 8) (r r' : Fin 8192) (hp : p = p') (hu : u = u') (hr : r = r') :
    (if h : u.val < 2 then ∑ s, Spec.dS a (hh p ⟨u.val, h⟩) r s else 0) = if h : u'.val < 2 then ∑ s, Spec.dS a (hh p' ⟨u'.val, h⟩) r' s else 0 := by
  subst hp hu hr; rfl
theorem ck_congr (p p' : Fin 8) (u u' : Fin 8) (r r' : Fin 8192) (hp : p = p') (hu : u = u') (hr : r = r') :
    (if h : u.val < 2 then ∑ t, Spec.dS a (hh p ⟨u.val, h⟩) t r else 0) = if h : u'.val < 2 then ∑ t, Spec.dS a (hh p' ⟨u'.val, h⟩) t r' else 0 := by
  subst hp hu hr; rfl

include h in
theorem final9 : (dats m 0 c).arrAt 9 (cfgs 0).N = gDcq a := by
  refine (dats m 0 c).arrAt_eq_of_covers 9 _ (by decide +kernel) fun t hf y => ?_
  blk_simp
  rw [after_9]
  have e := p_lt t
  rw [eq_ix3 (n0 := 1) (n1 := 8) (n2 := 512) y]
  refine (out9 h t (y 0) (y 1) (y 2)).trans ?_
  unfold gDcq
  have y0 : (y 0).val < 1 := (y 0).isLt
  refine congrArg Real.toEReal (cq_congr a _ _ _ _ _ _ (Fin.ext ?_) (Fin.ext ?_) (Fin.ext ?_))
  · blk_simp [idx_out t]
    refine (p_val _).trans ?_
    omega
  · blk_simp [idx_out t]
  · blk_simp [idx_out t]
    refine (row_val _ _).trans ?_
    omega

include h in
theorem final10 : (dats m 0 c).arrAt 10 (cfgs 0).N = gDck a := by
  refine (dats m 0 c).arrAt_eq_of_covers 10 _ (by decide +kernel) fun t hf y => ?_
  blk_simp
  rw [after_10]
  have e := p_lt t
  rw [eq_ix3 (n0 := 1) (n1 := 8) (n2 := 8192) y]
  refine (out10 h t (last_of.2.2 t hf) (y 0) (y 1) (y 2)).trans ?_
  unfold gDck
  have y0 : (y 0).val < 1 := (y 0).isLt
  refine congrArg Real.toEReal (ck_congr a _ _ _ _ _ _ (Fin.ext ?_) (Fin.ext ?_) (Fin.ext ?_))
  · blk_simp [idx_out t]
    refine (p_val _).trans ?_
    omega
  · blk_simp [idx_out t]
  · blk_simp [idx_out t]

end Cert.KernelIdeal.Attn

end
-- ==== Proof.RefOut.lean ====
/-
  The reference's results over the extended reals, as the arrays the kernel leaves.
-/
module

public import proofs.«01_k».proof.Proof.OutVal

@[expose] public section

set_option maxRecDepth 16384

noncomputable section

namespace Cert.ReferenceIdeal.Value

open Cert.ReferenceIdeal Cert.ReferenceIdeal.Gen Idealize.ShloMosaic Idealize.ShloMosaic.TcCoe
open Cert.KernelIdeal.Attn (gDq gDk gDv gDcq gDck)
open scoped BigOperators

/-- The launch's arguments, as real numbers. -/
structure ArgIs (m : (ℓ : Loc nD τ sig) → Buf (Elt Ideal) ℓ) (c : Dev nD) (a : Spec.Args) : Prop where
  q : ∀ t j, (m ((c.tc : Thread nD τ).loc main_arg0) : FVec Ideal S8192x1024 .f32) (ix2 t j) = ((a.Q t j : ℝ) : EReal)
  k : ∀ t j, (m ((c.tc : Thread nD τ).loc main_arg1) : FVec Ideal S8192x1024 .f32) (ix2 t j) = ((a.K t j : ℝ) : EReal)
  v : ∀ t j, (m ((c.tc : Thread nD τ).loc main_arg2) : FVec Ideal S8192x1024 .f32) (ix2 t j) = ((a.V t j : ℝ) : EReal)
  g : ∀ t h, (m ((c.tc : Thread nD τ).loc main_arg3) : FVec Ideal S8192x16 .f32) (ix2 t h) = ((a.C t h : ℝ) : EReal)
  d : ∀ t j, (m ((c.tc : Thread nD τ).loc main_arg4) : FVec Ideal S8192x1024 .f32) (ix2 t j) = ((a.D t j : ℝ) : EReal)

variable (m : (ℓ : Loc nD τ sig) → Buf (Elt Ideal) ℓ) (c : Dev nD) (a : Spec.Args) (h : ArgIs m c a)

include h in
theorem aE_real : ∃ M : Fin 16 → Fin 8192 → ℝ, ∀ p t u, aE m c (ix3 p t u) = ((Spec.ew a (M p t) p t u : ℝ) : EReal) := by
  have hs := rS_at a _ _ _ h.q h.k h.g
  obtain ⟨M, hM⟩ := rMax_real a _ hs
  exact ⟨M, fun p t u => rE_at a _ hs M hM p t u⟩

include h in
theorem adS_at (p : Fin 16) (t u : Fin 8192) : adS m c (ix3 p t u) = ((Spec.dS a p t u : ℝ) : EReal) := by
  obtain ⟨M, he⟩ := aE_real m c a h
  exact rdS_at a M _ he _ (rdP_at a _ _ h.d h.v) p t u

include h in
theorem out0 : res_main_v89 m c = gDq a := by
  rw [res_dq]
  funext y
  have e := rDq_at a _ (adS_at m c a h) _ h.k (y 0) (y 1)
  exact (congrArg _ (eq_ix2 (n0 := 8192) (n1 := 1024) y)).trans e

include h in
theorem out1 : res_main_v90 m c = gDk a := by
  rw [res_dk]
  funext y
  have e := rDk_at a _ (adS_at m c a h) _ h.q (y 0) (y 1)
  exact (congrArg _ (eq_ix2 (n0 := 8192) (n1 := 1024) y)).trans e

include h in
theorem out2 : res_main_v91 m c = gDv a := by
  obtain ⟨M, he⟩ := aE_real m c a h
  rw [res_dv]
  funext y
  have e := rDv_at a _ h.d _ (rP_at a M _ he) (y 0) (y 1)
  exact (congrArg _ (eq_ix2 (n0 := 8192) (n1 := 1024) y)).trans e

include h in
theorem out3 : res_main_v94 m c = gDcq a := by
  rw [res_dcq]
  funext y
  have e := rDcq_at a _ (adS_at m c a h) (y 0) (y 1) (y 2)
  exact (congrArg _ (eq_ix3 (n0 := 8) (n1 := 8) (n2 := 8192) y)).trans e

include h in
theorem out4 : res_main_v98 m c = gDck a := by
  rw [res_dck]
  funext y
  have e := rDck_at a _ (adS_at m c a h) (y 0) (y 1) (y 2)
  exact (congrArg _ (eq_ix3 (n0 := 8) (n1 := 8) (n2 := 8192) y)).trans e

end Cert.ReferenceIdeal.Value

end
-- ==== Proof.FinVal.lean ====
/-
  What the precondition says of the arguments: every entry is a real number.
-/
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic

/-- The shape relations the precondition's operations take. -/
theorem facts : Facts where
  bcast_S_S8192x1024 := by decide
  reducesTo_S8192x1024_S_d0_1 := by decide
  h_S_ := by decide
  bcast_S_S8192x16 := by decide
  reducesTo_S8192x16_S_d0_1 := by decide

/-- A value of magnitude below plus infinity is a real number. -/
theorem real_of (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

variable [Facts]

/-- The conjunction over an array's entries. -/
def all2 (x : FVec Ideal S8192x1024 .f32) : IVec S_ 1 :=
  Host.reduce IntOp.andi (cmpf .olt (Host.absf x) (broadcastInDim S8192x1024 ![] Facts.bcast_S_S8192x1024 (constant S_ .f32 0x7F800000#32))) (constantI S_ 1 1#1) Facts.reducesTo_S8192x1024_S_d0_1 Facts.h_S_
def all1 (x : FVec Ideal S8192x16 .f32) : IVec S_ 1 :=
  Host.reduce IntOp.andi (cmpf .olt (Host.absf x) (broadcastInDim S8192x16 ![] Facts.bcast_S_S8192x16 (constant S_ .f32 0x7F800000#32))) (constantI S_ 1 1#1) Facts.reducesTo_S8192x16_S_d0_1 Facts.h_S_

theorem fn_eq (q k v : FVec Ideal S8192x1024 .f32) (c : FVec Ideal S8192x16 .f32) (d : FVec Ideal S8192x1024 .f32) :
    fn q k v c d = andi (andi (andi (andi (all2 q) (all2 k)) (all2 v)) (all1 c)) (all2 d) := rfl

instance : Subsingleton S_.Idx := ⟨fun x y => funext fun a => a.elim0⟩

theorem all2_real (x : FVec Ideal S8192x1024 .f32) (j : S_.Idx) (h : all2 x j = 1#1) (i : S8192x1024.Idx) : ∃ r : ℝ, x i = (r : EReal) :=
  real_of _ (Host.reduce_andi_all _ _ _ _ j h i)
theorem all1_real (x : FVec Ideal S8192x16 .f32) (j : S_.Idx) (h : all1 x j = 1#1) (i : S8192x16.Idx) : ∃ r : ℝ, x i = (r : EReal) :=
  real_of _ (Host.reduce_andi_all _ _ _ _ j h i)

theorem reals (q k v : FVec Ideal S8192x1024 .f32) (c : FVec Ideal S8192x16 .f32) (d : FVec Ideal S8192x1024 .f32) (h : fn q k v c d = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, c i = (r : EReal)) ∧ (∀ i, ∃ r : ℝ, d i = (r : EReal)) := by
  rw [fn_eq] at h
  have h0 := congrFun h (fun a => a.elim0)
  obtain ⟨h1, hd⟩ := IntOp.andi_eq_one.1 h0
  obtain ⟨h2, hc⟩ := IntOp.andi_eq_one.1 h1
  obtain ⟨h3, hv⟩ := IntOp.andi_eq_one.1 h2
  obtain ⟨hq, hk⟩ := IntOp.andi_eq_one.1 h3
  exact ⟨all2_real q _ hq, all2_real k _ hk, all2_real v _ hv, all1_real c _ hc, all2_real d _ hd⟩

end Cert.Pre_finite

end
-- ==== Proof.lean ====
/-
  The claims about the backward pass of the forgetting attention, the weight gradients, the projections that add to the residual and the gradients through the projections.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelDw
public import proofs.«01_k».proof.Proof.Gen.KernelDw.Frame
public import proofs.«01_k».proof.Proof.Gen.KernelDwIdeal
public import proofs.«01_k».proof.Proof.Gen.KernelDwIdeal.Frame
public import proofs.«01_k».proof.Proof.Gen.KernelDwIdeal.Value
public import proofs.«01_k».proof.Proof.Gen.ReferenceDwIdeal
public import proofs.«01_k».proof.Proof.Gen.ReferenceDwIdeal.Run
public import proofs.«01_k».proof.Proof.Gen.KernelDwo
public import proofs.«01_k».proof.Proof.Gen.KernelDwo.Frame
public import proofs.«01_k».proof.Proof.Gen.KernelDwoIdeal
public import proofs.«01_k».proof.Proof.Gen.KernelDwoIdeal.Frame
public import proofs.«01_k».proof.Proof.Gen.KernelDwoIdeal.Value
public import proofs.«01_k».proof.Proof.Gen.ReferenceDwoIdeal
public import proofs.«01_k».proof.Proof.Gen.ReferenceDwoIdeal.Run
public import proofs.«01_k».proof.Proof.Gen.KernelDwg
public import proofs.«01_k».proof.Proof.Gen.KernelDwg.Frame
public import proofs.«01_k».proof.Proof.Gen.KernelDwgIdeal
public import proofs.«01_k».proof.Proof.Gen.KernelDwgIdeal.Frame
public import proofs.«01_k».proof.Proof.Gen.KernelDwgIdeal.Value
public import proofs.«01_k».proof.Proof.Gen.ReferenceDwgIdeal
public import proofs.«01_k».proof.Proof.Gen.ReferenceDwgIdeal.Run
public import proofs.«01_k».proof.Proof.Gen.KernelDwin
public import proofs.«01_k».proof.Proof.Gen.KernelDwin.Frame
public import proofs.«01_k».proof.Proof.Gen.KernelDwinIdeal
public import proofs.«01_k».proof.Proof.Gen.KernelDwinIdeal.Frame
public import proofs.«01_k».proof.Proof.Gen.KernelDwinIdeal.Value
public import proofs.«01_k».proof.Proof.Gen.ReferenceDwinIdeal
public import proofs.«01_k».proof.Proof.Gen.ReferenceDwinIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelFo
public import proofs.«01_k».proof.Proof.Gen.KernelFo.Frame
public import proofs.«01_k».proof.Proof.Gen.KernelFoIdeal
public import proofs.«01_k».proof.Proof.Gen.KernelFoIdeal.Frame
public import proofs.«01_k».proof.Proof.Gen.KernelFoIdeal.Value
public import proofs.«01_k».proof.Proof.Gen.ReferenceFoIdeal
public import proofs.«01_k».proof.Proof.Gen.ReferenceFoIdeal.Run
public import proofs.«01_k».proof.Proof.Gen.KernelLast
public import proofs.«01_k».proof.Proof.Gen.KernelLast.Frame
public import proofs.«01_k».proof.Proof.Gen.KernelLastIdeal
public import proofs.«01_k».proof.Proof.Gen.KernelLastIdeal.Frame
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.KernelDo
public import proofs.«01_k».proof.Proof.Gen.KernelDo.Frame
public import proofs.«01_k».proof.Proof.Gen.KernelDoIdeal
public import proofs.«01_k».proof.Proof.Gen.KernelDoIdeal.Frame
public import proofs.«01_k».proof.Proof.Gen.KernelDoIdeal.Value
public import proofs.«01_k».proof.Proof.Gen.ReferenceDoIdeal
public import proofs.«01_k».proof.Proof.Gen.ReferenceDoIdeal.Run
public import proofs.«01_k».proof.Proof.Gen.KernelV
public import proofs.«01_k».proof.Proof.Gen.KernelV.Frame
public import proofs.«01_k».proof.Proof.Gen.KernelVIdeal
public import proofs.«01_k».proof.Proof.Gen.KernelVIdeal.Frame
public import proofs.«01_k».proof.Proof.Gen.KernelVIdeal.Value
public import proofs.«01_k».proof.Proof.Gen.ReferenceVIdeal
public import proofs.«01_k».proof.Proof.Gen.ReferenceVIdeal.Run
public import proofs.«01_k».proof.Proof.Gen.KernelDgu
public import proofs.«01_k».proof.Proof.Gen.KernelDgu.Frame
public import proofs.«01_k».proof.Proof.Gen.KernelDguIdeal
public import proofs.«01_k».proof.Proof.Gen.KernelDguIdeal.Frame
public import proofs.«01_k».proof.Proof.Gen.KernelDguIdeal.Value
public import proofs.«01_k».proof.Proof.Gen.ReferenceDguIdeal
public import proofs.«01_k».proof.Proof.Gen.ReferenceDguIdeal.Run
public import proofs.«01_k».proof.Proof.Gen.KernelDgm
public import proofs.«01_k».proof.Proof.Gen.KernelDgm.Frame
public import proofs.«01_k».proof.Proof.Gen.KernelDgmIdeal
public import proofs.«01_k».proof.Proof.Gen.KernelDgmIdeal.Frame
public import proofs.«01_k».proof.Proof.Gen.KernelDgmIdeal.Value
public import proofs.«01_k».proof.Proof.Gen.ReferenceDgmIdeal
public import proofs.«01_k».proof.Proof.Gen.ReferenceDgmIdeal.Run
public import proofs.«01_k».proof.Proof.Gen.KernelDqkv
public import proofs.«01_k».proof.Proof.Gen.KernelDqkv.Frame
public import proofs.«01_k».proof.Proof.Gen.KernelDqkvIdeal
public import proofs.«01_k».proof.Proof.Gen.KernelDqkvIdeal.Frame
public import proofs.«01_k».proof.Proof.Gen.KernelDqkvIdeal.Value
public import proofs.«01_k».proof.Proof.Gen.ReferenceDqkvIdeal
public import proofs.«01_k».proof.Proof.Gen.ReferenceDqkvIdeal.Run
public import proofs.«01_k».proof.Proof.DwOut
public import proofs.«01_k».proof.Proof.DwoOut
public import proofs.«01_k».proof.Proof.DwgOut
public import proofs.«01_k».proof.Proof.DwinOut
public import proofs.«01_k».proof.Proof.DownOut
public import proofs.«01_k».proof.Proof.FoOut
public import proofs.«01_k».proof.Proof.LastOut
public import proofs.«01_k».proof.Proof.DoOut
public import proofs.«01_k».proof.Proof.VOut
public import proofs.«01_k».proof.Proof.DguOut
public import proofs.«01_k».proof.Proof.DgmOut
public import proofs.«01_k».proof.Proof.DqkvOut
public import proofs.«01_k».proof.Proof.Run
public import proofs.«01_k».proof.Proof.RunK
public import proofs.«01_k».proof.Proof.OutVal
public import proofs.«01_k».proof.Proof.RefOut
public import proofs.«01_k».proof.Proof.FinVal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed ends with its arguments unchanged and every semaphore counter at zero. -/
theorem frameK : Cert.quiescent_Kernel := fun m g _ => Cert.Kernel.Attn.frame_run m g

/-- So does the kernel over the reals. -/
theorem frameKI : Cert.quiescent_KernelIdeal := fun m g _ => Cert.KernelIdeal.Attn.frame_run m g

/-- The reference ends with its arguments unchanged; it declares no semaphore. -/
theorem frameR : Cert.quiescent_ReferenceIdeal := fun m g _ =>
  θ_run_mono (Cert.ReferenceIdeal.Value.run m g) fun _ h =>
    ⟨fun c => (h c).2.2.2.2.2, sem_eq_zero_of_no_sems (by decide) _⟩

/-- The only rewrite from the printed kernel to the one over the reals names the constant `ln2`. -/
theorem names : Cert.preserves_Kernel_KernelIdeal :=
  IdealRules.named_const.statement Cert.KernelIdeal.κ "ln2" .f32 0x3F317218#32 ((Real.log 2 : ℝ) : EReal) rfl

/-- Arguments without infinities are arrays of real numbers. -/
theorem args_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : ∃ a : Cert.Spec.Args, Cert.KernelIdeal.Attn.ArgIs m c a := by
  obtain ⟨hq, hk, hv, hc, hd⟩ := Cert.Pre_finite.reals _ _ _ _ _ (h c)
  choose q hq using hq
  choose k hk using hk
  choose v hv using hv
  choose g hg using hc
  choose d hd using hd
  exact ⟨⟨fun t j => q (ix2 t j), fun t j => k (ix2 t j), fun t j => v (ix2 t j), fun t j => g (ix2 t j), fun t j => d (ix2 t j)⟩,
    ⟨fun t j => hq (ix2 t j), fun t j => hk (ix2 t j), fun t j => hv (ix2 t j), fun t j => hg (ix2 t j), fun t j => hd (ix2 t j)⟩⟩

set_option maxHeartbeats 2000000 in
/-- The kernel's five results over the reals are the reference's. -/
theorem values [Cert.Pre_finite.Facts] : Cert.algebraic_KernelIdeal_ReferenceIdeal_pre_finite := by
  intro m g m' g' hpre hargs
  choose a ha using args_real m hpre
  refine ⟨fun c => Cert.KernelIdeal.Attn.gDq (a c), fun c => Cert.KernelIdeal.Attn.gDk (a c), fun c => Cert.KernelIdeal.Attn.gDv (a c),
    fun c => Cert.KernelIdeal.Attn.gDcq (a c), fun c => Cert.KernelIdeal.Attn.gDck (a c), ?_, ?_⟩
  · refine θ_run_mono (θ_run_and (Cert.KernelIdeal.Attn.run_main m g) (Cert.KernelIdeal.Attn.frame_run m g)) fun r h c => ?_
    have hi := Cert.KernelIdeal.Attn.in_is m c (a c) (ha c)
    have h1 := (h.1 c).1
    have e0 : r.2.mem ((c.tc : Thread Cert.KernelIdeal.nD Cert.KernelIdeal.τ).loc Cert.KernelIdeal.main_v79_0) = Cert.KernelIdeal.Attn.gDq (a c) :=
      (h1 6).trans (Cert.KernelIdeal.Attn.final6 (a c) m c hi)
    have e1 : r.2.mem ((c.tc : Thread Cert.KernelIdeal.nD Cert.KernelIdeal.τ).loc Cert.KernelIdeal.main_v79_1) = Cert.KernelIdeal.Attn.gDk (a c) :=
      (h1 7).trans (Cert.KernelIdeal.Attn.final7 (a c) m c hi)
    have e2 : r.2.mem ((c.tc : Thread Cert.KernelIdeal.nD Cert.KernelIdeal.τ).loc Cert.KernelIdeal.main_v79_2) = Cert.KernelIdeal.Attn.gDv (a c) :=
      (h1 8).trans (Cert.KernelIdeal.Attn.final8 (a c) m c hi)
    have e3 : r.2.mem ((c.tc : Thread Cert.KernelIdeal.nD Cert.KernelIdeal.τ).loc Cert.KernelIdeal.main_v79_3) = Cert.KernelIdeal.Attn.gDcq (a c) :=
      (h1 9).trans (Cert.KernelIdeal.Attn.final9 (a c) m c hi)
    have e4 : r.2.mem ((c.tc : Thread Cert.KernelIdeal.nD Cert.KernelIdeal.τ).loc Cert.KernelIdeal.main_v79_4) = Cert.KernelIdeal.Attn.gDck (a c) :=
      (h1 10).trans (Cert.KernelIdeal.Attn.final10 (a c) m c hi)
    exact ⟨e0, e1, e2, e3, e4, h.2.1 c⟩
  · refine θ_run_mono (Cert.ReferenceIdeal.Value.run m' g') fun r h c => ?_
    obtain ⟨e0, e1, e2, e3, e4⟩ := hargs c
    have hr : Cert.ReferenceIdeal.Value.ArgIs m' c (a c) :=
      ⟨fun t j => (congrFun e0 (ix2 t j)).trans ((ha c).q t j), fun t j => (congrFun e1 (ix2 t j)).trans ((ha c).k t j),
       fun t j => (congrFun e2 (ix2 t j)).trans ((ha c).v t j), fun t j => (congrFun e3 (ix2 t j)).trans ((ha c).g t j),
       fun t j => (congrFun e4 (ix2 t j)).trans ((ha c).d t j)⟩
    obtain ⟨r0, r1, r2, r3, r4, hf⟩ := h c
    exact ⟨r0.trans (Cert.ReferenceIdeal.Value.out0 m' c (a c) hr), r1.trans (Cert.ReferenceIdeal.Value.out1 m' c (a c) hr),
      r2.trans (Cert.ReferenceIdeal.Value.out2 m' c (a c) hr), r3.trans (Cert.ReferenceIdeal.Value.out3 m' c (a c) hr),
      r4.trans (Cert.ReferenceIdeal.Value.out4 m' c (a c) hr), hf⟩

/-- The weight-gradient call as printed ends with its arguments unchanged and every semaphore counter at zero. -/
theorem frameDwK : Cert.quiescent_KernelDw := fun m g _ => Cert.KernelDw.Gen.frame m g

/-- So does the call over the reals. -/
theorem frameDwKI : Cert.quiescent_KernelDwIdeal := fun m g _ => Cert.KernelDwIdeal.Gen.frame m g

/-- So does its reference; it declares no semaphore. -/
theorem frameDwR : Cert.quiescent_ReferenceDwIdeal := fun m g _ =>
  θ_run_mono (Cert.ReferenceDwIdeal.Value.run m g) fun _ h => ⟨fun c => (h c).2, sem_eq_zero_of_no_sems (by decide) _⟩

/-- The weight-gradient call's result over the extended reals is its reference's, whatever the arguments. -/
theorem valuesDw : Cert.algebraic_KernelDwIdeal_ReferenceDwIdeal := by
  intro m g m' g' _ hargs
  refine ⟨fun c => Cert.KernelDwIdeal.Value.gDw (m ((c.tc : Thread Cert.KernelDwIdeal.nD Cert.KernelDwIdeal.τ).loc Cert.KernelDwIdeal.main_arg0))
    (m ((c.tc : Thread Cert.KernelDwIdeal.nD Cert.KernelDwIdeal.τ).loc Cert.KernelDwIdeal.main_arg1)), ?_, ?_⟩
  · refine θ_run_mono (Cert.KernelDwIdeal.Value.run m g) fun r h c => ?_
    exact ⟨(h c).1.trans (Cert.KernelDwIdeal.Value.result m c), (h c).2⟩
  · refine θ_run_mono (Cert.ReferenceDwIdeal.Value.run m' g') fun r h c => ?_
    obtain ⟨e0, e1⟩ := hargs c
    refine ⟨(h c).1.trans ((Cert.ReferenceDwIdeal.Value.out _ _).trans ?_), (h c).2⟩
    rw [e0, e1]

/-- The weight-gradient call of the attention's projections as printed ends with its arguments unchanged and every semaphore counter at zero. -/
theorem frameDwoK : Cert.quiescent_KernelDwo := fun m g _ => Cert.KernelDwo.Gen.frame m g

/-- So does the call over the reals. -/
theorem frameDwoKI : Cert.quiescent_KernelDwoIdeal := fun m g _ => Cert.KernelDwoIdeal.Gen.frame m g

/-- So does its reference; it declares no semaphore. -/
theorem frameDwoR : Cert.quiescent_ReferenceDwoIdeal := fun m g _ =>
  θ_run_mono (Cert.ReferenceDwoIdeal.Value.run m g) fun _ h => ⟨fun c => (h c).2, sem_eq_zero_of_no_sems (by decide) _⟩

/-- The weight-gradient call of the attention's projections: its result over the extended reals is its reference's, whatever the arguments. -/
theorem valuesDwo : Cert.algebraic_KernelDwoIdeal_ReferenceDwoIdeal := by
  intro m g m' g' _ hargs
  refine ⟨fun c => Cert.KernelDwoIdeal.Value.gDw (m ((c.tc : Thread Cert.KernelDwoIdeal.nD Cert.KernelDwoIdeal.τ).loc Cert.KernelDwoIdeal.main_arg0))
    (m ((c.tc : Thread Cert.KernelDwoIdeal.nD Cert.KernelDwoIdeal.τ).loc Cert.KernelDwoIdeal.main_arg1)), ?_, ?_⟩
  · refine θ_run_mono (Cert.KernelDwoIdeal.Value.run m g) fun r h c => ?_
    exact ⟨(h c).1.trans (Cert.KernelDwoIdeal.Value.result m c), (h c).2⟩
  · refine θ_run_mono (Cert.ReferenceDwoIdeal.Value.run m' g') fun r h c => ?_
    obtain ⟨e0, e1⟩ := hargs c
    refine ⟨(h c).1.trans ((Cert.ReferenceDwoIdeal.Value.out _ _).trans ?_), (h c).2⟩
    rw [e0, e1]

/-- The weight-gradient call of the gate and up projections as printed ends with its arguments unchanged and every semaphore counter at zero. -/
theorem frameDwgK : Cert.quiescent_KernelDwg := fun m g _ => Cert.KernelDwg.Gen.frame m g

/-- So does the call over the reals. -/
theorem frameDwgKI : Cert.quiescent_KernelDwgIdeal := fun m g _ => Cert.KernelDwgIdeal.Gen.frame m g

/-- So does its reference; it declares no semaphore. -/
theorem frameDwgR : Cert.quiescent_ReferenceDwgIdeal := fun m g _ =>
  θ_run_mono (Cert.ReferenceDwgIdeal.Value.run m g) fun _ h => ⟨fun c => (h c).2, sem_eq_zero_of_no_sems (by decide) _⟩

/-- The weight-gradient call of the gate and up projections: its result over the extended reals is its reference's, whatever the arguments. -/
theorem valuesDwg : Cert.algebraic_KernelDwgIdeal_ReferenceDwgIdeal := by
  intro m g m' g' _ hargs
  refine ⟨fun c => Cert.KernelDwgIdeal.Value.gDw (m ((c.tc : Thread Cert.KernelDwgIdeal.nD Cert.KernelDwgIdeal.τ).loc Cert.KernelDwgIdeal.main_arg0))
    (m ((c.tc : Thread Cert.KernelDwgIdeal.nD Cert.KernelDwgIdeal.τ).loc Cert.KernelDwgIdeal.main_arg1)), ?_, ?_⟩
  · refine θ_run_mono (Cert.KernelDwgIdeal.Value.run m g) fun r h c => ?_
    exact ⟨(h c).1.trans (Cert.KernelDwgIdeal.Value.result m c), (h c).2⟩
  · refine θ_run_mono (Cert.ReferenceDwgIdeal.Value.run m' g') fun r h c => ?_
    obtain ⟨e0, e1⟩ := hargs c
    refine ⟨(h c).1.trans ((Cert.ReferenceDwgIdeal.Value.out _ _).trans ?_), (h c).2⟩
    rw [e0, e1]

/-- The weight-gradient call of the mixer's input projection as printed ends with its arguments unchanged and every semaphore counter at zero. -/
theorem frameDwinK : Cert.quiescent_KernelDwin := fun m g _ => Cert.KernelDwin.Gen.frame m g

/-- So does the call over the reals. -/
theorem frameDwinKI : Cert.quiescent_KernelDwinIdeal := fun m g _ => Cert.KernelDwinIdeal.Gen.frame m g

/-- So does its reference; it declares no semaphore. -/
theorem frameDwinR : Cert.quiescent_ReferenceDwinIdeal := fun m g _ =>
  θ_run_mono (Cert.ReferenceDwinIdeal.Value.run m g) fun _ h => ⟨fun c => (h c).2, sem_eq_zero_of_no_sems (by decide) _⟩

/-- The weight-gradient call of the mixer's input projection: its result over the extended reals is its reference's, whatever the arguments. -/
theorem valuesDwin : Cert.algebraic_KernelDwinIdeal_ReferenceDwinIdeal := by
  intro m g m' g' _ hargs
  refine ⟨fun c => Cert.KernelDwinIdeal.Value.gDw (m ((c.tc : Thread Cert.KernelDwinIdeal.nD Cert.KernelDwinIdeal.τ).loc Cert.KernelDwinIdeal.main_arg0))
    (m ((c.tc : Thread Cert.KernelDwinIdeal.nD Cert.KernelDwinIdeal.τ).loc Cert.KernelDwinIdeal.main_arg1)), ?_, ?_⟩
  · refine θ_run_mono (Cert.KernelDwinIdeal.Value.run m g) fun r h c => ?_
    exact ⟨(h c).1.trans (Cert.KernelDwinIdeal.Value.result m c), (h c).2⟩
  · refine θ_run_mono (Cert.ReferenceDwinIdeal.Value.run m' g') fun r h c => ?_
    obtain ⟨e0, e1⟩ := hargs c
    refine ⟨(h c).1.trans ((Cert.ReferenceDwinIdeal.Value.out _ _).trans ?_), (h c).2⟩
    rw [e0, e1]

/-- The call for the down projection with the residual and the norm after it: as printed it ends with its arguments unchanged and every semaphore counter at zero. -/
theorem frameDownK : Cert.quiescent_KernelDown := fun m g _ => Cert.KernelDown.Gen.frame m g

/-- So does the call over the reals. -/
theorem frameDownKI : Cert.quiescent_KernelDownIdeal := fun m g _ => Cert.KernelDownIdeal.Gen.frame m g

/-- So does its reference; it declares no semaphore. -/
theorem frameDownR : Cert.quiescent_ReferenceDownIdeal := fun m g _ =>
  θ_run_mono (Cert.ReferenceDownIdeal.Value.run m g) fun _ h => ⟨fun c => (h c).2.2, sem_eq_zero_of_no_sems (by decide) _⟩

/-- Its results over the extended reals are its reference's, whatever the arguments. -/
theorem valuesDown : Cert.algebraic_KernelDownIdeal_ReferenceDownIdeal := by
  intro m g m' g' _ hargs
  refine ⟨fun c => (Cert.KernelDownIdeal.Gen.dats m 0 c).arrAt 4 Cert.KernelDownIdeal.cfg0.N, fun c => (Cert.KernelDownIdeal.Gen.dats m 0 c).arrAt 5 Cert.KernelDownIdeal.cfg0.N, Cert.KernelDownIdeal.Value.run_blocks m g, ?_⟩
  refine θ_run_mono (Cert.ReferenceDownIdeal.Value.run m' g') fun r h c => ?_
  obtain ⟨e0, e1, e2, e3⟩ := hargs c
  refine ⟨(h c).1.trans ((Cert.ReferenceDownIdeal.Value.out_sum _ _ _).trans ?_), (h c).2.1.trans ((Cert.ReferenceDownIdeal.Value.out_norm _ _).trans ?_), (h c).2.2⟩
  · rw [e0, e1, e2]
    exact (Cert.KernelDownIdeal.Value.result4 m c).symm
  · rw [Cert.ReferenceDownIdeal.Value.out_sum, e0, e1, e2, e3]
    exact (Cert.KernelDownIdeal.Value.result5 m c).symm

/-- The call for the attention's output projection with the residual and the norm after it: as printed it ends with its arguments unchanged and every semaphore counter at zero. -/
theorem frameFoK : Cert.quiescent_KernelFo := fun m g _ => Cert.KernelFo.Gen.frame m g

/-- So does the call over the reals. -/
theorem frameFoKI : Cert.quiescent_KernelFoIdeal := fun m g _ => Cert.KernelFoIdeal.Gen.frame m g

/-- So does its reference; it declares no semaphore. -/
theorem frameFoR : Cert.quiescent_ReferenceFoIdeal := fun m g _ =>
  θ_run_mono (Cert.ReferenceFoIdeal.Value.run m g) fun _ h => ⟨fun c => (h c).2.2, sem_eq_zero_of_no_sems (by decide) _⟩

/-- Its results over the extended reals are its reference's, whatever the arguments. -/
theorem valuesFo : Cert.algebraic_KernelFoIdeal_ReferenceFoIdeal := by
  intro m g m' g' _ hargs
  refine ⟨fun c => (Cert.KernelFoIdeal.Gen.dats m 0 c).arrAt 4 Cert.KernelFoIdeal.cfg0.N, fun c => (Cert.KernelFoIdeal.Gen.dats m 0 c).arrAt 5 Cert.KernelFoIdeal.cfg0.N, Cert.KernelFoIdeal.Value.run_blocks m g, ?_⟩
  refine θ_run_mono (Cert.ReferenceFoIdeal.Value.run m' g') fun r h c => ?_
  obtain ⟨e0, e1, e2, e3⟩ := hargs c
  refine ⟨(h c).1.trans ((Cert.ReferenceFoIdeal.Value.out_sum _ _ _).trans ?_), (h c).2.1.trans ((Cert.ReferenceFoIdeal.Value.out_norm _ _).trans ?_), (h c).2.2⟩
  · rw [e0, e1, e2]
    exact (Cert.KernelFoIdeal.Value.result4 m c).symm
  · rw [Cert.ReferenceFoIdeal.Value.out_sum, e0, e1, e2, e3]
    exact (Cert.KernelFoIdeal.Value.result5 m c).symm

/-- The call for the last down projection with the residual: as printed it ends with its arguments unchanged and every semaphore counter at zero. -/
theorem frameLastK : Cert.quiescent_KernelLast := fun m g _ => Cert.KernelLast.Gen.frame m g

/-- So does the call over the reals. -/
theorem frameLastKI : Cert.quiescent_KernelLastIdeal := fun m g _ => Cert.KernelLastIdeal.Gen.frame m g

/-- So does its reference; it declares no semaphore. -/
theorem frameLastR : Cert.quiescent_ReferenceLastIdeal := fun m g _ =>
  θ_run_mono (Cert.ReferenceLastIdeal.Value.run m g) fun _ h => ⟨fun c => (h c).2, sem_eq_zero_of_no_sems (by decide) _⟩

/-- Its results over the extended reals are its reference's, whatever the arguments. -/
theorem valuesLast : Cert.algebraic_KernelLastIdeal_ReferenceLastIdeal := by
  intro m g m' g' _ hargs
  refine ⟨fun c => (Cert.KernelLastIdeal.Gen.dats m 0 c).arrAt 3 Cert.KernelLastIdeal.cfg0.N, Cert.KernelLastIdeal.Value.run_blocks m g, ?_⟩
  refine θ_run_mono (Cert.ReferenceLastIdeal.Value.run m' g') fun r h c => ?_
  obtain ⟨e0, e1, e2⟩ := hargs c
  refine ⟨(h c).1.trans ((Cert.ReferenceLastIdeal.Value.out _ _ _).trans ?_), (h c).2⟩
  rw [e0, e1, e2]
  exact (Cert.KernelLastIdeal.Value.result m c).symm

/-- The call for the gradient through the attention's output projection: as printed it ends with its arguments unchanged and every semaphore counter at zero. -/
theorem frameDoK : Cert.quiescent_KernelDo := fun m g _ => Cert.KernelDo.Gen.frame m g

/-- So does the call over the reals. -/
theorem frameDoKI : Cert.quiescent_KernelDoIdeal := fun m g _ => Cert.KernelDoIdeal.Gen.frame m g

/-- So does its reference; it declares no semaphore. -/
theorem frameDoR : Cert.quiescent_ReferenceDoIdeal := fun m g _ =>
  θ_run_mono (Cert.ReferenceDoIdeal.Value.run m g) fun _ h => ⟨fun c => (h c).2, sem_eq_zero_of_no_sems (by decide) _⟩

/-- Its results over the extended reals are its reference's, whatever the arguments. -/
theorem valuesDo : Cert.algebraic_KernelDoIdeal_ReferenceDoIdeal := by
  intro m g m' g' _ hargs
  refine ⟨fun c => (Cert.KernelDoIdeal.Gen.dats m 0 c).arrAt 2 Cert.KernelDoIdeal.cfg0.N, Cert.KernelDoIdeal.Value.run_blocks m g, ?_⟩
  refine θ_run_mono (Cert.ReferenceDoIdeal.Value.run m' g') fun r h c => ?_
  obtain ⟨e0, e1⟩ := hargs c
  refine ⟨(h c).1.trans ((Cert.ReferenceDoIdeal.Value.out _ _).trans ?_), (h c).2⟩
  rw [e0, e1]
  exact (Cert.KernelDoIdeal.Value.result m c).symm

/-- The call for the value projection: as printed it ends with its arguments unchanged and every semaphore counter at zero. -/
theorem frameVK : Cert.quiescent_KernelV := fun m g _ => Cert.KernelV.Gen.frame m g

/-- So does the call over the reals. -/
theorem frameVKI : Cert.quiescent_KernelVIdeal := fun m g _ => Cert.KernelVIdeal.Gen.frame m g

/-- So does its reference; it declares no semaphore. -/
theorem frameVR : Cert.quiescent_ReferenceVIdeal := fun m g _ =>
  θ_run_mono (Cert.ReferenceVIdeal.Value.run m g) fun _ h => ⟨fun c => (h c).2, sem_eq_zero_of_no_sems (by decide) _⟩

/-- Its results over the extended reals are its reference's, whatever the arguments. -/
theorem valuesV : Cert.algebraic_KernelVIdeal_ReferenceVIdeal := by
  intro m g m' g' _ hargs
  refine ⟨fun c => (Cert.KernelVIdeal.Gen.dats m 0 c).arrAt 2 Cert.KernelVIdeal.cfg0.N, Cert.KernelVIdeal.Value.run_blocks m g, ?_⟩
  refine θ_run_mono (Cert.ReferenceVIdeal.Value.run m' g') fun r h c => ?_
  obtain ⟨e0, e1⟩ := hargs c
  refine ⟨(h c).1.trans ((Cert.ReferenceVIdeal.Value.out _ _).trans ?_), (h c).2⟩
  rw [e0, e1]
  exact (Cert.KernelVIdeal.Value.result m c).symm

/-- The call for the gradient through the gate and up projections and the norm before them: as printed it ends with its arguments unchanged and every semaphore counter at zero. -/
theorem frameDguK : Cert.quiescent_KernelDgu := fun m g _ => Cert.KernelDgu.Gen.frame m g

/-- So does the call over the reals. -/
theorem frameDguKI : Cert.quiescent_KernelDguIdeal := fun m g _ => Cert.KernelDguIdeal.Gen.frame m g

/-- So does its reference; it declares no semaphore. -/
theorem frameDguR : Cert.quiescent_ReferenceDguIdeal := fun m g _ =>
  θ_run_mono (Cert.ReferenceDguIdeal.Value.run m g) fun _ h => ⟨fun c => (h c).2.2.2, sem_eq_zero_of_no_sems (by decide) _⟩

/-- Its results over the extended reals are its reference's, whatever the arguments. -/
theorem valuesDgu : Cert.algebraic_KernelDguIdeal_ReferenceDguIdeal := by
  intro m g m' g' _ hargs
  refine ⟨fun c => (Cert.KernelDguIdeal.Gen.dats m 0 c).arrAt 6 Cert.KernelDguIdeal.cfg0.N, fun c => (Cert.KernelDguIdeal.Gen.dats m 0 c).arrAt 7 Cert.KernelDguIdeal.cfg0.N, fun c => (Cert.KernelDguIdeal.Gen.dats m 0 c).arrAt 8 Cert.KernelDguIdeal.cfg0.N, Cert.KernelDguIdeal.Value.run_blocks m g, ?_⟩
  refine θ_run_mono (Cert.ReferenceDguIdeal.Value.run m' g') fun r h c => ?_
  obtain ⟨e0, e1, e2, e3, e4, e5, e6⟩ := hargs c
  have hx : Cert.ReferenceDguIdeal.Value.res_main_v41 m' c = (Cert.KernelDguIdeal.Gen.dats m 0 c).arrAt 6 Cert.KernelDguIdeal.cfg0.N := by
    refine (Cert.ReferenceDguIdeal.Value.res0 m' c).trans ?_
    rw [e0, e1, e2, e3, e4, e5, e6]
    exact (Cert.KernelDguIdeal.Value.result6 m c).symm
  refine ⟨(h c).1.trans hx, (h c).2.1.trans ((Eq.trans rfl hx).trans ((Cert.KernelDguIdeal.Value.result6 m c).trans (Cert.KernelDguIdeal.Value.result7 m c).symm)),
    (h c).2.2.1.trans ((Cert.ReferenceDqkvIdeal.Value.out_g _ _).trans ?_), (h c).2.2.2⟩
  rw [Cert.ReferenceDguIdeal.Value.out_sum, e0, e1, e2, e3, e4]
  exact (Cert.KernelDguIdeal.Value.result8 m c).symm

/-- The call for the gradient through the mixer's input projection and the norm before it: as printed it ends with its arguments unchanged and every semaphore counter at zero. -/
theorem frameDgmK : Cert.quiescent_KernelDgm := fun m g _ => Cert.KernelDgm.Gen.frame m g

/-- So does the call over the reals. -/
theorem frameDgmKI : Cert.quiescent_KernelDgmIdeal := fun m g _ => Cert.KernelDgmIdeal.Gen.frame m g

/-- So does its reference; it declares no semaphore. -/
theorem frameDgmR : Cert.quiescent_ReferenceDgmIdeal := fun m g _ =>
  θ_run_mono (Cert.ReferenceDgmIdeal.Value.run m g) fun _ h => ⟨fun c => (h c).2.2.2, sem_eq_zero_of_no_sems (by decide) _⟩

/-- Its results over the extended reals are its reference's, whatever the arguments. -/
theorem valuesDgm : Cert.algebraic_KernelDgmIdeal_ReferenceDgmIdeal := by
  intro m g m' g' _ hargs
  refine ⟨fun c => (Cert.KernelDgmIdeal.Gen.dats m 0 c).arrAt 5 Cert.KernelDgmIdeal.cfg0.N, fun c => (Cert.KernelDgmIdeal.Gen.dats m 0 c).arrAt 6 Cert.KernelDgmIdeal.cfg0.N, fun c => (Cert.KernelDgmIdeal.Gen.dats m 0 c).arrAt 7 Cert.KernelDgmIdeal.cfg0.N, Cert.KernelDgmIdeal.Value.run_blocks m g, ?_⟩
  refine θ_run_mono (Cert.ReferenceDgmIdeal.Value.run m' g') fun r h c => ?_
  obtain ⟨e0, e1, e2, e3, e4⟩ := hargs c
  have hx : Cert.ReferenceDgmIdeal.Value.res_main_v37 m' c = (Cert.KernelDgmIdeal.Gen.dats m 0 c).arrAt 5 Cert.KernelDgmIdeal.cfg0.N := by
    refine (Cert.ReferenceDgmIdeal.Value.res0 m' c).trans ?_
    rw [e0, e1, e2, e3, e4]
    exact (Cert.KernelDgmIdeal.Value.result5 m c).symm
  refine ⟨(h c).1.trans hx, (h c).2.1.trans ((Eq.trans rfl hx).trans ((Cert.KernelDgmIdeal.Value.result5 m c).trans (Cert.KernelDgmIdeal.Value.result6 m c).symm)),
    (h c).2.2.1.trans ((Cert.ReferenceDqkvIdeal.Value.out_g _ _).trans ?_), (h c).2.2.2⟩
  rw [Cert.ReferenceDgmIdeal.Value.out_sum, e0, e1, e2]
  exact (Cert.KernelDgmIdeal.Value.result7 m c).symm

/-- The call for the gradient through the attention's q, k and v projections and the norm before them: as printed it ends with its arguments unchanged and every semaphore counter at zero. -/
theorem frameDqkvK : Cert.quiescent_KernelDqkv := fun m g _ => Cert.KernelDqkv.Gen.frame m g

/-- So does the call over the reals. -/
theorem frameDqkvKI : Cert.quiescent_KernelDqkvIdeal := fun m g _ => Cert.KernelDqkvIdeal.Gen.frame m g

/-- So does its reference; it declares no semaphore. -/
theorem frameDqkvR : Cert.quiescent_ReferenceDqkvIdeal := fun m g _ =>
  θ_run_mono (Cert.ReferenceDqkvIdeal.Value.run m g) fun _ h => ⟨fun c => (h c).2.2.2, sem_eq_zero_of_no_sems (by decide) _⟩

/-- Its results over the extended reals are its reference's, whatever the arguments. -/
theorem valuesDqkv : Cert.algebraic_KernelDqkvIdeal_ReferenceDqkvIdeal := by
  intro m g m' g' _ hargs
  refine ⟨fun c => (Cert.KernelDqkvIdeal.Gen.dats m 0 c).arrAt 8 Cert.KernelDqkvIdeal.cfg0.N, fun c => (Cert.KernelDqkvIdeal.Gen.dats m 0 c).arrAt 9 Cert.KernelDqkvIdeal.cfg0.N, fun c => (Cert.KernelDqkvIdeal.Gen.dats m 0 c).arrAt 10 Cert.KernelDqkvIdeal.cfg0.N, Cert.KernelDqkvIdeal.Value.run_blocks m g, ?_⟩
  refine θ_run_mono (Cert.ReferenceDqkvIdeal.Value.run m' g') fun r h c => ?_
  obtain ⟨e0, e1, e2, e3, e4, e5, e6, e7⟩ := hargs c
  have hx : Cert.ReferenceDqkvIdeal.Value.res_main_v44 m' c = (Cert.KernelDqkvIdeal.Gen.dats m 0 c).arrAt 8 Cert.KernelDqkvIdeal.cfg0.N := by
    refine (Cert.ReferenceDqkvIdeal.Value.res0 m' c).trans ?_
    rw [e0, e1, e2, e3, e4, e5, e6, e7]
    exact (Cert.KernelDqkvIdeal.Value.result8 m c).symm
  refine ⟨(h c).1.trans hx, (h c).2.1.trans ((Eq.trans rfl hx).trans ((Cert.KernelDqkvIdeal.Value.result8 m c).trans (Cert.KernelDqkvIdeal.Value.result9 m c).symm)),
    (h c).2.2.1.trans ((Cert.ReferenceDqkvIdeal.Value.out_g _ _).trans ?_), (h c).2.2.2⟩
  rw [Cert.ReferenceDqkvIdeal.Value.out_sum, e0, e1, e2, e3, e4, e5]
  exact (Cert.KernelDqkvIdeal.Value.result10 m c).symm

/-- Everything that is claimed. -/
theorem claim : Cert.Claim := ⟨Cert.Kernel.Gen.facts, Cert.KernelIdeal.Gen.facts, Cert.ReferenceIdeal.Gen.facts,
  Cert.KernelDw.Gen.facts, Cert.KernelDwIdeal.Gen.facts, Cert.ReferenceDwIdeal.Gen.facts,
  Cert.KernelDwo.Gen.facts, Cert.KernelDwoIdeal.Gen.facts, Cert.ReferenceDwoIdeal.Gen.facts,
  Cert.KernelDwg.Gen.facts, Cert.KernelDwgIdeal.Gen.facts, Cert.ReferenceDwgIdeal.Gen.facts,
  Cert.KernelDwin.Gen.facts, Cert.KernelDwinIdeal.Gen.facts, Cert.ReferenceDwinIdeal.Gen.facts,
  Cert.KernelDown.Gen.facts, Cert.KernelDownIdeal.Gen.facts, Cert.ReferenceDownIdeal.Gen.facts,
  Cert.KernelFo.Gen.facts, Cert.KernelFoIdeal.Gen.facts, Cert.ReferenceFoIdeal.Gen.facts,
  Cert.KernelLast.Gen.facts, Cert.KernelLastIdeal.Gen.facts, Cert.ReferenceLastIdeal.Gen.facts,
  Cert.KernelDo.Gen.facts, Cert.KernelDoIdeal.Gen.facts, Cert.ReferenceDoIdeal.Gen.facts,
  Cert.KernelV.Gen.facts, Cert.KernelVIdeal.Gen.facts, Cert.ReferenceVIdeal.Gen.facts,
  Cert.KernelDgu.Gen.facts, Cert.KernelDguIdeal.Gen.facts, Cert.ReferenceDguIdeal.Gen.facts,
  Cert.KernelDgm.Gen.facts, Cert.KernelDgmIdeal.Gen.facts, Cert.ReferenceDgmIdeal.Gen.facts,
  Cert.KernelDqkv.Gen.facts, Cert.KernelDqkvIdeal.Gen.facts, Cert.ReferenceDqkvIdeal.Gen.facts,
  Cert.Pre_finite.facts, frameK, frameKI, fun m g _ => frameKI m g trivial, frameR, fun m g _ => frameR m g trivial,
  frameDwK, frameDwKI, frameDwR,
  frameDwoK, frameDwoKI, frameDwoR,
  frameDwgK, frameDwgKI, frameDwgR,
  frameDwinK, frameDwinKI, frameDwinR,
  frameDownK, frameDownKI, frameDownR,
  frameFoK, frameFoKI, frameFoR,
  frameLastK, frameLastKI, frameLastR,
  frameDoK, frameDoKI, frameDoR,
  frameVK, frameVKI, frameVR,
  frameDguK, frameDguKI, frameDguR,
  frameDgmK, frameDgmKI, frameDgmR,
  frameDqkvK, frameDqkvKI, frameDqkvR,
  names, @values Cert.Pre_finite.facts,
  trivial, valuesDw, trivial, valuesDwo, trivial, valuesDwg, trivial, valuesDwin, trivial, valuesDown, trivial, valuesFo, trivial, valuesLast, trivial, valuesDo, trivial, valuesV, trivial, valuesDgu, trivial, valuesDgm, trivial, valuesDqkv⟩

end Cert.Proof

end
